-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x1024 .f32) (main_arg2 : FVec F S1x2048x64x128 .f32) (main_arg3 : FVec F S1x2048x64x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) (main_arg4 : FVec F S8192x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩
abbrev S2048x1024 : Shape := ⟨2, ![2048, 1024]⟩
abbrev S2048x64x128 : Shape := ⟨3, ![2048, 64, 128]⟩
abbrev S2048x8x128 : Shape := ⟨3, ![2048, 8, 128]⟩
abbrev S8x2048x128 : Shape := ⟨3, ![8, 2048, 128]⟩
abbrev S8x256x512 : Shape := ⟨3, ![8, 256, 512]⟩
abbrev S7 : Shape := ⟨1, ![7]⟩
abbrev S256x1024 : Shape := ⟨2, ![256, 1024]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S1x1024x128 : Shape := ⟨3, ![1, 1024, 128]⟩
abbrev S1024x128 : Shape := ⟨2, ![1024, 128]⟩
abbrev S256x1536 : Shape := ⟨2, ![256, 1536]⟩
abbrev S1x1536x128 : Shape := ⟨3, ![1, 1536, 128]⟩
abbrev S1536x128 : Shape := ⟨2, ![1536, 128]⟩
abbrev S256x2048 : Shape := ⟨2, ![256, 2048]⟩
abbrev S1x2048x128 : Shape := ⟨3, ![1, 2048, 128]⟩
abbrev S2048x128 : Shape := ⟨2, ![2048, 128]⟩
abbrev S1x256x512 : Shape := ⟨3, ![1, 256, 512]⟩
abbrev S1 : Shape := ⟨1, ![1]⟩

abbrev nBuf : Space → Nat
  | .hbm => 38
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x64x128, .f32⟩
  | .hbm, ⟨3, _⟩ => ⟨S1x2048x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .f32⟩
  | .hbm, ⟨12, _⟩ => ⟨S2048x64x128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .f32⟩
  | .hbm, ⟨23, _⟩ => ⟨S2048x64x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .f32⟩
  | .hbm, ⟨34, _⟩ => ⟨S8x2048x128, .f32⟩
  | .hbm, ⟨35, _⟩ => ⟨S8x2048x128, .f32⟩
  | .hbm, ⟨36, _⟩ => ⟨S2048x1024, .f32⟩
  | .hbm, ⟨37, _⟩ => ⟨S1x2048x1024, .f32⟩
  | .local _ .vmem, ⟨0, _⟩ => ⟨S2048x1024, .f32⟩
  | .local _ .vmem, ⟨1, _⟩ => ⟨S1024x1024, .f32⟩
  | .local _ .vmem, ⟨2, _⟩ => ⟨S8x2048x128, .f32⟩
  | .local _ .vmem, ⟨3, _⟩ => ⟨S8x2048x128, .f32⟩
  | .local _ .vmem, ⟨4, _⟩ => ⟨S1024x1024, .f32⟩
  | .local _ .vmem, ⟨5, _⟩ => ⟨S2048x1024, .f32⟩
  | .local _ .vmem, ⟨6, _⟩ => ⟨S8x256x512, .f32⟩
  | .local _ .vmem, ⟨7, _⟩ => ⟨S8x256x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 2 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v14 : Index := Scalar.indexCast v13
  let c0 : Index := 0#32
  ![v14.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v21 : BitVec 1 := Scalar.cmpi .sgt v2 c0_i32_13
  let v22 : BitVec 32 := Scalar.extui v21
  let c0_i32_14 : BitVec 32 := 0#32
  let v23 : BitVec 1 := Scalar.cmpi .slt v2 c0_i32_14
  let v24 : BitVec 32 := Scalar.extui v23
  let v25 : BitVec 32 := Scalar.subi v22 v24
  let c2_i32_12 : BitVec 32 := 2#32
  let c0_i32_15 : BitVec 32 := 0#32
  let v26 : BitVec 1 := Scalar.cmpi .sgt c2_i32_12 c0_i32_15
  let v27 : BitVec 32 := Scalar.extui v26
  let c0_i32_16 : BitVec 32 := 0#32
  let v28 : BitVec 1 := Scalar.cmpi .slt c2_i32_12 c0_i32_16
  let v29 : BitVec 32 := Scalar.extui v28
  let v30 : BitVec 32 := Scalar.subi v27 v29
  let v31 : BitVec 1 := Scalar.cmpi .ne v25 v30
  let v32 : BitVec 32 := Scalar.remsi v2 c2_i32_12
  let c0_i32_17 : BitVec 32 := 0#32
  let v33 : BitVec 1 := Scalar.cmpi .ne v32 c0_i32_17
  let v34 : BitVec 1 := Scalar.andi v31 v33
  let v20 : BitVec 32 := Scalar.divsi v2 c2_i32_12
  let c1_i32_18 : BitVec 32 := 1#32
  let v35 : BitVec 32 := Scalar.subi v20 c1_i32_18
  let v36 : BitVec 32 := Scalar.select v34 v35 v20
  let c1_i32_19 : BitVec 32 := 1#32
  let v37 : BitVec 32 := Scalar.addi v36 c1_i32_19
  let c1_i32_20 : BitVec 32 := 1#32
  let v38 : BitVec 1 := Scalar.cmpi .eq v37 c1_i32_20
  let v39 : BitVec 32 := Scalar.extui v38
  let c0_i32_21 : BitVec 32 := 0#32
  let v40 : BitVec 1 := Scalar.cmpi .ne v39 c0_i32_21
  v40

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v1052 : Index := Scalar.indexCast v13
  let c0_970 : Index := 0#32
  ![v1052.toNat, 0]
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v42 : BitVec 1 := Scalar.cmpi .sgt v2 c0_i32_23
  let v43 : BitVec 32 := Scalar.extui v42
  let c0_i32_24 : BitVec 32 := 0#32
  let v44 : BitVec 1 := Scalar.cmpi .slt v2 c0_i32_24
  let v45 : BitVec 32 := Scalar.extui v44
  let v46 : BitVec 32 := Scalar.subi v43 v45
  let c2_i32_22 : BitVec 32 := 2#32
  let c0_i32_25 : BitVec 32 := 0#32
  let v47 : BitVec 1 := Scalar.cmpi .sgt c2_i32_22 c0_i32_25
  let v48 : BitVec 32 := Scalar.extui v47
  let c0_i32_26 : BitVec 32 := 0#32
  let v49 : BitVec 1 := Scalar.cmpi .slt c2_i32_22 c0_i32_26
  let v50 : BitVec 32 := Scalar.extui v49
  let v51 : BitVec 32 := Scalar.subi v48 v50
  let v52 : BitVec 1 := Scalar.cmpi .ne v46 v51
  let v53 : BitVec 32 := Scalar.remsi v2 c2_i32_22
  let c0_i32_27 : BitVec 32 := 0#32
  let v54 : BitVec 1 := Scalar.cmpi .ne v53 c0_i32_27
  let v55 : BitVec 1 := Scalar.andi v52 v54
  let v41 : BitVec 32 := Scalar.divsi v2 c2_i32_22
  let c1_i32_28 : BitVec 32 := 1#32
  let v56 : BitVec 32 := Scalar.subi v41 c1_i32_28
  let v57 : BitVec 32 := Scalar.select v55 v56 v41
  let c1_i32_29 : BitVec 32 := 1#32
  let v58 : BitVec 32 := Scalar.addi v57 c1_i32_29
  let c2_i32_30 : BitVec 32 := 2#32
  let v59 : BitVec 1 := Scalar.cmpi .eq v58 c2_i32_30
  let v60 : BitVec 32 := Scalar.extui v59
  let c0_i32_31 : BitVec 32 := 0#32
  let v61 : BitVec 1 := Scalar.cmpi .ne v60 c0_i32_31
  v61

def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v1052 : Index := Scalar.indexCast v13
  let c0_970 : Index := 0#32
  ![v1052.toNat, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_33 : BitVec 32 := 0#32
  let v63 : BitVec 1 := Scalar.cmpi .sgt v2 c0_i32_33
  let v64 : BitVec 32 := Scalar.extui v63
  let c0_i32_34 : BitVec 32 := 0#32
  let v65 : BitVec 1 := Scalar.cmpi .slt v2 c0_i32_34
  let v66 : BitVec 32 := Scalar.extui v65
  let v67 : BitVec 32 := Scalar.subi v64 v66
  let c2_i32_32 : BitVec 32 := 2#32
  let c0_i32_35 : BitVec 32 := 0#32
  let v68 : BitVec 1 := Scalar.cmpi .sgt c2_i32_32 c0_i32_35
  let v69 : BitVec 32 := Scalar.extui v68
  let c0_i32_36 : BitVec 32 := 0#32
  let v70 : BitVec 1 := Scalar.cmpi .slt c2_i32_32 c0_i32_36
  let v71 : BitVec 32 := Scalar.extui v70
  let v72 : BitVec 32 := Scalar.subi v69 v71
  let v73 : BitVec 1 := Scalar.cmpi .ne v67 v72
  let v74 : BitVec 32 := Scalar.remsi v2 c2_i32_32
  let c0_i32_37 : BitVec 32 := 0#32
  let v75 : BitVec 1 := Scalar.cmpi .ne v74 c0_i32_37
  let v76 : BitVec 1 := Scalar.andi v73 v75
  let v62 : BitVec 32 := Scalar.divsi v2 c2_i32_32
  let c1_i32_38 : BitVec 32 := 1#32
  let v77 : BitVec 32 := Scalar.subi v62 c1_i32_38
  let v78 : BitVec 32 := Scalar.select v76 v77 v62
  let c1_i32_39 : BitVec 32 := 1#32
  let v79 : BitVec 32 := Scalar.addi v78 c1_i32_39
  let c3_i32 : BitVec 32 := 3#32
  let v80 : BitVec 1 := Scalar.cmpi .eq v79 c3_i32
  let v81 : BitVec 32 := Scalar.extui v80
  let c0_i32_40 : BitVec 32 := 0#32
  let v82 : BitVec 1 := Scalar.cmpi .ne v81 c0_i32_40
  v82

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v1052 : Index := Scalar.indexCast v13
  let c0_970 : Index := 0#32
  ![v1052.toNat, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  let v84 : BitVec 1 := Scalar.cmpi .sgt v2 c0_i32_42
  let v85 : BitVec 32 := Scalar.extui v84
  let c0_i32_43 : BitVec 32 := 0#32
  let v86 : BitVec 1 := Scalar.cmpi .slt v2 c0_i32_43
  let v87 : BitVec 32 := Scalar.extui v86
  let v88 : BitVec 32 := Scalar.subi v85 v87
  let c2_i32_41 : BitVec 32 := 2#32
  let c0_i32_44 : BitVec 32 := 0#32
  let v89 : BitVec 1 := Scalar.cmpi .sgt c2_i32_41 c0_i32_44
  let v90 : BitVec 32 := Scalar.extui v89
  let c0_i32_45 : BitVec 32 := 0#32
  let v91 : BitVec 1 := Scalar.cmpi .slt c2_i32_41 c0_i32_45
  let v92 : BitVec 32 := Scalar.extui v91
  let v93 : BitVec 32 := Scalar.subi v90 v92
  let v94 : BitVec 1 := Scalar.cmpi .ne v88 v93
  let v95 : BitVec 32 := Scalar.remsi v2 c2_i32_41
  let c0_i32_46 : BitVec 32 := 0#32
  let v96 : BitVec 1 := Scalar.cmpi .ne v95 c0_i32_46
  let v97 : BitVec 1 := Scalar.andi v94 v96
  let v83 : BitVec 32 := Scalar.divsi v2 c2_i32_41
  let c1_i32_47 : BitVec 32 := 1#32
  let v98 : BitVec 32 := Scalar.subi v83 c1_i32_47
  let v99 : BitVec 32 := Scalar.select v97 v98 v83
  let c1_i32_48 : BitVec 32 := 1#32
  let v100 : BitVec 32 := Scalar.addi v99 c1_i32_48
  let c4_i32 : BitVec 32 := 4#32
  let v101 : BitVec 1 := Scalar.cmpi .eq v100 c4_i32
  let v102 : BitVec 32 := Scalar.extui v101
  let c0_i32_49 : BitVec 32 := 0#32
  let v103 : BitVec 1 := Scalar.cmpi .ne v102 c0_i32_49
  v103

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v1052 : Index := Scalar.indexCast v13
  let c0_970 : Index := 0#32
  ![v1052.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_50 : BitVec 32 := 256#32
  let v104 : BitVec 32 := Scalar.muli v2 c256_i32_50
  let v105 : Index := Scalar.indexCast v104
  let c0_51 : Index := 0#32
  ![v105.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_55 : BitVec 32 := 256#32
  let v111 : BitVec 32 := Scalar.muli v2 c256_i32_55
  let v112 : Index := Scalar.indexCast v111
  let c512 : Index := 512#32
  ![v112.toNat, 512]
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_63 : BitVec 32 := 1#32
  let v118 : BitVec 32 := Scalar.muli v5 c1_i32_63
  let v119 : BitVec 32 := Scalar.addi c0_i32_64 v118
  v119.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_73 : BitVec 32 := 1#32
  let v128 : BitVec 32 := Scalar.muli v7 c1_i32_73
  let v129 : BitVec 32 := Scalar.addi c0_i32_74 v128
  v129.toNat
@[reducible] def k0_t1_loop : Scf.Loop 32 :=
  let c1_i32_79 : BitVec 32 := 1#32
  let c7_i32 : BitVec 32 := 7#32
  let v138 : BitVec 32 := Scalar.addi c1_i32_79 c7_i32
  let c1_i32_80 : BitVec 32 := 1#32
  ⟨c1_i32_79, v138, c1_i32_80⟩
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_882 : BitVec 32 := 256#32
  let v874 : BitVec 32 := Scalar.muli v873 c256_i32_882
  let v875 : Index := Scalar.indexCast v874
  let c0_883 : Index := 0#32
  ![v875.toNat, 0]
def k0_cond5 (d0 : Dev nD) (k0_t1 : Fin k0_t1_loop.trips) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c0_i32_888 : BitVec 32 := 0#32
  let v882 : BitVec 1 := Scalar.cmpi .sgt v873 c0_i32_888
  let v883 : BitVec 32 := Scalar.extui v882
  let c0_i32_889 : BitVec 32 := 0#32
  let v884 : BitVec 1 := Scalar.cmpi .slt v873 c0_i32_889
  let v885 : BitVec 32 := Scalar.extui v884
  let v886 : BitVec 32 := Scalar.subi v883 v885
  let c2_i32_887 : BitVec 32 := 2#32
  let c0_i32_890 : BitVec 32 := 0#32
  let v887 : BitVec 1 := Scalar.cmpi .sgt c2_i32_887 c0_i32_890
  let v888 : BitVec 32 := Scalar.extui v887
  let c0_i32_891 : BitVec 32 := 0#32
  let v889 : BitVec 1 := Scalar.cmpi .slt c2_i32_887 c0_i32_891
  let v890 : BitVec 32 := Scalar.extui v889
  let v891 : BitVec 32 := Scalar.subi v888 v890
  let v892 : BitVec 1 := Scalar.cmpi .ne v886 v891
  let v893 : BitVec 32 := Scalar.remsi v873 c2_i32_887
  let c0_i32_892 : BitVec 32 := 0#32
  let v894 : BitVec 1 := Scalar.cmpi .ne v893 c0_i32_892
  let v895 : BitVec 1 := Scalar.andi v892 v894
  let v881 : BitVec 32 := Scalar.divsi v873 c2_i32_887
  let c1_i32_893 : BitVec 32 := 1#32
  let v896 : BitVec 32 := Scalar.subi v881 c1_i32_893
  let v897 : BitVec 32 := Scalar.select v895 v896 v881
  let c1_i32_894 : BitVec 32 := 1#32
  let v898 : BitVec 32 := Scalar.addi v897 c1_i32_894
  let c1_i32_895 : BitVec 32 := 1#32
  let v899 : BitVec 1 := Scalar.cmpi .eq v898 c1_i32_895
  let v900 : BitVec 32 := Scalar.extui v899
  let c0_i32_896 : BitVec 32 := 0#32
  let v901 : BitVec 1 := Scalar.cmpi .ne v900 c0_i32_896
  v901

def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_882 : BitVec 32 := 256#32
  let v874 : BitVec 32 := Scalar.muli v873 c256_i32_882
  let v1203 : Index := Scalar.indexCast v874
  let c0_1049 : Index := 0#32
  ![v1203.toNat, 0]
def k0_cond6 (d0 : Dev nD) (k0_t1 : Fin k0_t1_loop.trips) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c0_i32_898 : BitVec 32 := 0#32
  let v903 : BitVec 1 := Scalar.cmpi .sgt v873 c0_i32_898
  let v904 : BitVec 32 := Scalar.extui v903
  let c0_i32_899 : BitVec 32 := 0#32
  let v905 : BitVec 1 := Scalar.cmpi .slt v873 c0_i32_899
  let v906 : BitVec 32 := Scalar.extui v905
  let v907 : BitVec 32 := Scalar.subi v904 v906
  let c2_i32_897 : BitVec 32 := 2#32
  let c0_i32_900 : BitVec 32 := 0#32
  let v908 : BitVec 1 := Scalar.cmpi .sgt c2_i32_897 c0_i32_900
  let v909 : BitVec 32 := Scalar.extui v908
  let c0_i32_901 : BitVec 32 := 0#32
  let v910 : BitVec 1 := Scalar.cmpi .slt c2_i32_897 c0_i32_901
  let v911 : BitVec 32 := Scalar.extui v910
  let v912 : BitVec 32 := Scalar.subi v909 v911
  let v913 : BitVec 1 := Scalar.cmpi .ne v907 v912
  let v914 : BitVec 32 := Scalar.remsi v873 c2_i32_897
  let c0_i32_902 : BitVec 32 := 0#32
  let v915 : BitVec 1 := Scalar.cmpi .ne v914 c0_i32_902
  let v916 : BitVec 1 := Scalar.andi v913 v915
  let v902 : BitVec 32 := Scalar.divsi v873 c2_i32_897
  let c1_i32_903 : BitVec 32 := 1#32
  let v917 : BitVec 32 := Scalar.subi v902 c1_i32_903
  let v918 : BitVec 32 := Scalar.select v916 v917 v902
  let c1_i32_904 : BitVec 32 := 1#32
  let v919 : BitVec 32 := Scalar.addi v918 c1_i32_904
  let c2_i32_905 : BitVec 32 := 2#32
  let v920 : BitVec 1 := Scalar.cmpi .eq v919 c2_i32_905
  let v921 : BitVec 32 := Scalar.extui v920
  let c0_i32_906 : BitVec 32 := 0#32
  let v922 : BitVec 1 := Scalar.cmpi .ne v921 c0_i32_906
  v922

def k0_off10 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_882 : BitVec 32 := 256#32
  let v874 : BitVec 32 := Scalar.muli v873 c256_i32_882
  let v1203 : Index := Scalar.indexCast v874
  let c0_1049 : Index := 0#32
  ![v1203.toNat, 0]
def k0_cond7 (d0 : Dev nD) (k0_t1 : Fin k0_t1_loop.trips) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c0_i32_908 : BitVec 32 := 0#32
  let v924 : BitVec 1 := Scalar.cmpi .sgt v873 c0_i32_908
  let v925 : BitVec 32 := Scalar.extui v924
  let c0_i32_909 : BitVec 32 := 0#32
  let v926 : BitVec 1 := Scalar.cmpi .slt v873 c0_i32_909
  let v927 : BitVec 32 := Scalar.extui v926
  let v928 : BitVec 32 := Scalar.subi v925 v927
  let c2_i32_907 : BitVec 32 := 2#32
  let c0_i32_910 : BitVec 32 := 0#32
  let v929 : BitVec 1 := Scalar.cmpi .sgt c2_i32_907 c0_i32_910
  let v930 : BitVec 32 := Scalar.extui v929
  let c0_i32_911 : BitVec 32 := 0#32
  let v931 : BitVec 1 := Scalar.cmpi .slt c2_i32_907 c0_i32_911
  let v932 : BitVec 32 := Scalar.extui v931
  let v933 : BitVec 32 := Scalar.subi v930 v932
  let v934 : BitVec 1 := Scalar.cmpi .ne v928 v933
  let v935 : BitVec 32 := Scalar.remsi v873 c2_i32_907
  let c0_i32_912 : BitVec 32 := 0#32
  let v936 : BitVec 1 := Scalar.cmpi .ne v935 c0_i32_912
  let v937 : BitVec 1 := Scalar.andi v934 v936
  let v923 : BitVec 32 := Scalar.divsi v873 c2_i32_907
  let c1_i32_913 : BitVec 32 := 1#32
  let v938 : BitVec 32 := Scalar.subi v923 c1_i32_913
  let v939 : BitVec 32 := Scalar.select v937 v938 v923
  let c1_i32_914 : BitVec 32 := 1#32
  let v940 : BitVec 32 := Scalar.addi v939 c1_i32_914
  let c3_i32_915 : BitVec 32 := 3#32
  let v941 : BitVec 1 := Scalar.cmpi .eq v940 c3_i32_915
  let v942 : BitVec 32 := Scalar.extui v941
  let c0_i32_916 : BitVec 32 := 0#32
  let v943 : BitVec 1 := Scalar.cmpi .ne v942 c0_i32_916
  v943

def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_882 : BitVec 32 := 256#32
  let v874 : BitVec 32 := Scalar.muli v873 c256_i32_882
  let v1203 : Index := Scalar.indexCast v874
  let c0_1049 : Index := 0#32
  ![v1203.toNat, 0]
def k0_cond8 (d0 : Dev nD) (k0_t1 : Fin k0_t1_loop.trips) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c0_i32_918 : BitVec 32 := 0#32
  let v945 : BitVec 1 := Scalar.cmpi .sgt v873 c0_i32_918
  let v946 : BitVec 32 := Scalar.extui v945
  let c0_i32_919 : BitVec 32 := 0#32
  let v947 : BitVec 1 := Scalar.cmpi .slt v873 c0_i32_919
  let v948 : BitVec 32 := Scalar.extui v947
  let v949 : BitVec 32 := Scalar.subi v946 v948
  let c2_i32_917 : BitVec 32 := 2#32
  let c0_i32_920 : BitVec 32 := 0#32
  let v950 : BitVec 1 := Scalar.cmpi .sgt c2_i32_917 c0_i32_920
  let v951 : BitVec 32 := Scalar.extui v950
  let c0_i32_921 : BitVec 32 := 0#32
  let v952 : BitVec 1 := Scalar.cmpi .slt c2_i32_917 c0_i32_921
  let v953 : BitVec 32 := Scalar.extui v952
  let v954 : BitVec 32 := Scalar.subi v951 v953
  let v955 : BitVec 1 := Scalar.cmpi .ne v949 v954
  let v956 : BitVec 32 := Scalar.remsi v873 c2_i32_917
  let c0_i32_922 : BitVec 32 := 0#32
  let v957 : BitVec 1 := Scalar.cmpi .ne v956 c0_i32_922
  let v958 : BitVec 1 := Scalar.andi v955 v957
  let v944 : BitVec 32 := Scalar.divsi v873 c2_i32_917
  let c1_i32_923 : BitVec 32 := 1#32
  let v959 : BitVec 32 := Scalar.subi v944 c1_i32_923
  let v960 : BitVec 32 := Scalar.select v958 v959 v944
  let c1_i32_924 : BitVec 32 := 1#32
  let v961 : BitVec 32 := Scalar.addi v960 c1_i32_924
  let c4_i32_925 : BitVec 32 := 4#32
  let v962 : BitVec 1 := Scalar.cmpi .eq v961 c4_i32_925
  let v963 : BitVec 32 := Scalar.extui v962
  let c0_i32_926 : BitVec 32 := 0#32
  let v964 : BitVec 1 := Scalar.cmpi .ne v963 c0_i32_926
  v964

def k0_off12 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_882 : BitVec 32 := 256#32
  let v874 : BitVec 32 := Scalar.muli v873 c256_i32_882
  let v1203 : Index := Scalar.indexCast v874
  let c0_1049 : Index := 0#32
  ![v1203.toNat, 0]
def k0_cond9 (k0_t1 : Fin k0_t1_loop.trips) : BitVec 1 :=
  let c1_i32_79 : BitVec 32 := 1#32
  let c1_i32_80 : BitVec 32 := 1#32
  let arg16 : BitVec 32 := Scf.iv c1_i32_79 c1_i32_80 k0_t1
  let c2_i32_927 : BitVec 32 := 2#32
  let c0_i32_928 : BitVec 32 := 0#32
  let v965 : BitVec 1 := Scalar.cmpi .eq c2_i32_927 c0_i32_928
  let c1_i32_929 : BitVec 32 := 1#32
  let v966 : BitVec 32 := Scalar.select v965 c1_i32_929 c2_i32_927
  let v967 : BitVec 32 := Scalar.remsi arg16 v966
  let c0_i32_931 : BitVec 32 := 0#32
  let v969 : BitVec 1 := Scalar.cmpi .slt v967 c0_i32_931
  let c0_i32_932 : BitVec 32 := 0#32
  let v970 : BitVec 1 := Scalar.cmpi .slt v966 c0_i32_932
  let v971 : BitVec 1 := Scalar.xori v969 v970
  let c0_i32_930 : BitVec 32 := 0#32
  let v968 : BitVec 1 := Scalar.cmpi .ne v967 c0_i32_930
  let v972 : BitVec 1 := Scalar.andi v971 v968
  let v973 : BitVec 32 := Scalar.addi v967 v966
  let v974 : BitVec 32 := Scalar.select v972 v973 v967
  let c1_i32_933 : BitVec 32 := 1#32
  let v975 : BitVec 1 := Scalar.cmpi .eq v974 c1_i32_933
  let v976 : BitVec 32 := Scalar.extui v975
  let c0_i32_934 : BitVec 32 := 0#32
  let v977 : BitVec 1 := Scalar.cmpi .ne v976 c0_i32_934
  v977

def k0_off13 (k0_t1 : Fin k0_t1_loop.trips) : Fin 1 → Nat :=
  let c1_i32_79 : BitVec 32 := 1#32
  let c1_i32_80 : BitVec 32 := 1#32
  let arg16 : BitVec 32 := Scf.iv c1_i32_79 c1_i32_80 k0_t1
  let c1_i32_943 : BitVec 32 := 1#32
  let v991 : BitVec 32 := Scalar.subi arg16 c1_i32_943
  let c0_i32_945 : BitVec 32 := 0#32
  let v993 : BitVec 1 := Scalar.cmpi .sgt v991 c0_i32_945
  let v994 : BitVec 32 := Scalar.extui v993
  let c0_i32_946 : BitVec 32 := 0#32
  let v995 : BitVec 1 := Scalar.cmpi .slt v991 c0_i32_946
  let v996 : BitVec 32 := Scalar.extui v995
  let v997 : BitVec 32 := Scalar.subi v994 v996
  let c2_i32_944 : BitVec 32 := 2#32
  let c0_i32_947 : BitVec 32 := 0#32
  let v998 : BitVec 1 := Scalar.cmpi .sgt c2_i32_944 c0_i32_947
  let v999 : BitVec 32 := Scalar.extui v998
  let c0_i32_948 : BitVec 32 := 0#32
  let v1000 : BitVec 1 := Scalar.cmpi .slt c2_i32_944 c0_i32_948
  let v1001 : BitVec 32 := Scalar.extui v1000
  let v1002 : BitVec 32 := Scalar.subi v999 v1001
  let v1003 : BitVec 1 := Scalar.cmpi .ne v997 v1002
  let v1004 : BitVec 32 := Scalar.remsi v991 c2_i32_944
  let c0_i32_949 : BitVec 32 := 0#32
  let v1005 : BitVec 1 := Scalar.cmpi .ne v1004 c0_i32_949
  let v1006 : BitVec 1 := Scalar.andi v1003 v1005
  let v992 : BitVec 32 := Scalar.divsi v991 c2_i32_944
  let c1_i32_950 : BitVec 32 := 1#32
  let v1007 : BitVec 32 := Scalar.subi v992 c1_i32_950
  let v1008 : BitVec 32 := Scalar.select v1006 v1007 v992
  ![v1008.toNat]
def k0_off14 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c1_i32_943 : BitVec 32 := 1#32
  let v991 : BitVec 32 := Scalar.subi arg16 c1_i32_943
  let c0_i32_945 : BitVec 32 := 0#32
  let v993 : BitVec 1 := Scalar.cmpi .sgt v991 c0_i32_945
  let v994 : BitVec 32 := Scalar.extui v993
  let c0_i32_946 : BitVec 32 := 0#32
  let v995 : BitVec 1 := Scalar.cmpi .slt v991 c0_i32_946
  let v996 : BitVec 32 := Scalar.extui v995
  let v997 : BitVec 32 := Scalar.subi v994 v996
  let c2_i32_944 : BitVec 32 := 2#32
  let c0_i32_947 : BitVec 32 := 0#32
  let v998 : BitVec 1 := Scalar.cmpi .sgt c2_i32_944 c0_i32_947
  let v999 : BitVec 32 := Scalar.extui v998
  let c0_i32_948 : BitVec 32 := 0#32
  let v1000 : BitVec 1 := Scalar.cmpi .slt c2_i32_944 c0_i32_948
  let v1001 : BitVec 32 := Scalar.extui v1000
  let v1002 : BitVec 32 := Scalar.subi v999 v1001
  let v1003 : BitVec 1 := Scalar.cmpi .ne v997 v1002
  let v1004 : BitVec 32 := Scalar.remsi v991 c2_i32_944
  let c0_i32_949 : BitVec 32 := 0#32
  let v1005 : BitVec 1 := Scalar.cmpi .ne v1004 c0_i32_949
  let v1006 : BitVec 1 := Scalar.andi v1003 v1005
  let v992 : BitVec 32 := Scalar.divsi v991 c2_i32_944
  let c1_i32_950 : BitVec 32 := 1#32
  let v1007 : BitVec 32 := Scalar.subi v992 c1_i32_950
  let v1008 : BitVec 32 := Scalar.select v1006 v1007 v992
  let c0_i32_953 : BitVec 32 := 0#32
  let c0_i32_954 : BitVec 32 := 0#32
  ![v1008.toNat, 0, 0]
def k0_off15 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c1_i32_943 : BitVec 32 := 1#32
  let v991 : BitVec 32 := Scalar.subi arg16 c1_i32_943
  let c0_i32_945 : BitVec 32 := 0#32
  let v993 : BitVec 1 := Scalar.cmpi .sgt v991 c0_i32_945
  let v994 : BitVec 32 := Scalar.extui v993
  let c0_i32_946 : BitVec 32 := 0#32
  let v995 : BitVec 1 := Scalar.cmpi .slt v991 c0_i32_946
  let v996 : BitVec 32 := Scalar.extui v995
  let v997 : BitVec 32 := Scalar.subi v994 v996
  let c2_i32_944 : BitVec 32 := 2#32
  let c0_i32_947 : BitVec 32 := 0#32
  let v998 : BitVec 1 := Scalar.cmpi .sgt c2_i32_944 c0_i32_947
  let v999 : BitVec 32 := Scalar.extui v998
  let c0_i32_948 : BitVec 32 := 0#32
  let v1000 : BitVec 1 := Scalar.cmpi .slt c2_i32_944 c0_i32_948
  let v1001 : BitVec 32 := Scalar.extui v1000
  let v1002 : BitVec 32 := Scalar.subi v999 v1001
  let v1003 : BitVec 1 := Scalar.cmpi .ne v997 v1002
  let v1004 : BitVec 32 := Scalar.remsi v991 c2_i32_944
  let c0_i32_949 : BitVec 32 := 0#32
  let v1005 : BitVec 1 := Scalar.cmpi .ne v1004 c0_i32_949
  let v1006 : BitVec 1 := Scalar.andi v1003 v1005
  let v992 : BitVec 32 := Scalar.divsi v991 c2_i32_944
  let c1_i32_950 : BitVec 32 := 1#32
  let v1007 : BitVec 32 := Scalar.subi v992 c1_i32_950
  let v1008 : BitVec 32 := Scalar.select v1006 v1007 v992
  let c1_i32_951 : BitVec 32 := 1#32
  let v1009 : BitVec 32 := Scalar.addi v1008 c1_i32_951
  let c0_i32_955 : BitVec 32 := 0#32
  let c0_i32_956 : BitVec 32 := 0#32
  ![v1009.toNat, 0, 0]
def k0_off16 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c1_i32_943 : BitVec 32 := 1#32
  let v991 : BitVec 32 := Scalar.subi arg16 c1_i32_943
  let c0_i32_945 : BitVec 32 := 0#32
  let v993 : BitVec 1 := Scalar.cmpi .sgt v991 c0_i32_945
  let v994 : BitVec 32 := Scalar.extui v993
  let c0_i32_946 : BitVec 32 := 0#32
  let v995 : BitVec 1 := Scalar.cmpi .slt v991 c0_i32_946
  let v996 : BitVec 32 := Scalar.extui v995
  let v997 : BitVec 32 := Scalar.subi v994 v996
  let c2_i32_944 : BitVec 32 := 2#32
  let c0_i32_947 : BitVec 32 := 0#32
  let v998 : BitVec 1 := Scalar.cmpi .sgt c2_i32_944 c0_i32_947
  let v999 : BitVec 32 := Scalar.extui v998
  let c0_i32_948 : BitVec 32 := 0#32
  let v1000 : BitVec 1 := Scalar.cmpi .slt c2_i32_944 c0_i32_948
  let v1001 : BitVec 32 := Scalar.extui v1000
  let v1002 : BitVec 32 := Scalar.subi v999 v1001
  let v1003 : BitVec 1 := Scalar.cmpi .ne v997 v1002
  let v1004 : BitVec 32 := Scalar.remsi v991 c2_i32_944
  let c0_i32_949 : BitVec 32 := 0#32
  let v1005 : BitVec 1 := Scalar.cmpi .ne v1004 c0_i32_949
  let v1006 : BitVec 1 := Scalar.andi v1003 v1005
  let v992 : BitVec 32 := Scalar.divsi v991 c2_i32_944
  let c1_i32_950 : BitVec 32 := 1#32
  let v1007 : BitVec 32 := Scalar.subi v992 c1_i32_950
  let v1008 : BitVec 32 := Scalar.select v1006 v1007 v992
  let c1_i32_963 : BitVec 32 := 1#32
  let v1024 : BitVec 32 := Scalar.addi v1008 c1_i32_963
  let v1025 : Index := Scalar.indexCast v1024
  let c0_964 : Index := 0#32
  let c0_965 : Index := 0#32
  ![v1025.toNat, 0, 0]
def k0_off17 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_966 : BitVec 32 := 256#32
  let v1028 : BitVec 32 := Scalar.muli v873 c256_i32_966
  let v1029 : Index := Scalar.indexCast v1028
  let c0_967 : Index := 0#32
  ![v1029.toNat, 0]
def k0_off18 (k0_t1 : Fin k0_t1_loop.trips) : Fin 1 → Nat :=
  let c1_i32_79 : BitVec 32 := 1#32
  let c1_i32_80 : BitVec 32 := 1#32
  let arg16 : BitVec 32 := Scf.iv c1_i32_79 c1_i32_80 k0_t1
  let c1_i32_943 : BitVec 32 := 1#32
  let v991 : BitVec 32 := Scalar.subi arg16 c1_i32_943
  let c0_i32_945 : BitVec 32 := 0#32
  let v993 : BitVec 1 := Scalar.cmpi .sgt v991 c0_i32_945
  let v994 : BitVec 32 := Scalar.extui v993
  let c0_i32_946 : BitVec 32 := 0#32
  let v995 : BitVec 1 := Scalar.cmpi .slt v991 c0_i32_946
  let v996 : BitVec 32 := Scalar.extui v995
  let v997 : BitVec 32 := Scalar.subi v994 v996
  let c2_i32_944 : BitVec 32 := 2#32
  let c0_i32_947 : BitVec 32 := 0#32
  let v998 : BitVec 1 := Scalar.cmpi .sgt c2_i32_944 c0_i32_947
  let v999 : BitVec 32 := Scalar.extui v998
  let c0_i32_948 : BitVec 32 := 0#32
  let v1000 : BitVec 1 := Scalar.cmpi .slt c2_i32_944 c0_i32_948
  let v1001 : BitVec 32 := Scalar.extui v1000
  let v1002 : BitVec 32 := Scalar.subi v999 v1001
  let v1003 : BitVec 1 := Scalar.cmpi .ne v997 v1002
  let v1004 : BitVec 32 := Scalar.remsi v991 c2_i32_944
  let c0_i32_949 : BitVec 32 := 0#32
  let v1005 : BitVec 1 := Scalar.cmpi .ne v1004 c0_i32_949
  let v1006 : BitVec 1 := Scalar.andi v1003 v1005
  let v992 : BitVec 32 := Scalar.divsi v991 c2_i32_944
  let c1_i32_950 : BitVec 32 := 1#32
  let v1007 : BitVec 32 := Scalar.subi v992 c1_i32_950
  let v1008 : BitVec 32 := Scalar.select v1006 v1007 v992
  let c1_i32_971 : BitVec 32 := 1#32
  let v1038 : BitVec 32 := Scalar.addi v1008 c1_i32_971
  ![v1038.toNat]
def k0_off19 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c1_i32_943 : BitVec 32 := 1#32
  let v991 : BitVec 32 := Scalar.subi arg16 c1_i32_943
  let c0_i32_945 : BitVec 32 := 0#32
  let v993 : BitVec 1 := Scalar.cmpi .sgt v991 c0_i32_945
  let v994 : BitVec 32 := Scalar.extui v993
  let c0_i32_946 : BitVec 32 := 0#32
  let v995 : BitVec 1 := Scalar.cmpi .slt v991 c0_i32_946
  let v996 : BitVec 32 := Scalar.extui v995
  let v997 : BitVec 32 := Scalar.subi v994 v996
  let c2_i32_944 : BitVec 32 := 2#32
  let c0_i32_947 : BitVec 32 := 0#32
  let v998 : BitVec 1 := Scalar.cmpi .sgt c2_i32_944 c0_i32_947
  let v999 : BitVec 32 := Scalar.extui v998
  let c0_i32_948 : BitVec 32 := 0#32
  let v1000 : BitVec 1 := Scalar.cmpi .slt c2_i32_944 c0_i32_948
  let v1001 : BitVec 32 := Scalar.extui v1000
  let v1002 : BitVec 32 := Scalar.subi v999 v1001
  let v1003 : BitVec 1 := Scalar.cmpi .ne v997 v1002
  let v1004 : BitVec 32 := Scalar.remsi v991 c2_i32_944
  let c0_i32_949 : BitVec 32 := 0#32
  let v1005 : BitVec 1 := Scalar.cmpi .ne v1004 c0_i32_949
  let v1006 : BitVec 1 := Scalar.andi v1003 v1005
  let v992 : BitVec 32 := Scalar.divsi v991 c2_i32_944
  let c1_i32_950 : BitVec 32 := 1#32
  let v1007 : BitVec 32 := Scalar.subi v992 c1_i32_950
  let v1008 : BitVec 32 := Scalar.select v1006 v1007 v992
  let c1_i32_971 : BitVec 32 := 1#32
  let v1038 : BitVec 32 := Scalar.addi v1008 c1_i32_971
  let c1_i32_972 : BitVec 32 := 1#32
  let v1039 : BitVec 32 := Scalar.addi v1038 c1_i32_972
  let c0_i32_975 : BitVec 32 := 0#32
  let c0_i32_976 : BitVec 32 := 0#32
  ![v1039.toNat, 0, 0]
def k0_dev5 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_973 : BitVec 32 := 1#32
  let v1040 : BitVec 32 := Scalar.muli v5 c1_i32_973
  let v1041 : BitVec 32 := Scalar.addi c0_i32_974 v1040
  v1041.toNat
def k0_cond10 (k0_t1 : Fin k0_t1_loop.trips) : BitVec 1 :=
  let c1_i32_79 : BitVec 32 := 1#32
  let c1_i32_80 : BitVec 32 := 1#32
  let arg16 : BitVec 32 := Scf.iv c1_i32_79 c1_i32_80 k0_t1
  let c2_i32_935 : BitVec 32 := 2#32
  let c0_i32_936 : BitVec 32 := 0#32
  let v978 : BitVec 1 := Scalar.cmpi .eq c2_i32_935 c0_i32_936
  let c1_i32_937 : BitVec 32 := 1#32
  let v979 : BitVec 32 := Scalar.select v978 c1_i32_937 c2_i32_935
  let v980 : BitVec 32 := Scalar.remsi arg16 v979
  let c0_i32_939 : BitVec 32 := 0#32
  let v982 : BitVec 1 := Scalar.cmpi .slt v980 c0_i32_939
  let c0_i32_940 : BitVec 32 := 0#32
  let v983 : BitVec 1 := Scalar.cmpi .slt v979 c0_i32_940
  let v984 : BitVec 1 := Scalar.xori v982 v983
  let c0_i32_938 : BitVec 32 := 0#32
  let v981 : BitVec 1 := Scalar.cmpi .ne v980 c0_i32_938
  let v985 : BitVec 1 := Scalar.andi v984 v981
  let v986 : BitVec 32 := Scalar.addi v980 v979
  let v987 : BitVec 32 := Scalar.select v985 v986 v980
  let c0_i32_941 : BitVec 32 := 0#32
  let v988 : BitVec 1 := Scalar.cmpi .eq v987 c0_i32_941
  let v989 : BitVec 32 := Scalar.extui v988
  let c0_i32_942 : BitVec 32 := 0#32
  let v990 : BitVec 1 := Scalar.cmpi .ne v989 c0_i32_942
  v990

def k0_off20 (k0_t1 : Fin k0_t1_loop.trips) : Fin 1 → Nat :=
  let c1_i32_79 : BitVec 32 := 1#32
  let c1_i32_80 : BitVec 32 := 1#32
  let arg16 : BitVec 32 := Scf.iv c1_i32_79 c1_i32_80 k0_t1
  let c0_i32_944 : BitVec 32 := 0#32
  let v992 : BitVec 1 := Scalar.cmpi .sgt arg16 c0_i32_944
  let v993 : BitVec 32 := Scalar.extui v992
  let c0_i32_945 : BitVec 32 := 0#32
  let v994 : BitVec 1 := Scalar.cmpi .slt arg16 c0_i32_945
  let v995 : BitVec 32 := Scalar.extui v994
  let v996 : BitVec 32 := Scalar.subi v993 v995
  let c2_i32_943 : BitVec 32 := 2#32
  let c0_i32_946 : BitVec 32 := 0#32
  let v997 : BitVec 1 := Scalar.cmpi .sgt c2_i32_943 c0_i32_946
  let v998 : BitVec 32 := Scalar.extui v997
  let c0_i32_947 : BitVec 32 := 0#32
  let v999 : BitVec 1 := Scalar.cmpi .slt c2_i32_943 c0_i32_947
  let v1000 : BitVec 32 := Scalar.extui v999
  let v1001 : BitVec 32 := Scalar.subi v998 v1000
  let v1002 : BitVec 1 := Scalar.cmpi .ne v996 v1001
  let v1003 : BitVec 32 := Scalar.remsi arg16 c2_i32_943
  let c0_i32_948 : BitVec 32 := 0#32
  let v1004 : BitVec 1 := Scalar.cmpi .ne v1003 c0_i32_948
  let v1005 : BitVec 1 := Scalar.andi v1002 v1004
  let v991 : BitVec 32 := Scalar.divsi arg16 c2_i32_943
  let c1_i32_949 : BitVec 32 := 1#32
  let v1006 : BitVec 32 := Scalar.subi v991 c1_i32_949
  let v1007 : BitVec 32 := Scalar.select v1005 v1006 v991
  let c1_i32_950 : BitVec 32 := 1#32
  let v1008 : BitVec 32 := Scalar.subi v1007 c1_i32_950
  ![v1008.toNat]
def k0_off21 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c0_i32_944 : BitVec 32 := 0#32
  let v992 : BitVec 1 := Scalar.cmpi .sgt arg16 c0_i32_944
  let v993 : BitVec 32 := Scalar.extui v992
  let c0_i32_945 : BitVec 32 := 0#32
  let v994 : BitVec 1 := Scalar.cmpi .slt arg16 c0_i32_945
  let v995 : BitVec 32 := Scalar.extui v994
  let v996 : BitVec 32 := Scalar.subi v993 v995
  let c2_i32_943 : BitVec 32 := 2#32
  let c0_i32_946 : BitVec 32 := 0#32
  let v997 : BitVec 1 := Scalar.cmpi .sgt c2_i32_943 c0_i32_946
  let v998 : BitVec 32 := Scalar.extui v997
  let c0_i32_947 : BitVec 32 := 0#32
  let v999 : BitVec 1 := Scalar.cmpi .slt c2_i32_943 c0_i32_947
  let v1000 : BitVec 32 := Scalar.extui v999
  let v1001 : BitVec 32 := Scalar.subi v998 v1000
  let v1002 : BitVec 1 := Scalar.cmpi .ne v996 v1001
  let v1003 : BitVec 32 := Scalar.remsi arg16 c2_i32_943
  let c0_i32_948 : BitVec 32 := 0#32
  let v1004 : BitVec 1 := Scalar.cmpi .ne v1003 c0_i32_948
  let v1005 : BitVec 1 := Scalar.andi v1002 v1004
  let v991 : BitVec 32 := Scalar.divsi arg16 c2_i32_943
  let c1_i32_949 : BitVec 32 := 1#32
  let v1006 : BitVec 32 := Scalar.subi v991 c1_i32_949
  let v1007 : BitVec 32 := Scalar.select v1005 v1006 v991
  let c1_i32_950 : BitVec 32 := 1#32
  let v1008 : BitVec 32 := Scalar.subi v1007 c1_i32_950
  let c0_i32_953 : BitVec 32 := 0#32
  let c0_i32_954 : BitVec 32 := 0#32
  ![v1008.toNat, 0, 0]
def k0_off22 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c0_i32_944 : BitVec 32 := 0#32
  let v992 : BitVec 1 := Scalar.cmpi .sgt arg16 c0_i32_944
  let v993 : BitVec 32 := Scalar.extui v992
  let c0_i32_945 : BitVec 32 := 0#32
  let v994 : BitVec 1 := Scalar.cmpi .slt arg16 c0_i32_945
  let v995 : BitVec 32 := Scalar.extui v994
  let v996 : BitVec 32 := Scalar.subi v993 v995
  let c2_i32_943 : BitVec 32 := 2#32
  let c0_i32_946 : BitVec 32 := 0#32
  let v997 : BitVec 1 := Scalar.cmpi .sgt c2_i32_943 c0_i32_946
  let v998 : BitVec 32 := Scalar.extui v997
  let c0_i32_947 : BitVec 32 := 0#32
  let v999 : BitVec 1 := Scalar.cmpi .slt c2_i32_943 c0_i32_947
  let v1000 : BitVec 32 := Scalar.extui v999
  let v1001 : BitVec 32 := Scalar.subi v998 v1000
  let v1002 : BitVec 1 := Scalar.cmpi .ne v996 v1001
  let v1003 : BitVec 32 := Scalar.remsi arg16 c2_i32_943
  let c0_i32_948 : BitVec 32 := 0#32
  let v1004 : BitVec 1 := Scalar.cmpi .ne v1003 c0_i32_948
  let v1005 : BitVec 1 := Scalar.andi v1002 v1004
  let v991 : BitVec 32 := Scalar.divsi arg16 c2_i32_943
  let c1_i32_949 : BitVec 32 := 1#32
  let v1006 : BitVec 32 := Scalar.subi v991 c1_i32_949
  let v1007 : BitVec 32 := Scalar.select v1005 v1006 v991
  let c1_i32_950 : BitVec 32 := 1#32
  let v1008 : BitVec 32 := Scalar.subi v1007 c1_i32_950
  let c1_i32_951 : BitVec 32 := 1#32
  let v1009 : BitVec 32 := Scalar.addi v1008 c1_i32_951
  let c0_i32_955 : BitVec 32 := 0#32
  let c0_i32_956 : BitVec 32 := 0#32
  ![v1009.toNat, 0, 0]
def k0_off23 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c0_i32_944 : BitVec 32 := 0#32
  let v992 : BitVec 1 := Scalar.cmpi .sgt arg16 c0_i32_944
  let v993 : BitVec 32 := Scalar.extui v992
  let c0_i32_945 : BitVec 32 := 0#32
  let v994 : BitVec 1 := Scalar.cmpi .slt arg16 c0_i32_945
  let v995 : BitVec 32 := Scalar.extui v994
  let v996 : BitVec 32 := Scalar.subi v993 v995
  let c2_i32_943 : BitVec 32 := 2#32
  let c0_i32_946 : BitVec 32 := 0#32
  let v997 : BitVec 1 := Scalar.cmpi .sgt c2_i32_943 c0_i32_946
  let v998 : BitVec 32 := Scalar.extui v997
  let c0_i32_947 : BitVec 32 := 0#32
  let v999 : BitVec 1 := Scalar.cmpi .slt c2_i32_943 c0_i32_947
  let v1000 : BitVec 32 := Scalar.extui v999
  let v1001 : BitVec 32 := Scalar.subi v998 v1000
  let v1002 : BitVec 1 := Scalar.cmpi .ne v996 v1001
  let v1003 : BitVec 32 := Scalar.remsi arg16 c2_i32_943
  let c0_i32_948 : BitVec 32 := 0#32
  let v1004 : BitVec 1 := Scalar.cmpi .ne v1003 c0_i32_948
  let v1005 : BitVec 1 := Scalar.andi v1002 v1004
  let v991 : BitVec 32 := Scalar.divsi arg16 c2_i32_943
  let c1_i32_949 : BitVec 32 := 1#32
  let v1006 : BitVec 32 := Scalar.subi v991 c1_i32_949
  let v1007 : BitVec 32 := Scalar.select v1005 v1006 v991
  let c1_i32_950 : BitVec 32 := 1#32
  let v1008 : BitVec 32 := Scalar.subi v1007 c1_i32_950
  let c1_i32_963 : BitVec 32 := 1#32
  let v1024 : BitVec 32 := Scalar.addi v1008 c1_i32_963
  let v1025 : Index := Scalar.indexCast v1024
  let c0_964 : Index := 0#32
  let c0_965 : Index := 0#32
  ![v1025.toNat, 0, 0]
def k0_off24 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let c1_i32_80 : BitVec 32 := 1#32
  let arg16 : BitVec 32 := Scf.iv c1_i32_79 c1_i32_80 k0_t1
  let c2_i32_872 : BitVec 32 := 2#32
  let c0_i32_873 : BitVec 32 := 0#32
  let v858 : BitVec 1 := Scalar.cmpi .eq c2_i32_872 c0_i32_873
  let c1_i32_874 : BitVec 32 := 1#32
  let v859 : BitVec 32 := Scalar.select v858 c1_i32_874 c2_i32_872
  let v860 : BitVec 32 := Scalar.remsi arg16 v859
  let c0_i32_876 : BitVec 32 := 0#32
  let v862 : BitVec 1 := Scalar.cmpi .slt v860 c0_i32_876
  let c0_i32_877 : BitVec 32 := 0#32
  let v863 : BitVec 1 := Scalar.cmpi .slt v859 c0_i32_877
  let v864 : BitVec 1 := Scalar.xori v862 v863
  let c0_i32_875 : BitVec 32 := 0#32
  let v861 : BitVec 1 := Scalar.cmpi .ne v860 c0_i32_875
  let v865 : BitVec 1 := Scalar.andi v864 v861
  let v866 : BitVec 32 := Scalar.addi v860 v859
  let v867 : BitVec 32 := Scalar.select v865 v866 v860
  let c1_i32_878 : BitVec 32 := 1#32
  let v868 : BitVec 1 := Scalar.cmpi .eq v867 c1_i32_878
  let c1_i32_864 : BitVec 32 := 1#32
  let v840 : BitVec 32 := Scalar.addi arg16 c1_i32_864
  let c0_i32_866 : BitVec 32 := 0#32
  let v842 : BitVec 1 := Scalar.cmpi .sgt v840 c0_i32_866
  let v843 : BitVec 32 := Scalar.extui v842
  let c0_i32_867 : BitVec 32 := 0#32
  let v844 : BitVec 1 := Scalar.cmpi .slt v840 c0_i32_867
  let v845 : BitVec 32 := Scalar.extui v844
  let v846 : BitVec 32 := Scalar.subi v843 v845
  let c2_i32_865 : BitVec 32 := 2#32
  let c0_i32_868 : BitVec 32 := 0#32
  let v847 : BitVec 1 := Scalar.cmpi .sgt c2_i32_865 c0_i32_868
  let v848 : BitVec 32 := Scalar.extui v847
  let c0_i32_869 : BitVec 32 := 0#32
  let v849 : BitVec 1 := Scalar.cmpi .slt c2_i32_865 c0_i32_869
  let v850 : BitVec 32 := Scalar.extui v849
  let v851 : BitVec 32 := Scalar.subi v848 v850
  let v852 : BitVec 1 := Scalar.cmpi .ne v846 v851
  let v853 : BitVec 32 := Scalar.remsi v840 c2_i32_865
  let c0_i32_870 : BitVec 32 := 0#32
  let v854 : BitVec 1 := Scalar.cmpi .ne v853 c0_i32_870
  let v855 : BitVec 1 := Scalar.andi v852 v854
  let v841 : BitVec 32 := Scalar.divsi v840 c2_i32_865
  let c1_i32_871 : BitVec 32 := 1#32
  let v856 : BitVec 32 := Scalar.subi v841 c1_i32_871
  let v857 : BitVec 32 := Scalar.select v855 v856 v841
  let c0_i32_879 : BitVec 32 := 0#32
  let v869 : BitVec 32 := Scalar.subi c0_i32_879 v857
  let v870 : BitVec 32 := Scalar.select v868 v857 v869
  let v871 : BitVec 32 := Scalar.addi v2 v870
  let c8_i32_880 : BitVec 32 := 8#32
  let v872 : BitVec 32 := Scalar.addi v871 c8_i32_880
  let c8_i32_881 : BitVec 32 := 8#32
  let v873 : BitVec 32 := Scalar.remsi v872 c8_i32_881
  let c256_i32_966 : BitVec 32 := 256#32
  let v1028 : BitVec 32 := Scalar.muli v873 c256_i32_966
  let v1029 : Index := Scalar.indexCast v1028
  let c512_967 : Index := 512#32
  ![v1029.toNat, 512]
def k0_off25 (k0_t1 : Fin k0_t1_loop.trips) : Fin 1 → Nat :=
  let c1_i32_79 : BitVec 32 := 1#32
  let c1_i32_80 : BitVec 32 := 1#32
  let arg16 : BitVec 32 := Scf.iv c1_i32_79 c1_i32_80 k0_t1
  let c0_i32_944 : BitVec 32 := 0#32
  let v992 : BitVec 1 := Scalar.cmpi .sgt arg16 c0_i32_944
  let v993 : BitVec 32 := Scalar.extui v992
  let c0_i32_945 : BitVec 32 := 0#32
  let v994 : BitVec 1 := Scalar.cmpi .slt arg16 c0_i32_945
  let v995 : BitVec 32 := Scalar.extui v994
  let v996 : BitVec 32 := Scalar.subi v993 v995
  let c2_i32_943 : BitVec 32 := 2#32
  let c0_i32_946 : BitVec 32 := 0#32
  let v997 : BitVec 1 := Scalar.cmpi .sgt c2_i32_943 c0_i32_946
  let v998 : BitVec 32 := Scalar.extui v997
  let c0_i32_947 : BitVec 32 := 0#32
  let v999 : BitVec 1 := Scalar.cmpi .slt c2_i32_943 c0_i32_947
  let v1000 : BitVec 32 := Scalar.extui v999
  let v1001 : BitVec 32 := Scalar.subi v998 v1000
  let v1002 : BitVec 1 := Scalar.cmpi .ne v996 v1001
  let v1003 : BitVec 32 := Scalar.remsi arg16 c2_i32_943
  let c0_i32_948 : BitVec 32 := 0#32
  let v1004 : BitVec 1 := Scalar.cmpi .ne v1003 c0_i32_948
  let v1005 : BitVec 1 := Scalar.andi v1002 v1004
  let v991 : BitVec 32 := Scalar.divsi arg16 c2_i32_943
  let c1_i32_949 : BitVec 32 := 1#32
  let v1006 : BitVec 32 := Scalar.subi v991 c1_i32_949
  let v1007 : BitVec 32 := Scalar.select v1005 v1006 v991
  let c1_i32_950 : BitVec 32 := 1#32
  let v1008 : BitVec 32 := Scalar.subi v1007 c1_i32_950
  let c1_i32_971 : BitVec 32 := 1#32
  let v1038 : BitVec 32 := Scalar.addi v1008 c1_i32_971
  ![v1038.toNat]
def k0_off26 (k0_t1 : Fin k0_t1_loop.trips) : Fin 3 → Nat :=
  let c1_i32_79 : BitVec 32 := 1#32
  let c1_i32_80 : BitVec 32 := 1#32
  let arg16 : BitVec 32 := Scf.iv c1_i32_79 c1_i32_80 k0_t1
  let c0_i32_944 : BitVec 32 := 0#32
  let v992 : BitVec 1 := Scalar.cmpi .sgt arg16 c0_i32_944
  let v993 : BitVec 32 := Scalar.extui v992
  let c0_i32_945 : BitVec 32 := 0#32
  let v994 : BitVec 1 := Scalar.cmpi .slt arg16 c0_i32_945
  let v995 : BitVec 32 := Scalar.extui v994
  let v996 : BitVec 32 := Scalar.subi v993 v995
  let c2_i32_943 : BitVec 32 := 2#32
  let c0_i32_946 : BitVec 32 := 0#32
  let v997 : BitVec 1 := Scalar.cmpi .sgt c2_i32_943 c0_i32_946
  let v998 : BitVec 32 := Scalar.extui v997
  let c0_i32_947 : BitVec 32 := 0#32
  let v999 : BitVec 1 := Scalar.cmpi .slt c2_i32_943 c0_i32_947
  let v1000 : BitVec 32 := Scalar.extui v999
  let v1001 : BitVec 32 := Scalar.subi v998 v1000
  let v1002 : BitVec 1 := Scalar.cmpi .ne v996 v1001
  let v1003 : BitVec 32 := Scalar.remsi arg16 c2_i32_943
  let c0_i32_948 : BitVec 32 := 0#32
  let v1004 : BitVec 1 := Scalar.cmpi .ne v1003 c0_i32_948
  let v1005 : BitVec 1 := Scalar.andi v1002 v1004
  let v991 : BitVec 32 := Scalar.divsi arg16 c2_i32_943
  let c1_i32_949 : BitVec 32 := 1#32
  let v1006 : BitVec 32 := Scalar.subi v991 c1_i32_949
  let v1007 : BitVec 32 := Scalar.select v1005 v1006 v991
  let c1_i32_950 : BitVec 32 := 1#32
  let v1008 : BitVec 32 := Scalar.subi v1007 c1_i32_950
  let c1_i32_971 : BitVec 32 := 1#32
  let v1038 : BitVec 32 := Scalar.addi v1008 c1_i32_971
  let c1_i32_972 : BitVec 32 := 1#32
  let v1039 : BitVec 32 := Scalar.addi v1038 c1_i32_972
  let c0_i32_975 : BitVec 32 := 0#32
  let c0_i32_976 : BitVec 32 := 0#32
  ![v1039.toNat, 0, 0]
def k0_dev6 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_973 : BitVec 32 := 1#32
  let v1040 : BitVec 32 := Scalar.muli v7 c1_i32_973
  let v1041 : BitVec 32 := Scalar.addi c0_i32_974 v1040
  v1041.toNat
def k0_off27 (d0 : Dev nD) (c4_i32_102 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_101 : BitVec 32 := 8#32
  let v153 : BitVec 32 := Scalar.addi v2 c8_i32_101
  let v154 : BitVec 32 := Scalar.subi v153 c4_i32_102
  let c8_i32_103 : BitVec 32 := 8#32
  let v155 : BitVec 32 := Scalar.remsi v154 c8_i32_103
  let c256_i32_106 : BitVec 32 := 256#32
  let v158 : BitVec 32 := Scalar.muli v155 c256_i32_106
  let v159 : Index := Scalar.indexCast v158
  let c512_107 : Index := 512#32
  ![v159.toNat, 512]
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_114 : BitVec 32 := 1#32
  let v166 : BitVec 32 := Scalar.muli v7 c1_i32_114
  let v167 : BitVec 32 := Scalar.addi c0_i32_115 v166
  v167.toNat
def k0_off28 (d0 : Dev nD) (c5_i32_139 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v190 : BitVec 32 := Scalar.addi v2 c5_i32_139
  let c8_i32_140 : BitVec 32 := 8#32
  let v191 : BitVec 32 := Scalar.remsi v190 c8_i32_140
  let c256_i32_143 : BitVec 32 := 256#32
  let v194 : BitVec 32 := Scalar.muli v191 c256_i32_143
  let v195 : Index := Scalar.indexCast v194
  let c0_144 : Index := 0#32
  ![v195.toNat, 0]
def k0_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_151 : BitVec 32 := 1#32
  let v202 : BitVec 32 := Scalar.muli v5 c1_i32_151
  let v203 : BitVec 32 := Scalar.addi c0_i32_152 v202
  v203.toNat
def k0_dev9 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_191 : BitVec 32 := 1#32
  let v239 : BitVec 32 := Scalar.muli v7 c1_i32_191
  let v240 : BitVec 32 := Scalar.addi c0_i32_192 v239
  v240.toNat
def k0_dev10 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_229 : BitVec 32 := 1#32
  let v275 : BitVec 32 := Scalar.muli v5 c1_i32_229
  let v276 : BitVec 32 := Scalar.addi c0_i32_230 v275
  v276.toNat
def k0_dev11 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_269 : BitVec 32 := 1#32
  let v312 : BitVec 32 := Scalar.muli v7 c1_i32_269
  let v313 : BitVec 32 := Scalar.addi c0_i32_270 v312
  v313.toNat
def k0_dev12 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_307 : BitVec 32 := 1#32
  let v348 : BitVec 32 := Scalar.muli v7 c1_i32_307
  let v349 : BitVec 32 := Scalar.addi c0_i32_308 v348
  v349.toNat
def k0_dev13 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_347 : BitVec 32 := 1#32
  let v385 : BitVec 32 := Scalar.muli v5 c1_i32_347
  let v386 : BitVec 32 := Scalar.addi c0_i32_348 v385
  v386.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c256_i32_356 : BitVec 32 := 256#32
  let v397 : BitVec 32 := Scalar.muli v5 c256_i32_356
  let v398 : Index := Scalar.indexCast v397
  let c0_357 : Index := 0#32
  ![v398.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c256_i32_361 : BitVec 32 := 256#32
  let v402 : BitVec 32 := Scalar.muli v7 c256_i32_361
  let v403 : Index := Scalar.indexCast v402
  let c512_362 : Index := 512#32
  ![v403.toNat, 512]
def k0_dev14 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_405 : BitVec 32 := 1#32
  let v433 : BitVec 32 := Scalar.muli v7 c1_i32_405
  let v434 : BitVec 32 := Scalar.addi c0_i32_406 v433
  v434.toNat
def k0_dev15 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_415 : BitVec 32 := 1#32
  let v443 : BitVec 32 := Scalar.muli v5 c1_i32_415
  let v444 : BitVec 32 := Scalar.addi c0_i32_416 v443
  v444.toNat
def k0_off31 (d0 : Dev nD) (c0_i32_422 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v453 : BitVec 32 := Scalar.addi v2 c16_i32
  let c2_i32_421 : BitVec 32 := 2#32
  let v454 : BitVec 32 := Scalar.subi v453 c2_i32_421
  let v455 : BitVec 32 := Scalar.subi v454 c0_i32_422
  let c8_i32_423 : BitVec 32 := 8#32
  let v456 : BitVec 32 := Scalar.remsi v455 c8_i32_423
  let c256_i32_430 : BitVec 32 := 256#32
  let v462 : BitVec 32 := Scalar.muli v456 c256_i32_430
  let v463 : Index := Scalar.indexCast v462
  let c0_431 : Index := 0#32
  ![v463.toNat, 0]
def k0_off32 (d0 : Dev nD) (c0_i32_425 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_424 : BitVec 32 := 2#32
  let v457 : BitVec 32 := Scalar.addi v2 c2_i32_424
  let v458 : BitVec 32 := Scalar.addi v457 c0_i32_425
  let c8_i32_426 : BitVec 32 := 8#32
  let v459 : BitVec 32 := Scalar.remsi v458 c8_i32_426
  let c256_i32_435 : BitVec 32 := 256#32
  let v467 : BitVec 32 := Scalar.muli v459 c256_i32_435
  let v468 : Index := Scalar.indexCast v467
  let c512_436 : Index := 512#32
  ![v468.toNat, 512]
def k0_dev16 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_479 : BitVec 32 := 1#32
  let v498 : BitVec 32 := Scalar.muli v7 c1_i32_479
  let v499 : BitVec 32 := Scalar.addi c0_i32_480 v498
  v499.toNat
def k0_dev17 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_489 : BitVec 32 := 1#32
  let v508 : BitVec 32 := Scalar.muli v5 c1_i32_489
  let v509 : BitVec 32 := Scalar.addi c0_i32_490 v508
  v509.toNat
def k0_dev18 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_553 : BitVec 32 := 1#32
  let v563 : BitVec 32 := Scalar.muli v7 c1_i32_553
  let v564 : BitVec 32 := Scalar.addi c0_i32_554 v563
  v564.toNat
def k0_dev19 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_563 : BitVec 32 := 1#32
  let v573 : BitVec 32 := Scalar.muli v5 c1_i32_563
  let v574 : BitVec 32 := Scalar.addi c0_i32_564 v573
  v574.toNat
def k0_dev20 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_627 : BitVec 32 := 1#32
  let v628 : BitVec 32 := Scalar.muli v7 c1_i32_627
  let v629 : BitVec 32 := Scalar.addi c0_i32_628 v628
  v629.toNat
def k0_dev21 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_637 : BitVec 32 := 1#32
  let v638 : BitVec 32 := Scalar.muli v5 c1_i32_637
  let v639 : BitVec 32 := Scalar.addi c0_i32_638 v638
  v639.toNat
def k0_dev22 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_701 : BitVec 32 := 1#32
  let v693 : BitVec 32 := Scalar.muli v7 c1_i32_701
  let v694 : BitVec 32 := Scalar.addi c0_i32_702 v693
  v694.toNat
def k0_dev23 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_711 : BitVec 32 := 1#32
  let v703 : BitVec 32 := Scalar.muli v5 c1_i32_711
  let v704 : BitVec 32 := Scalar.addi c0_i32_712 v703
  v704.toNat
def k0_dev24 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_776 : BitVec 32 := 1#32
  let v758 : BitVec 32 := Scalar.muli v7 c1_i32_776
  let v759 : BitVec 32 := Scalar.addi c0_i32_777 v758
  v759.toNat
def k0_dev25 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_786 : BitVec 32 := 1#32
  let v768 : BitVec 32 := Scalar.muli v5 c1_i32_786
  let v769 : BitVec 32 := Scalar.addi c0_i32_787 v768
  v769.toNat
def k0_dev26 (d0 : Dev nD) : Nat :=
  let c0_i32_866_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_865_r0 : BitVec 32 := 1#32
  let v841_r0 : BitVec 32 := Scalar.muli v5 c1_i32_865_r0
  let v842_r0 : BitVec 32 := Scalar.addi c0_i32_866_r0 v841_r0
  v842_r0.toNat
def k0_dev27 (d0 : Dev nD) : Nat :=
  let c0_i32_869_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_868_r0 : BitVec 32 := 1#32
  let v843_r0 : BitVec 32 := Scalar.muli v7 c1_i32_868_r0
  let v844_r0 : BitVec 32 := Scalar.addi c0_i32_869_r0 v843_r0
  v844_r0.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x64x128, .f32⟩
  | .hbm, ⟨3, _⟩ => ⟨S1x2048x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S1x64x2048x2048, .f32⟩
  | .hbm, ⟨51, _⟩ => ⟨S_, .f32⟩
  | .hbm, ⟨52, _⟩ => ⟨S1x64x2048x2048, .f32⟩
  | .hbm, ⟨53, _⟩ => ⟨S1x64x2048x2048, .f32⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S1x64x2048x2048, .i1⟩
  | .hbm, ⟨58, _⟩ => ⟨S1x64x2048x2048, .f32⟩
  | .hbm, ⟨59, _⟩ => ⟨S1x64x2048x2048, .f32⟩
  | .hbm, ⟨60, _⟩ => ⟨S_, .f32⟩
  | .hbm, ⟨61, _⟩ => ⟨S1x64x2048, .f32⟩
  | .hbm, ⟨62, _⟩ => ⟨S1x64x2048x1, .f32⟩
  | .hbm, ⟨63, _⟩ => ⟨S1x64x2048x2048, .f32⟩
  | .hbm, ⟨64, _⟩ => ⟨S1x64x2048x2048, .f32⟩
  | .hbm, ⟨65, _⟩ => ⟨S1x64x2048x2048, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x64x2048, .f32⟩
  | .hbm, ⟨71, _⟩ => ⟨S1x64x2048x1, .f32⟩
  | .hbm, ⟨72, _⟩ => ⟨S_, .f32⟩
  | .hbm, ⟨73, _⟩ => ⟨S_, .f32⟩
  | .hbm, ⟨74, _⟩ => ⟨S1x64x2048x1, .i1⟩
  | .hbm, ⟨75, _⟩ => ⟨S1x64x2048x1, .f32⟩
  | .hbm, ⟨76, _⟩ => ⟨S1x64x2048x1, .f32⟩
  | .hbm, ⟨77, _⟩ => ⟨S1x64x2048x2048, .f32⟩
  | .hbm, ⟨78, _⟩ => ⟨S1x64x2048x2048, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x64x2048x2048, .i1⟩
  | .hbm, ⟨83, _⟩ => ⟨S1x64x2048x2048, .f32⟩
  | .hbm, ⟨84, _⟩ => ⟨S1x64x2048x2048, .f32⟩
  | .hbm, ⟨85, _⟩ => ⟨S1x64x128x2048, .f32⟩
  | .hbm, ⟨86, _⟩ => ⟨S1x2048x64x128, .f32⟩
  | .hbm, ⟨87, _⟩ => ⟨S1x2048x8192, .f32⟩
  | .hbm, ⟨88, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Slots.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

/-! The transfers of the kernel, numbered in the order in which they are waited for, and the slots of the two
communication buffers that they read and write. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide
theorem nxt_ne (c : Dev nD) : nxt c ≠ prv c := by revert c; decide
def ring : Dev nD ≃ Dev nD := ⟨nxt, prv, prv_nxt, nxt_prv⟩

/-- The buffer of transfer `i`: `true` is the right-hand buffer. -/
def bufOf (i : Fin 28) : Bool := decide (i.val % 2 = 1)
/-- Transfer `i` goes to the right neighbour. -/
def rt (i : Fin 28) : Bool := if i.val < 14 then decide (i.val % 2 = 1) else decide (i.val % 2 = 0)
def tgt (i : Fin 28) (c : Dev nD) : Dev nD := if rt i then nxt c else prv c
def frm (i : Fin 28) (c : Dev nD) : Dev nD := if rt i then prv c else nxt c
theorem frm_tgt (i : Fin 28) (c : Dev nD) : frm i (tgt i c) = c := by
  unfold frm tgt; split <;> simp only [prv_nxt, nxt_prv]
theorem tgt_frm (i : Fin 28) (c : Dev nD) : tgt i (frm i c) = c := by
  unfold frm tgt; split <;> simp only [prv_nxt, nxt_prv]
set_option backward.proofsInPublic true in
/-- The slot that transfer `i` reads. -/
def srcS (i : Fin 28) : Fin 8 :=
  if i.val < 14 then ⟨i.val / 2 % 8, Nat.mod_lt _ (by decide)⟩ else if i.val < 16 then ⟨7, by decide⟩ else ⟨(i.val - 16) / 2 % 8, Nat.mod_lt _ (by decide)⟩
set_option backward.proofsInPublic true in
/-- The slot that transfer `i` writes. -/
def dstS (i : Fin 28) : Fin 8 :=
  if i.val < 14 then ⟨(i.val / 2 + 1) % 8, Nat.mod_lt _ (by decide)⟩ else ⟨(i.val - 14) / 2 % 8, Nat.mod_lt _ (by decide)⟩
set_option backward.proofsInPublic true in
/-- The send semaphore of transfer `i`. -/
def sSem (i : Fin 28) : DmaSem sig :=
  (⟨((if i.val < 14 then 6 + 14 * (i.val % 2) + i.val / 2 else 34 + 14 * (i.val % 2) + (i.val - 14) / 2)) % 62, Nat.mod_lt _ (by decide)⟩ : Fin 62)
set_option backward.proofsInPublic true in
/-- The receive semaphore of transfer `i`. -/
def rSem (i : Fin 28) : DmaSem sig :=
  (⟨((if i.val < 14 then 13 + 14 * (i.val % 2) + i.val / 2 else 41 + 14 * (i.val % 2) + (i.val - 14) / 2)) % 62, Nat.mod_lt _ (by decide)⟩ : Fin 62)
set_option backward.proofsInPublic true in
/-- Which transfer a semaphore belongs to, and whether it is the receive semaphore. -/
def dec (q : DmaSem sig) : Option (Fin 28 × Bool) :=
  let n := (q : Fin 62).val
  if n < 6 then none
  else some (⟨((if (n - 6) / 7 < 4 then 0 else 14) + 2 * ((n - 6) % 7) + (n - 6) / 14 % 2) % 28, Nat.mod_lt _ (by decide)⟩, decide ((n - 6) / 7 % 2 = 1))
theorem dec_s (i : Fin 28) : dec (sSem i) = some (i, false) := by revert i; decide
theorem dec_r (i : Fin 28) : dec (rSem i) = some (i, true) := by revert i; decide
theorem dec_inv (q : DmaSem sig) (i : Fin 28) (b : Bool) (h : dec q = some (i, b)) : q = if b then rSem i else sSem i := by
  revert q i b; decide +kernel

/-- The number of receptions after which the sender of transfer `j` holds the destination slot. -/
def rc (j : Fin 28) : ℕ := if j.val < 14 then 0 else if j.val = 26 then 18 else if j.val = 27 then 17 else if j.val % 2 = 0 then 13 else 14

theorem extra_tgt (i j : Fin 28) (h : rc j = i.val + 1) (d : Dev nD) : tgt j d = frm i d := by
  have : rt j = !rt i := by revert i j; decide
  unfold tgt frm; rw [this]; cases rt i <;> rfl
theorem src_next (i : Fin 28) (h : i.val + 2 < 28) : srcS ⟨i.val + 2, h⟩ = dstS i ∧ bufOf ⟨i.val + 2, h⟩ = bufOf i := by revert i; decide
theorem ag_slot (j : Fin 28) (h : j.val + 14 < 28) : dstS ⟨j.val + 14, h⟩ = srcS j ∧ bufOf ⟨j.val + 14, h⟩ = bufOf j := by revert j; decide

/-! ## The slots -/

/-- The contents of one slot. -/
abbrev SlotT (F : FTy → Type) : Type := FVec F S1x256x512 .f32

abbrev lM : Memref sig .tc .vmem S8x256x512 .f32 := Memref.whole cc0_scratch0
abbrev rM : Memref sig .tc .vmem S8x256x512 .f32 := Memref.whole cc0_scratch1

theorem slot_inb (s : Fin 8) : ∀ a, (![s.val, 0, 0] : Fin 3 → ℕ) a + S1x256x512.size a ≤ S8x256x512.size a := by
  revert s; decide
abbrev slotR (s : Fin 8) : Rect S8x256x512 := Rect.unit (s := S8x256x512) ![s.val, 0, 0] S1x256x512.size (slot_inb s)
abbrev lSlot (s : Fin 8) : Memref sig .tc .vmem S256x512 .f32 := (lM.slice (slotR s) (fun _ => rfl)).squeeze S256x512 squeezes_S1x256x512_S256x512
abbrev rSlot (s : Fin 8) : Memref sig .tc .vmem S256x512 .f32 := (rM.slice (slotR s) (fun _ => rfl)).squeeze S256x512 squeezes_S1x256x512_S256x512

/-- The contents of a communication buffer holding `v` in the slot looked at. -/
def slotBuf (v : SlotT F) : S8x256x512.Idx → Elt F .f32 := fun i => v (ix3 (0 : Fin 1) (i 1) (i 2))

/-- A share of slot `s` of a communication buffer of device `c`, holding `v`. -/
def slotPts (b : Bool) (c : Dev nD) (s : Fin 8) (q : PosShare TreeShare) (v : SlotT F) : sProp 𝕄 :=
  match b with
  | false => (lSlot s).view.loc (c : Thread nD τ) ↦[(lSlot s).view.set]{q} (slotBuf v)
  | true => (rSlot s).view.loc (c : Thread nD τ) ↦[(rSlot s).view.set]{q} (slotBuf v)
/-- Slot `s` outright, holding anything. -/
def slotAny (b : Bool) (c : Dev nD) (s : Fin 8) : sProp 𝕄 :=
  match b with
  | false => iprop(∃ f, (lSlot s).view.loc (c : Thread nD τ) ↦[(lSlot s).view.set]{fullShare} f)
  | true => iprop(∃ f, (rSlot s).view.loc (c : Thread nD τ) ↦[(rSlot s).view.set]{fullShare} f)

instance slotPts_storable (b c s q) (v : SlotT F) : BI.Storable (upEmb : UEmb _ 𝕄) (slotPts (F := F) b c s q v) := by
  cases b <;> (unfold slotPts; infer_instance)
instance slotAny_storable (b c s) : BI.Storable (upEmb : UEmb _ 𝕄) (slotAny (F := F) b c s) := by
  cases b <;> (unfold slotAny; infer_instance)

theorem slotPts_any (b c s) (v : SlotT F) : slotPts b c s fullShare v ⊢ slotAny (F := F) b c s := by
  cases b <;> (unfold slotPts slotAny; iintro H; iexists _; iexact H)
theorem slot_halves (b c s) (v : SlotT F) :
    slotPts b c s fullShare v ⊣⊢ iprop(slotPts b c s fullShare.left v ∗ slotPts b c s fullShare.right v) := by
  cases b <;> (unfold slotPts; exact pointsTo_share (PosShare.mem_left_op_right fullShare))

theorem slot_val (v : SlotT F) (s : Fin 8) (x : S1x256x512.Idx) : slotBuf v ((slotR s).emb x) = v x := by
  show v _ = v x
  congr 1
  funext a
  match a with
  | ⟨0, _⟩ => exact Subsingleton.elim (α := Fin 1) _ _
  | ⟨1, _⟩ => exact Fin.ext (show 0 + 1 * (x 1).val = (x 1).val by omega)
  | ⟨2, _⟩ => exact Fin.ext (show 0 + 1 * (x 2).val = (x 2).val by omega)

theorem l_set (s : Fin 8) : (lSlot s).view.set = (slotR s).set := by
  show ((lM.view.slice (slotR s)).reshape S256x512 _).set = _
  rw [View.set_reshape, View.set_slice_whole]
theorem r_set (s : Fin 8) : (rSlot s).view.set = (slotR s).set := by
  show ((rM.view.slice (slotR s)).reshape S256x512 _).set = _
  rw [View.set_reshape, View.set_slice_whole]

/-- A landing in a slot of what another slot holds. -/
theorem l_landed (s d : Fin 8) (v : SlotT F) (fd : S8x256x512.Idx → Elt F .f32) :
    ∀ i ∈ (lSlot d).view.set, (lSlot d).view.write (Elt F) fd ((lSlot s).view.read (Elt F) (slotBuf v)) Finset.univ i = slotBuf v i := by
  intro i hi
  obtain ⟨x, -, rfl⟩ := Finset.mem_map.mp hi
  rw [View.write_emb_of_mem _ _ (Finset.mem_univ _)]
  rfl
theorem r_landed (s d : Fin 8) (v : SlotT F) (fd : S8x256x512.Idx → Elt F .f32) :
    ∀ i ∈ (rSlot d).view.set, (rSlot d).view.write (Elt F) fd ((rSlot s).view.read (Elt F) (slotBuf v)) Finset.univ i = slotBuf v i := by
  intro i hi
  obtain ⟨x, -, rfl⟩ := Finset.mem_map.mp hi
  rw [View.write_emb_of_mem _ _ (Finset.mem_univ _)]
  rfl

theorem l_stored (s : Fin 8) (v : SlotT F) (f : S8x256x512.Idx → Elt F .f32) :
    ∀ i ∈ (lSlot s).view.set, (lM.access (slotR s)).write (Elt F) f v Finset.univ i = slotBuf v i := by
  intro i hi
  obtain ⟨x, -, rfl⟩ := Finset.mem_map.mp hi
  exact (View.write_emb_of_mem (v := lM.access (slotR s)) (x := Shape.reshapeEquiv squeezes_S1x256x512_S256x512.numel_eq x) f v
    (Finset.mem_univ _)).trans (slot_val v s _).symm
theorem r_stored (s : Fin 8) (v : SlotT F) (f : S8x256x512.Idx → Elt F .f32) :
    ∀ i ∈ (rSlot s).view.set, (rM.access (slotR s)).write (Elt F) f v Finset.univ i = slotBuf v i := by
  intro i hi
  obtain ⟨x, -, rfl⟩ := Finset.mem_map.mp hi
  exact (View.write_emb_of_mem (v := rM.access (slotR s)) (x := Shape.reshapeEquiv squeezes_S1x256x512_S256x512.numel_eq x) f v
    (Finset.mem_univ _)).trans (slot_val v s _).symm

theorem l_read (s : Fin 8) (v : SlotT F) : lM.view.readAt (Elt F) (slotR s).toLoadRect (slotBuf v) = v := by
  funext x; exact slot_val v s x
theorem r_read (s : Fin 8) (v : SlotT F) : rM.view.readAt (Elt F) (slotR s).toLoadRect (slotBuf v) = v := by
  funext x; exact slot_val v s x

end Cert.Attn
-- ==== Proof.Proto.lean ====
module

public import proofs.«01_k».proof.Proof.Slots

@[expose] public section

/-! The protocol: the cells, what each landing hands over, what a device holds between two effects, and a rule for
each effect on the communication buffers. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

/-! ## The cells -/

abbrev barS : Sem sig := (SemArray.scalar (sig.barrier 0 rfl) : Sems sig S_).sem
abbrev finS : Sem sig := (cc0_scoped0 : Sems sig S_).sem
abbrev barCell (c : Dev nD) : GSem nD τ sig := ((c : Thread nD τ), .reg barS)
abbrev finCell (c : Dev nD) : GSem nD τ sig := ((c : Thread nD τ), .reg finS)
abbrev sCell (i : Fin 28) (c : Dev nD) : GSem nD τ sig := ((c : Thread nD τ), .dma (sSem i))
abbrev rCell (i : Fin 28) (c : Dev nD) : GSem nD τ sig := ((c : Thread nD τ), .dma (rSem i))
theorem fin_ne_bar : finS ≠ barS := by decide

abbrev N : ℕ := (lSlot 0).view.dmaCredit
theorem N_pos : 0 < N := View.dmaCredit_pos _ (by decide)

/-- The own semaphores of the region: the one of the closing barrier, and a send and a receive one of each transfer. -/
abbrev KI : Type := Option (Fin 28 × Bool)
def osem : KI → SemLoc sig
  | none => .reg finS
  | some (i, false) => .dma (sSem i)
  | some (i, true) => .dma (rSem i)
abbrev kcell (p : Dev nD × KI) : GSem nD τ sig := ((p.1 : Thread nD τ), osem p.2)

/-! ## The schedule -/

section Sched

variable (V : Fin 28 → Dev nD → SlotT F)

def extra (i : Fin 28) (d : Dev nD) : sProp 𝕄 :=
  bigSep (Finset.univ.filter fun j : Fin 28 => rc j = i.val + 1) fun j => slotAny (bufOf j) (tgt j d) (dstS j)
def sPay (i : Fin 28) (c : Dev nD) : sProp 𝕄 := slotPts (bufOf i) c (srcS i) fullShare.left (V i c)
def rPay (i : Fin 28) (d : Dev nD) : sProp 𝕄 := iprop(slotPts (bufOf i) d (dstS i) fullShare (V i (frm i d)) ∗ extra i d)
/-- The cells of device `e` on which its neighbours land are open. -/
def Rch (e : Dev nD) : sProp 𝕄 :=
  iprop((bigSep Finset.univ fun i : Fin 28 => reached ER (rCell i e) 0) ∗ reached ER (finCell e) 0)
instance Rch_persistent (e : Dev nD) : BI.Persistent (Rch (F := F) e) := by unfold Rch; infer_instance
def barPay (b : Bool) (d : Dev nD) : sProp 𝕄 :=
  iprop((bigSep (Finset.univ.filter fun j : Fin 28 => j.val < 14 ∧ bufOf j = b) fun j => slotAny (bufOf j) (tgt j d) (dstS j))
    ∗ Rch (if b then nxt d else prv d))

def Rd : Rounds.Schedule (GSem nD τ sig) Bool 𝕄 where
  duties g r := if r = 0 ∧ g.1.2 = .tc then (match g.2 with
    | .reg _ => Finset.univ
    | .dma q => if (dec q).isSome then {false} else ∅) else ∅
  unitless _ := False
  amount g _ _ := match g.2 with
    | .reg _ => 1
    | .dma _ => N
  payload g _ d := match g.2 with
    | .reg s => if s = barS then barPay d g.1.1 else iprop(emp)
    | .dma q => match dec q with
      | some (i, false) => sPay V i g.1.1
      | some (i, true) => rPay V i g.1.1
      | none => iprop(emp)
  amount_pos g _ _ _ := by
    rcases g with ⟨t, s | q⟩
    · exact Nat.one_pos
    · exact N_pos

instance Rd_payload_storable (g : GSem nD τ sig) (r : ℕ) (d : Bool) :
    BI.Storable (upEmb : UEmb _ 𝕄) ((Rd V).payload g r d) := by
  rcases g with ⟨t, s | q⟩
  · show BI.Storable upEmb (if s = barS then barPay d t.1 else iprop(emp))
    unfold barPay Rch
    split <;> infer_instance
  · show BI.Storable upEmb (match dec q with
      | some (i, false) => sPay V i t.1
      | some (i, true) => rPay V i t.1
      | none => iprop(emp))
    unfold sPay rPay extra
    split <;> infer_instance

theorem duties_reg (c : Dev nD) (s : Sem sig) : (Rd V).duties ((c : Thread nD τ), .reg s) 0 = Finset.univ := by
  dsimp only [Rd]; exact if_pos ⟨rfl, rfl⟩
theorem duties_s (i : Fin 28) (c : Dev nD) : (Rd V).duties (sCell i c) 0 = {false} := by
  dsimp only [Rd]; rw [dec_s]; exact if_pos ⟨rfl, rfl⟩
theorem duties_r (i : Fin 28) (c : Dev nD) : (Rd V).duties (rCell i c) 0 = {false} := by
  dsimp only [Rd]; rw [dec_r]; exact if_pos ⟨rfl, rfl⟩
theorem duties_later (g : GSem nD τ sig) : ∀ r, 1 ≤ r → (Rd V).duties g r = ∅ :=
  fun r hr => if_neg fun h => by omega
theorem expect_reg (c : Dev nD) (s : Sem sig) : (Rd V).expect ((c : Thread nD τ), .reg s) 0 = 2 := by
  unfold Schedule.expect Schedule.amountOf; rw [duties_reg]; rfl
theorem expect_s (i : Fin 28) (c : Dev nD) : (Rd V).expect (sCell i c) 0 = N := by
  unfold Schedule.expect Schedule.amountOf; rw [duties_s, Finset.sum_singleton]; rfl
theorem expect_r (i : Fin 28) (c : Dev nD) : (Rd V).expect (rCell i c) 0 = N := by
  unfold Schedule.expect Schedule.amountOf; rw [duties_r, Finset.sum_singleton]; rfl
theorem payload_s (i : Fin 28) (c : Dev nD) (d : Bool) : (Rd V).payload (sCell i c) 0 d = sPay V i c := by
  show (match dec (sSem i) with
      | some (i, false) => sPay V i c
      | some (i, true) => rPay V i c
      | none => iprop(emp)) = _
  rw [dec_s]
theorem payload_r (i : Fin 28) (c : Dev nD) (d : Bool) : (Rd V).payload (rCell i c) 0 d = rPay V i c := by
  show (match dec (rSem i) with
      | some (i, false) => sPay V i c
      | some (i, true) => rPay V i c
      | none => iprop(emp)) = _
  rw [dec_r]
theorem payload_bar (c : Dev nD) (d : Bool) : (Rd V).payload (barCell c) 0 d = barPay d c := by
  dsimp only [Rd]; exact if_pos rfl
theorem payload_fin (c : Dev nD) (d : Bool) : (Rd V).payload (finCell c) 0 d = iprop(emp) := by
  dsimp only [Rd]; exact if_neg fin_ne_bar
theorem rest_s (i : Fin 28) (c : Dev nD) :
    bigSep ((Rd V).duties (sCell i c) 0 \ ∅) (fun d => (Rd V).payload (sCell i c) 0 d) = sPay V i c := by
  rw [Finset.sdiff_empty, duties_s, bigSep_singleton, payload_s]
theorem rest_r (i : Fin 28) (c : Dev nD) :
    bigSep ((Rd V).duties (rCell i c) 0 \ ∅) (fun d => (Rd V).payload (rCell i c) 0 d) = rPay V i c := by
  rw [Finset.sdiff_empty, duties_r, bigSep_singleton, payload_r]
theorem rest_bar (c : Dev nD) :
    bigSep ((Rd V).duties (barCell c) 0 \ ∅) (fun d => (Rd V).payload (barCell c) 0 d) = iprop(barPay false c ∗ barPay true c) := by
  rw [Finset.sdiff_empty, duties_reg, bigSep_univ_eq_bigSepL [false, true] (by decide) (by decide), bigSepL_cons_cons, bigSepL_singleton,
    payload_bar, payload_bar]
  rfl

end Sched

/-! ## What is owed, and the levels -/

def owedF (c : Dev nD) (st : ℕ) : CellTallies nD τ sig Unit :=
  ∑ i ∈ Finset.univ.filter (fun i : Fin 28 => st ≤ i.val), tallyAt (rCell i (tgt i c)) () N
def finO₁ (c : Dev nD) : CellTallies nD τ sig Unit := tallyAt (finCell (nxt c)) () 1
def finO (c : Dev nD) : CellTallies nD τ sig Unit := finO₁ c + tallyAt (finCell (prv c)) () 1
def owed (c : Dev nD) (st : ℕ) : CellTallies nD τ sig Unit := finO c + owedF c st
def barO₁ (c : Dev nD) : CellTallies nD τ sig Unit := owed c 0 + tallyAt (barCell (nxt c)) () 1
def barO (c : Dev nD) : CellTallies nD τ sig Unit := barO₁ c + tallyAt (barCell (prv c)) () 1

theorem owed_step (c : Dev nD) (j : Fin 28) : owed c j.val = owed c (j.val + 1) + tallyAt (rCell j (tgt j c)) () N := by
  have h : (Finset.univ.filter fun i : Fin 28 => j.val ≤ i.val) = insert j (Finset.univ.filter fun i : Fin 28 => j.val + 1 ≤ i.val) := by
    ext i; simp only [Finset.mem_filter, Finset.mem_univ, true_and, Finset.mem_insert, Fin.ext_iff]; omega
  unfold owed owedF
  rw [h, Finset.sum_insert (by simp), add_assoc, add_comm (tallyAt (rCell j (tgt j c)) () N)]
theorem owed_end (c : Dev nD) : owed c 28 = finO c := by
  have h : (Finset.univ.filter fun i : Fin 28 => 28 ≤ i.val) = ∅ := by decide
  unfold owed owedF
  rw [h, Finset.sum_empty, add_zero]

theorem owed_pos {c : Dev nD} {st : ℕ} {g : GSem nD τ sig} {u : Unit} (h : 0 < owed c st g u) :
    (g = finCell (nxt c) ∨ g = finCell (prv c)) ∨ ∃ i : Fin 28, st ≤ i.val ∧ g = rCell i (tgt i c) := by
  unfold owed finO finO₁ owedF at h
  rw [Pi.add_apply, Finsupp.add_apply, Pi.add_apply, Finsupp.add_apply, tallyAt_apply, tallyAt_apply, Finset.sum_apply, Finsupp.finset_sum_apply] at h
  by_contra hn
  rw [not_or, not_or] at hn
  obtain ⟨⟨h1, h2⟩, h3⟩ := hn
  rw [if_neg (fun h' => h1 h'.1), if_neg (fun h' => h2 h'.1), Finset.sum_eq_zero] at h
  · exact Nat.lt_irrefl 0 h
  · intro i hi
    rw [tallyAt_apply, if_neg]
    intro h'
    exact h3 ⟨i, (Finset.mem_filter.mp hi).2, h'.1⟩

theorem barO_pos {c : Dev nD} {g : GSem nD τ sig} {u : Unit} (h : 0 < barO c g u) :
    (g = barCell (nxt c) ∨ g = barCell (prv c)) ∨ (g = finCell (nxt c) ∨ g = finCell (prv c)) ∨ ∃ i : Fin 28, 0 ≤ i.val ∧ g = rCell i (tgt i c) := by
  unfold barO barO₁ at h
  rw [Pi.add_apply, Finsupp.add_apply, Pi.add_apply, Finsupp.add_apply, tallyAt_apply, tallyAt_apply] at h
  by_contra hn
  rw [not_or, not_or] at hn
  obtain ⟨⟨h1, h2⟩, h3⟩ := hn
  rw [if_neg (fun h' => h1 h'.1), if_neg (fun h' => h2 h'.1)] at h
  simp only [Nat.add_zero] at h
  exact h3 (owed_pos h)

def L (g : GSem nD τ sig) : Finset Unit := if g.1.2 = .tc then {()} else ∅
def lv (g : GSem nD τ sig) (_ : Unit) : ℕ := match g.2 with
  | .reg s => if s = barS then 1 else 40
  | .dma q => match dec q with
    | some (i, true) => 2 + i.val
    | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_fin (c : Dev nD) (u : Unit) : lv (finCell c) u = 40 := by dsimp only [lv]; exact if_neg fin_ne_bar
theorem lv_s (i : Fin 28) (c : Dev nD) (u : Unit) : lv (sCell i c) u = 0 := by
  show (match dec (sSem i) with | some (i, true) => 2 + i.val | _ => 0) = _
  rw [dec_s]
theorem lv_r (i : Fin 28) (c : Dev nD) (u : Unit) : lv (rCell i c) u = 2 + i.val := by
  show (match dec (rSem i) with | some (i, true) => 2 + i.val | _ => 0) = _
  rw [dec_r]

theorem mayWait_owed (c : Dev nD) (st : ℕ) (sm : SemLoc sig) (cut : ℕ) (hc : cut < 2 + st) (hc' : cut < 40) (hl : lv ((c : Thread nD τ), sm) () ≤ cut) :
    (levAts L lv : sProp 𝕄) ⊢ MayWait (c : Thread nD τ) sm () (owed c st) :=
  MayOwe.of_cut (L := L) (lev := lv) cut (fun p hp => by rw [Finset.mem_singleton.mp hp, L_tc]; exact Finset.mem_singleton_self _)
    (fun g u hg => by rcases owed_pos hg with (rfl | rfl) | ⟨i, -, rfl⟩ <;> exact Finset.mem_singleton_self _)
    (fun p hp => by rw [Finset.mem_singleton.mp hp]; exact hl)
    (fun g u hg => by
      rcases owed_pos hg with (rfl | rfl) | ⟨i, hi, rfl⟩
      · rw [lv_fin]; exact hc'
      · rw [lv_fin]; exact hc'
      · rw [lv_r]; omega)
theorem mayWait_stage (c : Dev nD) (q : DmaSem sig) (hq : dec q = none) (O : CellTallies nD τ sig Unit) (hO : O = barO c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases barO_pos hg with (rfl | rfl) | (rfl | rfl) | ⟨i, -, rfl⟩ <;> exact Finset.mem_singleton_self _)
      (fun p hp => by
        rw [Finset.mem_singleton.mp hp]
        show (match dec q with | some (i, true) => 2 + i.val | _ => 0) ≤ 0
        rw [hq])
      (fun g u hg => by
        rcases barO_pos hg with (rfl | rfl) | (rfl | rfl) | ⟨i, -, rfl⟩
        · rw [lv_bar]; decide
        · rw [lv_bar]; decide
        · rw [lv_fin]; decide
        · rw [lv_fin]; decide
        · rw [lv_r]; omega)
  · rw [MayWait_zero]; iintro -; iempintro

/-! ## The state of a device between two effects -/

theorem elim {I : Type} [DecidableEq I] {s : Finset I} {i : I} (hi : i ∈ s) {Φ : I → sProp 𝕄} : bigSep s Φ ⊢ Φ i := BI.bigSep_elim hi
theorem pull (p p' : Fin 28 → Prop) [DecidablePred p] [DecidablePred p'] (k : Fin 28) (h : ∀ i, p i ↔ i = k ∨ p' i) (hk : ¬p' k)
    (Φ : Fin 28 → sProp 𝕄) : bigSep (Finset.univ.filter p) Φ = iprop(Φ k ∗ bigSep (Finset.univ.filter p') Φ) := by
  have e : Finset.univ.filter p = insert k (Finset.univ.filter p') := by
    ext i; simp only [Finset.mem_filter, Finset.mem_univ, true_and, Finset.mem_insert, h i]
  rw [e]; exact BI.bigSep_insert (by simp [hk])
theorem pulls (p p' p'' : Fin 28 → Prop) [DecidablePred p] [DecidablePred p'] [DecidablePred p''] (h : ∀ i, p i ↔ p'' i ∨ p' i) (hk : ∀ i, p'' i → ¬p' i)
    (Φ : Fin 28 → sProp 𝕄) : bigSep (Finset.univ.filter p) Φ = iprop(bigSep (Finset.univ.filter p'') Φ ∗ bigSep (Finset.univ.filter p') Φ) := by
  have e : Finset.univ.filter p = (Finset.univ.filter p'') ∪ (Finset.univ.filter p') := by
    ext i; simp only [Finset.mem_filter, Finset.mem_univ, true_and, Finset.mem_union, h i]
  rw [e]; refine BI.bigSep_union ?_
  rw [Finset.disjoint_left]
  intro i hi hi'
  exact hk i (Finset.mem_filter.mp hi).2 (Finset.mem_filter.mp hi').2

section State

variable (K : GSem nD τ sig → ℕ) (V : Fin 28 → Dev nD → SlotT F) (c : Dev nD)

def Invs : sProp 𝕄 :=
  iprop((bigSep Finset.univ fun c : Dev nD => cellInv ER (Rd V) (K (barCell c)) (barCell c))
    ∗ bigSep Finset.univ fun p : Dev nD × KI => cellInv ER (Rd V) (K (kcell p)) (kcell p))
instance Invs_persistent : BI.Persistent (Invs K V) := by unfold Invs; infer_instance
theorem Invs_bar : Invs K V ⊢ cellInv ER (Rd V) (K (barCell c)) (barCell c) := by
  unfold Invs; iintro ⟨H, -⟩; iapply (elim (Finset.mem_univ c) (Φ := fun c : Dev nD => cellInv ER (Rd V) (K (barCell c)) (barCell c))); iexact H
theorem Invs_k (p : Dev nD × KI) : Invs K V ⊢ cellInv ER (Rd V) (K (kcell p)) (kcell p) := by
  unfold Invs; iintro ⟨-, H⟩; iapply (elim (Finset.mem_univ p) (Φ := fun p : Dev nD × KI => cellInv ER (Rd V) (K (kcell p)) (kcell p))); iexact H
theorem Invs_s (i : Fin 28) : Invs K V ⊢ cellInv ER (Rd V) (K (sCell i c)) (sCell i c) := Invs_k K V (c, some (i, false))
theorem Invs_r (i : Fin 28) : Invs K V ⊢ cellInv ER (Rd V) (K (rCell i c)) (rCell i c) := Invs_k K V (c, some (i, true))
theorem Invs_fin : Invs K V ⊢ cellInv ER (Rd V) (K (finCell c)) (finCell c) := Invs_k K V (c, none)

def SRch : sProp 𝕄 := bigSep Finset.univ fun i : Fin 28 => reached ER (sCell i c) 0
instance SRch_persistent : BI.Persistent (SRch (F := F) c) := by unfold SRch; infer_instance
theorem SRch_at (i : Fin 28) : SRch (F := F) c ⊢ reached ER (sCell i c) 0 := by
  unfold SRch; exact elim (Finset.mem_univ i) (Φ := fun i : Fin 28 => reached ER (sCell i c) 0)
theorem Rch_at (e : Dev nD) (i : Fin 28) : Rch (F := F) e ⊢ reached ER (rCell i e) 0 := by
  unfold Rch; iintro ⟨H, -⟩
  iapply (elim (Finset.mem_univ i) (Φ := fun i : Fin 28 => reached ER (rCell i e) 0)); iexact H
theorem Rch_fin (e : Dev nD) : Rch (F := F) e ⊢ reached ER (finCell e) 0 := by
  unfold Rch; iintro ⟨-, H⟩; iexact H

def Pers : sProp 𝕄 := iprop(Invs K V ∗ levAts L lv ∗ Rch (nxt c) ∗ Rch (prv c) ∗ SRch c)
instance Pers_persistent : BI.Persistent (Pers K V c) := by unfold Pers; infer_instance
theorem Pers_rch (i : Fin 28) : Pers K V c ⊢ reached ER (rCell i (tgt i c)) 0 := by
  unfold Pers tgt
  split
  · iintro ⟨-, -, H, -, -⟩; iapply (Rch_at (nxt c) i); iexact H
  · iintro ⟨-, -, -, H, -⟩; iapply (Rch_at (prv c) i); iexact H

def Toks (st : ℕ) : sProp 𝕄 := bigSep (Finset.univ.filter fun i : Fin 28 => st ≤ i.val) fun i =>
  iprop(dutyTok ER (sCell i c) 0 false ∗ dutyTok ER (rCell i (tgt i c)) 0 false)
def CrdS (ws st : ℕ) : sProp 𝕄 := bigSep (Finset.univ.filter fun i : Fin 28 => ws ≤ i.val ∧ i.val < st) fun i => cred (tallyAt (sCell i c) () N)
def CrdR (wr : ℕ) : sProp 𝕄 := bigSep (Finset.univ.filter fun i : Fin 28 => wr ≤ i.val) fun i => cred (tallyAt (rCell i c) () N)
def PosS (ws : ℕ) : sProp 𝕄 := bigSep (Finset.univ.filter fun i : Fin 28 => ws ≤ i.val) fun i => atPos ER (sCell i c) 0 ∅ 0
def PosR (wr : ℕ) : sProp 𝕄 := bigSep (Finset.univ.filter fun i : Fin 28 => wr ≤ i.val) fun i => atPos ER (rCell i c) 0 ∅ 0
def ZerS (ws : ℕ) : sProp 𝕄 := bigSep (Finset.univ.filter fun i : Fin 28 => i.val < ws) fun i => semVal (sCell i c) 0
def ZerR (wr : ℕ) : sProp 𝕄 := bigSep (Finset.univ.filter fun i : Fin 28 => i.val < wr) fun i => semVal (rCell i c) 0
def Perm (st wr : ℕ) : sProp 𝕄 := bigSep (Finset.univ.filter fun j : Fin 28 => st ≤ j.val ∧ rc j ≤ wr) fun j => slotAny (bufOf j) (tgt j c) (dstS j)
def Half (ws st : ℕ) : sProp 𝕄 := bigSep (Finset.univ.filter fun k : Fin 28 => ws ≤ k.val ∧ k.val < st) fun k => slotPts (bufOf k) c (srcS k) fullShare.right (V k c)
def Stale (st ws : ℕ) : sProp 𝕄 := bigSep (Finset.univ.filter fun j : Fin 28 => 14 ≤ j.val ∧ j.val < ws + 14 ∧ st < rc j) fun j => slotAny (bufOf j) c (dstS j)
def Ret (ws : ℕ) : sProp 𝕄 := bigSep (Finset.univ.filter fun k : Fin 28 => 14 ≤ k.val ∧ k.val < ws) fun k => slotAny (bufOf k) c (srcS k)

theorem Toks_start (j : Fin 28) : Toks (F := F) c j.val = iprop((dutyTok ER (sCell j c) 0 false ∗ dutyTok ER (rCell j (tgt j c)) 0 false) ∗ Toks c (j.val + 1)) := by
  unfold Toks; exact pull _ _ j (fun i => by simp only [Fin.ext_iff]; omega) (by simp) _
theorem CrdS_wait (i : Fin 28) (st : ℕ) (h : i.val < st) : CrdS (F := F) c i.val st = iprop(cred (tallyAt (sCell i c) () N) ∗ CrdS c (i.val + 1) st) := by
  unfold CrdS; exact pull _ _ i (fun i => by simp only [Fin.ext_iff]; omega) (by simp) _
theorem CrdS_start (j : Fin 28) (ws : ℕ) (h : ws ≤ j.val) : CrdS (F := F) c ws (j.val + 1) = iprop(cred (tallyAt (sCell j c) () N) ∗ CrdS c ws j.val) := by
  unfold CrdS; exact pull _ _ j (fun i => by simp only [Fin.ext_iff]; omega) (by simp) _
theorem CrdR_wait (i : Fin 28) : CrdR (F := F) c i.val = iprop(cred (tallyAt (rCell i c) () N) ∗ CrdR c (i.val + 1)) := by
  unfold CrdR; exact pull _ _ i (fun i => by simp only [Fin.ext_iff]; omega) (by simp) _
theorem PosS_wait (i : Fin 28) : PosS (F := F) c i.val = iprop(atPos ER (sCell i c) 0 ∅ 0 ∗ PosS c (i.val + 1)) := by
  unfold PosS; exact pull _ _ i (fun i => by simp only [Fin.ext_iff]; omega) (by simp) _
theorem PosR_wait (i : Fin 28) : PosR (F := F) c i.val = iprop(atPos ER (rCell i c) 0 ∅ 0 ∗ PosR c (i.val + 1)) := by
  unfold PosR; exact pull _ _ i (fun i => by simp only [Fin.ext_iff]; omega) (by simp) _
theorem ZerS_wait (i : Fin 28) : ZerS (F := F) c (i.val + 1) = iprop(semVal (sCell i c) 0 ∗ ZerS c i.val) := by
  unfold ZerS; exact pull _ _ i (fun i => by simp only [Fin.ext_iff]; omega) (by simp) _
theorem ZerR_wait (i : Fin 28) : ZerR (F := F) c (i.val + 1) = iprop(semVal (rCell i c) 0 ∗ ZerR c i.val) := by
  unfold ZerR; exact pull _ _ i (fun i => by simp only [Fin.ext_iff]; omega) (by simp) _
theorem Half_wait (i : Fin 28) (st : ℕ) (h : i.val < st) :
    Half V c i.val st = iprop(slotPts (bufOf i) c (srcS i) fullShare.right (V i c) ∗ Half V c (i.val + 1) st) := by
  unfold Half; exact pull _ _ i (fun i => by simp only [Fin.ext_iff]; omega) (by simp) _
theorem Half_start (j : Fin 28) (ws : ℕ) (h : ws ≤ j.val) :
    Half V c ws (j.val + 1) = iprop(slotPts (bufOf j) c (srcS j) fullShare.right (V j c) ∗ Half V c ws j.val) := by
  unfold Half; exact pull _ _ j (fun i => by simp only [Fin.ext_iff]; omega) (by simp) _
theorem Perm_start (j : Fin 28) (wr : ℕ) (h : rc j ≤ wr) :
    Perm (F := F) c j.val wr = iprop(slotAny (bufOf j) (tgt j c) (dstS j) ∗ Perm c (j.val + 1) wr) := by
  unfold Perm
  refine pull _ _ j (fun i => ?_) (by simp) _
  by_cases e : i = j
  · subst e; simp [h]
  · have e' : i.val ≠ j.val := fun h => e (Fin.ext h)
    simp only [e, false_or]; omega
theorem Perm_recv (i : Fin 28) (st : ℕ) (h : ∀ j : Fin 28, rc j = i.val + 1 → st ≤ j.val) :
    Perm (F := F) c st (i.val + 1) = iprop(extra i c ∗ Perm c st i.val) := by
  unfold Perm extra
  refine pulls _ _ _ (fun j => ?_) (fun j hj => by omega) _
  have := h j
  constructor
  · rintro ⟨a, b⟩; omega
  · rintro (a | ⟨a, b⟩)
    · exact ⟨this a, by omega⟩
    · exact ⟨a, by omega⟩
theorem Stale_start (j : Fin 28) (ws : ℕ) (h : ∀ j' : Fin 28, rc j' = j.val + 1 → 14 ≤ j'.val ∧ j'.val < ws + 14) :
    Stale (F := F) c j.val ws = iprop(extra j (tgt j c) ∗ Stale c (j.val + 1) ws) := by
  have e : extra (F := F) j (tgt j c) = bigSep (Finset.univ.filter fun j' : Fin 28 => rc j' = j.val + 1) fun j' => slotAny (bufOf j') c (dstS j') := by
    unfold extra
    refine bigSep_congr fun j' hj' => ?_
    rw [extra_tgt j j' (Finset.mem_filter.mp hj').2, frm_tgt]
  rw [e]
  unfold Stale
  refine pulls _ _ _ (fun j' => ?_) (fun j hj => by omega) _
  have := h j'
  constructor
  · rintro ⟨a, b, d⟩; omega
  · rintro (a | ⟨a, b, d⟩)
    · have := this a; omega
    · omega
theorem Stale_wait (i : Fin 28) (st : ℕ) (hi : i.val + 14 < 28) (h : st < rc ⟨i.val + 14, hi⟩) :
    Stale (F := F) c st (i.val + 1) = iprop(slotAny (bufOf i) c (srcS i) ∗ Stale c st i.val) := by
  rw [← (ag_slot i hi).1, ← (ag_slot i hi).2]
  unfold Stale
  refine pull _ _ ⟨i.val + 14, hi⟩ (fun j => ?_) (by simp) (fun j => slotAny (bufOf j) c (dstS j))
  by_cases e : j = ⟨i.val + 14, hi⟩
  · subst e; simp [h]
  · have e' : j.val ≠ i.val + 14 := fun h => e (Fin.ext h)
    simp only [e, false_or]; omega
theorem Stale_wait' (i : Fin 28) (st : ℕ) (hi : ¬i.val + 14 < 28) : Stale (F := F) c st (i.val + 1) = Stale c st i.val := by
  unfold Stale
  congr 1
  ext j; simp only [Finset.mem_filter, Finset.mem_univ, true_and]; have := j.isLt; omega
theorem Ret_wait (i : Fin 28) (hi : ¬i.val + 14 < 28) : Ret (F := F) c (i.val + 1) = iprop(slotAny (bufOf i) c (srcS i) ∗ Ret c i.val) := by
  unfold Ret; exact pull _ _ i (fun i => by simp only [Fin.ext_iff]; omega) (by simp) _
theorem Ret_wait' (i : Fin 28) (hi : i.val + 14 < 28) : Ret (F := F) c (i.val + 1) = Ret c i.val := by
  unfold Ret
  congr 1
  ext j; simp only [Finset.mem_filter, Finset.mem_univ, true_and]; omega

/-- Device `c` has started the first `st` transfers, and has waited for the first `ws` of them to be sent and the first `wr` to be received. -/
def Core (st ws wr : ℕ) : sProp 𝕄 :=
  iprop(Pers K V c ∗ (∃ W, owes (c : Thread nD τ) (owed c st) W) ∗ Toks c st ∗ CrdS c ws st ∗ CrdR c wr ∗ PosS c ws ∗ PosR c wr ∗ ZerS c ws ∗ ZerR c wr
    ∗ Perm c st wr ∗ Half V c ws st ∗ Stale c st ws ∗ Ret c ws)

/-- The wait for transfer `i` to be sent. -/
theorem step_waitS {α : Type} {Q : α → sProp 𝕄} {k : PUnit → Prog (TpuEff nD τ sig (Elt F) Λ₀ .tc) α} (i : Fin 28) (st wr : ℕ) (hi : i.val < st) (hS : ∀ h : i.val + 14 < 28, st < rc ⟨i.val + 14, h⟩) (q : DmaSem sig) (hq : q = sSem i)
    {src dst : Memref sig .tc .vmem S256x512 .f32} {hsrc : src.view.WordExact} {hdst : dst.view.WordExact} (hN : dst.view.dmaCredit = N) :
    Core K V c st i.val wr
      ⊢ iprop((Core K V c st (i.val + 1) wr -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  unfold Core
  iintro ⟨#HP, ⟨%W, HO⟩, HT, HcS, HcR, HpS, HpR, HzS, HzR, HPm, HH, HSt, HRt⟩ Hk
  ihave #HI := (show Pers K V c ⊢ Invs K V from by unfold Pers; iintro ⟨H, -⟩; iexact H) $$ HP
  ihave #Hlev := (show Pers K V c ⊢ levAts L lv from by unfold Pers; iintro ⟨-, H, -⟩; iexact H) $$ HP
  ihave #Hinv := (Invs_s K V c i) $$ HI
  ihave HcS2 := (Entails.of_eq (CrdS_wait c i st hi)) $$ HcS
  icases HcS2 with ⟨Hc, HcS⟩
  ihave HpS2 := (Entails.of_eq (PosS_wait c i)) $$ HpS
  icases HpS2 with ⟨Hat, HpS⟩
  iapply (Rounds.wp_wait_rest_token 𝒱₀ ER (Rd V) (c : Thread nD τ) none (κ := K (sCell i c))
      (wpE_waitDma2_eq 𝒱₀ (c : Thread nD τ) none Set.univ) (Set.mem_univ _) () (O := owed c st) (W := W) (R := 0) (m := 0) (T := ∅)
      (by rw [Nat.zero_add, hN]; exact (expect_s V i c).symm)) $$ [Hc HO Hat]
  · isplitr; · iexact Hinv
    isplitl [Hc]; · rw [hN]; iexact Hc
    isplitl [HO]; · iexact HO
    isplitr
    · iapply (mayWait_owed c st (.dma (sSem i)) 0 (by omega) (by omega) (le_of_eq (lv_s i c ()))); iexact Hlev
    iexact Hat
  iintro ⟨HO, Hat, -, Hpay⟩
  ihave Hl := (Entails.of_eq (rest_s V i c)) $$ Hpay
  ihave HH2 := (Entails.of_eq (Half_wait V c i st hi)) $$ HH
  icases HH2 with ⟨Hr, HH⟩
  ihave Hs0 := (slot_halves (bufOf i) c (srcS i) (V i c)).2 $$ [Hl Hr]
  · unfold sPay; isplitl [Hl]; · iexact Hl
    iexact Hr
  ihave Hs := (slotPts_any _ _ _ _) $$ Hs0
  imod (Rounds.cell_close ER (Rd V) (Set.mem_univ (K (sCell i c))) (fun h => h) (R := 0 + 1) (duties_later V (sCell i c))) $$ [Hat] with Hz
  · isplitr; · iexact Hinv
    iexact Hat
  iapply Hk
  isplitr; · iexact HP
  isplitl [HO]; · iexists _; iexact HO
  isplitl [HT]; · iexact HT
  isplitl [HcS]; · iexact HcS
  isplitl [HcR]; · iexact HcR
  isplitl [HpS]; · iexact HpS
  isplitl [HpR]; · iexact HpR
  isplitl [HzS Hz]
  · rw [ZerS_wait]; isplitl [Hz]; · iexact Hz
    iexact HzS
  isplitl [HzR]; · iexact HzR
  isplitl [HPm]; · iexact HPm
  isplitl [HH]; · iexact HH
  by_cases h : i.val + 14 < 28
  · isplitl [HSt Hs]
    · rw [Stale_wait c i st h (hS h)]; isplitl [Hs]; · iexact Hs
      iexact HSt
    · rw [Ret_wait' c i h]; iexact HRt
  · isplitl [HSt]
    · rw [Stale_wait' c i st h]; iexact HSt
    · rw [Ret_wait c i h]; isplitl [Hs]; · iexact Hs
      iexact HRt

/-- The wait for transfer `i` to be received: what its sender held has landed. -/
theorem step_waitR {α : Type} {Q : α → sProp 𝕄} {k : PUnit → Prog (TpuEff nD τ sig (Elt F) Λ₀ .tc) α} (i : Fin 28) (st ws : ℕ) (hi : i.val < st) (hx : ∀ j : Fin 28, rc j = i.val + 1 → st ≤ j.val) (q : DmaSem sig) (hq : q = rSem i)
    {src dst : Memref sig .tc .vmem S256x512 .f32} {hsrc : src.view.WordExact} {hdst : dst.view.WordExact} (hN : dst.view.dmaCredit = N) :
    Core K V c st ws i.val
      ⊢ iprop((Core K V c st ws (i.val + 1) -∗ slotPts (bufOf i) c (dstS i) fullShare (V i (frm i c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  unfold Core
  iintro ⟨#HP, ⟨%W, HO⟩, HT, HcS, HcR, HpS, HpR, HzS, HzR, HPm, HH, HSt, HRt⟩ Hk
  ihave #HI := (show Pers K V c ⊢ Invs K V from by unfold Pers; iintro ⟨H, -⟩; iexact H) $$ HP
  ihave #Hlev := (show Pers K V c ⊢ levAts L lv from by unfold Pers; iintro ⟨-, H, -⟩; iexact H) $$ HP
  ihave #Hinv := (Invs_r K V c i) $$ HI
  ihave HcR2 := (Entails.of_eq (CrdR_wait c i)) $$ HcR
  icases HcR2 with ⟨Hc, HcR⟩
  ihave HpR2 := (Entails.of_eq (PosR_wait c i)) $$ HpR
  icases HpR2 with ⟨Hat, HpR⟩
  iapply (Rounds.wp_wait_rest_token 𝒱₀ ER (Rd V) (c : Thread nD τ) none (κ := K (rCell i c))
      (wpE_waitDma2_eq 𝒱₀ (c : Thread nD τ) none Set.univ) (Set.mem_univ _) () (O := owed c st) (W := W) (R := 0) (m := 0) (T := ∅)
      (by rw [Nat.zero_add, hN]; exact (expect_r V i c).symm)) $$ [Hc HO Hat]
  · isplitr; · iexact Hinv
    isplitl [Hc]; · rw [hN]; iexact Hc
    isplitl [HO]; · iexact HO
    isplitr
    · iapply (mayWait_owed c st (.dma (rSem i)) (2 + i.val) (by omega) (by omega) (le_of_eq (lv_r i c ()))); iexact Hlev
    iexact Hat
  iintro ⟨HO, Hat, -, Hpay⟩
  ihave Hl := (Entails.of_eq (rest_r V i c)) $$ Hpay
  unfold rPay
  icases Hl with ⟨Hland, Hx⟩
  imod (Rounds.cell_close ER (Rd V) (Set.mem_univ (K (rCell i c))) (fun h => h) (R := 0 + 1) (duties_later V (rCell i c))) $$ [Hat] with Hz
  · isplitr; · iexact Hinv
    iexact Hat
  ihave Hk' := Hk $$ [HO HT HcS HcR HpS HpR HzS HzR HPm HH HSt HRt Hz Hx]
  · isplitr; · iexact HP
    isplitl [HO]; · iexists _; iexact HO
    isplitl [HT]; · iexact HT
    isplitl [HcS]; · iexact HcS
    isplitl [HcR]; · iexact HcR
    isplitl [HpS]; · iexact HpS
    isplitl [HpR]; · iexact HpR
    isplitl [HzS]; · iexact HzS
    isplitl [HzR Hz]
    · rw [ZerR_wait]; isplitl [Hz]; · iexact Hz
      iexact HzR
    isplitl [HPm Hx]
    · rw [Perm_recv c i st hx]; isplitl [Hx]; · iexact Hx
      iexact HPm
    isplitl [HH]; · iexact HH
    isplitl [HSt]; · iexact HSt
    iexact HRt
  iapply Hk'; iexact Hland

abbrev slotM (b : Bool) (s : Fin 8) : Memref sig .tc .vmem S256x512 .f32 :=
  match b with
  | false => lSlot s
  | true => rSlot s

/-- The start of a transfer from slot `s` to slot `d` of another device. -/
theorem send_slot {α : Type} {Q : α → sProp 𝕄} {k : PUnit → Prog (TpuEff nD τ sig (Elt F) Λ₀ .tc) α} (b : Bool) (s d : Fin 8) (v : SlotT F) (i : Fin 28) (e : Dev nD) (X : sProp 𝕄)
    (hp₁ : sPay V i c = slotPts b c s fullShare.left v) (hp₂ : rPay V i e = iprop(slotPts b e d fullShare v ∗ X))
    {O₀ : CellTallies nD τ sig Unit} (O : CellTallies nD τ sig Unit) (hO : O₀ = O + tallyAt (rCell i e) () N) (W : Waits sig Unit)
    {hsrc : (slotM b s).view.WordExact} {hdst : (slotM b d).view.WordExact} {hsc : (slotM b d).view.ref.isScScratch = false}
    {hsem : DmaTarget.Typed (nD := nD) (τ := τ) .vmem (.dma (rSem i)) (.remote (Dev.tc e) (slotM b d) (.dma (sSem i)) hsc)} :
    iprop(cellInv ER (Rd V) (K (sCell i c)) (sCell i c) ∗ cellInv ER (Rd V) (K (rCell i e)) (rCell i e)
        ∗ slotPts b c s fullShare.left v ∗ (slotAny b e d ∗ X) ∗ owes (c : Thread nD τ) O₀ W
        ∗ dutyTok ER (sCell i c) 0 false ∗ reached ER (sCell i c) 0 ∗ dutyTok ER (rCell i e) 0 false ∗ reached ER (rCell i e) 0)
      ⊢ iprop(((cred (tallyAt (sCell i c) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotM b s) (.remote (Dev.tc e) (slotM b d) (.dma (sSem i)) hsc) (.dma (rSem i)) hsrc hdst hsem) k) Q) := by
  cases b
  · unfold slotPts slotAny
    iintro ⟨HI1, HI2, Hs, ⟨⟨%fd, Hd⟩, HX⟩, HO, Ht1, Hr1, Ht2, Hr2⟩ Hk
    iapply (Rounds.wp_send_pointsTo_with 𝒱₀ ER (Rd V) (c : Thread nD τ) none (d₁ := false) (d₂ := false) (r₁ := 0) (r₂ := 0) (F := X)
      (κ₁ := K (sCell i c)) (κ₂ := K (rCell i e)) (c' := (Dev.tc e : Thread nD τ)) (src := lSlot s) (dst := lSlot d) (fs := slotBuf v) (fd := fd) (q := fullShare.left)
      (by rw [duties_s]; exact Finset.mem_singleton_self _) (by rw [show ((Dev.tc e : Thread nD τ), SemLoc.dma (rSem i)) = rCell i e from rfl, duties_r]; exact Finset.mem_singleton_self _) () () N rfl rfl rfl O hO
      (by rw [payload_s, hp₁]; exact .rfl)
      (by
        rw [show ((Dev.tc e : Thread nD τ), SemLoc.dma (rSem i)) = rCell i e from rfl, payload_r, hp₂]
        exact sep_mono_left (Entails.of_eq (pointsTo_congr (l_landed s d v fd))))) $$ [HI1 HI2 Hs Hd HX HO Ht1 Hr1 Ht2 Hr2]
    · isplitl [HI1]; · iexact HI1
      isplitl [HI2]; · iexact HI2
      isplitl [Hs]; · iexact Hs
      isplitl [Hd HX]
      · isplitl [Hd]; · iexact Hd
        iexact HX
      isplitl [HO]; · iexact HO
      isplitl [Ht1]; · iexact Ht1
      isplitl [Hr1]; · iexact Hr1
      isplitl [Ht2]; · iexact Ht2
      iexact Hr2
    iexact Hk
  · unfold slotPts slotAny
    iintro ⟨HI1, HI2, Hs, ⟨⟨%fd, Hd⟩, HX⟩, HO, Ht1, Hr1, Ht2, Hr2⟩ Hk
    iapply (Rounds.wp_send_pointsTo_with 𝒱₀ ER (Rd V) (c : Thread nD τ) none (d₁ := false) (d₂ := false) (r₁ := 0) (r₂ := 0) (F := X)
      (κ₁ := K (sCell i c)) (κ₂ := K (rCell i e)) (c' := (Dev.tc e : Thread nD τ)) (src := rSlot s) (dst := rSlot d) (fs := slotBuf v) (fd := fd) (q := fullShare.left)
      (by rw [duties_s]; exact Finset.mem_singleton_self _) (by rw [show ((Dev.tc e : Thread nD τ), SemLoc.dma (rSem i)) = rCell i e from rfl, duties_r]; exact Finset.mem_singleton_self _) () () N rfl rfl rfl O hO
      (by rw [payload_s, hp₁]; exact .rfl)
      (by
        rw [show ((Dev.tc e : Thread nD τ), SemLoc.dma (rSem i)) = rCell i e from rfl, payload_r, hp₂]
        exact sep_mono_left (Entails.of_eq (pointsTo_congr (r_landed s d v fd))))) $$ [HI1 HI2 Hs Hd HX HO Ht1 Hr1 Ht2 Hr2]
    · isplitl [HI1]; · iexact HI1
      isplitl [HI2]; · iexact HI2
      isplitl [Hs]; · iexact Hs
      isplitl [Hd HX]
      · isplitl [Hd]; · iexact Hd
        iexact HX
      isplitl [HO]; · iexact HO
      isplitl [Ht1]; · iexact Ht1
      isplitl [Hr1]; · iexact Hr1
      isplitl [Ht2]; · iexact Ht2
      iexact Hr2
    iexact Hk

/-- The start of transfer `j`. -/
theorem step_start {α : Type} {Q : α → sProp 𝕄} {k : PUnit → Prog (TpuEff nD τ sig (Elt F) Λ₀ .tc) α} (j : Fin 28) (ws wr : ℕ) (hws : ws ≤ j.val) (hrc : rc j ≤ wr)
    (hex : ∀ j' : Fin 28, rc j' = j.val + 1 → 14 ≤ j'.val ∧ j'.val < ws + 14)
    (e : Dev nD) (he : e = tgt j c) (qs qr : DmaSem sig) (hqs : qs = sSem j) (hqr : qr = rSem j)
    (srcM dstM : Memref sig .tc .vmem S256x512 .f32) (hs : srcM = slotM (bufOf j) (srcS j)) (hd : dstM = slotM (bufOf j) (dstS j))
    {hsrc : srcM.view.WordExact} {hdst : dstM.view.WordExact} {hsc : dstM.view.ref.isScScratch = false}
    {hsem : DmaTarget.Typed (nD := nD) (τ := τ) .vmem (.dma qr) (.remote (Dev.tc e) dstM (.dma qs) hsc)} :
    iprop(Core K V c j.val ws wr ∗ slotPts (bufOf j) c (srcS j) fullShare (V j c))
      ⊢ iprop((Core K V c (j.val + 1) ws wr -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma srcM (.remote (Dev.tc e) dstM (.dma qs) hsc) (.dma qr) hsrc hdst hsem) k) Q) := by
  subst he hqs hqr hs hd
  unfold Core
  iintro ⟨⟨#HP, ⟨%W, HO⟩, HT, HcS, HcR, HpS, HpR, HzS, HzR, HPm, HH, HSt, HRt⟩, Hsl⟩ Hk
  ihave #HI := (show Pers K V c ⊢ Invs K V from by unfold Pers; iintro ⟨H, -⟩; iexact H) $$ HP
  ihave #HsR := (show Pers K V c ⊢ SRch c from by unfold Pers; iintro ⟨-, -, -, -, H⟩; iexact H) $$ HP
  ihave Hsl2 := (slot_halves (bufOf j) c (srcS j) (V j c)).1 $$ Hsl
  icases Hsl2 with ⟨Hl, Hr⟩
  ihave HT2 := (Entails.of_eq (Toks_start c j)) $$ HT
  icases HT2 with ⟨⟨Ht1, Ht2⟩, HT⟩
  ihave HPm2 := (Entails.of_eq (Perm_start c j wr hrc)) $$ HPm
  icases HPm2 with ⟨Hd, HPm⟩
  ihave HSt2 := (Entails.of_eq (Stale_start c j ws hex)) $$ HSt
  icases HSt2 with ⟨Hx, HSt⟩
  iapply (send_slot K V c (bufOf j) (srcS j) (dstS j) (V j c) j (tgt j c) (extra j (tgt j c)) rfl
    (by unfold rPay; rw [frm_tgt]) (owed c (j.val + 1)) (owed_step c j) W) $$ [Hl Hd Hx HO Ht1 Ht2]
  · isplitr; · iapply (Invs_s K V c j); iexact HI
    isplitr; · iapply (Invs_r K V (tgt j c) j); iexact HI
    isplitl [Hl]; · iexact Hl
    isplitl [Hd Hx]
    · isplitl [Hd]; · iexact Hd
      iexact Hx
    isplitl [HO]; · iexact HO
    isplitl [Ht1]; · iexact Ht1
    isplitr; · iapply (SRch_at c j); iexact HsR
    isplitl [Ht2]; · iexact Ht2
    iapply (Pers_rch K V c j); iexact HP
  iintro ⟨Hc, HO⟩
  iapply Hk
  isplitr; · iexact HP
  isplitl [HO]; · iexists _; iexact HO
  isplitl [HT]; · iexact HT
  isplitl [HcS Hc]
  · rw [CrdS_start c j ws hws]; isplitl [Hc]; · iexact Hc
    iexact HcS
  isplitl [HcR]; · iexact HcR
  isplitl [HpS]; · iexact HpS
  isplitl [HpR]; · iexact HpR
  isplitl [HzS]; · iexact HzS
  isplitl [HzR]; · iexact HzR
  isplitl [HPm]; · iexact HPm
  isplitl [HH Hr]
  · rw [Half_start V c j ws hws]; isplitl [Hr]; · iexact Hr
    iexact HH
  isplitl [HSt]; · iexact HSt
  iexact HRt

end State

/-! ## Loads and stores in the slots -/

section Slot

variable (c : Dev nD)

abbrev bufM (b : Bool) : Memref sig .tc .vmem S8x256x512 .f32 :=
  match b with
  | false => lM
  | true => rM

theorem ld_slot {α : Type} {Q : α → sProp 𝕄} (b : Bool) (s : Fin 8) (q : PosShare TreeShare) (v : SlotT F) {off : Fin 3 → ℕ} (ho : off = ![s.val, 0, 0])
    {hin : ∀ a, off a + S1x256x512.size a ≤ S8x256x512.size a}
    {hl : (bufM b).view.LoadsAt (Rect.unit (s := S8x256x512) off S1x256x512.size hin).toLoadRect} {k : Vec F S1x256x512 .f32 → Prog (TpuEff nD τ sig (Elt F) Λ₀ .tc) α} :
    slotPts b c s q v
      ⊢ iprop((slotPts b c s q v -∗ wp frame (wpE (defs₀ (F := F)) 𝒱₀ (c : Thread nD τ) none) Set.univ (k v) Q)
        -∗ wp frame (wpE (defs₀ (F := F)) 𝒱₀ (c : Thread nD τ) none) Set.univ
          (.op (.load (bufM b) (Rect.unit (s := S8x256x512) off S1x256x512.size hin).toLoadRect hl) k) Q) := by
  subst ho
  cases b
  · unfold slotPts
    iintro H Hk
    iapply (wp_load (defs := defs₀ (F := F)) 𝒱₀ (c : Thread nD τ) none Set.univ (m := lM) (r := (slotR s).toLoadRect) (hl := hl) (k := k) (Q := Q)
      (S := (lSlot s).view.set) (by rw [l_set]; exact subset_of_eq (Finset.map_refl))) $$ H
    iintro H
    rw [l_read s v]
    iapply Hk; iexact H
  · unfold slotPts
    iintro H Hk
    iapply (wp_load (defs := defs₀ (F := F)) 𝒱₀ (c : Thread nD τ) none Set.univ (m := rM) (r := (slotR s).toLoadRect) (hl := hl) (k := k) (Q := Q)
      (S := (rSlot s).view.set) (by rw [r_set]; exact subset_of_eq (Finset.map_refl))) $$ H
    iintro H
    rw [r_read s v]
    iapply Hk; iexact H

theorem ld_any {α : Type} {Q : α → sProp 𝕄} (b : Bool) (s : Fin 8) {off : Fin 3 → ℕ} (ho : off = ![s.val, 0, 0])
    {hin : ∀ a, off a + S1x256x512.size a ≤ S8x256x512.size a}
    {hl : (bufM b).view.LoadsAt (Rect.unit (s := S8x256x512) off S1x256x512.size hin).toLoadRect} {k : Vec F S1x256x512 .f32 → Prog (TpuEff nD τ sig (Elt F) Λ₀ .tc) α} :
    slotAny b c s
      ⊢ iprop((∀ w, slotAny b c s -∗ wp frame (wpE (defs₀ (F := F)) 𝒱₀ (c : Thread nD τ) none) Set.univ (k w) Q)
        -∗ wp frame (wpE (defs₀ (F := F)) 𝒱₀ (c : Thread nD τ) none) Set.univ
          (.op (.load (bufM b) (Rect.unit (s := S8x256x512) off S1x256x512.size hin).toLoadRect hl) k) Q) := by
  subst ho
  cases b
  · unfold slotAny
    iintro ⟨%f, H⟩ Hk
    iapply (wp_load (defs := defs₀ (F := F)) 𝒱₀ (c : Thread nD τ) none Set.univ (m := lM) (r := (slotR s).toLoadRect) (hl := hl) (k := k) (Q := Q)
      (S := (lSlot s).view.set) (by rw [l_set]; exact subset_of_eq (Finset.map_refl))) $$ H
    iintro H
    iapply Hk; iexists f; iexact H
  · unfold slotAny
    iintro ⟨%f, H⟩ Hk
    iapply (wp_load (defs := defs₀ (F := F)) 𝒱₀ (c : Thread nD τ) none Set.univ (m := rM) (r := (slotR s).toLoadRect) (hl := hl) (k := k) (Q := Q)
      (S := (rSlot s).view.set) (by rw [r_set]; exact subset_of_eq (Finset.map_refl))) $$ H
    iintro H
    iapply Hk; iexists f; iexact H

theorem st_slot {α : Type} {Q : α → sProp 𝕄} (b : Bool) (s : Fin 8) (w : SlotT F) {off : Fin 3 → ℕ} (ho : off = ![s.val, 0, 0])
    {hin : ∀ a, off a + S1x256x512.size a ≤ S8x256x512.size a}
    {hx : ((bufM b).access (Rect.unit (s := S8x256x512) off S1x256x512.size hin)).Stores Finset.univ} {hm}
    {k : PUnit → Prog (TpuEff nD τ sig (Elt F) Λ₀ .tc) α} :
    slotAny b c s
      ⊢ iprop((slotPts b c s fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store (bufM b) (Rect.unit (s := S8x256x512) off S1x256x512.size hin) w Finset.univ hx hm) k) Q) := by
  subst ho
  cases b
  · unfold slotAny slotPts
    iintro ⟨%f, H⟩ Hk
    iapply (wp_store (defs := defs₀ (F := F)) 𝒱₀ (c : Thread nD τ) none Set.univ (m := lM) (r := slotR s) (w := w) (Mk := Finset.univ) (hx := hx) (hm := hm) (k := k) (Q := Q)
      (S := (lSlot s).view.set) (f := f) (by rw [l_set]; exact subset_of_eq (View.set_slice_whole _ _))) $$ H
    iintro H
    iapply Hk
    iapply (Entails.of_eq (pointsTo_congr (l_stored s w f))); iexact H
  · unfold slotAny slotPts
    iintro ⟨%f, H⟩ Hk
    iapply (wp_store (defs := defs₀ (F := F)) 𝒱₀ (c : Thread nD τ) none Set.univ (m := rM) (r := slotR s) (w := w) (Mk := Finset.univ) (hx := hx) (hm := hm) (k := k) (Q := Q)
      (S := (rSlot s).view.set) (f := f) (by rw [r_set]; exact subset_of_eq (View.set_slice_whole _ _))) $$ H
    iintro H
    iapply Hk
    iapply (Entails.of_eq (pointsTo_congr (r_stored s w f))); iexact H

/-- A load of a slot that a transfer in flight is reading. -/
theorem ld_half {α : Type} {Q : α → sProp 𝕄} (K : GSem nD τ sig → ℕ) (V : Fin 28 → Dev nD → SlotT F) (j : Fin 28) (st ws wr : ℕ) (h : ws ≤ j.val ∧ j.val < st) {off : Fin 3 → ℕ} (ho : off = ![(srcS j).val, 0, 0])
    {hin : ∀ a, off a + S1x256x512.size a ≤ S8x256x512.size a}
    (m : Memref sig .tc .vmem S8x256x512 .f32) (hm : m = bufM (bufOf j))
    {hl : m.view.LoadsAt (Rect.unit (s := S8x256x512) off S1x256x512.size hin).toLoadRect} {k : Vec F S1x256x512 .f32 → Prog (TpuEff nD τ sig (Elt F) Λ₀ .tc) α} :
    Core K V c st ws wr
      ⊢ iprop((Core K V c st ws wr -∗ wp frame (wpE (defs₀ (F := F)) 𝒱₀ (c : Thread nD τ) none) Set.univ (k (V j c)) Q)
        -∗ wp frame (wpE (defs₀ (F := F)) 𝒱₀ (c : Thread nD τ) none) Set.univ
          (.op (.load m (Rect.unit (s := S8x256x512) off S1x256x512.size hin).toLoadRect hl) k) Q) := by
  subst hm
  have e : Half V c ws st = iprop(slotPts (bufOf j) c (srcS j) fullShare.right (V j c)
      ∗ bigSep (Finset.univ.filter fun k : Fin 28 => (ws ≤ k.val ∧ k.val < st) ∧ k ≠ j) fun k => slotPts (bufOf k) c (srcS k) fullShare.right (V k c)) := by
    unfold Half
    refine pull _ _ j (fun i => ?_) (by simp) (fun k => slotPts (bufOf k) c (srcS k) fullShare.right (V k c))
    by_cases e : i = j
    · subst e; simp [h]
    · simp [e]
  unfold Core
  rw [e]
  iintro ⟨HP, HO, HT, HcS, HcR, HpS, HpR, HzS, HzR, HPm, ⟨Hs, HH⟩, HSt⟩ Hk
  iapply (ld_slot c (bufOf j) (srcS j) fullShare.right (V j c) ho (hin := hin) (hl := hl)) $$ Hs
  iintro Hs
  iapply Hk
  isplitl [HP]; · iexact HP
  isplitl [HO]; · iexact HO
  isplitl [HT]; · iexact HT
  isplitl [HcS]; · iexact HcS
  isplitl [HcR]; · iexact HcR
  isplitl [HpS]; · iexact HpS
  isplitl [HpR]; · iexact HpR
  isplitl [HzS]; · iexact HzS
  isplitl [HzR]; · iexact HzR
  isplitl [HPm]; · iexact HPm
  isplitl [Hs HH]
  · isplitl [Hs]; · iexact Hs
    iexact HH
  iexact HSt

end Slot

end Cert.Attn
-- ==== Proof.Bufs.lean ====
module

public import proofs.«01_k».proof.Proof.Proto

@[expose] public section

/-! The operands, the result buffer and rules for their accesses. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]

local notation "𝕄" => MT nD τ sig Unit (Elt F) ℕ UU ℕ

/-! ## The operands -/

/-- What the staging buffers of one device hold: rows, query weights, keys and values by head, output weights. -/
structure Ins (F : FTy → Type) [FloatOps F] [Named F] where
  x : FVec F S2048x1024 .f32
  wq : FVec F S1024x1024 .f32
  k : FVec F S8x2048x128 .f32
  v : FVec F S8x2048x128 .f32
  wo : FVec F S1024x1024 .f32

abbrev xM : Memref sig .tc .vmem S2048x1024 .f32 := Memref.whole cc0_stg0_0
abbrev qM : Memref sig .tc .vmem S1024x1024 .f32 := Memref.whole cc0_stg1_0
abbrev kM : Memref sig .tc .vmem S8x2048x128 .f32 := Memref.whole cc0_stg2_0
abbrev vM : Memref sig .tc .vmem S8x2048x128 .f32 := Memref.whole cc0_stg3_0
abbrev woM : Memref sig .tc .vmem S1024x1024 .f32 := Memref.whole cc0_stg4_0
abbrev oM : Memref sig .tc .vmem S2048x1024 .f32 := Memref.whole cc0_stg5_0

/-- The five operands of device `c`, only read by the body. -/
def RO (c : Dev nD) (I : Ins F) : sProp 𝕄 :=
  iprop((xM.view.loc (c : Thread nD τ) ↦{fullShare} I.x) ∗ (qM.view.loc (c : Thread nD τ) ↦{fullShare} I.wq)
    ∗ (kM.view.loc (c : Thread nD τ) ↦{fullShare} I.k) ∗ (vM.view.loc (c : Thread nD τ) ↦{fullShare} I.v)
    ∗ (woM.view.loc (c : Thread nD τ) ↦{fullShare} I.wo))
/-- The result buffer of device `c`. -/
def Out (c : Dev nD) (f : FVec F S2048x1024 .f32) : sProp 𝕄 := oM.view.loc (c : Thread nD τ) ↦{fullShare} f

/-- Rows `256q …` of the operand. -/
def xr (I : Ins F) (q : Fin 8) : FVec F S256x1024 .f32 :=
  fun i => I.x (ix2 ⟨256 * q.val + (i 0).val, by have := (i 0).isLt; have := q.isLt; show _ < 2048; change (i 0).val < 256 at *; omega⟩ (i 1))

/-- The first 512 keys of head `h`. -/
def kr512 (I : Ins F) (h : Fin 8) : FVec F S1x512x128 .f32 :=
  fun i => I.k (ix3 h ⟨(i 1).val, by have := (i 1).isLt; show _ < 2048; change (i 1).val < 512 at *; omega⟩ (i 2))

/-- The first 512 values of head `h`. -/
def vr512 (I : Ins F) (h : Fin 8) : FVec F S1x512x128 .f32 :=
  fun i => I.v (ix3 h ⟨(i 1).val, by have := (i 1).isLt; show _ < 2048; change (i 1).val < 512 at *; omega⟩ (i 2))

/-- The first 1024 keys of head `h`. -/
def kr1024 (I : Ins F) (h : Fin 8) : FVec F S1x1024x128 .f32 :=
  fun i => I.k (ix3 h ⟨(i 1).val, by have := (i 1).isLt; show _ < 2048; change (i 1).val < 1024 at *; omega⟩ (i 2))

/-- The first 1024 values of head `h`. -/
def vr1024 (I : Ins F) (h : Fin 8) : FVec F S1x1024x128 .f32 :=
  fun i => I.v (ix3 h ⟨(i 1).val, by have := (i 1).isLt; show _ < 2048; change (i 1).val < 1024 at *; omega⟩ (i 2))

/-- The first 1536 keys of head `h`. -/
def kr1536 (I : Ins F) (h : Fin 8) : FVec F S1x1536x128 .f32 :=
  fun i => I.k (ix3 h ⟨(i 1).val, by have := (i 1).isLt; show _ < 2048; change (i 1).val < 1536 at *; omega⟩ (i 2))

/-- The first 1536 values of head `h`. -/
def vr1536 (I : Ins F) (h : Fin 8) : FVec F S1x1536x128 .f32 :=
  fun i => I.v (ix3 h ⟨(i 1).val, by have := (i 1).isLt; show _ < 2048; change (i 1).val < 1536 at *; omega⟩ (i 2))

/-- The first 2048 keys of head `h`. -/
def kr2048 (I : Ins F) (h : Fin 8) : FVec F S1x2048x128 .f32 :=
  fun i => I.k (ix3 h ⟨(i 1).val, by have := (i 1).isLt; show _ < 2048; change (i 1).val < 2048 at *; omega⟩ (i 2))

/-- The first 2048 values of head `h`. -/
def vr2048 (I : Ins F) (h : Fin 8) : FVec F S1x2048x128 .f32 :=
  fun i => I.v (ix3 h ⟨(i 1).val, by have := (i 1).isLt; show _ < 2048; change (i 1).val < 2048 at *; omega⟩ (i 2))

/-- A half of the rows of one chunk of the result. -/
def getH (f : FVec F S2048x1024 .f32) (q : Fin 8) (h : Fin 2) : FVec F S256x512 .f32 :=
  fun i => f (ix2 ⟨256 * q.val + (i 0).val, by have := (i 0).isLt; have := q.isLt; show _ < 2048; change (i 0).val < 256 at *; omega⟩
    ⟨512 * h.val + (i 1).val, by have := (i 1).isLt; have := h.isLt; show _ < 1024; change (i 1).val < 512 at *; omega⟩)
def putH (f : FVec F S2048x1024 .f32) (q : Fin 8) (h : Fin 2) (w : FVec F S256x512 .f32) : FVec F S2048x1024 .f32 :=
  fun i => if (i 0).val / 256 = q.val ∧ (i 1).val / 512 = h.val
    then w (ix2 ⟨(i 0).val % 256, Nat.mod_lt _ (by decide)⟩ ⟨(i 1).val % 512, Nat.mod_lt _ (by decide)⟩) else f i
def putR (f : FVec F S2048x1024 .f32) (q : Fin 8) (w : FVec F S256x1024 .f32) : FVec F S2048x1024 .f32 :=
  fun i => if (i 0).val / 256 = q.val then w (ix2 ⟨(i 0).val % 256, Nat.mod_lt _ (by decide)⟩ (i 1)) else f i
/-- A half of the columns of a chunk. -/
def colH (w : FVec F S256x1024 .f32) (h : Fin 2) : FVec F S256x512 .f32 :=
  fun i => w (ix2 (i 0) ⟨512 * h.val + (i 1).val, by have := (i 1).isLt; have := h.isLt; show _ < 1024; change (i 1).val < 512 at *; omega⟩)

theorem getH_putR (f : FVec F S2048x1024 .f32) (q : Fin 8) (h : Fin 2) (w) : getH (putR f q w) q h = colH w h := by
  funext i
  have h0 : (i 0).val < 256 := (i 0).isLt
  unfold getH putR colH
  rw [if_pos (show (256 * q.val + (i 0).val) / 256 = q.val by omega)]
  congr 1
  funext a
  match a with
  | ⟨0, _⟩ => exact Fin.ext (show (256 * q.val + (i 0).val) % 256 = (i 0).val by omega)
  | ⟨1, _⟩ => rfl
theorem getH_putR_ne (f : FVec F S2048x1024 .f32) {q q' : Fin 8} (hq : q' ≠ q) (h : Fin 2) (w) : getH (putR f q w) q' h = getH f q' h := by
  funext i
  have h0 : (i 0).val < 256 := (i 0).isLt
  unfold getH putR
  exact if_neg (fun e => hq (Fin.ext (by change (256 * q'.val + (i 0).val) / 256 = q.val at e; omega)))
theorem getH_putH (f : FVec F S2048x1024 .f32) (q : Fin 8) (h : Fin 2) (w) : getH (putH f q h w) q h = w := by
  funext i
  have h0 : (i 0).val < 256 := (i 0).isLt
  have h1 : (i 1).val < 512 := (i 1).isLt
  unfold getH putH
  rw [if_pos (show (256 * q.val + (i 0).val) / 256 = q.val ∧ (512 * h.val + (i 1).val) / 512 = h.val from ⟨by omega, by omega⟩)]
  congr 1
  funext a
  match a with
  | ⟨0, _⟩ => exact Fin.ext (show (256 * q.val + (i 0).val) % 256 = (i 0).val by omega)
  | ⟨1, _⟩ => exact Fin.ext (show (512 * h.val + (i 1).val) % 512 = (i 1).val by omega)
theorem getH_putH_ne (f : FVec F S2048x1024 .f32) {q q' : Fin 8} {h h' : Fin 2} (hq : (q', h') ≠ (q, h)) (w) :
    getH (putH f q h w) q' h' = getH f q' h' := by
  funext i
  have h0 : (i 0).val < 256 := (i 0).isLt
  have h1 : (i 1).val < 512 := (i 1).isLt
  unfold getH putH
  exact if_neg (fun e => hq (Prod.ext
    (Fin.ext (by have e0 := e.1; change (256 * q'.val + (i 0).val) / 256 = q.val at e0; show q'.val = q.val; omega))
    (Fin.ext (by have e1 := e.2; change (512 * h'.val + (i 1).val) / 512 = h.val at e1; show h'.val = h.val; omega))))
/-- Contents with the same halves are the same. -/
theorem ext_getH {f g : FVec F S2048x1024 .f32} (h : ∀ q b, getH f q b = getH g q b) : f = g := by
  funext i
  have h0 : (i 0).val < 2048 := (i 0).isLt
  have h1 : (i 1).val < 1024 := (i 1).isLt
  have e := congrFun (h ⟨(i 0).val / 256, by omega⟩ ⟨(i 1).val / 512, by omega⟩)
    (ix2 ⟨(i 0).val % 256, Nat.mod_lt _ (by decide)⟩ ⟨(i 1).val % 512, Nat.mod_lt _ (by decide)⟩)
  have ei : ∀ (a : Fin 2048) (b : Fin 1024), a.val = 256 * ((i 0).val / 256) + (i 0).val % 256 → b.val = 512 * ((i 1).val / 512) + (i 1).val % 512 → ix2 a b = i := by
    intro a b ha hb
    funext k
    match k with
    | ⟨0, _⟩ => exact Fin.ext (by show a.val = (i 0).val; omega)
    | ⟨1, _⟩ => exact Fin.ext (by show b.val = (i 1).val; omega)
  unfold getH at e
  rw [ei _ _ rfl rfl] at e
  exact e

/-! ## Rules for the accesses -/

section Rules

variable (c : Dev nD) (I : Ins F)

theorem ld_k512 {α : Type} {Q : α → sProp 𝕄} (h : Fin 8) {off : Fin 3 → ℕ} (ho : off = ![h.val, 0, 0]) {hin : ∀ a, off a + S1x512x128.size a ≤ S8x2048x128.size a}
    {hl : (kM).view.LoadsAt (Rect.unit (s := S8x2048x128) off S1x512x128.size hin).toLoadRect} {k : Vec F S1x512x128 .f32 → Prog (TpuEff nD τ sig (Elt F) Λ₀ .tc) α} :
    RO c I
      ⊢ iprop((RO c I -∗ wp frame (wpE (defs₀ (F := F)) 𝒱₀ (c : Thread nD τ) none) Set.univ (k (kr512 I h)) Q)
        -∗ wp frame (wpE (defs₀ (F := F)) 𝒱₀ (c : Thread nD τ) none) Set.univ (.op (.load kM (Rect.unit (s := S8x2048x128) off S1x512x128.size hin).toLoadRect hl) k) Q) := by
  subst ho
  unfold RO
  iintro ⟨Hx, Hq, Hk, Hv, Ho⟩ Hc
  iapply (wp_load (defs := defs₀ (F := F)) 𝒱₀ (c : Thread nD τ) none Set.univ (m := kM) (hl := hl) (k := k) (Q := Q)
    (S := Finset.univ) (Finset.subset_univ _)) $$ Hk
  iintro Hk
  have e : (kM).view.readAt (Elt F) (Rect.unit (s := S8x2048x128) ![h.val, 0, 0] S1x512x128.size hin).toLoadRect I.k = (kr512 I h) := by
    funext x
    show I.k _ = I.k _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_v512 {α : Type} {Q : α → sProp 𝕄} (h : Fin 8) {off : Fin 3 → ℕ} (ho : off = ![h.val, 0, 0]) {hin : ∀ a, off a + S1x512x128.size a ≤ S8x2048x128.size a}
    {hl : (vM).view.LoadsAt (Rect.unit (s := S8x2048x128) off S1x512x128.size hin).toLoadRect} {k : Vec F S1x512x128 .f32 → Prog (TpuEff nD τ sig (Elt F) Λ₀ .tc) α} :
    RO c I
      ⊢ iprop((RO c I -∗ wp frame (wpE (defs₀ (F := F)) 𝒱₀ (c : Thread nD τ) none) Set.univ (k (vr512 I h)) Q)
        -∗ wp frame (wpE (defs₀ (F := F)) 𝒱₀ (c : Thread nD τ) none) Set.univ (.op (.load vM (Rect.unit (s := S8x2048x128) off S1x512x128.size hin).toLoadRect hl) k) Q) := by
  subst ho
  unfold RO
  iintro ⟨Hx, Hq, Hk, Hv, Ho⟩ Hc
  iapply (wp_load (defs := defs₀ (F := F)) 𝒱₀ (c : Thread nD τ) none Set.univ (m := vM) (hl := hl) (k := k) (Q := Q)
    (S := Finset.univ) (Finset.subset_univ _)) $$ Hv
  iintro Hv
  have e : (vM).view.readAt (Elt F) (Rect.unit (s := S8x2048x128) ![h.val, 0, 0] S1x512x128.size hin).toLoadRect I.v = (vr512 I h) := by
    funext x
    show I.v _ = I.v _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_k1024 {α : Type} {Q : α → sProp 𝕄} (h : Fin 8) {off : Fin 3 → ℕ} (ho : off = ![h.val, 0, 0]) {hin : ∀ a, off a + S1x1024x128.size a ≤ S8x2048x128.size a}
    {hl : (kM).view.LoadsAt (Rect.unit (s := S8x2048x128) off S1x1024x128.size hin).toLoadRect} {k : Vec F S1x1024x128 .f32 → Prog (TpuEff nD τ sig (Elt F) Λ₀ .tc) α} :
    RO c I
      ⊢ iprop((RO c I -∗ wp frame (wpE (defs₀ (F := F)) 𝒱₀ (c : Thread nD τ) none) Set.univ (k (kr1024 I h)) Q)
        -∗ wp frame (wpE (defs₀ (F := F)) 𝒱₀ (c : Thread nD τ) none) Set.univ (.op (.load kM (Rect.unit (s := S8x2048x128) off S1x1024x128.size hin).toLoadRect hl) k) Q) := by
  subst ho
  unfold RO
  iintro ⟨Hx, Hq, Hk, Hv, Ho⟩ Hc
  iapply (wp_load (defs := defs₀ (F := F)) 𝒱₀ (c : Thread nD τ) none Set.univ (m := kM) (hl := hl) (k := k) (Q := Q)
    (S := Finset.univ) (Finset.subset_univ _)) $$ Hk
  iintro Hk
  have e : (kM).view.readAt (Elt F) (Rect.unit (s := S8x2048x128) ![h.val, 0, 0] S1x1024x128.size hin).toLoadRect I.k = (kr1024 I h) := by
    funext x
    show I.k _ = I.k _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_v1024 {α : Type} {Q : α → sProp 𝕄} (h : Fin 8) {off : Fin 3 → ℕ} (ho : off = ![h.val, 0, 0]) {hin : ∀ a, off a + S1x1024x128.size a ≤ S8x2048x128.size a}
    {hl : (vM).view.LoadsAt (Rect.unit (s := S8x2048x128) off S1x1024x128.size hin).toLoadRect} {k : Vec F S1x1024x128 .f32 → Prog (TpuEff nD τ sig (Elt F) Λ₀ .tc) α} :
    RO c I
      ⊢ iprop((RO c I -∗ wp frame (wpE (defs₀ (F := F)) 𝒱₀ (c : Thread nD τ) none) Set.univ (k (vr1024 I h)) Q)
        -∗ wp frame (wpE (defs₀ (F := F)) 𝒱₀ (c : Thread nD τ) none) Set.univ (.op (.load vM (Rect.unit (s := S8x2048x128) off S1x1024x128.size hin).toLoadRect hl) k) Q) := by
  subst ho
  unfold RO
  iintro ⟨Hx, Hq, Hk, Hv, Ho⟩ Hc
  iapply (wp_load (defs := defs₀ (F := F)) 𝒱₀ (c : Thread nD τ) none Set.univ (m := vM) (hl := hl) (k := k) (Q := Q)
    (S := Finset.univ) (Finset.subset_univ _)) $$ Hv
  iintro Hv
  have e : (vM).view.readAt (Elt F) (Rect.unit (s := S8x2048x128) ![h.val, 0, 0] S1x1024x128.size hin).toLoadRect I.v = (vr1024 I h) := by
    funext x
    show I.v _ = I.v _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_k1536 {α : Type} {Q : α → sProp 𝕄} (h : Fin 8) {off : Fin 3 → ℕ} (ho : off = ![h.val, 0, 0]) {hin : ∀ a, off a + S1x1536x128.size a ≤ S8x2048x128.size a}
    {hl : (kM).view.LoadsAt (Rect.unit (s := S8x2048x128) off S1x1536x128.size hin).toLoadRect} {k : Vec F S1x1536x128 .f32 → Prog (TpuEff nD τ sig (Elt F) Λ₀ .tc) α} :
    RO c I
      ⊢ iprop((RO c I -∗ wp frame (wpE (defs₀ (F := F)) 𝒱₀ (c : Thread nD τ) none) Set.univ (k (kr1536 I h)) Q)
        -∗ wp frame (wpE (defs₀ (F := F)) 𝒱₀ (c : Thread nD τ) none) Set.univ (.op (.load kM (Rect.unit (s := S8x2048x128) off S1x1536x128.size hin).toLoadRect hl) k) Q) := by
  subst ho
  unfold RO
  iintro ⟨Hx, Hq, Hk, Hv, Ho⟩ Hc
  iapply (wp_load (defs := defs₀ (F := F)) 𝒱₀ (c : Thread nD τ) none Set.univ (m := kM) (hl := hl) (k := k) (Q := Q)
    (S := Finset.univ) (Finset.subset_univ _)) $$ Hk
  iintro Hk
  have e : (kM).view.readAt (Elt F) (Rect.unit (s := S8x2048x128) ![h.val, 0, 0] S1x1536x128.size hin).toLoadRect I.k = (kr1536 I h) := by
    funext x
    show I.k _ = I.k _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_v1536 {α : Type} {Q : α → sProp 𝕄} (h : Fin 8) {off : Fin 3 → ℕ} (ho : off = ![h.val, 0, 0]) {hin : ∀ a, off a + S1x1536x128.size a ≤ S8x2048x128.size a}
    {hl : (vM).view.LoadsAt (Rect.unit (s := S8x2048x128) off S1x1536x128.size hin).toLoadRect} {k : Vec F S1x1536x128 .f32 → Prog (TpuEff nD τ sig (Elt F) Λ₀ .tc) α} :
    RO c I
      ⊢ iprop((RO c I -∗ wp frame (wpE (defs₀ (F := F)) 𝒱₀ (c : Thread nD τ) none) Set.univ (k (vr1536 I h)) Q)
        -∗ wp frame (wpE (defs₀ (F := F)) 𝒱₀ (c : Thread nD τ) none) Set.univ (.op (.load vM (Rect.unit (s := S8x2048x128) off S1x1536x128.size hin).toLoadRect hl) k) Q) := by
  subst ho
  unfold RO
  iintro ⟨Hx, Hq, Hk, Hv, Ho⟩ Hc
  iapply (wp_load (defs := defs₀ (F := F)) 𝒱₀ (c : Thread nD τ) none Set.univ (m := vM) (hl := hl) (k := k) (Q := Q)
    (S := Finset.univ) (Finset.subset_univ _)) $$ Hv
  iintro Hv
  have e : (vM).view.readAt (Elt F) (Rect.unit (s := S8x2048x128) ![h.val, 0, 0] S1x1536x128.size hin).toLoadRect I.v = (vr1536 I h) := by
    funext x
    show I.v _ = I.v _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_k2048 {α : Type} {Q : α → sProp 𝕄} (h : Fin 8) {off : Fin 3 → ℕ} (ho : off = ![h.val, 0, 0]) {hin : ∀ a, off a + S1x2048x128.size a ≤ S8x2048x128.size a}
    {hl : (kM).view.LoadsAt (Rect.unit (s := S8x2048x128) off S1x2048x128.size hin).toLoadRect} {k : Vec F S1x2048x128 .f32 → Prog (TpuEff nD τ sig (Elt F) Λ₀ .tc) α} :
    RO c I
      ⊢ iprop((RO c I -∗ wp frame (wpE (defs₀ (F := F)) 𝒱₀ (c : Thread nD τ) none) Set.univ (k (kr2048 I h)) Q)
        -∗ wp frame (wpE (defs₀ (F := F)) 𝒱₀ (c : Thread nD τ) none) Set.univ (.op (.load kM (Rect.unit (s := S8x2048x128) off S1x2048x128.size hin).toLoadRect hl) k) Q) := by
  subst ho
  unfold RO
  iintro ⟨Hx, Hq, Hk, Hv, Ho⟩ Hc
  iapply (wp_load (defs := defs₀ (F := F)) 𝒱₀ (c : Thread nD τ) none Set.univ (m := kM) (hl := hl) (k := k) (Q := Q)
    (S := Finset.univ) (Finset.subset_univ _)) $$ Hk
  iintro Hk
  have e : (kM).view.readAt (Elt F) (Rect.unit (s := S8x2048x128) ![h.val, 0, 0] S1x2048x128.size hin).toLoadRect I.k = (kr2048 I h) := by
    funext x
    show I.k _ = I.k _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_v2048 {α : Type} {Q : α → sProp 𝕄} (h : Fin 8) {off : Fin 3 → ℕ} (ho : off = ![h.val, 0, 0]) {hin : ∀ a, off a + S1x2048x128.size a ≤ S8x2048x128.size a}
    {hl : (vM).view.LoadsAt (Rect.unit (s := S8x2048x128) off S1x2048x128.size hin).toLoadRect} {k : Vec F S1x2048x128 .f32 → Prog (TpuEff nD τ sig (Elt F) Λ₀ .tc) α} :
    RO c I
      ⊢ iprop((RO c I -∗ wp frame (wpE (defs₀ (F := F)) 𝒱₀ (c : Thread nD τ) none) Set.univ (k (vr2048 I h)) Q)
        -∗ wp frame (wpE (defs₀ (F := F)) 𝒱₀ (c : Thread nD τ) none) Set.univ (.op (.load vM (Rect.unit (s := S8x2048x128) off S1x2048x128.size hin).toLoadRect hl) k) Q) := by
  subst ho
  unfold RO
  iintro ⟨Hx, Hq, Hk, Hv, Ho⟩ Hc
  iapply (wp_load (defs := defs₀ (F := F)) 𝒱₀ (c : Thread nD τ) none Set.univ (m := vM) (hl := hl) (k := k) (Q := Q)
    (S := Finset.univ) (Finset.subset_univ _)) $$ Hv
  iintro Hv
  have e : (vM).view.readAt (Elt F) (Rect.unit (s := S8x2048x128) ![h.val, 0, 0] S1x2048x128.size hin).toLoadRect I.v = (vr2048 I h) := by
    funext x
    show I.v _ = I.v _
    congr 1
    funext a
    match a with
    | ⟨0, _⟩ => exact Fin.ext (by have h0 : (x 0).val < 1 := (x 0).isLt; show h.val + 1 * (x 0).val = h.val; omega)
    | ⟨1, _⟩ => exact Fin.ext (show 0 + 1 * (x 1).val = (x 1).val by omega)
    | ⟨2, _⟩ => exact Fin.ext (show 0 + 1 * (x 2).val = (x 2).val by omega)
  rw [e]
  iapply Hc
  isplitl [Hx]; · iexact Hx
  isplitl [Hq]; · iexact Hq
  isplitl [Hk]; · iexact Hk
  isplitl [Hv]; · iexact Hv
  iexact Ho

theorem ld_wq {α : Type} {Q : α → sProp 𝕄} {hin : ∀ a, (![0, 0] : Fin 2 → ℕ) a + S1024x1024.size a ≤ S1024x1024.size a}
    {hl : (qM).view.LoadsAt (Rect.unit (s := S1024x1024) ![0, 0] S1024x1024.size hin).toLoadRect} {k : Vec F S1024x1024 .f32 → Prog (TpuEff nD τ sig (Elt F) Λ₀ .tc) α} :
    RO c I
      ⊢ iprop((RO c I -∗ wp frame (wpE (defs₀ (F := F)) 𝒱₀ (c : Thread nD τ) none) Set.univ (k I.wq) Q)
        -∗ wp frame (wpE (defs₀ (F := F)) 𝒱₀ (c : Thread nD τ) none) Set.univ (.op (.load qM (Rect.unit (s := S1024x1024) ![0, 0] S1024x1024.size hin).toLoadRect hl) k) Q) := by
  unfold RO
  iintro ⟨Hx, Hq, Hk, Hv, Ho⟩ Hc
  iapply (wp_load (defs := defs₀ (F := F)) 𝒱₀ (c : Thread nD τ) none Set.univ (m := qM) (hl := hl) (k := k) (Q := Q)
    (S := Finset.univ) (Finset.subset_univ _)) $$ Hq
  iintro Hq
  have e : (qM).view.readAt (Elt F) (Rect.unit (s := S1024x1024) ![0, 0] S1024x1024.size hin).toLoadRect I.wq = I.wq := by
    funext x
    show I.wq _ = I.wq x
    congr 1
    funext a
    match a with
    | ⟨0, _⟩ => exact Fin.ext (show 0 + 1 * (x 0).val = (x 0).val by omega)
    | ⟨1, _⟩ => exact Fin.ext (show 0 + 1 * (x 1).val = (x 1).val by omega)
  rw [e]
  iapply Hc
  isplitl [Hx]; · iexact Hx
  isplitl [Hq]; · iexact Hq
  isplitl [Hk]; · iexact Hk
  isplitl [Hv]; · iexact Hv
  iexact Ho

theorem ld_wo {α : Type} {Q : α → sProp 𝕄} {hin : ∀ a, (![0, 0] : Fin 2 → ℕ) a + S1024x1024.size a ≤ S1024x1024.size a}
    {hl : (woM).view.LoadsAt (Rect.unit (s := S1024x1024) ![0, 0] S1024x1024.size hin).toLoadRect} {k : Vec F S1024x1024 .f32 → Prog (TpuEff nD τ sig (Elt F) Λ₀ .tc) α} :
    RO c I
      ⊢ iprop((RO c I -∗ wp frame (wpE (defs₀ (F := F)) 𝒱₀ (c : Thread nD τ) none) Set.univ (k I.wo) Q)
        -∗ wp frame (wpE (defs₀ (F := F)) 𝒱₀ (c : Thread nD τ) none) Set.univ (.op (.load woM (Rect.unit (s := S1024x1024) ![0, 0] S1024x1024.size hin).toLoadRect hl) k) Q) := by
  unfold RO
  iintro ⟨Hx, Hq, Hk, Hv, Ho⟩ Hc
  iapply (wp_load (defs := defs₀ (F := F)) 𝒱₀ (c : Thread nD τ) none Set.univ (m := woM) (hl := hl) (k := k) (Q := Q)
    (S := Finset.univ) (Finset.subset_univ _)) $$ Ho
  iintro Ho
  have e : (woM).view.readAt (Elt F) (Rect.unit (s := S1024x1024) ![0, 0] S1024x1024.size hin).toLoadRect I.wo = I.wo := by
    funext x
    show I.wo _ = I.wo x
    congr 1
    funext a
    match a with
    | ⟨0, _⟩ => exact Fin.ext (show 0 + 1 * (x 0).val = (x 0).val by omega)
    | ⟨1, _⟩ => exact Fin.ext (show 0 + 1 * (x 1).val = (x 1).val by omega)
  rw [e]
  iapply Hc
  isplitl [Hx]; · iexact Hx
  isplitl [Hq]; · iexact Hq
  isplitl [Hk]; · iexact Hk
  isplitl [Hv]; · iexact Hv
  iexact Ho

theorem ld_x {α : Type} {Q : α → sProp 𝕄} (q : Fin 8) {off : Fin 2 → ℕ} (ho : off = ![256 * q.val, 0]) {hin : ∀ a, off a + S256x1024.size a ≤ S2048x1024.size a}
    {hl : (xM).view.LoadsAt (Rect.unit (s := S2048x1024) off S256x1024.size hin).toLoadRect} {k : Vec F S256x1024 .f32 → Prog (TpuEff nD τ sig (Elt F) Λ₀ .tc) α} :
    RO c I
      ⊢ iprop((RO c I -∗ wp frame (wpE (defs₀ (F := F)) 𝒱₀ (c : Thread nD τ) none) Set.univ (k (xr I q)) Q)
        -∗ wp frame (wpE (defs₀ (F := F)) 𝒱₀ (c : Thread nD τ) none) Set.univ (.op (.load xM (Rect.unit (s := S2048x1024) off S256x1024.size hin).toLoadRect hl) k) Q) := by
  subst ho
  unfold RO
  iintro ⟨Hx, Hq, Hk, Hv, Ho⟩ Hc
  iapply (wp_load (defs := defs₀ (F := F)) 𝒱₀ (c : Thread nD τ) none Set.univ (m := xM) (hl := hl) (k := k) (Q := Q)
    (S := Finset.univ) (Finset.subset_univ _)) $$ Hx
  iintro Hx
  have e : (xM).view.readAt (Elt F) (Rect.unit (s := S2048x1024) ![256 * q.val, 0] S256x1024.size hin).toLoadRect I.x = (xr I q) := by
    funext x
    show I.x _ = I.x _
    congr 1
    funext a
    match a with
    | ⟨0, _⟩ => exact Fin.ext (show 256 * q.val + 1 * (x 0).val = 256 * q.val + (x 0).val by omega)
    | ⟨1, _⟩ => exact Fin.ext (show 0 + 1 * (x 1).val = (x 1).val by omega)
  rw [e]
  iapply Hc
  isplitl [Hx]; · iexact Hx
  isplitl [Hq]; · iexact Hq
  isplitl [Hk]; · iexact Hk
  isplitl [Hv]; · iexact Hv
  iexact Ho

/-- A dead load of the result buffer. -/
theorem ld_out_any {α : Type} {Q : α → sProp 𝕄} (f : FVec F S2048x1024 .f32) {r : Rect S2048x1024}
    {hl : oM.view.LoadsAt r.toLoadRect} {k : (r.toLoadRect.shape.Idx → Elt F .f32) → Prog (TpuEff nD τ sig (Elt F) Λ₀ .tc) α} :
    Out c f
      ⊢ iprop((Out c f -∗ ∀ w, wp frame (wpE (defs₀ (F := F)) 𝒱₀ (c : Thread nD τ) none) Set.univ (k w) Q)
        -∗ wp frame (wpE (defs₀ (F := F)) 𝒱₀ (c : Thread nD τ) none) Set.univ (.op (.load oM r.toLoadRect hl) k) Q) := by
  unfold Out
  iintro H Hc
  iapply (wp_load (defs := defs₀ (F := F)) 𝒱₀ (c : Thread nD τ) none Set.univ (m := oM) (hl := hl) (k := k) (Q := Q)
    (S := Finset.univ) (Finset.subset_univ _)) $$ H
  iintro H
  iapply Hc $$ H
theorem ld_out {α : Type} {Q : α → sProp 𝕄} (f : FVec F S2048x1024 .f32) (q : Fin 8) (h : Fin 2) {off : Fin 2 → ℕ}
    (ho : off = ![256 * q.val, 512 * h.val]) {hin : ∀ a, off a + S256x512.size a ≤ S2048x1024.size a}
    {hl : oM.view.LoadsAt (Rect.unit (s := S2048x1024) off S256x512.size hin).toLoadRect} {k : Vec F S256x512 .f32 → Prog (TpuEff nD τ sig (Elt F) Λ₀ .tc) α} :
    Out c f
      ⊢ iprop((Out c f -∗ wp frame (wpE (defs₀ (F := F)) 𝒱₀ (c : Thread nD τ) none) Set.univ (k (getH f q h)) Q)
        -∗ wp frame (wpE (defs₀ (F := F)) 𝒱₀ (c : Thread nD τ) none) Set.univ
          (.op (.load oM (Rect.unit (s := S2048x1024) off S256x512.size hin).toLoadRect hl) k) Q) := by
  subst ho
  unfold Out
  iintro H Hc
  iapply (wp_load (defs := defs₀ (F := F)) 𝒱₀ (c : Thread nD τ) none Set.univ (m := oM) (hl := hl) (k := k) (Q := Q)
    (S := Finset.univ) (Finset.subset_univ _)) $$ H
  iintro H
  have e : oM.view.readAt (Elt F) (Rect.unit (s := S2048x1024) ![256 * q.val, 512 * h.val] S256x512.size hin).toLoadRect f = getH f q h := by
    funext x
    show f _ = f _
    congr 1
    funext a
    match a with
    | ⟨0, _⟩ => exact Fin.ext (show 256 * q.val + 1 * (x 0).val = 256 * q.val + (x 0).val by omega)
    | ⟨1, _⟩ => exact Fin.ext (show 512 * h.val + 1 * (x 1).val = 512 * h.val + (x 1).val by omega)
  rw [e]
  iapply Hc; iexact H

theorem st_outR {α : Type} {Q : α → sProp 𝕄} (f : FVec F S2048x1024 .f32) (q : Fin 8) (w : Vec F S256x1024 .f32) {off : Fin 2 → ℕ}
    (ho : off = ![256 * q.val, 0]) {hin : ∀ a, off a + S256x1024.size a ≤ S2048x1024.size a}
    {hx : (oM.access (Rect.unit (s := S2048x1024) off S256x1024.size hin)).Stores Finset.univ} {hm}
    {k : PUnit → Prog (TpuEff nD τ sig (Elt F) Λ₀ .tc) α} :
    Out c f
      ⊢ iprop((Out c (putR f q w) -∗ wp frame (wpE (defs₀ (F := F)) 𝒱₀ (c : Thread nD τ) none) Set.univ (k ⟨⟩) Q)
        -∗ wp frame (wpE (defs₀ (F := F)) 𝒱₀ (c : Thread nD τ) none) Set.univ
          (.op (.store oM (Rect.unit (s := S2048x1024) off S256x1024.size hin) w Finset.univ hx hm) k) Q) := by
  subst ho
  unfold Out
  iintro H Hc
  iapply (wp_store (defs := defs₀ (F := F)) 𝒱₀ (c : Thread nD τ) none Set.univ (m := oM) (hx := hx) (hm := hm) (k := k) (Q := Q)
    (S := Finset.univ) (Finset.subset_univ _)) $$ H
  iintro H
  have e : (oM.access (Rect.unit (s := S2048x1024) ![256 * q.val, 0] S256x1024.size hin)).write (Elt F) f w Finset.univ = putR f q w := by
    funext i
    have h0 : (i 0).val < 2048 := (i 0).isLt
    have h1 : (i 1).val < 1024 := (i 1).isLt
    unfold putR
    split
    · next hi =>
      have key : ∀ x, (oM.access (Rect.unit (s := S2048x1024) ![256 * q.val, 0] S256x1024.size hin)).emb x = i →
          (oM.access (Rect.unit (s := S2048x1024) ![256 * q.val, 0] S256x1024.size hin)).write (Elt F) f w Finset.univ i = w x := by
        intro x hx
        rw [← hx]
        exact View.write_emb_of_mem (Val := Elt F) (v := oM.access (Rect.unit (s := S2048x1024) ![256 * q.val, 0] S256x1024.size hin)) (x := x) (M := Finset.univ) f w (Finset.mem_univ x)
      refine key (ix2 ⟨(i 0).val % 256, Nat.mod_lt _ (by decide)⟩ (i 1) : S256x1024.Idx) ?_
      funext a
      match a with
      | ⟨0, _⟩ => exact Fin.ext (show 256 * q.val + 1 * ((i 0).val % 256) = (i 0).val by omega)
      | ⟨1, _⟩ => exact Fin.ext (show 0 + 1 * (i 1).val = (i 1).val by omega)
    · next hi =>
      refine View.write_of_not_mem (Val := Elt F) (v := oM.access (Rect.unit (s := S2048x1024) ![256 * q.val, 0] S256x1024.size hin)) f w Finset.univ ?_
      intro hmem
      obtain ⟨x, -, rfl⟩ := Finset.mem_map.mp hmem
      have hx0 : (x 0).val < 256 := (x 0).isLt
      exact hi (show (256 * q.val + 1 * (x 0).val) / 256 = q.val by omega)
  rw [e]
  iapply Hc; iexact H

theorem st_outH {α : Type} {Q : α → sProp 𝕄} (f : FVec F S2048x1024 .f32) (q : Fin 8) (h : Fin 2) (w : Vec F S256x512 .f32) {off : Fin 2 → ℕ}
    (ho : off = ![256 * q.val, 512 * h.val]) {hin : ∀ a, off a + S256x512.size a ≤ S2048x1024.size a}
    {hx : (oM.access (Rect.unit (s := S2048x1024) off S256x512.size hin)).Stores Finset.univ} {hm}
    {k : PUnit → Prog (TpuEff nD τ sig (Elt F) Λ₀ .tc) α} :
    Out c f
      ⊢ iprop((Out c (putH f q h w) -∗ wp frame (wpE (defs₀ (F := F)) 𝒱₀ (c : Thread nD τ) none) Set.univ (k ⟨⟩) Q)
        -∗ wp frame (wpE (defs₀ (F := F)) 𝒱₀ (c : Thread nD τ) none) Set.univ
          (.op (.store oM (Rect.unit (s := S2048x1024) off S256x512.size hin) w Finset.univ hx hm) k) Q) := by
  subst ho
  unfold Out
  iintro H Hc
  iapply (wp_store (defs := defs₀ (F := F)) 𝒱₀ (c : Thread nD τ) none Set.univ (m := oM) (hx := hx) (hm := hm) (k := k) (Q := Q)
    (S := Finset.univ) (Finset.subset_univ _)) $$ H
  iintro H
  have e : (oM.access (Rect.unit (s := S2048x1024) ![256 * q.val, 512 * h.val] S256x512.size hin)).write (Elt F) f w Finset.univ = putH f q h w := by
    funext i
    have h0 : (i 0).val < 2048 := (i 0).isLt
    have h1 : (i 1).val < 1024 := (i 1).isLt
    unfold putH
    split
    · next hi =>
      have key : ∀ x, (oM.access (Rect.unit (s := S2048x1024) ![256 * q.val, 512 * h.val] S256x512.size hin)).emb x = i →
          (oM.access (Rect.unit (s := S2048x1024) ![256 * q.val, 512 * h.val] S256x512.size hin)).write (Elt F) f w Finset.univ i = w x := by
        intro x hx
        rw [← hx]
        exact View.write_emb_of_mem (Val := Elt F) (v := oM.access (Rect.unit (s := S2048x1024) ![256 * q.val, 512 * h.val] S256x512.size hin)) (x := x) (M := Finset.univ) f w (Finset.mem_univ x)
      refine key (ix2 ⟨(i 0).val % 256, Nat.mod_lt _ (by decide)⟩ ⟨(i 1).val % 512, Nat.mod_lt _ (by decide)⟩ : S256x512.Idx) ?_
      funext a
      match a with
      | ⟨0, _⟩ => exact Fin.ext (show 256 * q.val + 1 * ((i 0).val % 256) = (i 0).val by omega)
      | ⟨1, _⟩ => exact Fin.ext (show 512 * h.val + 1 * ((i 1).val % 512) = (i 1).val by omega)
    · next hi =>
      refine View.write_of_not_mem (Val := Elt F) (v := oM.access (Rect.unit (s := S2048x1024) ![256 * q.val, 512 * h.val] S256x512.size hin)) f w Finset.univ ?_
      intro hmem
      obtain ⟨x, -, rfl⟩ := Finset.mem_map.mp hmem
      have hx0 : (x 0).val < 256 := (x 0).isLt
      have hx1 : (x 1).val < 512 := (x 1).isLt
      exact hi ⟨show (256 * q.val + 1 * (x 0).val) / 256 = q.val by omega, show (512 * h.val + 1 * (x 1).val) / 512 = h.val by omega⟩
  rw [e]
  iapply Hc; iexact H

end Rules

end Cert.Attn
-- ==== Proof.PartsA.lean ====
module

public import proofs.«01_k».proof.Proof.Bufs

@[expose] public section

/-! The parts of one chunk's attention, as the body's first chunk runs them. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]

local notation "𝕄" => MT nD τ sig Unit (Elt F) ℕ UU ℕ

section Parts

variable (c : Dev nD) (I : Ins F)

theorem part1_wp {Q : _ → sProp 𝕄} (v13 : BitVec 32) :
    RO c I ⊢ iprop((RO c I -∗ Q ⟨k0_pay2, k0_pay3 v13, k0_pay4 v13, k0_pay5 v13, k0_pay6⟩)
      -∗ wp frame (wpE (defs₀ (F := F)) 𝒱₀ (c : Thread nD τ) none) Set.univ (k0_part1 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v13) Q) := by
  rw [k0_part1_eq_skeleton]; unfold k0_part1_skel
  simp only [Prog.lift, Prog.bind_op, Prog.bind_ret, Prog.pure_eq_ret, Prog.bind_assoc]
  iintro HR HQ
  rw [wp_ret]; imodintro
  iapply HQ; iexact HR

theorem part2_wp {Q : _ → sProp 𝕄} (v19 : FVec F S256x1024 .f32) (v867 : IVec S256x512 32) (v869 : IVec S256x512 32) (v883 : IVec S256x512 1) (v885 : IVec S256x512 32) (v886 : IVec S256x512 32) :
    RO c I ⊢ iprop((RO c I -∗ Q ⟨k0_pay7 (F := F) v867 v869 v883 v885 v886, k0_pay8 v19 v867 v869 v883 v885 v886 (kr512 I 0) (vr512 I 0), k0_pay9 v19 v867 v869 v883 v885 v886 (kr512 I 1)⟩)
      -∗ wp frame (wpE (defs₀ (F := F)) 𝒱₀ (c : Thread nD τ) none) Set.univ (k0_part2 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v867 v869 v883 v885 v886) Q) := by
  rw [k0_part2_eq_skeleton]; unfold k0_part2_skel
  simp only [Prog.lift, Prog.bind_op, Prog.bind_ret, Prog.pure_eq_ret, Prog.bind_assoc]
  iintro HR HQ
  iapply (ld_k512 c I 0 rfl) $$ HR
  iintro HR
  iapply (ld_v512 c I 0 rfl) $$ HR
  iintro HR
  iapply (ld_k512 c I 1 rfl) $$ HR
  iintro HR
  rw [wp_ret]; imodintro
  iapply HQ; iexact HR

theorem part3_wp {Q : _ → sProp 𝕄} (v19 : FVec F S256x1024 .f32) (v895 : FVec F S256x512 .f32) (v926 : FVec F S256x512 .f32) :
    RO c I ⊢ iprop((RO c I -∗ Q ⟨k0_pay10 v926 (vr512 I 1), k0_pay11 v19 v895 (kr512 I 2) (vr512 I 2), k0_pay12 v19 v895 (kr512 I 3)⟩)
      -∗ wp frame (wpE (defs₀ (F := F)) 𝒱₀ (c : Thread nD τ) none) Set.univ (k0_part3 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v926) Q) := by
  rw [k0_part3_eq_skeleton]; unfold k0_part3_skel
  simp only [Prog.lift, Prog.bind_op, Prog.bind_ret, Prog.pure_eq_ret, Prog.bind_assoc]
  iintro HR HQ
  iapply (ld_v512 c I 1 rfl) $$ HR
  iintro HR
  iapply (ld_k512 c I 2 rfl) $$ HR
  iintro HR
  iapply (ld_v512 c I 2 rfl) $$ HR
  iintro HR
  iapply (ld_k512 c I 3 rfl) $$ HR
  iintro HR
  rw [wp_ret]; imodintro
  iapply HQ; iexact HR

theorem part4_wp {Q : _ → sProp 𝕄} (v19 : FVec F S256x1024 .f32) (v895 : FVec F S256x512 .f32) (v964 : FVec F S256x512 .f32) :
    RO c I ⊢ iprop((RO c I -∗ Q ⟨k0_pay13 v964 (vr512 I 3), k0_pay14 v19 v895 (kr512 I 4) (vr512 I 4), k0_pay15 v19 v895 (kr512 I 5)⟩)
      -∗ wp frame (wpE (defs₀ (F := F)) 𝒱₀ (c : Thread nD τ) none) Set.univ (k0_part4 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v964) Q) := by
  rw [k0_part4_eq_skeleton]; unfold k0_part4_skel
  simp only [Prog.lift, Prog.bind_op, Prog.bind_ret, Prog.pure_eq_ret, Prog.bind_assoc]
  iintro HR HQ
  iapply (ld_v512 c I 3 rfl) $$ HR
  iintro HR
  iapply (ld_k512 c I 4 rfl) $$ HR
  iintro HR
  iapply (ld_v512 c I 4 rfl) $$ HR
  iintro HR
  iapply (ld_k512 c I 5 rfl) $$ HR
  iintro HR
  rw [wp_ret]; imodintro
  iapply HQ; iexact HR

theorem part5_wp {Q : _ → sProp 𝕄} (v19 : FVec F S256x1024 .f32) (v895 : FVec F S256x512 .f32) (v1002 : FVec F S256x512 .f32) :
    RO c I ⊢ iprop((RO c I -∗ Q ⟨k0_pay16 v1002 (vr512 I 5), k0_pay17 v19 v895 (kr512 I 6) (vr512 I 6), k0_pay18 v19 v895 (kr512 I 7)⟩)
      -∗ wp frame (wpE (defs₀ (F := F)) 𝒱₀ (c : Thread nD τ) none) Set.univ (k0_part5 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v1002) Q) := by
  rw [k0_part5_eq_skeleton]; unfold k0_part5_skel
  simp only [Prog.lift, Prog.bind_op, Prog.bind_ret, Prog.pure_eq_ret, Prog.bind_assoc]
  iintro HR HQ
  iapply (ld_v512 c I 5 rfl) $$ HR
  iintro HR
  iapply (ld_k512 c I 6 rfl) $$ HR
  iintro HR
  iapply (ld_v512 c I 6 rfl) $$ HR
  iintro HR
  iapply (ld_k512 c I 7 rfl) $$ HR
  iintro HR
  rw [wp_ret]; imodintro
  iapply HQ; iexact HR

theorem part6_wp {Q : _ → sProp 𝕄} (v13 : BitVec 32) :
    RO c I ⊢ iprop((RO c I -∗ Q ⟨k0_pay20, k0_pay21 v13, k0_pay22 v13, k0_pay23 v13, k0_pay24⟩)
      -∗ wp frame (wpE (defs₀ (F := F)) 𝒱₀ (c : Thread nD τ) none) Set.univ (k0_part6 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v13) Q) := by
  rw [k0_part6_eq_skeleton]; unfold k0_part6_skel
  simp only [Prog.lift, Prog.bind_op, Prog.bind_ret, Prog.pure_eq_ret, Prog.bind_assoc]
  iintro HR HQ
  rw [wp_ret]; imodintro
  iapply HQ; iexact HR

theorem part7_wp {Q : _ → sProp 𝕄} (v19 : FVec F S256x1024 .f32) (v867 : IVec S256x1024 32) (v869 : IVec S256x1024 32) (v883 : IVec S256x1024 1) (v885 : IVec S256x1024 32) (v886 : IVec S256x1024 32) :
    RO c I ⊢ iprop((RO c I -∗ Q ⟨k0_pay25 (F := F) v867 v869 v883 v885 v886, k0_pay26 v19 v867 v869 v883 v885 v886 (kr1024 I 0) (vr1024 I 0), k0_pay27 v19 v867 v869 v883 v885 v886 (kr1024 I 1)⟩)
      -∗ wp frame (wpE (defs₀ (F := F)) 𝒱₀ (c : Thread nD τ) none) Set.univ (k0_part7 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v867 v869 v883 v885 v886) Q) := by
  rw [k0_part7_eq_skeleton]; unfold k0_part7_skel
  simp only [Prog.lift, Prog.bind_op, Prog.bind_ret, Prog.pure_eq_ret, Prog.bind_assoc]
  iintro HR HQ
  iapply (ld_k1024 c I 0 rfl) $$ HR
  iintro HR
  iapply (ld_v1024 c I 0 rfl) $$ HR
  iintro HR
  iapply (ld_k1024 c I 1 rfl) $$ HR
  iintro HR
  rw [wp_ret]; imodintro
  iapply HQ; iexact HR

theorem part8_wp {Q : _ → sProp 𝕄} (v19 : FVec F S256x1024 .f32) (v895 : FVec F S256x1024 .f32) (v926 : FVec F S256x1024 .f32) :
    RO c I ⊢ iprop((RO c I -∗ Q ⟨k0_pay28 v926 (vr1024 I 1), k0_pay29 v19 v895 (kr1024 I 2) (vr1024 I 2), k0_pay30 v19 v895 (kr1024 I 3)⟩)
      -∗ wp frame (wpE (defs₀ (F := F)) 𝒱₀ (c : Thread nD τ) none) Set.univ (k0_part8 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v926) Q) := by
  rw [k0_part8_eq_skeleton]; unfold k0_part8_skel
  simp only [Prog.lift, Prog.bind_op, Prog.bind_ret, Prog.pure_eq_ret, Prog.bind_assoc]
  iintro HR HQ
  iapply (ld_v1024 c I 1 rfl) $$ HR
  iintro HR
  iapply (ld_k1024 c I 2 rfl) $$ HR
  iintro HR
  iapply (ld_v1024 c I 2 rfl) $$ HR
  iintro HR
  iapply (ld_k1024 c I 3 rfl) $$ HR
  iintro HR
  rw [wp_ret]; imodintro
  iapply HQ; iexact HR

theorem part9_wp {Q : _ → sProp 𝕄} (v19 : FVec F S256x1024 .f32) (v895 : FVec F S256x1024 .f32) (v964 : FVec F S256x1024 .f32) :
    RO c I ⊢ iprop((RO c I -∗ Q ⟨k0_pay31 v964 (vr1024 I 3), k0_pay32 v19 v895 (kr1024 I 4) (vr1024 I 4), k0_pay33 v19 v895 (kr1024 I 5)⟩)
      -∗ wp frame (wpE (defs₀ (F := F)) 𝒱₀ (c : Thread nD τ) none) Set.univ (k0_part9 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v964) Q) := by
  rw [k0_part9_eq_skeleton]; unfold k0_part9_skel
  simp only [Prog.lift, Prog.bind_op, Prog.bind_ret, Prog.pure_eq_ret, Prog.bind_assoc]
  iintro HR HQ
  iapply (ld_v1024 c I 3 rfl) $$ HR
  iintro HR
  iapply (ld_k1024 c I 4 rfl) $$ HR
  iintro HR
  iapply (ld_v1024 c I 4 rfl) $$ HR
  iintro HR
  iapply (ld_k1024 c I 5 rfl) $$ HR
  iintro HR
  rw [wp_ret]; imodintro
  iapply HQ; iexact HR

theorem part10_wp {Q : _ → sProp 𝕄} (v19 : FVec F S256x1024 .f32) (v895 : FVec F S256x1024 .f32) (v1002 : FVec F S256x1024 .f32) :
    RO c I ⊢ iprop((RO c I -∗ Q ⟨k0_pay34 v1002 (vr1024 I 5), k0_pay35 v19 v895 (kr1024 I 6) (vr1024 I 6), k0_pay36 v19 v895 (kr1024 I 7)⟩)
      -∗ wp frame (wpE (defs₀ (F := F)) 𝒱₀ (c : Thread nD τ) none) Set.univ (k0_part10 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v1002) Q) := by
  rw [k0_part10_eq_skeleton]; unfold k0_part10_skel
  simp only [Prog.lift, Prog.bind_op, Prog.bind_ret, Prog.pure_eq_ret, Prog.bind_assoc]
  iintro HR HQ
  iapply (ld_v1024 c I 5 rfl) $$ HR
  iintro HR
  iapply (ld_k1024 c I 6 rfl) $$ HR
  iintro HR
  iapply (ld_v1024 c I 6 rfl) $$ HR
  iintro HR
  iapply (ld_k1024 c I 7 rfl) $$ HR
  iintro HR
  rw [wp_ret]; imodintro
  iapply HQ; iexact HR

theorem part11_wp {Q : _ → sProp 𝕄} (v13 : BitVec 32) :
    RO c I ⊢ iprop((RO c I -∗ Q ⟨k0_pay38, k0_pay39 v13, k0_pay40 v13, k0_pay41 v13, k0_pay42⟩)
      -∗ wp frame (wpE (defs₀ (F := F)) 𝒱₀ (c : Thread nD τ) none) Set.univ (k0_part11 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v13) Q) := by
  rw [k0_part11_eq_skeleton]; unfold k0_part11_skel
  simp only [Prog.lift, Prog.bind_op, Prog.bind_ret, Prog.pure_eq_ret, Prog.bind_assoc]
  iintro HR HQ
  rw [wp_ret]; imodintro
  iapply HQ; iexact HR

theorem part12_wp {Q : _ → sProp 𝕄} (v19 : FVec F S256x1024 .f32) (v867 : IVec S256x1536 32) (v869 : IVec S256x1536 32) (v883 : IVec S256x1536 1) (v885 : IVec S256x1536 32) (v886 : IVec S256x1536 32) :
    RO c I ⊢ iprop((RO c I -∗ Q ⟨k0_pay43 (F := F) v867 v869 v883 v885 v886, k0_pay44 v19 v867 v869 v883 v885 v886 (kr1536 I 0) (vr1536 I 0), k0_pay45 v19 v867 v869 v883 v885 v886 (kr1536 I 1)⟩)
      -∗ wp frame (wpE (defs₀ (F := F)) 𝒱₀ (c : Thread nD τ) none) Set.univ (k0_part12 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v867 v869 v883 v885 v886) Q) := by
  rw [k0_part12_eq_skeleton]; unfold k0_part12_skel
  simp only [Prog.lift, Prog.bind_op, Prog.bind_ret, Prog.pure_eq_ret, Prog.bind_assoc]
  iintro HR HQ
  iapply (ld_k1536 c I 0 rfl) $$ HR
  iintro HR
  iapply (ld_v1536 c I 0 rfl) $$ HR
  iintro HR
  iapply (ld_k1536 c I 1 rfl) $$ HR
  iintro HR
  rw [wp_ret]; imodintro
  iapply HQ; iexact HR

theorem part13_wp {Q : _ → sProp 𝕄} (v19 : FVec F S256x1024 .f32) (v895 : FVec F S256x1536 .f32) (v926 : FVec F S256x1536 .f32) :
    RO c I ⊢ iprop((RO c I -∗ Q ⟨k0_pay46 v926 (vr1536 I 1), k0_pay47 v19 v895 (kr1536 I 2) (vr1536 I 2), k0_pay48 v19 v895 (kr1536 I 3)⟩)
      -∗ wp frame (wpE (defs₀ (F := F)) 𝒱₀ (c : Thread nD τ) none) Set.univ (k0_part13 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v926) Q) := by
  rw [k0_part13_eq_skeleton]; unfold k0_part13_skel
  simp only [Prog.lift, Prog.bind_op, Prog.bind_ret, Prog.pure_eq_ret, Prog.bind_assoc]
  iintro HR HQ
  iapply (ld_v1536 c I 1 rfl) $$ HR
  iintro HR
  iapply (ld_k1536 c I 2 rfl) $$ HR
  iintro HR
  iapply (ld_v1536 c I 2 rfl) $$ HR
  iintro HR
  iapply (ld_k1536 c I 3 rfl) $$ HR
  iintro HR
  rw [wp_ret]; imodintro
  iapply HQ; iexact HR

theorem part14_wp {Q : _ → sProp 𝕄} (v19 : FVec F S256x1024 .f32) (v895 : FVec F S256x1536 .f32) (v964 : FVec F S256x1536 .f32) :
    RO c I ⊢ iprop((RO c I -∗ Q ⟨k0_pay49 v964 (vr1536 I 3), k0_pay50 v19 v895 (kr1536 I 4) (vr1536 I 4), k0_pay51 v19 v895 (kr1536 I 5)⟩)
      -∗ wp frame (wpE (defs₀ (F := F)) 𝒱₀ (c : Thread nD τ) none) Set.univ (k0_part14 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v964) Q) := by
  rw [k0_part14_eq_skeleton]; unfold k0_part14_skel
  simp only [Prog.lift, Prog.bind_op, Prog.bind_ret, Prog.pure_eq_ret, Prog.bind_assoc]
  iintro HR HQ
  iapply (ld_v1536 c I 3 rfl) $$ HR
  iintro HR
  iapply (ld_k1536 c I 4 rfl) $$ HR
  iintro HR
  iapply (ld_v1536 c I 4 rfl) $$ HR
  iintro HR
  iapply (ld_k1536 c I 5 rfl) $$ HR
  iintro HR
  rw [wp_ret]; imodintro
  iapply HQ; iexact HR

theorem part15_wp {Q : _ → sProp 𝕄} (v19 : FVec F S256x1024 .f32) (v895 : FVec F S256x1536 .f32) (v1002 : FVec F S256x1536 .f32) :
    RO c I ⊢ iprop((RO c I -∗ Q ⟨k0_pay52 v1002 (vr1536 I 5), k0_pay53 v19 v895 (kr1536 I 6) (vr1536 I 6), k0_pay54 v19 v895 (kr1536 I 7)⟩)
      -∗ wp frame (wpE (defs₀ (F := F)) 𝒱₀ (c : Thread nD τ) none) Set.univ (k0_part15 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v1002) Q) := by
  rw [k0_part15_eq_skeleton]; unfold k0_part15_skel
  simp only [Prog.lift, Prog.bind_op, Prog.bind_ret, Prog.pure_eq_ret, Prog.bind_assoc]
  iintro HR HQ
  iapply (ld_v1536 c I 5 rfl) $$ HR
  iintro HR
  iapply (ld_k1536 c I 6 rfl) $$ HR
  iintro HR
  iapply (ld_v1536 c I 6 rfl) $$ HR
  iintro HR
  iapply (ld_k1536 c I 7 rfl) $$ HR
  iintro HR
  rw [wp_ret]; imodintro
  iapply HQ; iexact HR

theorem part16_wp {Q : _ → sProp 𝕄} (v13 : BitVec 32) :
    RO c I ⊢ iprop((RO c I -∗ Q ⟨k0_pay56, k0_pay57 v13, k0_pay58 v13, k0_pay59 v13, k0_pay60⟩)
      -∗ wp frame (wpE (defs₀ (F := F)) 𝒱₀ (c : Thread nD τ) none) Set.univ (k0_part16 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v13) Q) := by
  rw [k0_part16_eq_skeleton]; unfold k0_part16_skel
  simp only [Prog.lift, Prog.bind_op, Prog.bind_ret, Prog.pure_eq_ret, Prog.bind_assoc]
  iintro HR HQ
  rw [wp_ret]; imodintro
  iapply HQ; iexact HR

theorem part17_wp {Q : _ → sProp 𝕄} (v19 : FVec F S256x1024 .f32) (v867 : IVec S256x2048 32) (v869 : IVec S256x2048 32) (v883 : IVec S256x2048 1) (v885 : IVec S256x2048 32) (v886 : IVec S256x2048 32) :
    RO c I ⊢ iprop((RO c I -∗ Q ⟨k0_pay61 (F := F) v867 v869 v883 v885 v886, k0_pay62 v19 v867 v869 v883 v885 v886 (kr2048 I 0) (vr2048 I 0), k0_pay63 v19 v867 v869 v883 v885 v886 (kr2048 I 1)⟩)
      -∗ wp frame (wpE (defs₀ (F := F)) 𝒱₀ (c : Thread nD τ) none) Set.univ (k0_part17 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v867 v869 v883 v885 v886) Q) := by
  rw [k0_part17_eq_skeleton]; unfold k0_part17_skel
  simp only [Prog.lift, Prog.bind_op, Prog.bind_ret, Prog.pure_eq_ret, Prog.bind_assoc]
  iintro HR HQ
  iapply (ld_k2048 c I 0 rfl) $$ HR
  iintro HR
  iapply (ld_v2048 c I 0 rfl) $$ HR
  iintro HR
  iapply (ld_k2048 c I 1 rfl) $$ HR
  iintro HR
  rw [wp_ret]; imodintro
  iapply HQ; iexact HR

theorem part18_wp {Q : _ → sProp 𝕄} (v19 : FVec F S256x1024 .f32) (v895 : FVec F S256x2048 .f32) (v926 : FVec F S256x2048 .f32) :
    RO c I ⊢ iprop((RO c I -∗ Q ⟨k0_pay64 v926 (vr2048 I 1), k0_pay65 v19 v895 (kr2048 I 2) (vr2048 I 2), k0_pay66 v19 v895 (kr2048 I 3)⟩)
      -∗ wp frame (wpE (defs₀ (F := F)) 𝒱₀ (c : Thread nD τ) none) Set.univ (k0_part18 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v926) Q) := by
  rw [k0_part18_eq_skeleton]; unfold k0_part18_skel
  simp only [Prog.lift, Prog.bind_op, Prog.bind_ret, Prog.pure_eq_ret, Prog.bind_assoc]
  iintro HR HQ
  iapply (ld_v2048 c I 1 rfl) $$ HR
  iintro HR
  iapply (ld_k2048 c I 2 rfl) $$ HR
  iintro HR
  iapply (ld_v2048 c I 2 rfl) $$ HR
  iintro HR
  iapply (ld_k2048 c I 3 rfl) $$ HR
  iintro HR
  rw [wp_ret]; imodintro
  iapply HQ; iexact HR

theorem part19_wp {Q : _ → sProp 𝕄} (v19 : FVec F S256x1024 .f32) (v895 : FVec F S256x2048 .f32) (v964 : FVec F S256x2048 .f32) :
    RO c I ⊢ iprop((RO c I -∗ Q ⟨k0_pay67 v964 (vr2048 I 3), k0_pay68 v19 v895 (kr2048 I 4) (vr2048 I 4), k0_pay69 v19 v895 (kr2048 I 5)⟩)
      -∗ wp frame (wpE (defs₀ (F := F)) 𝒱₀ (c : Thread nD τ) none) Set.univ (k0_part19 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v964) Q) := by
  rw [k0_part19_eq_skeleton]; unfold k0_part19_skel
  simp only [Prog.lift, Prog.bind_op, Prog.bind_ret, Prog.pure_eq_ret, Prog.bind_assoc]
  iintro HR HQ
  iapply (ld_v2048 c I 3 rfl) $$ HR
  iintro HR
  iapply (ld_k2048 c I 4 rfl) $$ HR
  iintro HR
  iapply (ld_v2048 c I 4 rfl) $$ HR
  iintro HR
  iapply (ld_k2048 c I 5 rfl) $$ HR
  iintro HR
  rw [wp_ret]; imodintro
  iapply HQ; iexact HR

theorem part20_wp {Q : _ → sProp 𝕄} (v19 : FVec F S256x1024 .f32) (v895 : FVec F S256x2048 .f32) (v1002 : FVec F S256x2048 .f32) :
    RO c I ⊢ iprop((RO c I -∗ Q ⟨k0_pay70 v1002 (vr2048 I 5), k0_pay71 v19 v895 (kr2048 I 6) (vr2048 I 6), k0_pay72 v19 v895 (kr2048 I 7)⟩)
      -∗ wp frame (wpE (defs₀ (F := F)) 𝒱₀ (c : Thread nD τ) none) Set.univ (k0_part20 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v19 v895 v1002) Q) := by
  rw [k0_part20_eq_skeleton]; unfold k0_part20_skel
  simp only [Prog.lift, Prog.bind_op, Prog.bind_ret, Prog.pure_eq_ret, Prog.bind_assoc]
  iintro HR HQ
  iapply (ld_v2048 c I 5 rfl) $$ HR
  iintro HR
  iapply (ld_k2048 c I 6 rfl) $$ HR
  iintro HR
  iapply (ld_v2048 c I 6 rfl) $$ HR
  iintro HR
  iapply (ld_k2048 c I 7 rfl) $$ HR
  iintro HR
  rw [wp_ret]; imodintro
  iapply HQ; iexact HR

end Parts

end Cert.Attn
-- ==== Proof.PartsB.lean ====
module

public import proofs.«01_k».proof.Proof.Bufs

@[expose] public section

/-! The parts of one chunk's attention, as a trip of the ring runs them. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]

local notation "𝕄" => MT nD τ sig Unit (Elt F) ℕ UU ℕ

section Parts

variable (c : Dev nD) (I : Ins F)

theorem part21_wp {Q : _ → sProp 𝕄} (v874 : BitVec 32) :
    RO c I ⊢ iprop((RO c I -∗ Q ⟨k0_pay74, k0_pay75 v874, k0_pay76 v874, k0_pay77 v874, k0_pay78⟩)
      -∗ wp frame (wpE (defs₀ (F := F)) 𝒱₀ (c : Thread nD τ) none) Set.univ (k0_part21 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v874) Q) := by
  rw [k0_part21_eq_skeleton]; unfold k0_part21_skel
  simp only [Prog.lift, Prog.bind_op, Prog.bind_ret, Prog.pure_eq_ret, Prog.bind_assoc]
  iintro HR HQ
  rw [wp_ret]; imodintro
  iapply HQ; iexact HR

theorem part22_wp {Q : _ → sProp 𝕄} (v880 : FVec F S256x1024 .f32) (v1018 : IVec S256x512 32) (v1020 : IVec S256x512 32) (v1034 : IVec S256x512 1) (v1036 : IVec S256x512 32) (v1037 : IVec S256x512 32) :
    RO c I ⊢ iprop((RO c I -∗ Q ⟨k0_pay79 (F := F) v1018 v1020 v1034 v1036 v1037, k0_pay80 v880 v1018 v1020 v1034 v1036 v1037 (kr512 I 0) (vr512 I 0), k0_pay81 v880 v1018 v1020 v1034 v1036 v1037 (kr512 I 1)⟩)
      -∗ wp frame (wpE (defs₀ (F := F)) 𝒱₀ (c : Thread nD τ) none) Set.univ (k0_part22 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1018 v1020 v1034 v1036 v1037) Q) := by
  rw [k0_part22_eq_skeleton]; unfold k0_part22_skel
  simp only [Prog.lift, Prog.bind_op, Prog.bind_ret, Prog.pure_eq_ret, Prog.bind_assoc]
  iintro HR HQ
  iapply (ld_k512 c I 0 rfl) $$ HR
  iintro HR
  iapply (ld_v512 c I 0 rfl) $$ HR
  iintro HR
  iapply (ld_k512 c I 1 rfl) $$ HR
  iintro HR
  rw [wp_ret]; imodintro
  iapply HQ; iexact HR

theorem part23_wp {Q : _ → sProp 𝕄} (v880 : FVec F S256x1024 .f32) (v1046 : FVec F S256x512 .f32) (v1077 : FVec F S256x512 .f32) :
    RO c I ⊢ iprop((RO c I -∗ Q ⟨k0_pay82 v1077 (vr512 I 1), k0_pay83 v880 v1046 (kr512 I 2) (vr512 I 2), k0_pay84 v880 v1046 (kr512 I 3)⟩)
      -∗ wp frame (wpE (defs₀ (F := F)) 𝒱₀ (c : Thread nD τ) none) Set.univ (k0_part23 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1077) Q) := by
  rw [k0_part23_eq_skeleton]; unfold k0_part23_skel
  simp only [Prog.lift, Prog.bind_op, Prog.bind_ret, Prog.pure_eq_ret, Prog.bind_assoc]
  iintro HR HQ
  iapply (ld_v512 c I 1 rfl) $$ HR
  iintro HR
  iapply (ld_k512 c I 2 rfl) $$ HR
  iintro HR
  iapply (ld_v512 c I 2 rfl) $$ HR
  iintro HR
  iapply (ld_k512 c I 3 rfl) $$ HR
  iintro HR
  rw [wp_ret]; imodintro
  iapply HQ; iexact HR

theorem part24_wp {Q : _ → sProp 𝕄} (v880 : FVec F S256x1024 .f32) (v1046 : FVec F S256x512 .f32) (v1115 : FVec F S256x512 .f32) :
    RO c I ⊢ iprop((RO c I -∗ Q ⟨k0_pay85 v1115 (vr512 I 3), k0_pay86 v880 v1046 (kr512 I 4) (vr512 I 4), k0_pay87 v880 v1046 (kr512 I 5)⟩)
      -∗ wp frame (wpE (defs₀ (F := F)) 𝒱₀ (c : Thread nD τ) none) Set.univ (k0_part24 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1115) Q) := by
  rw [k0_part24_eq_skeleton]; unfold k0_part24_skel
  simp only [Prog.lift, Prog.bind_op, Prog.bind_ret, Prog.pure_eq_ret, Prog.bind_assoc]
  iintro HR HQ
  iapply (ld_v512 c I 3 rfl) $$ HR
  iintro HR
  iapply (ld_k512 c I 4 rfl) $$ HR
  iintro HR
  iapply (ld_v512 c I 4 rfl) $$ HR
  iintro HR
  iapply (ld_k512 c I 5 rfl) $$ HR
  iintro HR
  rw [wp_ret]; imodintro
  iapply HQ; iexact HR

theorem part25_wp {Q : _ → sProp 𝕄} (v880 : FVec F S256x1024 .f32) (v1046 : FVec F S256x512 .f32) (v1153 : FVec F S256x512 .f32) :
    RO c I ⊢ iprop((RO c I -∗ Q ⟨k0_pay88 v1153 (vr512 I 5), k0_pay89 v880 v1046 (kr512 I 6) (vr512 I 6), k0_pay90 v880 v1046 (kr512 I 7)⟩)
      -∗ wp frame (wpE (defs₀ (F := F)) 𝒱₀ (c : Thread nD τ) none) Set.univ (k0_part25 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1153) Q) := by
  rw [k0_part25_eq_skeleton]; unfold k0_part25_skel
  simp only [Prog.lift, Prog.bind_op, Prog.bind_ret, Prog.pure_eq_ret, Prog.bind_assoc]
  iintro HR HQ
  iapply (ld_v512 c I 5 rfl) $$ HR
  iintro HR
  iapply (ld_k512 c I 6 rfl) $$ HR
  iintro HR
  iapply (ld_v512 c I 6 rfl) $$ HR
  iintro HR
  iapply (ld_k512 c I 7 rfl) $$ HR
  iintro HR
  rw [wp_ret]; imodintro
  iapply HQ; iexact HR

theorem part26_wp {Q : _ → sProp 𝕄} (v874 : BitVec 32) :
    RO c I ⊢ iprop((RO c I -∗ Q ⟨k0_pay92, k0_pay93 v874, k0_pay94 v874, k0_pay95 v874, k0_pay96⟩)
      -∗ wp frame (wpE (defs₀ (F := F)) 𝒱₀ (c : Thread nD τ) none) Set.univ (k0_part26 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v874) Q) := by
  rw [k0_part26_eq_skeleton]; unfold k0_part26_skel
  simp only [Prog.lift, Prog.bind_op, Prog.bind_ret, Prog.pure_eq_ret, Prog.bind_assoc]
  iintro HR HQ
  rw [wp_ret]; imodintro
  iapply HQ; iexact HR

theorem part27_wp {Q : _ → sProp 𝕄} (v880 : FVec F S256x1024 .f32) (v1018 : IVec S256x1024 32) (v1020 : IVec S256x1024 32) (v1034 : IVec S256x1024 1) (v1036 : IVec S256x1024 32) (v1037 : IVec S256x1024 32) :
    RO c I ⊢ iprop((RO c I -∗ Q ⟨k0_pay97 (F := F) v1018 v1020 v1034 v1036 v1037, k0_pay98 v880 v1018 v1020 v1034 v1036 v1037 (kr1024 I 0) (vr1024 I 0), k0_pay99 v880 v1018 v1020 v1034 v1036 v1037 (kr1024 I 1)⟩)
      -∗ wp frame (wpE (defs₀ (F := F)) 𝒱₀ (c : Thread nD τ) none) Set.univ (k0_part27 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1018 v1020 v1034 v1036 v1037) Q) := by
  rw [k0_part27_eq_skeleton]; unfold k0_part27_skel
  simp only [Prog.lift, Prog.bind_op, Prog.bind_ret, Prog.pure_eq_ret, Prog.bind_assoc]
  iintro HR HQ
  iapply (ld_k1024 c I 0 rfl) $$ HR
  iintro HR
  iapply (ld_v1024 c I 0 rfl) $$ HR
  iintro HR
  iapply (ld_k1024 c I 1 rfl) $$ HR
  iintro HR
  rw [wp_ret]; imodintro
  iapply HQ; iexact HR

theorem part28_wp {Q : _ → sProp 𝕄} (v880 : FVec F S256x1024 .f32) (v1046 : FVec F S256x1024 .f32) (v1077 : FVec F S256x1024 .f32) :
    RO c I ⊢ iprop((RO c I -∗ Q ⟨k0_pay100 v1077 (vr1024 I 1), k0_pay101 v880 v1046 (kr1024 I 2) (vr1024 I 2), k0_pay102 v880 v1046 (kr1024 I 3)⟩)
      -∗ wp frame (wpE (defs₀ (F := F)) 𝒱₀ (c : Thread nD τ) none) Set.univ (k0_part28 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1077) Q) := by
  rw [k0_part28_eq_skeleton]; unfold k0_part28_skel
  simp only [Prog.lift, Prog.bind_op, Prog.bind_ret, Prog.pure_eq_ret, Prog.bind_assoc]
  iintro HR HQ
  iapply (ld_v1024 c I 1 rfl) $$ HR
  iintro HR
  iapply (ld_k1024 c I 2 rfl) $$ HR
  iintro HR
  iapply (ld_v1024 c I 2 rfl) $$ HR
  iintro HR
  iapply (ld_k1024 c I 3 rfl) $$ HR
  iintro HR
  rw [wp_ret]; imodintro
  iapply HQ; iexact HR

theorem part29_wp {Q : _ → sProp 𝕄} (v880 : FVec F S256x1024 .f32) (v1046 : FVec F S256x1024 .f32) (v1115 : FVec F S256x1024 .f32) :
    RO c I ⊢ iprop((RO c I -∗ Q ⟨k0_pay103 v1115 (vr1024 I 3), k0_pay104 v880 v1046 (kr1024 I 4) (vr1024 I 4), k0_pay105 v880 v1046 (kr1024 I 5)⟩)
      -∗ wp frame (wpE (defs₀ (F := F)) 𝒱₀ (c : Thread nD τ) none) Set.univ (k0_part29 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1115) Q) := by
  rw [k0_part29_eq_skeleton]; unfold k0_part29_skel
  simp only [Prog.lift, Prog.bind_op, Prog.bind_ret, Prog.pure_eq_ret, Prog.bind_assoc]
  iintro HR HQ
  iapply (ld_v1024 c I 3 rfl) $$ HR
  iintro HR
  iapply (ld_k1024 c I 4 rfl) $$ HR
  iintro HR
  iapply (ld_v1024 c I 4 rfl) $$ HR
  iintro HR
  iapply (ld_k1024 c I 5 rfl) $$ HR
  iintro HR
  rw [wp_ret]; imodintro
  iapply HQ; iexact HR

theorem part30_wp {Q : _ → sProp 𝕄} (v880 : FVec F S256x1024 .f32) (v1046 : FVec F S256x1024 .f32) (v1153 : FVec F S256x1024 .f32) :
    RO c I ⊢ iprop((RO c I -∗ Q ⟨k0_pay106 v1153 (vr1024 I 5), k0_pay107 v880 v1046 (kr1024 I 6) (vr1024 I 6), k0_pay108 v880 v1046 (kr1024 I 7)⟩)
      -∗ wp frame (wpE (defs₀ (F := F)) 𝒱₀ (c : Thread nD τ) none) Set.univ (k0_part30 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1153) Q) := by
  rw [k0_part30_eq_skeleton]; unfold k0_part30_skel
  simp only [Prog.lift, Prog.bind_op, Prog.bind_ret, Prog.pure_eq_ret, Prog.bind_assoc]
  iintro HR HQ
  iapply (ld_v1024 c I 5 rfl) $$ HR
  iintro HR
  iapply (ld_k1024 c I 6 rfl) $$ HR
  iintro HR
  iapply (ld_v1024 c I 6 rfl) $$ HR
  iintro HR
  iapply (ld_k1024 c I 7 rfl) $$ HR
  iintro HR
  rw [wp_ret]; imodintro
  iapply HQ; iexact HR

theorem part31_wp {Q : _ → sProp 𝕄} (v874 : BitVec 32) :
    RO c I ⊢ iprop((RO c I -∗ Q ⟨k0_pay110, k0_pay111 v874, k0_pay112 v874, k0_pay113 v874, k0_pay114⟩)
      -∗ wp frame (wpE (defs₀ (F := F)) 𝒱₀ (c : Thread nD τ) none) Set.univ (k0_part31 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v874) Q) := by
  rw [k0_part31_eq_skeleton]; unfold k0_part31_skel
  simp only [Prog.lift, Prog.bind_op, Prog.bind_ret, Prog.pure_eq_ret, Prog.bind_assoc]
  iintro HR HQ
  rw [wp_ret]; imodintro
  iapply HQ; iexact HR

theorem part32_wp {Q : _ → sProp 𝕄} (v880 : FVec F S256x1024 .f32) (v1018 : IVec S256x1536 32) (v1020 : IVec S256x1536 32) (v1034 : IVec S256x1536 1) (v1036 : IVec S256x1536 32) (v1037 : IVec S256x1536 32) :
    RO c I ⊢ iprop((RO c I -∗ Q ⟨k0_pay115 (F := F) v1018 v1020 v1034 v1036 v1037, k0_pay116 v880 v1018 v1020 v1034 v1036 v1037 (kr1536 I 0) (vr1536 I 0), k0_pay117 v880 v1018 v1020 v1034 v1036 v1037 (kr1536 I 1)⟩)
      -∗ wp frame (wpE (defs₀ (F := F)) 𝒱₀ (c : Thread nD τ) none) Set.univ (k0_part32 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1018 v1020 v1034 v1036 v1037) Q) := by
  rw [k0_part32_eq_skeleton]; unfold k0_part32_skel
  simp only [Prog.lift, Prog.bind_op, Prog.bind_ret, Prog.pure_eq_ret, Prog.bind_assoc]
  iintro HR HQ
  iapply (ld_k1536 c I 0 rfl) $$ HR
  iintro HR
  iapply (ld_v1536 c I 0 rfl) $$ HR
  iintro HR
  iapply (ld_k1536 c I 1 rfl) $$ HR
  iintro HR
  rw [wp_ret]; imodintro
  iapply HQ; iexact HR

theorem part33_wp {Q : _ → sProp 𝕄} (v880 : FVec F S256x1024 .f32) (v1046 : FVec F S256x1536 .f32) (v1077 : FVec F S256x1536 .f32) :
    RO c I ⊢ iprop((RO c I -∗ Q ⟨k0_pay118 v1077 (vr1536 I 1), k0_pay119 v880 v1046 (kr1536 I 2) (vr1536 I 2), k0_pay120 v880 v1046 (kr1536 I 3)⟩)
      -∗ wp frame (wpE (defs₀ (F := F)) 𝒱₀ (c : Thread nD τ) none) Set.univ (k0_part33 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1077) Q) := by
  rw [k0_part33_eq_skeleton]; unfold k0_part33_skel
  simp only [Prog.lift, Prog.bind_op, Prog.bind_ret, Prog.pure_eq_ret, Prog.bind_assoc]
  iintro HR HQ
  iapply (ld_v1536 c I 1 rfl) $$ HR
  iintro HR
  iapply (ld_k1536 c I 2 rfl) $$ HR
  iintro HR
  iapply (ld_v1536 c I 2 rfl) $$ HR
  iintro HR
  iapply (ld_k1536 c I 3 rfl) $$ HR
  iintro HR
  rw [wp_ret]; imodintro
  iapply HQ; iexact HR

theorem part34_wp {Q : _ → sProp 𝕄} (v880 : FVec F S256x1024 .f32) (v1046 : FVec F S256x1536 .f32) (v1115 : FVec F S256x1536 .f32) :
    RO c I ⊢ iprop((RO c I -∗ Q ⟨k0_pay121 v1115 (vr1536 I 3), k0_pay122 v880 v1046 (kr1536 I 4) (vr1536 I 4), k0_pay123 v880 v1046 (kr1536 I 5)⟩)
      -∗ wp frame (wpE (defs₀ (F := F)) 𝒱₀ (c : Thread nD τ) none) Set.univ (k0_part34 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1115) Q) := by
  rw [k0_part34_eq_skeleton]; unfold k0_part34_skel
  simp only [Prog.lift, Prog.bind_op, Prog.bind_ret, Prog.pure_eq_ret, Prog.bind_assoc]
  iintro HR HQ
  iapply (ld_v1536 c I 3 rfl) $$ HR
  iintro HR
  iapply (ld_k1536 c I 4 rfl) $$ HR
  iintro HR
  iapply (ld_v1536 c I 4 rfl) $$ HR
  iintro HR
  iapply (ld_k1536 c I 5 rfl) $$ HR
  iintro HR
  rw [wp_ret]; imodintro
  iapply HQ; iexact HR

theorem part35_wp {Q : _ → sProp 𝕄} (v880 : FVec F S256x1024 .f32) (v1046 : FVec F S256x1536 .f32) (v1153 : FVec F S256x1536 .f32) :
    RO c I ⊢ iprop((RO c I -∗ Q ⟨k0_pay124 v1153 (vr1536 I 5), k0_pay125 v880 v1046 (kr1536 I 6) (vr1536 I 6), k0_pay126 v880 v1046 (kr1536 I 7)⟩)
      -∗ wp frame (wpE (defs₀ (F := F)) 𝒱₀ (c : Thread nD τ) none) Set.univ (k0_part35 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1153) Q) := by
  rw [k0_part35_eq_skeleton]; unfold k0_part35_skel
  simp only [Prog.lift, Prog.bind_op, Prog.bind_ret, Prog.pure_eq_ret, Prog.bind_assoc]
  iintro HR HQ
  iapply (ld_v1536 c I 5 rfl) $$ HR
  iintro HR
  iapply (ld_k1536 c I 6 rfl) $$ HR
  iintro HR
  iapply (ld_v1536 c I 6 rfl) $$ HR
  iintro HR
  iapply (ld_k1536 c I 7 rfl) $$ HR
  iintro HR
  rw [wp_ret]; imodintro
  iapply HQ; iexact HR

theorem part36_wp {Q : _ → sProp 𝕄} (v874 : BitVec 32) :
    RO c I ⊢ iprop((RO c I -∗ Q ⟨k0_pay128, k0_pay129 v874, k0_pay130 v874, k0_pay131 v874, k0_pay132⟩)
      -∗ wp frame (wpE (defs₀ (F := F)) 𝒱₀ (c : Thread nD τ) none) Set.univ (k0_part36 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v874) Q) := by
  rw [k0_part36_eq_skeleton]; unfold k0_part36_skel
  simp only [Prog.lift, Prog.bind_op, Prog.bind_ret, Prog.pure_eq_ret, Prog.bind_assoc]
  iintro HR HQ
  rw [wp_ret]; imodintro
  iapply HQ; iexact HR

theorem part37_wp {Q : _ → sProp 𝕄} (v880 : FVec F S256x1024 .f32) (v1018 : IVec S256x2048 32) (v1020 : IVec S256x2048 32) (v1034 : IVec S256x2048 1) (v1036 : IVec S256x2048 32) (v1037 : IVec S256x2048 32) :
    RO c I ⊢ iprop((RO c I -∗ Q ⟨k0_pay133 (F := F) v1018 v1020 v1034 v1036 v1037, k0_pay134 v880 v1018 v1020 v1034 v1036 v1037 (kr2048 I 0) (vr2048 I 0), k0_pay135 v880 v1018 v1020 v1034 v1036 v1037 (kr2048 I 1)⟩)
      -∗ wp frame (wpE (defs₀ (F := F)) 𝒱₀ (c : Thread nD τ) none) Set.univ (k0_part37 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1018 v1020 v1034 v1036 v1037) Q) := by
  rw [k0_part37_eq_skeleton]; unfold k0_part37_skel
  simp only [Prog.lift, Prog.bind_op, Prog.bind_ret, Prog.pure_eq_ret, Prog.bind_assoc]
  iintro HR HQ
  iapply (ld_k2048 c I 0 rfl) $$ HR
  iintro HR
  iapply (ld_v2048 c I 0 rfl) $$ HR
  iintro HR
  iapply (ld_k2048 c I 1 rfl) $$ HR
  iintro HR
  rw [wp_ret]; imodintro
  iapply HQ; iexact HR

theorem part38_wp {Q : _ → sProp 𝕄} (v880 : FVec F S256x1024 .f32) (v1046 : FVec F S256x2048 .f32) (v1077 : FVec F S256x2048 .f32) :
    RO c I ⊢ iprop((RO c I -∗ Q ⟨k0_pay136 v1077 (vr2048 I 1), k0_pay137 v880 v1046 (kr2048 I 2) (vr2048 I 2), k0_pay138 v880 v1046 (kr2048 I 3)⟩)
      -∗ wp frame (wpE (defs₀ (F := F)) 𝒱₀ (c : Thread nD τ) none) Set.univ (k0_part38 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1077) Q) := by
  rw [k0_part38_eq_skeleton]; unfold k0_part38_skel
  simp only [Prog.lift, Prog.bind_op, Prog.bind_ret, Prog.pure_eq_ret, Prog.bind_assoc]
  iintro HR HQ
  iapply (ld_v2048 c I 1 rfl) $$ HR
  iintro HR
  iapply (ld_k2048 c I 2 rfl) $$ HR
  iintro HR
  iapply (ld_v2048 c I 2 rfl) $$ HR
  iintro HR
  iapply (ld_k2048 c I 3 rfl) $$ HR
  iintro HR
  rw [wp_ret]; imodintro
  iapply HQ; iexact HR

theorem part39_wp {Q : _ → sProp 𝕄} (v880 : FVec F S256x1024 .f32) (v1046 : FVec F S256x2048 .f32) (v1115 : FVec F S256x2048 .f32) :
    RO c I ⊢ iprop((RO c I -∗ Q ⟨k0_pay139 v1115 (vr2048 I 3), k0_pay140 v880 v1046 (kr2048 I 4) (vr2048 I 4), k0_pay141 v880 v1046 (kr2048 I 5)⟩)
      -∗ wp frame (wpE (defs₀ (F := F)) 𝒱₀ (c : Thread nD τ) none) Set.univ (k0_part39 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1115) Q) := by
  rw [k0_part39_eq_skeleton]; unfold k0_part39_skel
  simp only [Prog.lift, Prog.bind_op, Prog.bind_ret, Prog.pure_eq_ret, Prog.bind_assoc]
  iintro HR HQ
  iapply (ld_v2048 c I 3 rfl) $$ HR
  iintro HR
  iapply (ld_k2048 c I 4 rfl) $$ HR
  iintro HR
  iapply (ld_v2048 c I 4 rfl) $$ HR
  iintro HR
  iapply (ld_k2048 c I 5 rfl) $$ HR
  iintro HR
  rw [wp_ret]; imodintro
  iapply HQ; iexact HR

theorem part40_wp {Q : _ → sProp 𝕄} (v880 : FVec F S256x1024 .f32) (v1046 : FVec F S256x2048 .f32) (v1153 : FVec F S256x2048 .f32) :
    RO c I ⊢ iprop((RO c I -∗ Q ⟨k0_pay142 v1153 (vr2048 I 5), k0_pay143 v880 v1046 (kr2048 I 6) (vr2048 I 6), k0_pay144 v880 v1046 (kr2048 I 7)⟩)
      -∗ wp frame (wpE (defs₀ (F := F)) 𝒱₀ (c : Thread nD τ) none) Set.univ (k0_part40 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v880 v1046 v1153) Q) := by
  rw [k0_part40_eq_skeleton]; unfold k0_part40_skel
  simp only [Prog.lift, Prog.bind_op, Prog.bind_ret, Prog.pure_eq_ret, Prog.bind_assoc]
  iintro HR HQ
  iapply (ld_v2048 c I 5 rfl) $$ HR
  iintro HR
  iapply (ld_k2048 c I 6 rfl) $$ HR
  iintro HR
  iapply (ld_v2048 c I 6 rfl) $$ HR
  iintro HR
  iapply (ld_k2048 c I 7 rfl) $$ HR
  iintro HR
  rw [wp_ret]; imodintro
  iapply HQ; iexact HR

end Parts

end Cert.Attn
-- ==== Proof.Attn.lean ====
module

public import proofs.«01_k».proof.Proof.PartsA
public import proofs.«01_k».proof.Proof.PartsB

@[expose] public section

/-! One chunk's attention as a value, and the parts that compute it. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]

local notation "𝕄" => MT nD τ sig Unit (Elt F) ℕ UU ℕ

/-! ## The values of one chunk -/

/-- The mask of the rows from `w` on over the first 512 columns. -/
def bias512 (w : BitVec 32) : FVec F S256x512 .f32 := k0_pay7 k0_pay2 (k0_pay3 w) (k0_pay4 w) (k0_pay5 w) k0_pay6
/-- The product with the output weights of the eight heads' attention over the first 512 keys, from the projected rows `q`. -/
def attn512 (I : Ins F) (q : FVec F S256x1024 .f32) (w : BitVec 32) : FVec F S256x1024 .f32 :=
  k0_pay154 (k0_pay8 q k0_pay2 (k0_pay3 w) (k0_pay4 w) (k0_pay5 w) k0_pay6 (kr512 I 0) (vr512 I 0)) (k0_pay10 (k0_pay9 q k0_pay2 (k0_pay3 w) (k0_pay4 w) (k0_pay5 w) k0_pay6 (kr512 I 1)) (vr512 I 1)) (k0_pay11 q (bias512 w) (kr512 I 2) (vr512 I 2)) (k0_pay13 (k0_pay12 q (bias512 w) (kr512 I 3)) (vr512 I 3)) (k0_pay14 q (bias512 w) (kr512 I 4) (vr512 I 4)) (k0_pay16 (k0_pay15 q (bias512 w) (kr512 I 5)) (vr512 I 5)) (k0_pay17 q (bias512 w) (kr512 I 6) (vr512 I 6)) (k0_pay18 q (bias512 w) (kr512 I 7)) (vr512 I 7) I.wo

theorem attn512_loop (I : Ins F) (q : FVec F S256x1024 .f32) (w : BitVec 32) :
    k0_pay147 (k0_pay80 q k0_pay74 (k0_pay75 w) (k0_pay76 w) (k0_pay77 w) k0_pay78 (kr512 I 0) (vr512 I 0)) (k0_pay82 (k0_pay81 q k0_pay74 (k0_pay75 w) (k0_pay76 w) (k0_pay77 w) k0_pay78 (kr512 I 1)) (vr512 I 1)) (k0_pay83 q (k0_pay79 k0_pay74 (k0_pay75 w) (k0_pay76 w) (k0_pay77 w) k0_pay78) (kr512 I 2) (vr512 I 2)) (k0_pay85 (k0_pay84 q (k0_pay79 k0_pay74 (k0_pay75 w) (k0_pay76 w) (k0_pay77 w) k0_pay78) (kr512 I 3)) (vr512 I 3)) (k0_pay86 q (k0_pay79 k0_pay74 (k0_pay75 w) (k0_pay76 w) (k0_pay77 w) k0_pay78) (kr512 I 4) (vr512 I 4)) (k0_pay88 (k0_pay87 q (k0_pay79 k0_pay74 (k0_pay75 w) (k0_pay76 w) (k0_pay77 w) k0_pay78) (kr512 I 5)) (vr512 I 5)) (k0_pay89 q (k0_pay79 k0_pay74 (k0_pay75 w) (k0_pay76 w) (k0_pay77 w) k0_pay78) (kr512 I 6) (vr512 I 6)) (k0_pay90 q (k0_pay79 k0_pay74 (k0_pay75 w) (k0_pay76 w) (k0_pay77 w) k0_pay78) (kr512 I 7)) (vr512 I 7) I.wo = attn512 I q w := rfl

/-- The mask of the rows from `w` on over the first 1024 columns. -/
def bias1024 (w : BitVec 32) : FVec F S256x1024 .f32 := k0_pay25 k0_pay20 (k0_pay21 w) (k0_pay22 w) (k0_pay23 w) k0_pay24
/-- The product with the output weights of the eight heads' attention over the first 1024 keys, from the projected rows `q`. -/
def attn1024 (I : Ins F) (q : FVec F S256x1024 .f32) (w : BitVec 32) : FVec F S256x1024 .f32 :=
  k0_pay155 (k0_pay26 q k0_pay20 (k0_pay21 w) (k0_pay22 w) (k0_pay23 w) k0_pay24 (kr1024 I 0) (vr1024 I 0)) (k0_pay28 (k0_pay27 q k0_pay20 (k0_pay21 w) (k0_pay22 w) (k0_pay23 w) k0_pay24 (kr1024 I 1)) (vr1024 I 1)) (k0_pay29 q (bias1024 w) (kr1024 I 2) (vr1024 I 2)) (k0_pay31 (k0_pay30 q (bias1024 w) (kr1024 I 3)) (vr1024 I 3)) (k0_pay32 q (bias1024 w) (kr1024 I 4) (vr1024 I 4)) (k0_pay34 (k0_pay33 q (bias1024 w) (kr1024 I 5)) (vr1024 I 5)) (k0_pay35 q (bias1024 w) (kr1024 I 6) (vr1024 I 6)) (k0_pay36 q (bias1024 w) (kr1024 I 7)) (vr1024 I 7) I.wo

theorem attn1024_loop (I : Ins F) (q : FVec F S256x1024 .f32) (w : BitVec 32) :
    k0_pay148 (k0_pay98 q k0_pay92 (k0_pay93 w) (k0_pay94 w) (k0_pay95 w) k0_pay96 (kr1024 I 0) (vr1024 I 0)) (k0_pay100 (k0_pay99 q k0_pay92 (k0_pay93 w) (k0_pay94 w) (k0_pay95 w) k0_pay96 (kr1024 I 1)) (vr1024 I 1)) (k0_pay101 q (k0_pay97 k0_pay92 (k0_pay93 w) (k0_pay94 w) (k0_pay95 w) k0_pay96) (kr1024 I 2) (vr1024 I 2)) (k0_pay103 (k0_pay102 q (k0_pay97 k0_pay92 (k0_pay93 w) (k0_pay94 w) (k0_pay95 w) k0_pay96) (kr1024 I 3)) (vr1024 I 3)) (k0_pay104 q (k0_pay97 k0_pay92 (k0_pay93 w) (k0_pay94 w) (k0_pay95 w) k0_pay96) (kr1024 I 4) (vr1024 I 4)) (k0_pay106 (k0_pay105 q (k0_pay97 k0_pay92 (k0_pay93 w) (k0_pay94 w) (k0_pay95 w) k0_pay96) (kr1024 I 5)) (vr1024 I 5)) (k0_pay107 q (k0_pay97 k0_pay92 (k0_pay93 w) (k0_pay94 w) (k0_pay95 w) k0_pay96) (kr1024 I 6) (vr1024 I 6)) (k0_pay108 q (k0_pay97 k0_pay92 (k0_pay93 w) (k0_pay94 w) (k0_pay95 w) k0_pay96) (kr1024 I 7)) (vr1024 I 7) I.wo = attn1024 I q w := rfl

/-- The mask of the rows from `w` on over the first 1536 columns. -/
def bias1536 (w : BitVec 32) : FVec F S256x1536 .f32 := k0_pay43 k0_pay38 (k0_pay39 w) (k0_pay40 w) (k0_pay41 w) k0_pay42
/-- The product with the output weights of the eight heads' attention over the first 1536 keys, from the projected rows `q`. -/
def attn1536 (I : Ins F) (q : FVec F S256x1024 .f32) (w : BitVec 32) : FVec F S256x1024 .f32 :=
  k0_pay156 (k0_pay44 q k0_pay38 (k0_pay39 w) (k0_pay40 w) (k0_pay41 w) k0_pay42 (kr1536 I 0) (vr1536 I 0)) (k0_pay46 (k0_pay45 q k0_pay38 (k0_pay39 w) (k0_pay40 w) (k0_pay41 w) k0_pay42 (kr1536 I 1)) (vr1536 I 1)) (k0_pay47 q (bias1536 w) (kr1536 I 2) (vr1536 I 2)) (k0_pay49 (k0_pay48 q (bias1536 w) (kr1536 I 3)) (vr1536 I 3)) (k0_pay50 q (bias1536 w) (kr1536 I 4) (vr1536 I 4)) (k0_pay52 (k0_pay51 q (bias1536 w) (kr1536 I 5)) (vr1536 I 5)) (k0_pay53 q (bias1536 w) (kr1536 I 6) (vr1536 I 6)) (k0_pay54 q (bias1536 w) (kr1536 I 7)) (vr1536 I 7) I.wo

theorem attn1536_loop (I : Ins F) (q : FVec F S256x1024 .f32) (w : BitVec 32) :
    k0_pay149 (k0_pay116 q k0_pay110 (k0_pay111 w) (k0_pay112 w) (k0_pay113 w) k0_pay114 (kr1536 I 0) (vr1536 I 0)) (k0_pay118 (k0_pay117 q k0_pay110 (k0_pay111 w) (k0_pay112 w) (k0_pay113 w) k0_pay114 (kr1536 I 1)) (vr1536 I 1)) (k0_pay119 q (k0_pay115 k0_pay110 (k0_pay111 w) (k0_pay112 w) (k0_pay113 w) k0_pay114) (kr1536 I 2) (vr1536 I 2)) (k0_pay121 (k0_pay120 q (k0_pay115 k0_pay110 (k0_pay111 w) (k0_pay112 w) (k0_pay113 w) k0_pay114) (kr1536 I 3)) (vr1536 I 3)) (k0_pay122 q (k0_pay115 k0_pay110 (k0_pay111 w) (k0_pay112 w) (k0_pay113 w) k0_pay114) (kr1536 I 4) (vr1536 I 4)) (k0_pay124 (k0_pay123 q (k0_pay115 k0_pay110 (k0_pay111 w) (k0_pay112 w) (k0_pay113 w) k0_pay114) (kr1536 I 5)) (vr1536 I 5)) (k0_pay125 q (k0_pay115 k0_pay110 (k0_pay111 w) (k0_pay112 w) (k0_pay113 w) k0_pay114) (kr1536 I 6) (vr1536 I 6)) (k0_pay126 q (k0_pay115 k0_pay110 (k0_pay111 w) (k0_pay112 w) (k0_pay113 w) k0_pay114) (kr1536 I 7)) (vr1536 I 7) I.wo = attn1536 I q w := rfl

/-- The mask of the rows from `w` on over the first 2048 columns. -/
def bias2048 (w : BitVec 32) : FVec F S256x2048 .f32 := k0_pay61 k0_pay56 (k0_pay57 w) (k0_pay58 w) (k0_pay59 w) k0_pay60
/-- The product with the output weights of the eight heads' attention over the first 2048 keys, from the projected rows `q`. -/
def attn2048 (I : Ins F) (q : FVec F S256x1024 .f32) (w : BitVec 32) : FVec F S256x1024 .f32 :=
  k0_pay157 (k0_pay62 q k0_pay56 (k0_pay57 w) (k0_pay58 w) (k0_pay59 w) k0_pay60 (kr2048 I 0) (vr2048 I 0)) (k0_pay64 (k0_pay63 q k0_pay56 (k0_pay57 w) (k0_pay58 w) (k0_pay59 w) k0_pay60 (kr2048 I 1)) (vr2048 I 1)) (k0_pay65 q (bias2048 w) (kr2048 I 2) (vr2048 I 2)) (k0_pay67 (k0_pay66 q (bias2048 w) (kr2048 I 3)) (vr2048 I 3)) (k0_pay68 q (bias2048 w) (kr2048 I 4) (vr2048 I 4)) (k0_pay70 (k0_pay69 q (bias2048 w) (kr2048 I 5)) (vr2048 I 5)) (k0_pay71 q (bias2048 w) (kr2048 I 6) (vr2048 I 6)) (k0_pay72 q (bias2048 w) (kr2048 I 7)) (vr2048 I 7) I.wo

theorem attn2048_loop (I : Ins F) (q : FVec F S256x1024 .f32) (w : BitVec 32) :
    k0_pay150 (k0_pay134 q k0_pay128 (k0_pay129 w) (k0_pay130 w) (k0_pay131 w) k0_pay132 (kr2048 I 0) (vr2048 I 0)) (k0_pay136 (k0_pay135 q k0_pay128 (k0_pay129 w) (k0_pay130 w) (k0_pay131 w) k0_pay132 (kr2048 I 1)) (vr2048 I 1)) (k0_pay137 q (k0_pay133 k0_pay128 (k0_pay129 w) (k0_pay130 w) (k0_pay131 w) k0_pay132) (kr2048 I 2) (vr2048 I 2)) (k0_pay139 (k0_pay138 q (k0_pay133 k0_pay128 (k0_pay129 w) (k0_pay130 w) (k0_pay131 w) k0_pay132) (kr2048 I 3)) (vr2048 I 3)) (k0_pay140 q (k0_pay133 k0_pay128 (k0_pay129 w) (k0_pay130 w) (k0_pay131 w) k0_pay132) (kr2048 I 4) (vr2048 I 4)) (k0_pay142 (k0_pay141 q (k0_pay133 k0_pay128 (k0_pay129 w) (k0_pay130 w) (k0_pay131 w) k0_pay132) (kr2048 I 5)) (vr2048 I 5)) (k0_pay143 q (k0_pay133 k0_pay128 (k0_pay129 w) (k0_pay130 w) (k0_pay131 w) k0_pay132) (kr2048 I 6) (vr2048 I 6)) (k0_pay144 q (k0_pay133 k0_pay128 (k0_pay129 w) (k0_pay130 w) (k0_pay131 w) k0_pay132) (kr2048 I 7)) (vr2048 I 7) I.wo = attn2048 I q w := rfl

/-- The projected rows of chunk `q`. -/
def qv (I : Ins F) (q : Fin 8) : FVec F S256x1024 .f32 := k0_pay153 (xr I q) I.wq
theorem qv_loop (I : Ins F) (q : Fin 8) : k0_pay146 (k0_pay145 (xr I q)) I.wq = qv I q := rfl
abbrev rw0 (q : Fin 8) : BitVec 32 := BitVec.ofNat 32 (256 * q.val)
/-- One device's share of chunk `q` of the result. -/
def chunkO (I : Ins F) (q : Fin 8) : FVec F S256x1024 .f32 :=
  if q.val / 2 = 0 then attn512 I (qv I q) (rw0 q) else if q.val / 2 = 1 then attn1024 I (qv I q) (rw0 q)
  else if q.val / 2 = 2 then attn1536 I (qv I q) (rw0 q) else attn2048 I (qv I q) (rw0 q)
theorem chunkO_0 (I : Ins F) {q : Fin 8} (h : q.val / 2 = 0) : chunkO I q = attn512 I (qv I q) (rw0 q) := if_pos h
theorem chunkO_1 (I : Ins F) {q : Fin 8} (h : q.val / 2 = 1) : chunkO I q = attn1024 I (qv I q) (rw0 q) :=
  (if_neg (by omega)).trans (if_pos h)
theorem chunkO_2 (I : Ins F) {q : Fin 8} (h : q.val / 2 = 2) : chunkO I q = attn1536 I (qv I q) (rw0 q) :=
  (if_neg (by omega)).trans ((if_neg (by omega)).trans (if_pos h))
theorem chunkO_3 (I : Ins F) {q : Fin 8} (h : q.val / 2 = 3) : chunkO I q = attn2048 I (qv I q) (rw0 q) :=
  (if_neg (by omega)).trans ((if_neg (by omega)).trans (if_neg (by omega)))

/-! ## Which chunk, and where -/

/-- The chunk computed in trip `t` (from 0). -/
def ch (t : ℕ) (c : Dev nD) : Fin 8 :=
  ⟨(if t % 2 = 0 then c.val + t / 2 + 1 else c.val + 8 - (t + 1) / 2) % 8, Nat.mod_lt _ (by decide)⟩

theorem cond1_iff : ∀ c : Dev nD, k0_cond1 c = 1#1 ↔ c.val / 2 = 0 := by decide +kernel
theorem cond2_iff : ∀ c : Dev nD, k0_cond2 c = 1#1 ↔ c.val / 2 = 1 := by decide +kernel
theorem cond3_iff : ∀ c : Dev nD, k0_cond3 c = 1#1 ↔ c.val / 2 = 2 := by decide +kernel
theorem cond4_iff : ∀ c : Dev nD, k0_cond4 c = 1#1 ↔ c.val / 2 = 3 := by decide +kernel
theorem cond5_iff : ∀ (c : Dev nD) (t : Fin k0_t1_loop.trips), k0_cond5 c t = 1#1 ↔ (ch t.val c).val / 2 = 0 := by decide +kernel
theorem cond6_iff : ∀ (c : Dev nD) (t : Fin k0_t1_loop.trips), k0_cond6 c t = 1#1 ↔ (ch t.val c).val / 2 = 1 := by decide +kernel
theorem cond7_iff : ∀ (c : Dev nD) (t : Fin k0_t1_loop.trips), k0_cond7 c t = 1#1 ↔ (ch t.val c).val / 2 = 2 := by decide +kernel
theorem cond8_iff : ∀ (c : Dev nD) (t : Fin k0_t1_loop.trips), k0_cond8 c t = 1#1 ↔ (ch t.val c).val / 2 = 3 := by decide +kernel
theorem cond9_iff : ∀ t : Fin k0_t1_loop.trips, k0_cond9 t = 1#1 ↔ t.val % 2 = 0 := by decide +kernel
theorem cond10_iff : ∀ t : Fin k0_t1_loop.trips, k0_cond10 t = 1#1 ↔ t.val % 2 = 1 := by decide +kernel

theorem off8_eq : ∀ (c : Dev nD) (t : Fin k0_t1_loop.trips), k0_off8 c t = ![256 * (ch t.val c).val, 0] := by decide +kernel
theorem off9_eq : ∀ (c : Dev nD) (t : Fin k0_t1_loop.trips), k0_off9 c t = ![256 * (ch t.val c).val, 0] := by decide +kernel
theorem off10_eq : ∀ (c : Dev nD) (t : Fin k0_t1_loop.trips), k0_off10 c t = ![256 * (ch t.val c).val, 0] := by decide +kernel
theorem off11_eq : ∀ (c : Dev nD) (t : Fin k0_t1_loop.trips), k0_off11 c t = ![256 * (ch t.val c).val, 0] := by decide +kernel
theorem off12_eq : ∀ (c : Dev nD) (t : Fin k0_t1_loop.trips), k0_off12 c t = ![256 * (ch t.val c).val, 0] := by decide +kernel
theorem off17_eq : ∀ (c : Dev nD) (t : Fin k0_t1_loop.trips), k0_off17 c t = ![256 * (ch t.val c).val, 512 * (0 : Fin 2).val] := by decide +kernel
theorem off24_eq : ∀ (c : Dev nD) (t : Fin k0_t1_loop.trips), k0_off24 c t = ![256 * (ch t.val c).val, 512 * (1 : Fin 2).val] := by decide +kernel

section Blocks

variable (c : Dev nD) (I : Ins F)

theorem part48_wp {Q : _ → sProp 𝕄} (f : FVec F S2048x1024 .f32) (v2 : BitVec 32) (c2_i32_12 : BitVec 32) (v20 : BitVec 32) (v25 : BitVec 32) (v30 : BitVec 32) :
    iprop(RO c I ∗ Out c f) ⊢ iprop((∀ r, (RO c I ∗ Out c (if c.val / 2 < 2 then putR f c (chunkO I c) else f)) -∗ Q r)
      -∗ wp frame (wpE (defs₀ (F := F)) 𝒱₀ (c : Thread nD τ) none) Set.univ (k0_part48 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 (rw0 c) (qv I c) c2_i32_12 v20 v25 v30) Q) := by
  rw [k0_part48_eq_skeleton]; unfold k0_part48_skel
  by_cases h1 : k0_cond1 c = 1#1
  · have e1 := (cond1_iff c).1 h1
    have h2 : ¬ k0_cond2 c = 1#1 := fun h => by have := (cond2_iff c).1 h; omega
    simp only [dif_pos h1, dif_neg h2, Prog.lift, Prog.bind_op, Prog.bind_ret, Prog.pure_eq_ret, Prog.bind_assoc]
    rw [if_pos (by omega : c.val / 2 < 2), chunkO_0 I e1]
    unfold attn512 bias512
    iintro ⟨HR, HO⟩ HQ
    rw [wp_bind]; iapply (part1_wp c I _ ) $$ HR
    iintro HR
    dsimp only
    rw [wp_bind]; iapply (part2_wp c I _ _ _ _ _ _ ) $$ HR
    iintro HR
    dsimp only
    rw [wp_bind]; iapply (part3_wp c I _ _ _ ) $$ HR
    iintro HR
    dsimp only
    rw [wp_bind]; iapply (part4_wp c I _ _ _ ) $$ HR
    iintro HR
    dsimp only
    rw [wp_bind]; iapply (part5_wp c I _ _ _ ) $$ HR
    iintro HR
    dsimp only
    iapply (ld_v512 c I 7 rfl) $$ HR
    iintro HR
    iapply (ld_wo c I) $$ HR
    iintro HR
    iapply (ld_out_any c f) $$ HO
    iintro HO; iintro %_
    iapply (st_outR c f c _ (k0_off2_eq c)) $$ HO
    iintro HO
    rw [wp_ret]; imodintro
    ispecialize HQ $$ %_
    iapply HQ
    isplitl [HR]; · iexact HR
    iexact HO
  by_cases h2 : k0_cond2 c = 1#1
  · have e2 := (cond2_iff c).1 h2
    simp only [dif_neg h1, dif_pos h2, Prog.lift, Prog.bind_op, Prog.bind_ret, Prog.pure_eq_ret, Prog.bind_assoc]
    rw [if_pos (by omega : c.val / 2 < 2), chunkO_1 I e2]
    unfold attn1024 bias1024
    iintro ⟨HR, HO⟩ HQ
    rw [wp_bind]; iapply (part6_wp c I _ ) $$ HR
    iintro HR
    dsimp only
    rw [wp_bind]; iapply (part7_wp c I _ _ _ _ _ _ ) $$ HR
    iintro HR
    dsimp only
    rw [wp_bind]; iapply (part8_wp c I _ _ _ ) $$ HR
    iintro HR
    dsimp only
    rw [wp_bind]; iapply (part9_wp c I _ _ _ ) $$ HR
    iintro HR
    dsimp only
    rw [wp_bind]; iapply (part10_wp c I _ _ _ ) $$ HR
    iintro HR
    dsimp only
    iapply (ld_v1024 c I 7 rfl) $$ HR
    iintro HR
    iapply (ld_wo c I) $$ HR
    iintro HR
    iapply (ld_out_any c f) $$ HO
    iintro HO; iintro %_
    iapply (st_outR c f c _ (k0_off3_eq c)) $$ HO
    iintro HO
    rw [wp_ret]; imodintro
    ispecialize HQ $$ %_
    iapply HQ
    isplitl [HR]; · iexact HR
    iexact HO
  · have n1 : ¬ c.val / 2 = 0 := fun h => h1 ((cond1_iff c).2 h)
    have n2 : ¬ c.val / 2 = 1 := fun h => h2 ((cond2_iff c).2 h)
    have hc : c.val < 8 := c.isLt
    simp only [dif_neg h1, dif_neg h2, Prog.lift, Prog.bind_op, Prog.bind_ret, Prog.pure_eq_ret, Prog.bind_assoc]
    rw [if_neg (by omega : ¬ c.val / 2 < 2)]
    iintro ⟨HR, HO⟩ HQ
    rw [wp_ret]; imodintro
    ispecialize HQ $$ %_
    iapply HQ
    isplitl [HR]; · iexact HR
    iexact HO

theorem part49_wp {Q : _ → sProp 𝕄} (f : FVec F S2048x1024 .f32) (v2 : BitVec 32) (c2_i32_32 : BitVec 32) (v62 : BitVec 32) (v67 : BitVec 32) (v69 : BitVec 32) :
    iprop(RO c I ∗ Out c f) ⊢ iprop(((RO c I ∗ Out c (if c.val / 2 < 2 then f else putR f c (chunkO I c))) -∗ Q (k0_pay158 (getH (if c.val / 2 < 2 then f else putR f c (chunkO I c)) c 0)))
      -∗ wp frame (wpE (defs₀ (F := F)) 𝒱₀ (c : Thread nD τ) none) Set.univ (k0_part49 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 (rw0 c) (qv I c) c2_i32_32 v62 v67 v69) Q) := by
  rw [k0_part49_eq_skeleton]; unfold k0_part49_skel
  by_cases h1 : k0_cond3 c = 1#1
  · have e1 := (cond3_iff c).1 h1
    have h2 : ¬ k0_cond4 c = 1#1 := fun h => by have := (cond4_iff c).1 h; omega
    simp only [dif_pos h1, dif_neg h2, Prog.lift, Prog.bind_op, Prog.bind_ret, Prog.pure_eq_ret, Prog.bind_assoc]
    rw [if_neg (by omega : ¬ c.val / 2 < 2), chunkO_2 I e1]
    unfold attn1536 bias1536
    iintro ⟨HR, HO⟩ HQ
    rw [wp_bind]; iapply (part11_wp c I _ ) $$ HR
    iintro HR
    dsimp only
    rw [wp_bind]; iapply (part12_wp c I _ _ _ _ _ _ ) $$ HR
    iintro HR
    dsimp only
    rw [wp_bind]; iapply (part13_wp c I _ _ _ ) $$ HR
    iintro HR
    dsimp only
    rw [wp_bind]; iapply (part14_wp c I _ _ _ ) $$ HR
    iintro HR
    dsimp only
    rw [wp_bind]; iapply (part15_wp c I _ _ _ ) $$ HR
    iintro HR
    dsimp only
    iapply (ld_v1536 c I 7 rfl) $$ HR
    iintro HR
    iapply (ld_wo c I) $$ HR
    iintro HR
    iapply (ld_out_any c f) $$ HO
    iintro HO; iintro %_
    iapply (st_outR c f c _ (k0_off4_eq c)) $$ HO
    iintro HO
    iapply (ld_out c _ c 0 ((k0_off6_eq c).trans rfl)) $$ HO
    iintro HO
    rw [wp_ret]; imodintro
    iapply HQ
    isplitl [HR]; · iexact HR
    iexact HO
  by_cases h2 : k0_cond4 c = 1#1
  · have e2 := (cond4_iff c).1 h2
    simp only [dif_neg h1, dif_pos h2, Prog.lift, Prog.bind_op, Prog.bind_ret, Prog.pure_eq_ret, Prog.bind_assoc]
    rw [if_neg (by omega : ¬ c.val / 2 < 2), chunkO_3 I e2]
    unfold attn2048 bias2048
    iintro ⟨HR, HO⟩ HQ
    rw [wp_bind]; iapply (part16_wp c I _ ) $$ HR
    iintro HR
    dsimp only
    rw [wp_bind]; iapply (part17_wp c I _ _ _ _ _ _ ) $$ HR
    iintro HR
    dsimp only
    rw [wp_bind]; iapply (part18_wp c I _ _ _ ) $$ HR
    iintro HR
    dsimp only
    rw [wp_bind]; iapply (part19_wp c I _ _ _ ) $$ HR
    iintro HR
    dsimp only
    rw [wp_bind]; iapply (part20_wp c I _ _ _ ) $$ HR
    iintro HR
    dsimp only
    iapply (ld_v2048 c I 7 rfl) $$ HR
    iintro HR
    iapply (ld_wo c I) $$ HR
    iintro HR
    iapply (ld_out_any c f) $$ HO
    iintro HO; iintro %_
    iapply (st_outR c f c _ (k0_off5_eq c)) $$ HO
    iintro HO
    iapply (ld_out c _ c 0 ((k0_off6_eq c).trans rfl)) $$ HO
    iintro HO
    rw [wp_ret]; imodintro
    iapply HQ
    isplitl [HR]; · iexact HR
    iexact HO
  · have n1 : ¬ c.val / 2 = 2 := fun h => h1 ((cond3_iff c).2 h)
    have n2 : ¬ c.val / 2 = 3 := fun h => h2 ((cond4_iff c).2 h)
    have hc : c.val < 8 := c.isLt
    simp only [dif_neg h1, dif_neg h2, Prog.lift, Prog.bind_op, Prog.bind_ret, Prog.pure_eq_ret, Prog.bind_assoc]
    rw [if_pos (by omega : c.val / 2 < 2)]
    iintro ⟨HR, HO⟩ HQ
    iapply (ld_out c _ c 0 ((k0_off6_eq c).trans rfl)) $$ HO
    iintro HO
    rw [wp_ret]; imodintro
    iapply HQ
    isplitl [HR]; · iexact HR
    iexact HO

theorem part44_wp {Q : _ → sProp 𝕄} (f : FVec F S2048x1024 .f32) (t : Fin k0_t1_loop.trips) (v873 : BitVec 32) :
    iprop(RO c I ∗ Out c f) ⊢ iprop((∀ a b e, (RO c I ∗ Out c (if (ch t.val c).val / 2 = 0 then putR f (ch t.val c) (chunkO I (ch t.val c)) else f)) -∗ Q ⟨qv I (ch t.val c), a, b, e⟩)
      -∗ wp frame (wpE (defs₀ (F := F)) 𝒱₀ (c : Thread nD τ) none) Set.univ (k0_part44 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c t v873 (rw0 (ch t.val c)) (k0_pay145 (xr I (ch t.val c)))) Q) := by
  rw [k0_part44_eq_skeleton]; unfold k0_part44_skel
  by_cases h1 : k0_cond5 c t = 1#1
  · have e1 := (cond5_iff c t).1 h1
    simp only [dif_pos h1, Prog.lift, Prog.bind_op, Prog.bind_ret, Prog.pure_eq_ret, Prog.bind_assoc]
    rw [if_pos e1, chunkO_0 I e1, ← attn512_loop]
    iintro ⟨HR, HO⟩ HQ
    iapply (ld_wq c I) $$ HR
    iintro HR
    rw [qv_loop]
    rw [wp_bind]; iapply (part21_wp c I _ ) $$ HR
    iintro HR
    dsimp only
    rw [wp_bind]; iapply (part22_wp c I _ _ _ _ _ _ ) $$ HR
    iintro HR
    dsimp only
    rw [wp_bind]; iapply (part23_wp c I _ _ _ ) $$ HR
    iintro HR
    dsimp only
    rw [wp_bind]; iapply (part24_wp c I _ _ _ ) $$ HR
    iintro HR
    dsimp only
    rw [wp_bind]; iapply (part25_wp c I _ _ _ ) $$ HR
    iintro HR
    dsimp only
    iapply (ld_v512 c I 7 rfl) $$ HR
    iintro HR
    iapply (ld_wo c I) $$ HR
    iintro HR
    iapply (ld_out_any c f) $$ HO
    iintro HO; iintro %_
    iapply (st_outR c f (ch t.val c) _ (off9_eq c t)) $$ HO
    iintro HO
    rw [wp_ret]; imodintro
    ispecialize HQ $$ %_ %_ %_
    iapply HQ
    isplitl [HR]; · iexact HR
    iexact HO
  · have e1 := fun h => h1 ((cond5_iff c t).2 h)
    simp only [dif_neg h1, Prog.lift, Prog.bind_op, Prog.bind_ret, Prog.pure_eq_ret, Prog.bind_assoc]
    rw [if_neg e1]
    iintro ⟨HR, HO⟩ HQ
    iapply (ld_wq c I) $$ HR
    iintro HR
    rw [qv_loop, wp_ret]; imodintro
    ispecialize HQ $$ %_ %_ %_
    iapply HQ
    isplitl [HR]; · iexact HR
    iexact HO

theorem part45_wp {Q : _ → sProp 𝕄} (f : FVec F S2048x1024 .f32) (t : Fin k0_t1_loop.trips) (v873 v902 v917 : BitVec 32) (v916 : BitVec 1) :
    iprop(RO c I ∗ Out c f) ⊢ iprop((∀ r, (RO c I ∗ Out c (if (ch t.val c).val / 2 = 1 ∨ (ch t.val c).val / 2 = 2 then putR f (ch t.val c) (chunkO I (ch t.val c)) else f)) -∗ Q r)
      -∗ wp frame (wpE (defs₀ (F := F)) 𝒱₀ (c : Thread nD τ) none) Set.univ (k0_part45 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c t v873 (rw0 (ch t.val c)) (qv I (ch t.val c)) v902 v916 v917) Q) := by
  rw [k0_part45_eq_skeleton]; unfold k0_part45_skel
  by_cases h1 : k0_cond6 c t = 1#1
  · have e1 := (cond6_iff c t).1 h1
    have h2 : ¬ k0_cond7 c t = 1#1 := fun h => by have := (cond7_iff c t).1 h; omega
    simp only [dif_pos h1, dif_neg h2, Prog.lift, Prog.bind_op, Prog.bind_ret, Prog.pure_eq_ret, Prog.bind_assoc]
    rw [if_pos (.inl e1), chunkO_1 I e1, ← attn1024_loop]
    iintro ⟨HR, HO⟩ HQ
    rw [wp_bind]; iapply (part26_wp c I _ ) $$ HR
    iintro HR
    dsimp only
    rw [wp_bind]; iapply (part27_wp c I _ _ _ _ _ _ ) $$ HR
    iintro HR
    dsimp only
    rw [wp_bind]; iapply (part28_wp c I _ _ _ ) $$ HR
    iintro HR
    dsimp only
    rw [wp_bind]; iapply (part29_wp c I _ _ _ ) $$ HR
    iintro HR
    dsimp only
    rw [wp_bind]; iapply (part30_wp c I _ _ _ ) $$ HR
    iintro HR
    dsimp only
    iapply (ld_v1024 c I 7 rfl) $$ HR
    iintro HR
    iapply (ld_wo c I) $$ HR
    iintro HR
    iapply (ld_out_any c f) $$ HO
    iintro HO; iintro %_
    iapply (st_outR c f (ch t.val c) _ (off10_eq c t)) $$ HO
    iintro HO
    rw [wp_ret]; imodintro
    ispecialize HQ $$ %_
    iapply HQ
    isplitl [HR]; · iexact HR
    iexact HO
  by_cases h2 : k0_cond7 c t = 1#1
  · have e1 := (cond7_iff c t).1 h2
    simp only [dif_neg h1, dif_pos h2, Prog.lift, Prog.bind_op, Prog.bind_ret, Prog.pure_eq_ret, Prog.bind_assoc]
    rw [if_pos (.inr e1), chunkO_2 I e1, ← attn1536_loop]
    iintro ⟨HR, HO⟩ HQ
    rw [wp_bind]; iapply (part31_wp c I _ ) $$ HR
    iintro HR
    dsimp only
    rw [wp_bind]; iapply (part32_wp c I _ _ _ _ _ _ ) $$ HR
    iintro HR
    dsimp only
    rw [wp_bind]; iapply (part33_wp c I _ _ _ ) $$ HR
    iintro HR
    dsimp only
    rw [wp_bind]; iapply (part34_wp c I _ _ _ ) $$ HR
    iintro HR
    dsimp only
    rw [wp_bind]; iapply (part35_wp c I _ _ _ ) $$ HR
    iintro HR
    dsimp only
    iapply (ld_v1536 c I 7 rfl) $$ HR
    iintro HR
    iapply (ld_wo c I) $$ HR
    iintro HR
    iapply (ld_out_any c f) $$ HO
    iintro HO; iintro %_
    iapply (st_outR c f (ch t.val c) _ (off11_eq c t)) $$ HO
    iintro HO
    rw [wp_ret]; imodintro
    ispecialize HQ $$ %_
    iapply HQ
    isplitl [HR]; · iexact HR
    iexact HO
  · have n1 : ¬ ((ch t.val c).val / 2 = 1 ∨ (ch t.val c).val / 2 = 2) := fun h => h.elim (fun h => h1 ((cond6_iff c t).2 h)) (fun h => h2 ((cond7_iff c t).2 h))
    simp only [dif_neg h1, dif_neg h2, Prog.lift, Prog.bind_op, Prog.bind_ret, Prog.pure_eq_ret, Prog.bind_assoc]
    rw [if_neg n1]
    iintro ⟨HR, HO⟩ HQ
    rw [wp_ret]; imodintro
    ispecialize HQ $$ %_
    iapply HQ
    isplitl [HR]; · iexact HR
    iexact HO

end Blocks

end Cert.Attn
-- ==== Proof.Trip.lean ====
module

public import proofs.«01_k».proof.Proof.Attn
public import proofs.«01_k».proof.Proof.Proto

@[expose] public section

/-! One trip of the ring. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

/-! ## The values that travel -/

section Vals

variable (I : Dev nD → Ins F)

/-- A partial sum and one more device's share of it. -/
def addT (a : SlotT F) (o : FVec F S256x512 .f32) : SlotT F := k0_pay151 a o

/-- Which half of the columns transfer `i` carries. -/
def hb (i : ℕ) : Fin 2 := if i % 2 = 0 then 0 else 1

/-- What device `c` sends in its transfer `n`. -/
def Vn : ℕ → Dev nD → SlotT F
  | 0, c => k0_pay159 (k0_pay158 (colH (chunkO (I c) c) 0))
  | 1, c => k0_pay160 (colH (chunkO (I c) c) 1)
  | n + 2, c =>
    let p := if h : n < 28 then Vn n (frm ⟨n, h⟩ c) else Vn n c
    if n < 14 then addT p (colH (chunkO (I c) (ch n c)) (hb n)) else p
def Vv (i : Fin 28) (c : Dev nD) : SlotT F := Vn I i.val c

theorem Vv_add (i : Fin 28) (h : i.val + 2 < 28) (hi : i.val < 14) (c : Dev nD) :
    Vv I ⟨i.val + 2, h⟩ c = addT (Vv I i (frm i c)) (colH (chunkO (I c) (ch i.val c)) (hb i.val)) := by
  show Vn I (i.val + 2) c = _
  rw [Vn]
  simp only [dif_pos i.isLt, if_pos hi]
  rfl
theorem Vv_fwd (i : Fin 28) (h : i.val + 2 < 28) (hi : 14 ≤ i.val) (c : Dev nD) :
    Vv I ⟨i.val + 2, h⟩ c = Vv I i (frm i c) := by
  show Vn I (i.val + 2) c = _
  rw [Vn]
  simp only [dif_pos i.isLt, if_neg (Nat.not_lt.mpr hi)]
  rfl

/-- The chunks of the first `n` trips are in `f`. -/
def Good (I : Ins F) (c : Dev nD) (n : ℕ) (f : FVec F S2048x1024 .f32) : Prop :=
  ∀ j, j < n → ∀ h : Fin 2, getH f (ch j c) h = colH (chunkO I (ch j c)) h
theorem good_zero (I : Ins F) (c : Dev nD) (f : FVec F S2048x1024 .f32) : Good I c 0 f := fun j hj => absurd hj (Nat.not_lt_zero j)
theorem good_put (I : Ins F) (c : Dev nD) (n : ℕ) (f : FVec F S2048x1024 .f32) (hf : Good I c n f) :
    Good I c (n + 1) (putR f (ch n c) (chunkO I (ch n c))) := by
  intro j hj h
  by_cases e : ch j c = ch n c
  · rw [e]; exact getH_putR f (ch n c) h _
  · rw [getH_putR_ne f e h _]
    refine hf j ?_ h
    rcases Nat.lt_succ_iff_lt_or_eq.mp hj with h' | h'
    · exact h'
    · exact absurd (by rw [h']) e
theorem good_all (I : Ins F) (c : Dev nD) (f : FVec F S2048x1024 .f32) (hf : Good I c 7 f) (i : ℕ) (hi : i < 14) (h : Fin 2) :
    getH f (ch i c) h = colH (chunkO I (ch i c)) h := by
  obtain ⟨j, hj, e⟩ : ∃ j, j < 7 ∧ ch j c = ch i c := by
    have : ∀ i : Fin 14, ∀ c : Dev nD, ∃ j : Fin 7, ch j.val c = ch i.val c := by decide
    obtain ⟨j, hj⟩ := this ⟨i, hi⟩ c
    exact ⟨j.val, j.isLt, hj⟩
  rw [← e]; exact hf j hj h

end Vals

/-! ## Slots and semaphores at a trip -/

theorem lslot_eq (s : Fin 8) {off : Fin 3 → ℕ} (ho : off = ![s.val, 0, 0]) (h : ∀ a, off a + S1x256x512.size a ≤ S8x256x512.size a) :
    (lM.slice (Rect.unit (s := S8x256x512) off S1x256x512.size h) (fun _ => rfl)).squeeze S256x512 squeezes_S1x256x512_S256x512 = slotM false s := by
  subst ho; rfl
theorem rslot_eq (s : Fin 8) {off : Fin 3 → ℕ} (ho : off = ![s.val, 0, 0]) (h : ∀ a, off a + S1x256x512.size a ≤ S8x256x512.size a) :
    (rM.slice (Rect.unit (s := S8x256x512) off S1x256x512.size h) (fun _ => rfl)).squeeze S256x512 squeezes_S1x256x512_S256x512 = slotM true s := by
  subst ho; rfl

theorem s2_eq (i : Fin 28) (hi : i.val % 2 = 0 ∧ i.val < 14) {off : Fin 1 → ℕ} (ho : off = ![i.val / 2]) (h : ∀ a, off a + S1.size a ≤ S7.size a) :
    ((cc0_scratch2.slice (Rect.unit (s := S7) off S1.size h)).squeeze S_ squeezes_S1_S_).sem = sSem i := by
  subst ho; revert i; decide +kernel

theorem s3_eq (i : Fin 28) (hi : i.val % 2 = 0 ∧ i.val < 14) {off : Fin 1 → ℕ} (ho : off = ![i.val / 2]) (h : ∀ a, off a + S1.size a ≤ S7.size a) :
    ((cc0_scratch3.slice (Rect.unit (s := S7) off S1.size h)).squeeze S_ squeezes_S1_S_).sem = rSem i := by
  subst ho; revert i; decide +kernel

theorem s4_eq (i : Fin 28) (hi : i.val % 2 = 1 ∧ i.val < 14) {off : Fin 1 → ℕ} (ho : off = ![i.val / 2]) (h : ∀ a, off a + S1.size a ≤ S7.size a) :
    ((cc0_scratch4.slice (Rect.unit (s := S7) off S1.size h)).squeeze S_ squeezes_S1_S_).sem = sSem i := by
  subst ho; revert i; decide +kernel

theorem s5_eq (i : Fin 28) (hi : i.val % 2 = 1 ∧ i.val < 14) {off : Fin 1 → ℕ} (ho : off = ![i.val / 2]) (h : ∀ a, off a + S1.size a ≤ S7.size a) :
    ((cc0_scratch5.slice (Rect.unit (s := S7) off S1.size h)).squeeze S_ squeezes_S1_S_).sem = rSem i := by
  subst ho; revert i; decide +kernel

theorem toff13_eq : ∀ k0_t1 : Fin k0_t1_loop.trips, k0_cond9 k0_t1 = 1#1 → k0_off13 k0_t1 = ![k0_t1.val / 2] := by decide +kernel

theorem toff14_eq : ∀ k0_t1 : Fin k0_t1_loop.trips, k0_cond9 k0_t1 = 1#1 → k0_off14 k0_t1 = ![k0_t1.val / 2, 0, 0] := by decide +kernel

theorem toff15_eq : ∀ k0_t1 : Fin k0_t1_loop.trips, k0_cond9 k0_t1 = 1#1 → k0_off15 k0_t1 = ![k0_t1.val / 2 + 1, 0, 0] := by decide +kernel

theorem toff16_eq : ∀ k0_t1 : Fin k0_t1_loop.trips, k0_cond9 k0_t1 = 1#1 → k0_off16 k0_t1 = ![k0_t1.val / 2 + 1, 0, 0] := by decide +kernel

theorem toff18_eq : ∀ k0_t1 : Fin k0_t1_loop.trips, k0_cond9 k0_t1 = 1#1 → k0_off18 k0_t1 = ![k0_t1.val / 2 + 1] := by decide +kernel

theorem toff19_eq : ∀ k0_t1 : Fin k0_t1_loop.trips, k0_cond9 k0_t1 = 1#1 → k0_off19 k0_t1 = ![k0_t1.val / 2 + 2, 0, 0] := by decide +kernel

theorem toff20_eq : ∀ k0_t1 : Fin k0_t1_loop.trips, k0_cond10 k0_t1 = 1#1 → k0_off20 k0_t1 = ![k0_t1.val / 2] := by decide +kernel

theorem toff21_eq : ∀ k0_t1 : Fin k0_t1_loop.trips, k0_cond10 k0_t1 = 1#1 → k0_off21 k0_t1 = ![k0_t1.val / 2, 0, 0] := by decide +kernel

theorem toff22_eq : ∀ k0_t1 : Fin k0_t1_loop.trips, k0_cond10 k0_t1 = 1#1 → k0_off22 k0_t1 = ![k0_t1.val / 2 + 1, 0, 0] := by decide +kernel

theorem toff23_eq : ∀ k0_t1 : Fin k0_t1_loop.trips, k0_cond10 k0_t1 = 1#1 → k0_off23 k0_t1 = ![k0_t1.val / 2 + 1, 0, 0] := by decide +kernel

theorem toff25_eq : ∀ k0_t1 : Fin k0_t1_loop.trips, k0_cond10 k0_t1 = 1#1 → k0_off25 k0_t1 = ![k0_t1.val / 2 + 1] := by decide +kernel

theorem toff26_eq : ∀ k0_t1 : Fin k0_t1_loop.trips, k0_cond10 k0_t1 = 1#1 → k0_off26 k0_t1 = ![k0_t1.val / 2 + 2, 0, 0] := by decide +kernel

/-- A device's place in the ring, as the body computes it. -/
abbrev w2 (c : Dev nD) : BitVec 32 := Scalar.remsi (Scalar.divsi (Dev.word c) 1#32) 8#32
theorem row0_eq : ∀ c : Dev nD, Scalar.muli (w2 c) 256#32 = rw0 c := by decide +kernel
theorem row_eq : ∀ (c : Dev nD) (k0_t1 : Fin k0_t1_loop.trips), Scalar.muli (Scalar.remsi (Scalar.addi (Scalar.addi (w2 c) (Scalar.select (Scalar.cmpi .eq (Scalar.select (Scalar.andi (Scalar.xori (Scalar.cmpi .slt (Scalar.remsi (Scf.iv 1#32 1#32 k0_t1) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (Scf.iv 1#32 1#32 k0_t1) (Scalar.select (Scalar.cmpi .eq 2#32 0#32) 1#32 2#32)) 0#32)) (Scalar.addi (Scalar.remsi (Scf.iv 1#32 1#32 k0_t1) (Scalar.select (Scalar.cmpi .eq 2#32 0#32) 1#32 2#32)) (Scalar.select (Scalar.cmpi .eq 2#32 0#32) 1#32 2#32)) (Scalar.remsi (Scf.iv 1#32 1#32 k0_t1) (Scalar.select (Scalar.cmpi .eq 2#32 0#32) 1#32 2#32))) 1#32) (Scalar.select (Scalar.andi (Scalar.cmpi .ne (Scalar.subi (Scalar.extui (Scalar.cmpi .sgt (Scalar.addi (Scf.iv 1#32 1#32 k0_t1) 1#32) 0#32)) (Scalar.extui (Scalar.cmpi .slt (Scalar.addi (Scf.iv 1#32 1#32 k0_t1) 1#32) 0#32))) (Scalar.subi (Scalar.extui (Scalar.cmpi .sgt 2#32 0#32)) (Scalar.extui (Scalar.cmpi .slt 2#32 0#32)))) (Scalar.cmpi .ne (Scalar.remsi (Scalar.addi (Scf.iv 1#32 1#32 k0_t1) 1#32) 2#32) 0#32)) (Scalar.subi (Scalar.divsi (Scalar.addi (Scf.iv 1#32 1#32 k0_t1) 1#32) 2#32) 1#32) (Scalar.divsi (Scalar.addi (Scf.iv 1#32 1#32 k0_t1) 1#32) 2#32)) (Scalar.subi 0#32 (Scalar.select (Scalar.andi (Scalar.cmpi .ne (Scalar.subi (Scalar.extui (Scalar.cmpi .sgt (Scalar.addi (Scf.iv 1#32 1#32 k0_t1) 1#32) 0#32)) (Scalar.extui (Scalar.cmpi .slt (Scalar.addi (Scf.iv 1#32 1#32 k0_t1) 1#32) 0#32))) (Scalar.subi (Scalar.extui (Scalar.cmpi .sgt 2#32 0#32)) (Scalar.extui (Scalar.cmpi .slt 2#32 0#32)))) (Scalar.cmpi .ne (Scalar.remsi (Scalar.addi (Scf.iv 1#32 1#32 k0_t1) 1#32) 2#32) 0#32)) (Scalar.subi (Scalar.divsi (Scalar.addi (Scf.iv 1#32 1#32 k0_t1) 1#32) 2#32) 1#32) (Scalar.divsi (Scalar.addi (Scf.iv 1#32 1#32 k0_t1) 1#32) 2#32))))) 8#32) 8#32) 256#32 = rw0 (ch k0_t1.val c) := by decide +kernel

section Trip

variable (K : GSem nD τ sig → ℕ) (II : Dev nD → Ins F) (c : Dev nD)

/-- The state before trip `t` of the ring. -/
def TripInv (t : ℕ) : sProp 𝕄 :=
  iprop(Core K (Vv II) c (t + 2) t t ∗ RO c (II c) ∗ ∃ f, Out c f ∗ ⌜Good (II c) c t f⌝)

theorem part43_wp {Q : _ → sProp 𝕄} (I : Ins F) (t : Fin k0_t1_loop.trips) :
    RO c I ⊢ iprop((∀ a b, RO c I -∗ Q ⟨a, b, rw0 (ch t.val c), k0_pay145 (xr I (ch t.val c))⟩)
      -∗ wp frame (wpE (defs₀ (F := F)) 𝒱₀ (c : Thread nD τ) none) Set.univ (k0_part43 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c (w2 c) 1#32 1#32 t) Q) := by
  rw [k0_part43_eq_skeleton]; unfold k0_part43_skel
  simp only [Prog.lift, Prog.bind_op, Prog.bind_ret, Prog.pure_eq_ret, Prog.bind_assoc]
  rw [row_eq c t]
  iintro HR HQ
  iapply (ld_x c I (ch t.val c) (off8_eq c t)) $$ HR
  iintro HR
  rw [wp_ret]; imodintro
  ispecialize HQ $$ %_ %_
  iapply HQ; iexact HR

theorem credN (m : Memref sig .tc .vmem S256x512 .f32) : m.view.dmaCredit = N := rfl
theorem trip_lt (t : Fin k0_t1_loop.trips) : t.val < 7 := t.isLt
/-- The transfer that trip `t` waits for. -/
abbrev tw (t : Fin k0_t1_loop.trips) : Fin 28 := ⟨t.val, Nat.lt_trans (trip_lt t) (by decide)⟩
/-- The transfer that trip `t` starts. -/
abbrev ts (t : Fin k0_t1_loop.trips) : Fin 28 := ⟨t.val + 2, by have := trip_lt t; omega⟩
theorem tw_S : ∀ t : Fin k0_t1_loop.trips, ∀ h : (tw t).val + 14 < 28, t.val + 2 < rc ⟨(tw t).val + 14, h⟩ := by decide +kernel
theorem tw_x : ∀ t : Fin k0_t1_loop.trips, ∀ j : Fin 28, rc j = (tw t).val + 1 → t.val + 2 ≤ j.val := by decide +kernel
theorem ts_rc : ∀ t : Fin k0_t1_loop.trips, rc (ts t) ≤ t.val + 1 := by decide +kernel
theorem ts_x : ∀ t : Fin k0_t1_loop.trips, ∀ j' : Fin 28, rc j' = (ts t).val + 1 → 14 ≤ j'.val ∧ j'.val < t.val + 1 + 14 := by decide +kernel
theorem ts_dev9 : ∀ (t : Fin k0_t1_loop.trips) (c : Dev nD), t.val % 2 = 0 → tgt (ts t) c = prv c := by decide +kernel
theorem ts_dev10 : ∀ (t : Fin k0_t1_loop.trips) (c : Dev nD), t.val % 2 = 1 → tgt (ts t) c = nxt c := by decide +kernel
theorem tw_buf9 : ∀ t : Fin k0_t1_loop.trips, t.val % 2 = 0 → bufOf (tw t) = false := by decide +kernel
theorem tw_buf10 : ∀ t : Fin k0_t1_loop.trips, t.val % 2 = 1 → bufOf (tw t) = true := by decide +kernel
theorem ts_buf9 : ∀ t : Fin k0_t1_loop.trips, t.val % 2 = 0 → bufOf (ts t) = false := by decide +kernel
theorem ts_buf10 : ∀ t : Fin k0_t1_loop.trips, t.val % 2 = 1 → bufOf (ts t) = true := by decide +kernel
theorem tw_dst : ∀ t : Fin k0_t1_loop.trips, (dstS (tw t)).val = t.val / 2 + 1 := by decide +kernel
theorem ts_src : ∀ t : Fin k0_t1_loop.trips, (srcS (ts t)).val = t.val / 2 + 1 := by decide +kernel
theorem ts_dst : ∀ t : Fin k0_t1_loop.trips, (dstS (ts t)).val = t.val / 2 + 2 := by decide +kernel
theorem tw_srcdst (t : Fin k0_t1_loop.trips) : srcS (ts t) = dstS (tw t) := Fin.ext ((ts_src t).trans (tw_dst t).symm)
theorem hb9 (n : ℕ) (h : n % 2 = 0) : hb n = 0 := if_pos h
theorem hb10 (n : ℕ) (h : n % 2 = 1) : hb n = 1 := if_neg (by omega)

theorem part41_wp {Q : _ → sProp 𝕄} (V : Fin 28 → Dev nD → SlotT F) (v5 : BitVec 32) (t : Fin k0_t1_loop.trips) (arg16 : BitVec 32) (h : k0_cond9 t = 1#1) :
    Core K V c (t.val + 2) t.val t.val
      ⊢ iprop((∀ r, Core K V c (t.val + 2) (t.val + 1) (t.val + 1) -∗ slotPts (bufOf (tw t)) c (dstS (tw t)) fullShare (V (tw t) (frm (tw t) c)) -∗ Q r)
      -∗ wp frame (wpE (defs₀ (F := F)) 𝒱₀ (c : Thread nD τ) none) Set.univ (k0_part41 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v5 t arg16 h) Q) := by
  have hp := (cond9_iff t).1 h
  have h7 := trip_lt t
  rw [k0_part41_eq_skeleton]; unfold k0_part41_skel
  simp only [Prog.lift, Prog.bind_op, Prog.bind_ret, Prog.pure_eq_ret, Prog.bind_assoc]
  iintro HC HQ
  iapply (step_waitS K V c (tw t) (t.val + 2) t.val (by show t.val < _; omega) (tw_S t) _ (s2_eq (tw t) ⟨hp, by show t.val < 14; omega⟩ (toff13_eq t h) _) (credN _)) $$ HC
  iintro HC
  iapply (step_waitR K V c (tw t) (t.val + 2) (t.val + 1) (by show t.val < _; omega) (tw_x t) _ (s3_eq (tw t) ⟨hp, by show t.val < 14; omega⟩ (toff13_eq t h) _) (credN _)) $$ HC
  iintro HC HS
  rw [wp_ret]; imodintro
  ispecialize HQ $$ %_
  iapply HQ $$ HC HS

theorem part42_wp {Q : _ → sProp 𝕄} (V : Fin 28 → Dev nD → SlotT F) (v7 : BitVec 32) (t : Fin k0_t1_loop.trips) (arg16 : BitVec 32) (h : k0_cond10 t = 1#1) :
    Core K V c (t.val + 2) t.val t.val
      ⊢ iprop((∀ r, Core K V c (t.val + 2) (t.val + 1) (t.val + 1) -∗ slotPts (bufOf (tw t)) c (dstS (tw t)) fullShare (V (tw t) (frm (tw t) c)) -∗ Q r)
      -∗ wp frame (wpE (defs₀ (F := F)) 𝒱₀ (c : Thread nD τ) none) Set.univ (k0_part42 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v7 t arg16 h) Q) := by
  have hp := (cond10_iff t).1 h
  have h7 := trip_lt t
  rw [k0_part42_eq_skeleton]; unfold k0_part42_skel
  simp only [Prog.lift, Prog.bind_op, Prog.bind_ret, Prog.pure_eq_ret, Prog.bind_assoc]
  iintro HC HQ
  iapply (step_waitS K V c (tw t) (t.val + 2) t.val (by show t.val < _; omega) (tw_S t) _ (s4_eq (tw t) ⟨hp, by show t.val < 14; omega⟩ (toff20_eq t h) _) (credN _)) $$ HC
  iintro HC
  iapply (step_waitR K V c (tw t) (t.val + 2) (t.val + 1) (by show t.val < _; omega) (tw_x t) _ (s5_eq (tw t) ⟨hp, by show t.val < 14; omega⟩ (toff20_eq t h) _) (credN _)) $$ HC
  iintro HC HS
  rw [wp_ret]; imodintro
  ispecialize HQ $$ %_
  iapply HQ $$ HC HS

theorem part46_wp {Q : _ → sProp 𝕄} (v5 v7 : BitVec 32) (t : Fin k0_t1_loop.trips) :
    TripInv K II c t.val ⊢ iprop((TripInv K II c (t.val + 1) -∗ Q ⟨⟩)
      -∗ wp frame (wpE (defs₀ (F := F)) 𝒱₀ (c : Thread nD τ) none) Set.univ (k0_part46 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c (w2 c) v5 v7 1#32 1#32 t) Q) := by
  have h7 := trip_lt t
  rw [k0_part46_eq_skeleton]; unfold k0_part46_skel
  by_cases h8 : k0_cond8 c t = 1#1 <;> by_cases h9 : k0_cond9 t = 1#1
  · have hp := (cond9_iff t).1 h9
    have h10 : ¬ k0_cond10 t = 1#1 := fun h => by have := (cond10_iff t).1 h; omega
    have e8 := (cond8_iff c t).1 h8
    simp only [dif_pos h8, dif_pos h9, dif_neg h10, Prog.lift, Prog.bind_op, Prog.bind_ret, Prog.pure_eq_ret, Prog.bind_assoc]
    unfold TripInv
    iintro ⟨HC, HR, ⟨%f, HO, %hf⟩⟩ HQ
    rw [wp_bind]; iapply (part43_wp c (II c) t) $$ HR
    iintro %_ %_ HR
    try dsimp only
    rw [wp_bind]; iapply (part44_wp c (II c) f t _) $$ [HR HO]
    · isplitl [HR]; · iexact HR
      iexact HO
    iintro %_ %_ %_ ⟨HR, HO⟩
    try dsimp only
    rw [wp_bind]; iapply (part45_wp c (II c) _ t _ _ _ _) $$ [HR HO]
    · isplitl [HR]; · iexact HR
      iexact HO
    iintro %_ ⟨HR, HO⟩
    try dsimp only
    rw [wp_bind]; iapply (part36_wp c (II c) _ ) $$ HR
    iintro HR
    try dsimp only
    rw [wp_bind]; iapply (part37_wp c (II c) _ _ _ _ _ _ ) $$ HR
    iintro HR
    try dsimp only
    rw [wp_bind]; iapply (part38_wp c (II c) _ _ _ ) $$ HR
    iintro HR
    try dsimp only
    rw [wp_bind]; iapply (part39_wp c (II c) _ _ _ ) $$ HR
    iintro HR
    try dsimp only
    rw [wp_bind]; iapply (part40_wp c (II c) _ _ _ ) $$ HR
    iintro HR
    try dsimp only
    iapply (ld_v2048 c (II c) 7 rfl) $$ HR
    iintro HR
    iapply (ld_wo c (II c)) $$ HR
    iintro HR
    iapply (ld_out_any c _) $$ HO
    iintro HO; iintro %_
    iapply (st_outR c _ (ch t.val c) _ (off12_eq c t)) $$ HO
    iintro HO
    ihave HO2 := (Entails.of_eq (show Out c (putR _ (ch t.val c) _) = Out c (putR f (ch t.val c) (chunkO (II c) (ch t.val c))) from by
      rw [if_neg (show ¬ (ch t.val c).val / 2 = 0 by omega), if_neg (show ¬ ((ch t.val c).val / 2 = 1 ∨ (ch t.val c).val / 2 = 2) by omega), chunkO_3 (II c) e8, ← attn2048_loop])) $$ HO
    have hg := good_put (II c) c t.val f hf
    generalize putR f (ch t.val c) (chunkO (II c) (ch t.val c)) = fn at hg ⊢
    have hA : k0_pay151 (Vv II (tw t) (frm (tw t) c)) (getH fn (ch t.val c) 0) = Vv II (ts t) c := by
      rw [hg t.val (Nat.lt_succ_self _) 0, ← hb9 t.val hp]
      exact (Vv_add II (tw t) (by show t.val + 2 < 28; omega) (by show t.val < 14; omega) c).symm
    rw [wp_bind]; iapply (part41_wp K c (Vv II) _ t _ h9) $$ HC
    iintro %_ HC HS
    try dsimp only
    rw [tw_buf9 t hp]
    iapply (ld_slot c false (dstS (tw t)) fullShare _ (by rw [tw_dst t]; exact toff16_eq t h9)) $$ HS
    iintro HS
    iapply (ld_out c _ (ch t.val c) 0 (off17_eq c t)) $$ HO2
    iintro HO
    iapply (ld_slot c false (dstS (tw t)) fullShare _ (by rw [tw_dst t]; exact toff16_eq t h9)) $$ HS
    iintro HS
    ihave HS2 := (slotPts_any false c (dstS (tw t)) _) $$ HS
    iapply (st_slot c false (dstS (tw t)) _ (by rw [tw_dst t]; exact toff16_eq t h9)) $$ HS2
    iintro HS
    ihave HS3 := (Entails.of_eq (show slotPts false c (dstS (tw t)) fullShare (k0_pay151 (Vv II (tw t) (frm (tw t) c)) (getH fn (ch t.val c) 0)) = slotPts (bufOf (ts t)) c (srcS (ts t)) fullShare (Vv II (ts t) c) from by rw [hA, ts_buf9 t hp, tw_srcdst t])) $$ HS
    iapply (step_start K (Vv II) c (ts t) (t.val + 1) (t.val + 1) (by show t.val + 1 ≤ t.val + 2; omega) (ts_rc t) (ts_x t)
      ⟨k0_dev5 c, k0_dev5_lt c t h9⟩ ((Fin.ext (k0_dev5_eq c)).trans (ts_dev9 t c hp).symm) _ _
      (s2_eq (ts t) ⟨by show (t.val + 2) % 2 = _; omega, by show t.val + 2 < 14; omega⟩ ((toff18_eq t h9).trans (by rw [show (ts t).val / 2 = t.val / 2 + 1 from by show (t.val + 2) / 2 = _; omega])) _)
      (s3_eq (ts t) ⟨by show (t.val + 2) % 2 = _; omega, by show t.val + 2 < 14; omega⟩ ((toff18_eq t h9).trans (by rw [show (ts t).val / 2 = t.val / 2 + 1 from by show (t.val + 2) / 2 = _; omega])) _)
      _ _ ((lslot_eq (srcS (ts t)) (by rw [ts_src t]; exact toff15_eq t h9) _).trans (by rw [ts_buf9 t hp]))
      ((lslot_eq (dstS (ts t)) (by rw [ts_dst t]; exact toff19_eq t h9) _).trans (by rw [ts_buf9 t hp]))) $$ [HC HS3]
    · isplitl [HC]; · iexact HC
      iexact HS3
    iintro HC
    rw [wp_ret]; imodintro
    iapply HQ
    rw [show t.val + 1 + 2 = (ts t).val + 1 from by show _ = t.val + 2 + 1; omega]
    isplitl [HC]; · iexact HC
    isplitl [HR]; · iexact HR
    iexists fn
    isplitl [HO]; · iexact HO
    ipureintro; exact hg
  · have hp : t.val % 2 = 1 := by have := mt (cond9_iff t).2 h9; omega
    have h10 := (cond10_iff t).2 hp
    have e8 := (cond8_iff c t).1 h8
    simp only [dif_pos h8, dif_pos h10, dif_neg h9, Prog.lift, Prog.bind_op, Prog.bind_ret, Prog.pure_eq_ret, Prog.bind_assoc]
    unfold TripInv
    iintro ⟨HC, HR, ⟨%f, HO, %hf⟩⟩ HQ
    rw [wp_bind]; iapply (part43_wp c (II c) t) $$ HR
    iintro %_ %_ HR
    try dsimp only
    rw [wp_bind]; iapply (part44_wp c (II c) f t _) $$ [HR HO]
    · isplitl [HR]; · iexact HR
      iexact HO
    iintro %_ %_ %_ ⟨HR, HO⟩
    try dsimp only
    rw [wp_bind]; iapply (part45_wp c (II c) _ t _ _ _ _) $$ [HR HO]
    · isplitl [HR]; · iexact HR
      iexact HO
    iintro %_ ⟨HR, HO⟩
    try dsimp only
    rw [wp_bind]; iapply (part36_wp c (II c) _ ) $$ HR
    iintro HR
    try dsimp only
    rw [wp_bind]; iapply (part37_wp c (II c) _ _ _ _ _ _ ) $$ HR
    iintro HR
    try dsimp only
    rw [wp_bind]; iapply (part38_wp c (II c) _ _ _ ) $$ HR
    iintro HR
    try dsimp only
    rw [wp_bind]; iapply (part39_wp c (II c) _ _ _ ) $$ HR
    iintro HR
    try dsimp only
    rw [wp_bind]; iapply (part40_wp c (II c) _ _ _ ) $$ HR
    iintro HR
    try dsimp only
    iapply (ld_v2048 c (II c) 7 rfl) $$ HR
    iintro HR
    iapply (ld_wo c (II c)) $$ HR
    iintro HR
    iapply (ld_out_any c _) $$ HO
    iintro HO; iintro %_
    iapply (st_outR c _ (ch t.val c) _ (off12_eq c t)) $$ HO
    iintro HO
    ihave HO2 := (Entails.of_eq (show Out c (putR _ (ch t.val c) _) = Out c (putR f (ch t.val c) (chunkO (II c) (ch t.val c))) from by
      rw [if_neg (show ¬ (ch t.val c).val / 2 = 0 by omega), if_neg (show ¬ ((ch t.val c).val / 2 = 1 ∨ (ch t.val c).val / 2 = 2) by omega), chunkO_3 (II c) e8, ← attn2048_loop])) $$ HO
    have hg := good_put (II c) c t.val f hf
    generalize putR f (ch t.val c) (chunkO (II c) (ch t.val c)) = fn at hg ⊢
    have hA : k0_pay152 (Vv II (tw t) (frm (tw t) c)) (getH fn (ch t.val c) 1) = Vv II (ts t) c := by
      rw [hg t.val (Nat.lt_succ_self _) 1, ← hb10 t.val hp]
      exact (Vv_add II (tw t) (by show t.val + 2 < 28; omega) (by show t.val < 14; omega) c).symm
    rw [wp_bind]; iapply (part42_wp K c (Vv II) _ t _ h10) $$ HC
    iintro %_ HC HS
    try dsimp only
    rw [tw_buf10 t hp]
    iapply (ld_slot c true (dstS (tw t)) fullShare _ (by rw [tw_dst t]; exact toff23_eq t h10)) $$ HS
    iintro HS
    iapply (ld_out c _ (ch t.val c) 1 (off24_eq c t)) $$ HO2
    iintro HO
    iapply (ld_slot c true (dstS (tw t)) fullShare _ (by rw [tw_dst t]; exact toff23_eq t h10)) $$ HS
    iintro HS
    ihave HS2 := (slotPts_any true c (dstS (tw t)) _) $$ HS
    iapply (st_slot c true (dstS (tw t)) _ (by rw [tw_dst t]; exact toff23_eq t h10)) $$ HS2
    iintro HS
    ihave HS3 := (Entails.of_eq (show slotPts true c (dstS (tw t)) fullShare (k0_pay152 (Vv II (tw t) (frm (tw t) c)) (getH fn (ch t.val c) 1)) = slotPts (bufOf (ts t)) c (srcS (ts t)) fullShare (Vv II (ts t) c) from by rw [hA, ts_buf10 t hp, tw_srcdst t])) $$ HS
    iapply (step_start K (Vv II) c (ts t) (t.val + 1) (t.val + 1) (by show t.val + 1 ≤ t.val + 2; omega) (ts_rc t) (ts_x t)
      ⟨k0_dev6 c, k0_dev6_lt c t h10⟩ ((Fin.ext (k0_dev6_eq c)).trans (ts_dev10 t c hp).symm) _ _
      (s4_eq (ts t) ⟨by show (t.val + 2) % 2 = _; omega, by show t.val + 2 < 14; omega⟩ ((toff25_eq t h10).trans (by rw [show (ts t).val / 2 = t.val / 2 + 1 from by show (t.val + 2) / 2 = _; omega])) _)
      (s5_eq (ts t) ⟨by show (t.val + 2) % 2 = _; omega, by show t.val + 2 < 14; omega⟩ ((toff25_eq t h10).trans (by rw [show (ts t).val / 2 = t.val / 2 + 1 from by show (t.val + 2) / 2 = _; omega])) _)
      _ _ ((rslot_eq (srcS (ts t)) (by rw [ts_src t]; exact toff22_eq t h10) _).trans (by rw [ts_buf10 t hp]))
      ((rslot_eq (dstS (ts t)) (by rw [ts_dst t]; exact toff26_eq t h10) _).trans (by rw [ts_buf10 t hp]))) $$ [HC HS3]
    · isplitl [HC]; · iexact HC
      iexact HS3
    iintro HC
    rw [wp_ret]; imodintro
    iapply HQ
    rw [show t.val + 1 + 2 = (ts t).val + 1 from by show _ = t.val + 2 + 1; omega]
    isplitl [HC]; · iexact HC
    isplitl [HR]; · iexact HR
    iexists fn
    isplitl [HO]; · iexact HO
    ipureintro; exact hg
  · have hp := (cond9_iff t).1 h9
    have h10 : ¬ k0_cond10 t = 1#1 := fun h => by have := (cond10_iff t).1 h; omega
    have e8 := mt (cond8_iff c t).2 h8
    simp only [dif_neg h8, dif_pos h9, dif_neg h10, Prog.lift, Prog.bind_op, Prog.bind_ret, Prog.pure_eq_ret, Prog.bind_assoc]
    unfold TripInv
    iintro ⟨HC, HR, ⟨%f, HO, %hf⟩⟩ HQ
    rw [wp_bind]; iapply (part43_wp c (II c) t) $$ HR
    iintro %_ %_ HR
    try dsimp only
    rw [wp_bind]; iapply (part44_wp c (II c) f t _) $$ [HR HO]
    · isplitl [HR]; · iexact HR
      iexact HO
    iintro %_ %_ %_ ⟨HR, HO⟩
    try dsimp only
    rw [wp_bind]; iapply (part45_wp c (II c) _ t _ _ _ _) $$ [HR HO]
    · isplitl [HR]; · iexact HR
      iexact HO
    iintro %_ ⟨HR, HO⟩
    try dsimp only
    ihave HO2 := (Entails.of_eq (show Out c (if (ch t.val c).val / 2 = 1 ∨ (ch t.val c).val / 2 = 2 then putR _ (ch t.val c) _ else _) = Out c (putR f (ch t.val c) (chunkO (II c) (ch t.val c))) from by
      have hq : (ch t.val c).val < 8 := (ch t.val c).isLt
      by_cases e0 : (ch t.val c).val / 2 = 0
      · rw [if_neg (by omega), if_pos e0]
      · rw [if_pos (by omega), if_neg e0])) $$ HO
    have hg := good_put (II c) c t.val f hf
    generalize putR f (ch t.val c) (chunkO (II c) (ch t.val c)) = fn at hg ⊢
    have hA : k0_pay151 (Vv II (tw t) (frm (tw t) c)) (getH fn (ch t.val c) 0) = Vv II (ts t) c := by
      rw [hg t.val (Nat.lt_succ_self _) 0, ← hb9 t.val hp]
      exact (Vv_add II (tw t) (by show t.val + 2 < 28; omega) (by show t.val < 14; omega) c).symm
    rw [wp_bind]; iapply (part41_wp K c (Vv II) _ t _ h9) $$ HC
    iintro %_ HC HS
    try dsimp only
    rw [tw_buf9 t hp]
    iapply (ld_slot c false (dstS (tw t)) fullShare _ (by rw [tw_dst t]; exact toff16_eq t h9)) $$ HS
    iintro HS
    iapply (ld_out c _ (ch t.val c) 0 (off17_eq c t)) $$ HO2
    iintro HO
    iapply (ld_slot c false (dstS (tw t)) fullShare _ (by rw [tw_dst t]; exact toff16_eq t h9)) $$ HS
    iintro HS
    ihave HS2 := (slotPts_any false c (dstS (tw t)) _) $$ HS
    iapply (st_slot c false (dstS (tw t)) _ (by rw [tw_dst t]; exact toff16_eq t h9)) $$ HS2
    iintro HS
    ihave HS3 := (Entails.of_eq (show slotPts false c (dstS (tw t)) fullShare (k0_pay151 (Vv II (tw t) (frm (tw t) c)) (getH fn (ch t.val c) 0)) = slotPts (bufOf (ts t)) c (srcS (ts t)) fullShare (Vv II (ts t) c) from by rw [hA, ts_buf9 t hp, tw_srcdst t])) $$ HS
    iapply (step_start K (Vv II) c (ts t) (t.val + 1) (t.val + 1) (by show t.val + 1 ≤ t.val + 2; omega) (ts_rc t) (ts_x t)
      ⟨k0_dev5 c, k0_dev5_lt c t h9⟩ ((Fin.ext (k0_dev5_eq c)).trans (ts_dev9 t c hp).symm) _ _
      (s2_eq (ts t) ⟨by show (t.val + 2) % 2 = _; omega, by show t.val + 2 < 14; omega⟩ ((toff18_eq t h9).trans (by rw [show (ts t).val / 2 = t.val / 2 + 1 from by show (t.val + 2) / 2 = _; omega])) _)
      (s3_eq (ts t) ⟨by show (t.val + 2) % 2 = _; omega, by show t.val + 2 < 14; omega⟩ ((toff18_eq t h9).trans (by rw [show (ts t).val / 2 = t.val / 2 + 1 from by show (t.val + 2) / 2 = _; omega])) _)
      _ _ ((lslot_eq (srcS (ts t)) (by rw [ts_src t]; exact toff15_eq t h9) _).trans (by rw [ts_buf9 t hp]))
      ((lslot_eq (dstS (ts t)) (by rw [ts_dst t]; exact toff19_eq t h9) _).trans (by rw [ts_buf9 t hp]))) $$ [HC HS3]
    · isplitl [HC]; · iexact HC
      iexact HS3
    iintro HC
    rw [wp_ret]; imodintro
    iapply HQ
    rw [show t.val + 1 + 2 = (ts t).val + 1 from by show _ = t.val + 2 + 1; omega]
    isplitl [HC]; · iexact HC
    isplitl [HR]; · iexact HR
    iexists fn
    isplitl [HO]; · iexact HO
    ipureintro; exact hg
  · have hp : t.val % 2 = 1 := by have := mt (cond9_iff t).2 h9; omega
    have h10 := (cond10_iff t).2 hp
    have e8 := mt (cond8_iff c t).2 h8
    simp only [dif_neg h8, dif_pos h10, dif_neg h9, Prog.lift, Prog.bind_op, Prog.bind_ret, Prog.pure_eq_ret, Prog.bind_assoc]
    unfold TripInv
    iintro ⟨HC, HR, ⟨%f, HO, %hf⟩⟩ HQ
    rw [wp_bind]; iapply (part43_wp c (II c) t) $$ HR
    iintro %_ %_ HR
    try dsimp only
    rw [wp_bind]; iapply (part44_wp c (II c) f t _) $$ [HR HO]
    · isplitl [HR]; · iexact HR
      iexact HO
    iintro %_ %_ %_ ⟨HR, HO⟩
    try dsimp only
    rw [wp_bind]; iapply (part45_wp c (II c) _ t _ _ _ _) $$ [HR HO]
    · isplitl [HR]; · iexact HR
      iexact HO
    iintro %_ ⟨HR, HO⟩
    try dsimp only
    ihave HO2 := (Entails.of_eq (show Out c (if (ch t.val c).val / 2 = 1 ∨ (ch t.val c).val / 2 = 2 then putR _ (ch t.val c) _ else _) = Out c (putR f (ch t.val c) (chunkO (II c) (ch t.val c))) from by
      have hq : (ch t.val c).val < 8 := (ch t.val c).isLt
      by_cases e0 : (ch t.val c).val / 2 = 0
      · rw [if_neg (by omega), if_pos e0]
      · rw [if_pos (by omega), if_neg e0])) $$ HO
    have hg := good_put (II c) c t.val f hf
    generalize putR f (ch t.val c) (chunkO (II c) (ch t.val c)) = fn at hg ⊢
    have hA : k0_pay152 (Vv II (tw t) (frm (tw t) c)) (getH fn (ch t.val c) 1) = Vv II (ts t) c := by
      rw [hg t.val (Nat.lt_succ_self _) 1, ← hb10 t.val hp]
      exact (Vv_add II (tw t) (by show t.val + 2 < 28; omega) (by show t.val < 14; omega) c).symm
    rw [wp_bind]; iapply (part42_wp K c (Vv II) _ t _ h10) $$ HC
    iintro %_ HC HS
    try dsimp only
    rw [tw_buf10 t hp]
    iapply (ld_slot c true (dstS (tw t)) fullShare _ (by rw [tw_dst t]; exact toff23_eq t h10)) $$ HS
    iintro HS
    iapply (ld_out c _ (ch t.val c) 1 (off24_eq c t)) $$ HO2
    iintro HO
    iapply (ld_slot c true (dstS (tw t)) fullShare _ (by rw [tw_dst t]; exact toff23_eq t h10)) $$ HS
    iintro HS
    ihave HS2 := (slotPts_any true c (dstS (tw t)) _) $$ HS
    iapply (st_slot c true (dstS (tw t)) _ (by rw [tw_dst t]; exact toff23_eq t h10)) $$ HS2
    iintro HS
    ihave HS3 := (Entails.of_eq (show slotPts true c (dstS (tw t)) fullShare (k0_pay152 (Vv II (tw t) (frm (tw t) c)) (getH fn (ch t.val c) 1)) = slotPts (bufOf (ts t)) c (srcS (ts t)) fullShare (Vv II (ts t) c) from by rw [hA, ts_buf10 t hp, tw_srcdst t])) $$ HS
    iapply (step_start K (Vv II) c (ts t) (t.val + 1) (t.val + 1) (by show t.val + 1 ≤ t.val + 2; omega) (ts_rc t) (ts_x t)
      ⟨k0_dev6 c, k0_dev6_lt c t h10⟩ ((Fin.ext (k0_dev6_eq c)).trans (ts_dev10 t c hp).symm) _ _
      (s4_eq (ts t) ⟨by show (t.val + 2) % 2 = _; omega, by show t.val + 2 < 14; omega⟩ ((toff25_eq t h10).trans (by rw [show (ts t).val / 2 = t.val / 2 + 1 from by show (t.val + 2) / 2 = _; omega])) _)
      (s5_eq (ts t) ⟨by show (t.val + 2) % 2 = _; omega, by show t.val + 2 < 14; omega⟩ ((toff25_eq t h10).trans (by rw [show (ts t).val / 2 = t.val / 2 + 1 from by show (t.val + 2) / 2 = _; omega])) _)
      _ _ ((rslot_eq (srcS (ts t)) (by rw [ts_src t]; exact toff22_eq t h10) _).trans (by rw [ts_buf10 t hp]))
      ((rslot_eq (dstS (ts t)) (by rw [ts_dst t]; exact toff26_eq t h10) _).trans (by rw [ts_buf10 t hp]))) $$ [HC HS3]
    · isplitl [HC]; · iexact HC
      iexact HS3
    iintro HC
    rw [wp_ret]; imodintro
    iapply HQ
    rw [show t.val + 1 + 2 = (ts t).val + 1 from by show _ = t.val + 2 + 1; omega]
    isplitl [HC]; · iexact HC
    isplitl [HR]; · iexact HR
    iexists fn
    isplitl [HO]; · iexact HO
    ipureintro; exact hg

end Trip

end Cert.Attn
-- ==== Proof.TailA.lean ====
module

public import proofs.«01_k».proof.Proof.Trip

@[expose] public section

/-! The ring's loop, and the part of the body from it to the gathering. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

/-! ## What the gathering writes -/

abbrev tr0 : Fin 28 := ⟨0, by decide⟩
abbrev tr1 : Fin 28 := ⟨1, by decide⟩
abbrev tr2 : Fin 28 := ⟨2, by decide⟩
abbrev tr3 : Fin 28 := ⟨3, by decide⟩
abbrev tr4 : Fin 28 := ⟨4, by decide⟩
abbrev tr5 : Fin 28 := ⟨5, by decide⟩
abbrev tr6 : Fin 28 := ⟨6, by decide⟩
abbrev tr7 : Fin 28 := ⟨7, by decide⟩
abbrev tr8 : Fin 28 := ⟨8, by decide⟩
abbrev tr9 : Fin 28 := ⟨9, by decide⟩
abbrev tr10 : Fin 28 := ⟨10, by decide⟩
abbrev tr11 : Fin 28 := ⟨11, by decide⟩
abbrev tr12 : Fin 28 := ⟨12, by decide⟩
abbrev tr13 : Fin 28 := ⟨13, by decide⟩
abbrev tr14 : Fin 28 := ⟨14, by decide⟩
abbrev tr15 : Fin 28 := ⟨15, by decide⟩
abbrev tr16 : Fin 28 := ⟨16, by decide⟩
abbrev tr17 : Fin 28 := ⟨17, by decide⟩
abbrev tr18 : Fin 28 := ⟨18, by decide⟩
abbrev tr19 : Fin 28 := ⟨19, by decide⟩
abbrev tr20 : Fin 28 := ⟨20, by decide⟩
abbrev tr21 : Fin 28 := ⟨21, by decide⟩
abbrev tr22 : Fin 28 := ⟨22, by decide⟩
abbrev tr23 : Fin 28 := ⟨23, by decide⟩
abbrev tr24 : Fin 28 := ⟨24, by decide⟩
abbrev tr25 : Fin 28 := ⟨25, by decide⟩
abbrev tr26 : Fin 28 := ⟨26, by decide⟩
abbrev tr27 : Fin 28 := ⟨27, by decide⟩

section Puts

set_option backward.proofsInPublic true in
/-- The chunk that the `n`-th write of the gathering stores. -/
def wq (n : ℕ) (c : Dev nD) : Fin 8 :=
  ⟨(if n % 2 = 0 then c.val + 15 - n / 2 else c.val + 1 + n / 2) % 8, Nat.mod_lt _ (by decide)⟩
/-- A slot's contents, to be stored in the output. -/
def unslot (v : SlotT F) : FVec F S256x512 .f32 := k0_pay171 v

variable (II : Dev nD → Ins F) (c : Dev nD)

/-- The output after `n` writes of the gathering. -/
def puts (f : FVec F S2048x1024 .f32) : ℕ → FVec F S2048x1024 .f32
  | 0 => f
  | n + 1 => putH (puts f n) (wq n c) (hb n) (unslot (Vn II (14 + n) c))

theorem Vn_28 : Vv II tr26 (frm tr26 c) = Vn II 28 c := by
  rw [Vn]; simp only [dif_pos (show 26 < 28 by decide), if_neg (show ¬26 < 14 by decide)]; rfl
theorem Vn_29 : Vv II tr27 (frm tr27 c) = Vn II 29 c := by
  rw [Vn]; simp only [dif_pos (show 27 < 28 by decide), if_neg (show ¬27 < 14 by decide)]; rfl

end Puts

theorem s6_eq (i : Fin 28) (hi : i.val % 2 = 0 ∧ 14 ≤ i.val) {off : Fin 1 → ℕ} (ho : off = ![(i.val - 14) / 2]) (h : ∀ a, off a + S1.size a ≤ S7.size a) :
    ((cc0_scratch6.slice (Rect.unit (s := S7) off S1.size h)).squeeze S_ squeezes_S1_S_).sem = sSem i := by
  subst ho; revert i; decide +kernel
theorem s7_eq (i : Fin 28) (hi : i.val % 2 = 0 ∧ 14 ≤ i.val) {off : Fin 1 → ℕ} (ho : off = ![(i.val - 14) / 2]) (h : ∀ a, off a + S1.size a ≤ S7.size a) :
    ((cc0_scratch7.slice (Rect.unit (s := S7) off S1.size h)).squeeze S_ squeezes_S1_S_).sem = rSem i := by
  subst ho; revert i; decide +kernel
theorem s8_eq (i : Fin 28) (hi : i.val % 2 = 1 ∧ 14 ≤ i.val) {off : Fin 1 → ℕ} (ho : off = ![(i.val - 14) / 2]) (h : ∀ a, off a + S1.size a ≤ S7.size a) :
    ((cc0_scratch8.slice (Rect.unit (s := S7) off S1.size h)).squeeze S_ squeezes_S1_S_).sem = sSem i := by
  subst ho; revert i; decide +kernel
theorem s9_eq (i : Fin 28) (hi : i.val % 2 = 1 ∧ 14 ≤ i.val) {off : Fin 1 → ℕ} (ho : off = ![(i.val - 14) / 2]) (h : ∀ a, off a + S1.size a ≤ S7.size a) :
    ((cc0_scratch9.slice (Rect.unit (s := S7) off S1.size h)).squeeze S_ squeezes_S1_S_).sem = rSem i := by
  subst ho; revert i; decide +kernel

theorem goff7 : ∀ c : Dev nD, k0_off27 c 4#32 = ![256 * (ch 7 c).val, 512 * (1 : Fin 2).val] := by decide +kernel
theorem goff8 : ∀ c : Dev nD, k0_off28 c 5#32 = ![256 * (ch 8 c).val, 512 * (0 : Fin 2).val] := by decide +kernel
theorem goff9 : ∀ c : Dev nD, k0_off27 c 5#32 = ![256 * (ch 9 c).val, 512 * (1 : Fin 2).val] := by decide +kernel
theorem goff10 : ∀ c : Dev nD, k0_off28 c 6#32 = ![256 * (ch 10 c).val, 512 * (0 : Fin 2).val] := by decide +kernel
theorem goff11 : ∀ c : Dev nD, k0_off27 c 6#32 = ![256 * (ch 11 c).val, 512 * (1 : Fin 2).val] := by decide +kernel
theorem goff12 : ∀ c : Dev nD, k0_off28 c 7#32 = ![256 * (ch 12 c).val, 512 * (0 : Fin 2).val] := by decide +kernel
theorem goff13 : ∀ c : Dev nD, k0_off27 c 7#32 = ![256 * (ch 13 c).val, 512 * (1 : Fin 2).val] := by decide +kernel
theorem poff0 : ∀ c : Dev nD, k0_off29 c = ![256 * (wq 0 c).val, 512 * (hb 0).val] := by decide +kernel
theorem poff1 : ∀ c : Dev nD, k0_off30 c = ![256 * (wq 1 c).val, 512 * (hb 1).val] := by decide +kernel
theorem poff2 : ∀ c : Dev nD, k0_off31 c 0#32 = ![256 * (wq 2 c).val, 512 * (hb 2).val] := by decide +kernel
theorem poff3 : ∀ c : Dev nD, k0_off32 c 0#32 = ![256 * (wq 3 c).val, 512 * (hb 3).val] := by decide +kernel
theorem poff4 : ∀ c : Dev nD, k0_off31 c 1#32 = ![256 * (wq 4 c).val, 512 * (hb 4).val] := by decide +kernel
theorem poff5 : ∀ c : Dev nD, k0_off32 c 1#32 = ![256 * (wq 5 c).val, 512 * (hb 5).val] := by decide +kernel
theorem poff6 : ∀ c : Dev nD, k0_off31 c 2#32 = ![256 * (wq 6 c).val, 512 * (hb 6).val] := by decide +kernel
theorem poff7 : ∀ c : Dev nD, k0_off32 c 2#32 = ![256 * (wq 7 c).val, 512 * (hb 7).val] := by decide +kernel
theorem poff8 : ∀ c : Dev nD, k0_off31 c 3#32 = ![256 * (wq 8 c).val, 512 * (hb 8).val] := by decide +kernel
theorem poff9 : ∀ c : Dev nD, k0_off32 c 3#32 = ![256 * (wq 9 c).val, 512 * (hb 9).val] := by decide +kernel
theorem poff10 : ∀ c : Dev nD, k0_off31 c 4#32 = ![256 * (wq 10 c).val, 512 * (hb 10).val] := by decide +kernel
theorem poff11 : ∀ c : Dev nD, k0_off32 c 4#32 = ![256 * (wq 11 c).val, 512 * (hb 11).val] := by decide +kernel
theorem poff12 : ∀ c : Dev nD, k0_off31 c 5#32 = ![256 * (wq 12 c).val, 512 * (hb 12).val] := by decide +kernel
theorem poff13 : ∀ c : Dev nD, k0_off32 c 5#32 = ![256 * (wq 13 c).val, 512 * (hb 13).val] := by decide +kernel
theorem poff14 : ∀ c : Dev nD, k0_off31 c 6#32 = ![256 * (wq 14 c).val, 512 * (hb 14).val] := by decide +kernel
theorem poff15 : ∀ c : Dev nD, k0_off32 c 6#32 = ![256 * (wq 15 c).val, 512 * (hb 15).val] := by decide +kernel

section Tail

variable (K : GSem nD τ sig → ℕ) (II : Dev nD → Ins F) (c : Dev nD)

theorem part51_wp {Q : _ → sProp 𝕄} (v5 : BitVec 32) (v7 : BitVec 32) :
    TripInv K II c 0 ⊢ iprop((∀ f, ⌜Good (II c) c 7 f⌝ -∗ RO c (II c) -∗ Core K (Vv II) c 9 8 8 -∗ slotPts true c 4 fullShare (Vv II tr7 (frm tr7 c)) -∗ Out c f -∗ Q (k0_pay161 (Vv II tr7 (frm tr7 c)) (colH (chunkO (II c) (ch 7 c)) 1)))
      -∗ wp frame (wpE (defs₀ (F := F)) 𝒱₀ (c : Thread nD τ) none) Set.univ (k0_part51 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c (w2 c) v5 v7) Q) := by
  rw [k0_part51_eq_skeleton]; unfold k0_part51_skel
  simp only [Prog.lift, Prog.bind_op, Prog.bind_ret, Prog.pure_eq_ret, Prog.bind_assoc]
  iintro H0 HQ
  have hbody : ∀ (t : Fin k0_t1_loop.trips) (a : Unit), TripInv K II c t.val ⊢ wp frame (wpE (defs₀ (F := F)) 𝒱₀ (c : Thread nD τ) none) Set.univ
      (k0_t1_body (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c (w2 c) v5 v7 t a) (fun _ => TripInv K II c (t.val + 1)) := by
    intro t a
    unfold k0_t1_body
    simp only [Prog.bind_assoc, Prog.pure_eq_ret]
    iintro H
    rw [wp_bind]; iapply (part46_wp K II c v5 v7 t) $$ H
    iintro H
    rw [wp_ret]; imodintro
    iexact H
  iapply (Scf.wp_for_bind frame (wpE (defs₀ (F := F)) 𝒱₀ (c : Thread nD τ) none) Set.univ _ _ _ k0_t1_ok _ _ (fun k _ => TripInv K II c k) hbody) $$ H0
  iintro %_ H
  ihave H := (show TripInv K II c k0_t1_loop.trips ⊢ iprop(Core K (Vv II) c 9 7 7 ∗ RO c (II c) ∗ ∃ f, Out c f ∗ ⌜Good (II c) c 7 f⌝) from by unfold TripInv; exact .rfl) $$ H
  icases H with ⟨HC, HR, ⟨%f, HO, %hf⟩⟩
  iapply (step_waitS K (Vv II) c tr7 9 7 (by decide) (by decide) _ (s4_eq tr7 (by decide) (off := ![3]) (by decide) _) (credN _)) $$ HC
  iintro HC
  iapply (step_waitR K (Vv II) c tr7 9 8 (by decide) (by decide) _ (s5_eq tr7 (by decide) (off := ![3]) (by decide) _) (credN _)) $$ HC
  iintro HC HX
  ihave HS14 := (Entails.of_eq (show slotPts (bufOf tr7) c (dstS tr7) fullShare (Vv II tr7 (frm tr7 c)) = slotPts true c 4 fullShare (Vv II tr7 (frm tr7 c)) from rfl)) $$ HX
  iapply (ld_slot c true 4 fullShare (Vv II tr7 (frm tr7 c)) (off := ![4, 0, 0]) rfl) $$ HS14
  iintro HS14
  iapply (ld_out c f (ch 7 c) 1 (goff7 c)) $$ HO
  iintro HO
  rw [good_all (II c) c f hf 7 (by decide) 1]
  rw [wp_ret]; imodintro
  ispecialize HQ $$ %f %hf
  iapply HQ $$ HR HC HS14 HO

theorem part52_wp {Q : _ → sProp 𝕄} (f : FVec F S2048x1024 .f32) (hf : Good (II c) c 7 f) (v5 : BitVec 32) (v7 : BitVec 32) :
    iprop(Core K (Vv II) c 9 8 8
      ∗ slotPts true c 4 fullShare (Vv II tr7 (frm tr7 c))
      ∗ Out c f) ⊢ iprop((Core K (Vv II) c 10 9 8 -∗ Out c f -∗ Q ⟨⟩)
      -∗ wp frame (wpE (defs₀ (F := F)) 𝒱₀ (c : Thread nD τ) none) Set.univ (k0_part52 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v5 v7 (k0_pay161 (Vv II tr7 (frm tr7 c)) (colH (chunkO (II c) (ch 7 c)) 1))) Q) := by
  rw [k0_part52_eq_skeleton]; unfold k0_part52_skel
  simp only [Prog.lift, Prog.bind_op, Prog.bind_ret, Prog.pure_eq_ret, Prog.bind_assoc]
  iintro ⟨HC, HS14, HO⟩ HQ
  iapply (ld_slot c true 4 fullShare (Vv II tr7 (frm tr7 c)) (off := ![4, 0, 0]) rfl) $$ HS14
  iintro HS14
  ihave HX := (slotPts_any true c 4 _) $$ HS14
  iapply (st_slot c true 4 (k0_pay162 (k0_pay161 (Vv II tr7 (frm tr7 c)) (colH (chunkO (II c) (ch 7 c)) 1))) (off := ![4, 0, 0]) rfl) $$ HX
  iintro HX
  ihave HS14 := (Entails.of_eq (show slotPts true c 4 fullShare (k0_pay162 (k0_pay161 (Vv II tr7 (frm tr7 c)) (colH (chunkO (II c) (ch 7 c)) 1))) = slotPts (bufOf tr9) c (srcS tr9) fullShare (Vv II tr9 c) from congrArg (slotPts true c 4 fullShare) (Vv_add II tr7 (by decide) (by decide) c).symm)) $$ HX
  iapply (step_start K (Vv II) c tr9 8 8 (by decide) (by decide) (by decide) ⟨k0_dev7 c, k0_dev7_lt c⟩ ((Fin.ext (k0_dev7_eq c)).trans rfl) _ _ (s4_eq tr9 (by decide) (off := ![4]) (by decide) _) (s5_eq tr9 (by decide) (off := ![4]) (by decide) _) _ _ (rslot_eq (srcS tr9) (off := ![4, 0, 0]) (by decide) _) (rslot_eq (dstS tr9) (off := ![5, 0, 0]) (by decide) _)) $$ [HC HS14]
  · isplitl [HC]; · iexact HC
    iexact HS14
  iintro HC
  iapply (step_waitS K (Vv II) c tr8 10 8 (by decide) (by decide) _ (s2_eq tr8 (by decide) (off := ![4]) (by decide) _) (credN _)) $$ HC
  iintro HC
  rw [wp_ret]; imodintro
  iapply HQ $$ HC HO

theorem part53_wp {Q : _ → sProp 𝕄} (f : FVec F S2048x1024 .f32) (hf : Good (II c) c 7 f) (v2 : BitVec 32) (v5 : BitVec 32) :
    iprop(Core K (Vv II) c 10 9 8
      ∗ Out c f) ⊢ iprop((Core K (Vv II) c 11 9 9 -∗ Out c f -∗ Q ⟨⟩)
      -∗ wp frame (wpE (defs₀ (F := F)) 𝒱₀ (c : Thread nD τ) none) Set.univ (k0_part53 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5) Q) := by
  rw [k0_part53_eq_skeleton]; unfold k0_part53_skel
  simp only [Prog.lift, Prog.bind_op, Prog.bind_ret, Prog.pure_eq_ret, Prog.bind_assoc]
  iintro ⟨HC, HO⟩ HQ
  iapply (step_waitR K (Vv II) c tr8 10 9 (by decide) (by decide) _ (s3_eq tr8 (by decide) (off := ![4]) (by decide) _) (credN _)) $$ HC
  iintro HC HX
  ihave HS05 := (Entails.of_eq (show slotPts (bufOf tr8) c (dstS tr8) fullShare (Vv II tr8 (frm tr8 c)) = slotPts false c 5 fullShare (Vv II tr8 (frm tr8 c)) from rfl)) $$ HX
  iapply (ld_slot c false 5 fullShare (Vv II tr8 (frm tr8 c)) (off := ![5, 0, 0]) rfl) $$ HS05
  iintro HS05
  iapply (ld_out c f (ch 8 c) 0 (goff8 c)) $$ HO
  iintro HO
  rw [good_all (II c) c f hf 8 (by decide) 0]
  iapply (ld_slot c false 5 fullShare (Vv II tr8 (frm tr8 c)) (off := ![5, 0, 0]) rfl) $$ HS05
  iintro HS05
  ihave HX := (slotPts_any false c 5 _) $$ HS05
  iapply (st_slot c false 5 (k0_pay163 (Vv II tr8 (frm tr8 c)) (colH (chunkO (II c) (ch 8 c)) 0)) (off := ![5, 0, 0]) rfl) $$ HX
  iintro HX
  ihave HS05 := (Entails.of_eq (show slotPts false c 5 fullShare (k0_pay163 (Vv II tr8 (frm tr8 c)) (colH (chunkO (II c) (ch 8 c)) 0)) = slotPts (bufOf tr10) c (srcS tr10) fullShare (Vv II tr10 c) from congrArg (slotPts false c 5 fullShare) (Vv_add II tr8 (by decide) (by decide) c).symm)) $$ HX
  iapply (step_start K (Vv II) c tr10 9 9 (by decide) (by decide) (by decide) ⟨k0_dev8 c, k0_dev8_lt c⟩ ((Fin.ext (k0_dev8_eq c)).trans rfl) _ _ (s2_eq tr10 (by decide) (off := ![5]) (by decide) _) (s3_eq tr10 (by decide) (off := ![5]) (by decide) _) _ _ (lslot_eq (srcS tr10) (off := ![5, 0, 0]) (by decide) _) (lslot_eq (dstS tr10) (off := ![6, 0, 0]) (by decide) _)) $$ [HC HS05]
  · isplitl [HC]; · iexact HC
    iexact HS05
  iintro HC
  rw [wp_ret]; imodintro
  iapply HQ $$ HC HO

theorem part54_wp {Q : _ → sProp 𝕄} (f : FVec F S2048x1024 .f32) (hf : Good (II c) c 7 f) (v2 : BitVec 32) (v7 : BitVec 32) :
    iprop(Core K (Vv II) c 11 9 9
      ∗ Out c f) ⊢ iprop((Core K (Vv II) c 11 10 10 -∗ slotPts (bufOf tr11) c (srcS tr11) fullShare (Vv II tr11 c) -∗ Out c f -∗ Q ⟨⟩)
      -∗ wp frame (wpE (defs₀ (F := F)) 𝒱₀ (c : Thread nD τ) none) Set.univ (k0_part54 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v7) Q) := by
  rw [k0_part54_eq_skeleton]; unfold k0_part54_skel
  simp only [Prog.lift, Prog.bind_op, Prog.bind_ret, Prog.pure_eq_ret, Prog.bind_assoc]
  iintro ⟨HC, HO⟩ HQ
  iapply (step_waitS K (Vv II) c tr9 11 9 (by decide) (by decide) _ (s4_eq tr9 (by decide) (off := ![4]) (by decide) _) (credN _)) $$ HC
  iintro HC
  iapply (step_waitR K (Vv II) c tr9 11 10 (by decide) (by decide) _ (s5_eq tr9 (by decide) (off := ![4]) (by decide) _) (credN _)) $$ HC
  iintro HC HX
  ihave HS15 := (Entails.of_eq (show slotPts (bufOf tr9) c (dstS tr9) fullShare (Vv II tr9 (frm tr9 c)) = slotPts true c 5 fullShare (Vv II tr9 (frm tr9 c)) from rfl)) $$ HX
  iapply (ld_slot c true 5 fullShare (Vv II tr9 (frm tr9 c)) (off := ![5, 0, 0]) rfl) $$ HS15
  iintro HS15
  iapply (ld_out c f (ch 9 c) 1 (goff9 c)) $$ HO
  iintro HO
  rw [good_all (II c) c f hf 9 (by decide) 1]
  iapply (ld_slot c true 5 fullShare (Vv II tr9 (frm tr9 c)) (off := ![5, 0, 0]) rfl) $$ HS15
  iintro HS15
  ihave HX := (slotPts_any true c 5 _) $$ HS15
  iapply (st_slot c true 5 (k0_pay164 (Vv II tr9 (frm tr9 c)) (colH (chunkO (II c) (ch 9 c)) 1)) (off := ![5, 0, 0]) rfl) $$ HX
  iintro HX
  ihave HS15 := (Entails.of_eq (show slotPts true c 5 fullShare (k0_pay164 (Vv II tr9 (frm tr9 c)) (colH (chunkO (II c) (ch 9 c)) 1)) = slotPts (bufOf tr11) c (srcS tr11) fullShare (Vv II tr11 c) from congrArg (slotPts true c 5 fullShare) (Vv_add II tr9 (by decide) (by decide) c).symm)) $$ HX
  rw [wp_ret]; imodintro
  iapply HQ $$ HC HS15 HO

theorem part55_wp {Q : _ → sProp 𝕄} (f : FVec F S2048x1024 .f32) (hf : Good (II c) c 7 f) (v2 : BitVec 32) (v5 : BitVec 32) :
    iprop(Core K (Vv II) c 11 10 10
      ∗ slotPts (bufOf tr11) c (srcS tr11) fullShare (Vv II tr11 c)
      ∗ Out c f) ⊢ iprop((Core K (Vv II) c 12 11 11 -∗ slotPts false c 6 fullShare (Vv II tr10 (frm tr10 c)) -∗ Out c f -∗ Q (k0_pay165 (Vv II tr10 (frm tr10 c)) (colH (chunkO (II c) (ch 10 c)) 0)))
      -∗ wp frame (wpE (defs₀ (F := F)) 𝒱₀ (c : Thread nD τ) none) Set.univ (k0_part55 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5) Q) := by
  rw [k0_part55_eq_skeleton]; unfold k0_part55_skel
  simp only [Prog.lift, Prog.bind_op, Prog.bind_ret, Prog.pure_eq_ret, Prog.bind_assoc]
  iintro ⟨HC, HS15, HO⟩ HQ
  iapply (step_start K (Vv II) c tr11 10 10 (by decide) (by decide) (by decide) ⟨k0_dev9 c, k0_dev9_lt c⟩ ((Fin.ext (k0_dev9_eq c)).trans rfl) _ _ (s4_eq tr11 (by decide) (off := ![5]) (by decide) _) (s5_eq tr11 (by decide) (off := ![5]) (by decide) _) _ _ (rslot_eq (srcS tr11) (off := ![5, 0, 0]) (by decide) _) (rslot_eq (dstS tr11) (off := ![6, 0, 0]) (by decide) _)) $$ [HC HS15]
  · isplitl [HC]; · iexact HC
    iexact HS15
  iintro HC
  iapply (step_waitS K (Vv II) c tr10 12 10 (by decide) (by decide) _ (s2_eq tr10 (by decide) (off := ![5]) (by decide) _) (credN _)) $$ HC
  iintro HC
  iapply (step_waitR K (Vv II) c tr10 12 11 (by decide) (by decide) _ (s3_eq tr10 (by decide) (off := ![5]) (by decide) _) (credN _)) $$ HC
  iintro HC HX
  ihave HS06 := (Entails.of_eq (show slotPts (bufOf tr10) c (dstS tr10) fullShare (Vv II tr10 (frm tr10 c)) = slotPts false c 6 fullShare (Vv II tr10 (frm tr10 c)) from rfl)) $$ HX
  iapply (ld_slot c false 6 fullShare (Vv II tr10 (frm tr10 c)) (off := ![6, 0, 0]) rfl) $$ HS06
  iintro HS06
  iapply (ld_out c f (ch 10 c) 0 (goff10 c)) $$ HO
  iintro HO
  rw [good_all (II c) c f hf 10 (by decide) 0]
  rw [wp_ret]; imodintro
  iapply HQ $$ HC HS06 HO

theorem part56_wp {Q : _ → sProp 𝕄} (f : FVec F S2048x1024 .f32) (hf : Good (II c) c 7 f) (v5 : BitVec 32) (v7 : BitVec 32) :
    iprop(Core K (Vv II) c 12 11 11
      ∗ slotPts false c 6 fullShare (Vv II tr10 (frm tr10 c))
      ∗ Out c f) ⊢ iprop((Core K (Vv II) c 13 12 11 -∗ Out c f -∗ Q ⟨⟩)
      -∗ wp frame (wpE (defs₀ (F := F)) 𝒱₀ (c : Thread nD τ) none) Set.univ (k0_part56 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v5 v7 (k0_pay165 (Vv II tr10 (frm tr10 c)) (colH (chunkO (II c) (ch 10 c)) 0))) Q) := by
  rw [k0_part56_eq_skeleton]; unfold k0_part56_skel
  simp only [Prog.lift, Prog.bind_op, Prog.bind_ret, Prog.pure_eq_ret, Prog.bind_assoc]
  iintro ⟨HC, HS06, HO⟩ HQ
  iapply (ld_slot c false 6 fullShare (Vv II tr10 (frm tr10 c)) (off := ![6, 0, 0]) rfl) $$ HS06
  iintro HS06
  ihave HX := (slotPts_any false c 6 _) $$ HS06
  iapply (st_slot c false 6 (k0_pay166 (k0_pay165 (Vv II tr10 (frm tr10 c)) (colH (chunkO (II c) (ch 10 c)) 0))) (off := ![6, 0, 0]) rfl) $$ HX
  iintro HX
  ihave HS06 := (Entails.of_eq (show slotPts false c 6 fullShare (k0_pay166 (k0_pay165 (Vv II tr10 (frm tr10 c)) (colH (chunkO (II c) (ch 10 c)) 0))) = slotPts (bufOf tr12) c (srcS tr12) fullShare (Vv II tr12 c) from congrArg (slotPts false c 6 fullShare) (Vv_add II tr10 (by decide) (by decide) c).symm)) $$ HX
  iapply (step_start K (Vv II) c tr12 11 11 (by decide) (by decide) (by decide) ⟨k0_dev10 c, k0_dev10_lt c⟩ ((Fin.ext (k0_dev10_eq c)).trans rfl) _ _ (s2_eq tr12 (by decide) (off := ![6]) (by decide) _) (s3_eq tr12 (by decide) (off := ![6]) (by decide) _) _ _ (lslot_eq (srcS tr12) (off := ![6, 0, 0]) (by decide) _) (lslot_eq (dstS tr12) (off := ![7, 0, 0]) (by decide) _)) $$ [HC HS06]
  · isplitl [HC]; · iexact HC
    iexact HS06
  iintro HC
  iapply (step_waitS K (Vv II) c tr11 13 11 (by decide) (by decide) _ (s4_eq tr11 (by decide) (off := ![5]) (by decide) _) (credN _)) $$ HC
  iintro HC
  rw [wp_ret]; imodintro
  iapply HQ $$ HC HO

theorem part57_wp {Q : _ → sProp 𝕄} (f : FVec F S2048x1024 .f32) (hf : Good (II c) c 7 f) (v2 : BitVec 32) (v7 : BitVec 32) :
    iprop(Core K (Vv II) c 13 12 11
      ∗ Out c f) ⊢ iprop((Core K (Vv II) c 14 12 12 -∗ Out c f -∗ Q ⟨⟩)
      -∗ wp frame (wpE (defs₀ (F := F)) 𝒱₀ (c : Thread nD τ) none) Set.univ (k0_part57 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v7) Q) := by
  rw [k0_part57_eq_skeleton]; unfold k0_part57_skel
  simp only [Prog.lift, Prog.bind_op, Prog.bind_ret, Prog.pure_eq_ret, Prog.bind_assoc]
  iintro ⟨HC, HO⟩ HQ
  iapply (step_waitR K (Vv II) c tr11 13 12 (by decide) (by decide) _ (s5_eq tr11 (by decide) (off := ![5]) (by decide) _) (credN _)) $$ HC
  iintro HC HX
  ihave HS16 := (Entails.of_eq (show slotPts (bufOf tr11) c (dstS tr11) fullShare (Vv II tr11 (frm tr11 c)) = slotPts true c 6 fullShare (Vv II tr11 (frm tr11 c)) from rfl)) $$ HX
  iapply (ld_slot c true 6 fullShare (Vv II tr11 (frm tr11 c)) (off := ![6, 0, 0]) rfl) $$ HS16
  iintro HS16
  iapply (ld_out c f (ch 11 c) 1 (goff11 c)) $$ HO
  iintro HO
  rw [good_all (II c) c f hf 11 (by decide) 1]
  iapply (ld_slot c true 6 fullShare (Vv II tr11 (frm tr11 c)) (off := ![6, 0, 0]) rfl) $$ HS16
  iintro HS16
  ihave HX := (slotPts_any true c 6 _) $$ HS16
  iapply (st_slot c true 6 (k0_pay167 (Vv II tr11 (frm tr11 c)) (colH (chunkO (II c) (ch 11 c)) 1)) (off := ![6, 0, 0]) rfl) $$ HX
  iintro HX
  ihave HS16 := (Entails.of_eq (show slotPts true c 6 fullShare (k0_pay167 (Vv II tr11 (frm tr11 c)) (colH (chunkO (II c) (ch 11 c)) 1)) = slotPts (bufOf tr13) c (srcS tr13) fullShare (Vv II tr13 c) from congrArg (slotPts true c 6 fullShare) (Vv_add II tr11 (by decide) (by decide) c).symm)) $$ HX
  iapply (step_start K (Vv II) c tr13 12 12 (by decide) (by decide) (by decide) ⟨k0_dev11 c, k0_dev11_lt c⟩ ((Fin.ext (k0_dev11_eq c)).trans rfl) _ _ (s4_eq tr13 (by decide) (off := ![6]) (by decide) _) (s5_eq tr13 (by decide) (off := ![6]) (by decide) _) _ _ (rslot_eq (srcS tr13) (off := ![6, 0, 0]) (by decide) _) (rslot_eq (dstS tr13) (off := ![7, 0, 0]) (by decide) _)) $$ [HC HS16]
  · isplitl [HC]; · iexact HC
    iexact HS16
  iintro HC
  rw [wp_ret]; imodintro
  iapply HQ $$ HC HO

theorem part58_wp {Q : _ → sProp 𝕄} (f : FVec F S2048x1024 .f32) (hf : Good (II c) c 7 f) (v2 : BitVec 32) (v5 : BitVec 32) (v7 : BitVec 32) :
    iprop(Core K (Vv II) c 14 12 12
      ∗ Out c f) ⊢ iprop((Core K (Vv II) c 14 13 13 -∗ slotPts (bufOf tr14) c (srcS tr14) fullShare (Vv II tr14 c) -∗ Out c f -∗ Q ⟨⟩)
      -∗ wp frame (wpE (defs₀ (F := F)) 𝒱₀ (c : Thread nD τ) none) Set.univ (k0_part58 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5 v7) Q) := by
  rw [k0_part58_eq_skeleton]; unfold k0_part58_skel
  simp only [Prog.lift, Prog.bind_op, Prog.bind_ret, Prog.pure_eq_ret, Prog.bind_assoc]
  iintro ⟨HC, HO⟩ HQ
  iapply (step_waitS K (Vv II) c tr12 14 12 (by decide) (by decide) _ (s2_eq tr12 (by decide) (off := ![6]) (by decide) _) (credN _)) $$ HC
  iintro HC
  iapply (step_waitR K (Vv II) c tr12 14 13 (by decide) (by decide) _ (s3_eq tr12 (by decide) (off := ![6]) (by decide) _) (credN _)) $$ HC
  iintro HC HX
  ihave HS07 := (Entails.of_eq (show slotPts (bufOf tr12) c (dstS tr12) fullShare (Vv II tr12 (frm tr12 c)) = slotPts false c 7 fullShare (Vv II tr12 (frm tr12 c)) from rfl)) $$ HX
  iapply (ld_slot c false 7 fullShare (Vv II tr12 (frm tr12 c)) (off := ![7, 0, 0]) rfl) $$ HS07
  iintro HS07
  iapply (ld_out c f (ch 12 c) 0 (goff12 c)) $$ HO
  iintro HO
  rw [good_all (II c) c f hf 12 (by decide) 0]
  iapply (ld_slot c false 7 fullShare (Vv II tr12 (frm tr12 c)) (off := ![7, 0, 0]) rfl) $$ HS07
  iintro HS07
  ihave HX := (slotPts_any false c 7 _) $$ HS07
  iapply (st_slot c false 7 (k0_pay168 (Vv II tr12 (frm tr12 c)) (colH (chunkO (II c) (ch 12 c)) 0)) (off := ![7, 0, 0]) rfl) $$ HX
  iintro HX
  ihave HS07 := (Entails.of_eq (show slotPts false c 7 fullShare (k0_pay168 (Vv II tr12 (frm tr12 c)) (colH (chunkO (II c) (ch 12 c)) 0)) = slotPts (bufOf tr14) c (srcS tr14) fullShare (Vv II tr14 c) from congrArg (slotPts false c 7 fullShare) (Vv_add II tr12 (by decide) (by decide) c).symm)) $$ HX
  rw [wp_ret]; imodintro
  iapply HQ $$ HC HS07 HO

theorem part59_wp {Q : _ → sProp 𝕄} (f : FVec F S2048x1024 .f32) (hf : Good (II c) c 7 f) (v2 : BitVec 32) (v7 : BitVec 32) :
    iprop(Core K (Vv II) c 14 13 13
      ∗ slotPts (bufOf tr14) c (srcS tr14) fullShare (Vv II tr14 c)
      ∗ Out c f) ⊢ iprop((Core K (Vv II) c 15 14 14 -∗ slotPts true c 7 fullShare (Vv II tr13 (frm tr13 c)) -∗ Out c f -∗ Q (k0_pay169 (Vv II tr13 (frm tr13 c)) (colH (chunkO (II c) (ch 13 c)) 1)))
      -∗ wp frame (wpE (defs₀ (F := F)) 𝒱₀ (c : Thread nD τ) none) Set.univ (k0_part59 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v7) Q) := by
  rw [k0_part59_eq_skeleton]; unfold k0_part59_skel
  simp only [Prog.lift, Prog.bind_op, Prog.bind_ret, Prog.pure_eq_ret, Prog.bind_assoc]
  iintro ⟨HC, HS07, HO⟩ HQ
  iapply (step_start K (Vv II) c tr14 13 13 (by decide) (by decide) (by decide) ⟨k0_dev12 c, k0_dev12_lt c⟩ ((Fin.ext (k0_dev12_eq c)).trans rfl) _ _ (s6_eq tr14 (by decide) (off := ![0]) (by decide) _) (s7_eq tr14 (by decide) (off := ![0]) (by decide) _) _ _ (lslot_eq (srcS tr14) (off := ![7, 0, 0]) (by decide) _) (lslot_eq (dstS tr14) (off := ![0, 0, 0]) (by decide) _)) $$ [HC HS07]
  · isplitl [HC]; · iexact HC
    iexact HS07
  iintro HC
  iapply (step_waitS K (Vv II) c tr13 15 13 (by decide) (by decide) _ (s4_eq tr13 (by decide) (off := ![6]) (by decide) _) (credN _)) $$ HC
  iintro HC
  iapply (step_waitR K (Vv II) c tr13 15 14 (by decide) (by decide) _ (s5_eq tr13 (by decide) (off := ![6]) (by decide) _) (credN _)) $$ HC
  iintro HC HX
  ihave HS17 := (Entails.of_eq (show slotPts (bufOf tr13) c (dstS tr13) fullShare (Vv II tr13 (frm tr13 c)) = slotPts true c 7 fullShare (Vv II tr13 (frm tr13 c)) from rfl)) $$ HX
  iapply (ld_slot c true 7 fullShare (Vv II tr13 (frm tr13 c)) (off := ![7, 0, 0]) rfl) $$ HS17
  iintro HS17
  iapply (ld_out c f (ch 13 c) 1 (goff13 c)) $$ HO
  iintro HO
  rw [good_all (II c) c f hf 13 (by decide) 1]
  rw [wp_ret]; imodintro
  iapply HQ $$ HC HS17 HO

end Tail

end Cert.Attn
-- ==== Proof.Start.lean ====
module

public import proofs.«01_k».proof.Proof.TailA

@[expose] public section

/-! The opening barrier and the first two transfers; the communication buffers, cut into their slots and put together again. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

theorem slots_disj : ∀ s ∈ (Finset.univ : Finset (Fin 8)), ∀ s' ∈ (Finset.univ : Finset (Fin 8)), s ≠ s' → Disjoint (slotR s).set (slotR s').set := by
  intro s _ s' _ h
  refine Rect.unit_disjoint (s := S8x256x512) (0 : Fin 3) ?_
  have : s.val ≠ s'.val := fun e => h (Fin.ext e)
  show s.val + 1 ≤ s'.val ∨ s'.val + 1 ≤ s.val
  omega
theorem slots_cover : (Finset.univ : Finset (Fin 8)).biUnion (fun s => (slotR s).set) = Finset.univ := by
  refine Finset.eq_univ_of_forall fun i => ?_
  rw [Finset.mem_biUnion]
  have h0 : (i 0).val < 8 := (i 0).isLt
  have h1 : (i 1).val < 256 := (i 1).isLt
  have h2 : (i 2).val < 512 := (i 2).isLt
  refine ⟨⟨(i 0).val, h0⟩, Finset.mem_univ _, Rect.mem_set_unit.mpr ?_⟩
  intro a
  match a with
  | ⟨0, _⟩ => exact ⟨Nat.le_refl _, Nat.lt_succ_self _⟩
  | ⟨1, _⟩ => exact ⟨Nat.zero_le _, by show (i 1).val < 0 + 256; omega⟩
  | ⟨2, _⟩ => exact ⟨Nat.zero_le _, by show (i 2).val < 0 + 512; omega⟩
theorem univ8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl
theorem l_any (c : Dev nD) (s : Fin 8) : slotAny (F := F) false c s = iprop(∃ f : FVec F S8x256x512 .f32, lM.view.loc (c : Thread nD τ) ↦[(slotR s).set]{fullShare} f) := by
  unfold slotAny; rw [l_set]; rfl
theorem r_any (c : Dev nD) (s : Fin 8) : slotAny (F := F) true c s = iprop(∃ f : FVec F S8x256x512 .f32, rM.view.loc (c : Thread nD τ) ↦[(slotR s).set]{fullShare} f) := by
  unfold slotAny; rw [r_set]; rfl

theorem l_split (c : Dev nD) :
    iprop(∃ f : FVec F S8x256x512 .f32, lM.view.loc (c : Thread nD τ) ↦{fullShare} f) ⊢ bigSep Finset.univ fun s : Fin 8 => slotAny (F := F) false c s := by
  iintro ⟨%f, H⟩
  ihave H := (Entails.of_eq (show (lM.view.loc (c : Thread nD τ) ↦{fullShare} f : sProp 𝕄)
      = bigSep Finset.univ fun s : Fin 8 => lM.view.loc (c : Thread nD τ) ↦[(slotR s).set]{fullShare} f from by
    rw [← pointsTo_biUnion _ _ slots_disj, slots_cover])) $$ H
  have hm : (bigSep Finset.univ fun s : Fin 8 => lM.view.loc (c : Thread nD τ) ↦[(slotR s).set]{fullShare} f : sProp 𝕄)
      ⊢ bigSep Finset.univ fun s : Fin 8 => slotAny (F := F) false c s := by
    have h1 : ∀ s : Fin 8, (lM.view.loc (c : Thread nD τ) ↦[(slotR s).set]{fullShare} f : sProp 𝕄) ⊢ slotAny (F := F) false c s := by
      intro s; rw [l_any]; iintro H; iexists f; iexact H
    exact BI.bigSep_mono fun s _ => h1 s
  iapply hm $$ H
theorem l_join (c : Dev nD) :
    (bigSep Finset.univ fun s : Fin 8 => slotAny (F := F) false c s) ⊢ iprop(∃ f : FVec F S8x256x512 .f32, lM.view.loc (c : Thread nD τ) ↦{fullShare} f) := by
  have h : (bigSep Finset.univ fun s : Fin 8 => slotAny (F := F) false c s)
      ⊢ iprop(∃ fs : Fin 8 → FVec F S8x256x512 .f32, bigSep Finset.univ fun s : Fin 8 => lM.view.loc (c : Thread nD τ) ↦[(slotR s).set]{fullShare} fs s) := by
    rw [univ8]
    simp only [l_any]
    iintro ⟨⟨%f0, H0⟩, ⟨%f1, H1⟩, ⟨%f2, H2⟩, ⟨%f3, H3⟩, ⟨%f4, H4⟩, ⟨%f5, H5⟩, ⟨%f6, H6⟩, ⟨%f7, H7⟩⟩
    iexists (fun s => match s with | 0 => f0 | 1 => f1 | 2 => f2 | 3 => f3 | 4 => f4 | 5 => f5 | 6 => f6 | 7 => f7)
    rw [univ8]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro H
  ihave H := h $$ H
  icases H with ⟨%fs, H⟩
  ihave H := (pointsTo_biUnion_join (ℓ := lM.view.loc (c : Thread nD τ)) (q := fullShare) Finset.univ (fun s : Fin 8 => (slotR s).set) fs (fs 0) slots_disj) $$ H
  icases H with ⟨%g, -, H⟩
  iexists g
  ihave H := (Entails.of_eq (show (lM.view.loc (c : Thread nD τ) ↦[Finset.univ.biUnion fun s : Fin 8 => (slotR s).set]{fullShare} g : sProp 𝕄)
      = lM.view.loc (c : Thread nD τ) ↦{fullShare} g from by rw [slots_cover])) $$ H
  iexact H

theorem r_split (c : Dev nD) :
    iprop(∃ f : FVec F S8x256x512 .f32, rM.view.loc (c : Thread nD τ) ↦{fullShare} f) ⊢ bigSep Finset.univ fun s : Fin 8 => slotAny (F := F) true c s := by
  iintro ⟨%f, H⟩
  ihave H := (Entails.of_eq (show (rM.view.loc (c : Thread nD τ) ↦{fullShare} f : sProp 𝕄)
      = bigSep Finset.univ fun s : Fin 8 => rM.view.loc (c : Thread nD τ) ↦[(slotR s).set]{fullShare} f from by
    rw [← pointsTo_biUnion _ _ slots_disj, slots_cover])) $$ H
  have hm : (bigSep Finset.univ fun s : Fin 8 => rM.view.loc (c : Thread nD τ) ↦[(slotR s).set]{fullShare} f : sProp 𝕄)
      ⊢ bigSep Finset.univ fun s : Fin 8 => slotAny (F := F) true c s := by
    have h1 : ∀ s : Fin 8, (rM.view.loc (c : Thread nD τ) ↦[(slotR s).set]{fullShare} f : sProp 𝕄) ⊢ slotAny (F := F) true c s := by
      intro s; rw [r_any]; iintro H; iexists f; iexact H
    exact BI.bigSep_mono fun s _ => h1 s
  iapply hm $$ H
theorem r_join (c : Dev nD) :
    (bigSep Finset.univ fun s : Fin 8 => slotAny (F := F) true c s) ⊢ iprop(∃ f : FVec F S8x256x512 .f32, rM.view.loc (c : Thread nD τ) ↦{fullShare} f) := by
  have h : (bigSep Finset.univ fun s : Fin 8 => slotAny (F := F) true c s)
      ⊢ iprop(∃ fs : Fin 8 → FVec F S8x256x512 .f32, bigSep Finset.univ fun s : Fin 8 => rM.view.loc (c : Thread nD τ) ↦[(slotR s).set]{fullShare} fs s) := by
    rw [univ8]
    simp only [r_any]
    iintro ⟨⟨%f0, H0⟩, ⟨%f1, H1⟩, ⟨%f2, H2⟩, ⟨%f3, H3⟩, ⟨%f4, H4⟩, ⟨%f5, H5⟩, ⟨%f6, H6⟩, ⟨%f7, H7⟩⟩
    iexists (fun s => match s with | 0 => f0 | 1 => f1 | 2 => f2 | 3 => f3 | 4 => f4 | 5 => f5 | 6 => f6 | 7 => f7)
    rw [univ8]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro H
  ihave H := h $$ H
  icases H with ⟨%fs, H⟩
  ihave H := (pointsTo_biUnion_join (ℓ := rM.view.loc (c : Thread nD τ)) (q := fullShare) Finset.univ (fun s : Fin 8 => (slotR s).set) fs (fs 0) slots_disj) $$ H
  icases H with ⟨%g, -, H⟩
  iexists g
  ihave H := (Entails.of_eq (show (rM.view.loc (c : Thread nD τ) ↦[Finset.univ.biUnion fun s : Fin 8 => (slotR s).set]{fullShare} g : sProp 𝕄)
      = rM.view.loc (c : Thread nD τ) ↦{fullShare} g from by rw [slots_cover])) $$ H
  iexact H
/-- The slots a neighbour is to land in. -/
def Lend (b : Bool) (c : Dev nD) : sProp 𝕄 :=
  bigSep (Finset.univ.filter fun j : Fin 28 => j.val < 14 ∧ bufOf j = b) fun j => slotAny (F := F) (bufOf j) c (dstS j)

theorem lend_split (b : Bool) (c : Dev nD) : (bigSep Finset.univ fun s : Fin 8 => slotAny (F := F) b c s) = iprop(slotAny b c 0 ∗ Lend b c) := by
  have e : (Finset.univ : Finset (Fin 8)) = insert 0 ((Finset.univ.filter fun j : Fin 28 => j.val < 14 ∧ bufOf j = b).image dstS) := by
    revert b; decide
  have hn : (0 : Fin 8) ∉ ((Finset.univ.filter fun j : Fin 28 => j.val < 14 ∧ bufOf j = b).image dstS) := by revert b; decide
  have hi : Set.InjOn dstS ((Finset.univ.filter fun j : Fin 28 => j.val < 14 ∧ bufOf j = b) : Finset (Fin 28)) := by
    have : ∀ b, ∀ i ∈ (Finset.univ.filter fun j : Fin 28 => j.val < 14 ∧ bufOf j = b), ∀ j ∈ (Finset.univ.filter fun j : Fin 28 => j.val < 14 ∧ bufOf j = b),
      dstS i = dstS j → i = j := by decide
    intro i hi j hj h
    exact this b i (Finset.mem_coe.mp hi) j (Finset.mem_coe.mp hj) h
  rw [e]
  refine (BI.bigSep_insert hn).trans ?_
  rw [bigSep_image_of_injOn hi]
  unfold Lend
  congr 1
  refine BI.bigSep_congr fun j hj => ?_
  rw [(Finset.mem_filter.mp hj).2.2]

theorem lend_prv (c : Dev nD) : (bigSep (Finset.univ.filter fun j : Fin 28 => j.val < 14 ∧ bufOf j = true) fun j => slotAny (F := F) (bufOf j) (tgt j (prv c)) (dstS j)) = Lend true c := by
  unfold Lend
  refine BI.bigSep_congr fun j hj => ?_
  have hr : ∀ j : Fin 28, (j.val < 14 ∧ bufOf j = true) → rt j = true := by decide
  have h := hr j (Finset.mem_filter.mp hj).2
  rw [show tgt j (prv c) = c from by unfold tgt; rw [if_pos h, nxt_prv]]
theorem lend_nxt (c : Dev nD) : (bigSep (Finset.univ.filter fun j : Fin 28 => j.val < 14 ∧ bufOf j = false) fun j => slotAny (F := F) (bufOf j) (tgt j (nxt c)) (dstS j)) = Lend false c := by
  unfold Lend
  refine BI.bigSep_congr fun j hj => ?_
  have hr : ∀ j : Fin 28, (j.val < 14 ∧ bufOf j = false) → rt j = false := by decide
  have h := hr j (Finset.mem_filter.mp hj).2
  rw [show tgt j (nxt c) = c from by unfold tgt; rw [if_neg (by rw [h]; decide), prv_nxt]]

section Body

variable (K : GSem nD τ sig → ℕ) (V : Fin 28 → Dev nD → SlotT F) (c : Dev nD)

/-- The cells of the opening barrier are open. -/
def BarR : sProp 𝕄 := bigSep Finset.univ fun e : Dev nD => reached ER (barCell e) 0
instance BarR_persistent : BI.Persistent (BarR (F := F)) := by unfold BarR; infer_instance
theorem BarR_at (e : Dev nD) : BarR (F := F) ⊢ reached ER (barCell e) 0 := elim (Finset.mem_univ e)

/-- What device `c` holds for the closing barrier. -/
def FinRes : sProp 𝕄 :=
  iprop(dutyTok ER (finCell (prv c)) 0 true ∗ dutyTok ER (finCell (nxt c)) 0 false ∗ cred (tallyAt (finCell c) () 2) ∗ atPos ER (finCell c) 0 ∅ 0)
/-- What device `c` holds for the opening barrier. -/
def BarRes : sProp 𝕄 :=
  iprop(dutyTok ER (barCell (prv c)) 0 true ∗ dutyTok ER (barCell (nxt c)) 0 false ∗ cred (tallyAt (barCell c) () 2) ∗ atPos ER (barCell c) 0 ∅ 0)
/-- What device `c` holds for its transfers. -/
def TalkRes : sProp 𝕄 := iprop(Toks c 0 ∗ CrdR c 0 ∗ PosS c 0 ∗ PosR c 0)
/-- The facts known of every device from the start. -/
def Known : sProp 𝕄 := iprop(Invs K V ∗ levAts L lv ∗ BarR ∗ SRch c ∗ Rch c)
instance Known_persistent : BI.Persistent (Known K V c) := by unfold Known Invs SRch; infer_instance

theorem mayWait_bar : (levAts L lv : sProp 𝕄) ⊢ MayWait (c : Thread nD τ) (.reg barS) () (owed c 0) :=
  mayWait_owed c 0 (.reg barS) 1 (by decide) (by decide) (le_of_eq (lv_bar c ()))
theorem empty_sep (p : Fin 28 → Prop) [DecidablePred p] (h : ∀ i, ¬ p i) (Φ : Fin 28 → sProp 𝕄) : bigSep (Finset.univ.filter p) Φ = iprop(emp) := by
  rw [Finset.filter_eq_empty_iff.mpr fun i _ => h i]; rfl
theorem perm_zero : (Perm (F := F) c 0 0) = iprop((bigSep (Finset.univ.filter fun j : Fin 28 => j.val < 14 ∧ bufOf j = false) fun j => slotAny (bufOf j) (tgt j c) (dstS j))
    ∗ (bigSep (Finset.univ.filter fun j : Fin 28 => j.val < 14 ∧ bufOf j = true) fun j => slotAny (bufOf j) (tgt j c) (dstS j))) := by
  unfold Perm
  exact pulls _ _ _ (by decide) (by decide) _

theorem core_start : iprop(Pers K V c ∗ (∃ W, owes (c : Thread nD τ) (owed c 0) W) ∗ TalkRes c ∗ Perm c 0 0) ⊢ Core K V c 0 0 0 := by
  unfold Core TalkRes CrdS ZerS ZerR Half Stale Ret
  rw [empty_sep _ (by decide) (fun i => cred (tallyAt (sCell i c) () N)), empty_sep _ (by decide) (fun i => semVal (sCell i c) 0), empty_sep _ (by decide) (fun i => semVal (rCell i c) 0),
    empty_sep _ (by decide) (fun k => slotPts (bufOf k) c (srcS k) fullShare.right (V k c)), empty_sep _ (by decide) (fun j => slotAny (bufOf j) c (dstS j)),
    empty_sep _ (by decide) (fun k => slotAny (bufOf k) c (srcS k))]
  iintro ⟨HP, HO, ⟨HT, HR, HpS, HpR⟩, HPm⟩
  isplitl [HP]; · iexact HP
  isplitl [HO]; · iexact HO
  isplitl [HT]; · iexact HT
  isplitr; · iempintro
  isplitl [HR]; · iexact HR
  isplitl [HpS]; · iexact HpS
  isplitl [HpR]; · iexact HpR
  isplitr; · iempintro
  isplitr; · iempintro
  isplitl [HPm]; · iexact HPm
  isplitr; · iempintro
  isplitr; · iempintro
  iempintro

theorem core_end : Core K V c 28 28 28 ⊢ iprop(Pers K V c ∗ (∃ W, owes (c : Thread nD τ) (finO c) W) ∗ ZerS c 28 ∗ ZerR c 28 ∗ Ret c 28) := by
  unfold Core
  rw [owed_end]
  iintro ⟨HP, HO, -, -, -, -, -, HzS, HzR, -, -, -, HRt⟩
  isplitl [HP]; · iexact HP
  isplitl [HO]; · iexact HO
  isplitl [HzS]; · iexact HzS
  isplitl [HzR]; · iexact HzR
  iexact HRt

theorem ret_end : iprop(Ret (F := F) c 28 ∗ slotAny false c 6 ∗ slotAny true c 6)
    ⊢ iprop((bigSep Finset.univ fun s : Fin 8 => slotAny (F := F) false c s) ∗ bigSep Finset.univ fun s : Fin 8 => slotAny (F := F) true c s) := by
  have h : ∀ b : Bool, (bigSep Finset.univ fun s : Fin 8 => slotAny (F := F) b c s) = iprop(slotAny b c 6
      ∗ bigSep (Finset.univ.filter fun k : Fin 28 => 14 ≤ k.val ∧ bufOf k = b) fun k => slotAny (bufOf k) c (srcS k)) := by
    intro b
    have e : (Finset.univ : Finset (Fin 8)) = insert 6 ((Finset.univ.filter fun j : Fin 28 => 14 ≤ j.val ∧ bufOf j = b).image srcS) := by
      revert b; decide
    have hn : (6 : Fin 8) ∉ ((Finset.univ.filter fun j : Fin 28 => 14 ≤ j.val ∧ bufOf j = b).image srcS) := by revert b; decide
    have hi : Set.InjOn srcS ((Finset.univ.filter fun j : Fin 28 => 14 ≤ j.val ∧ bufOf j = b) : Finset (Fin 28)) := by
      have : ∀ b, ∀ i ∈ (Finset.univ.filter fun j : Fin 28 => 14 ≤ j.val ∧ bufOf j = b), ∀ j ∈ (Finset.univ.filter fun j : Fin 28 => 14 ≤ j.val ∧ bufOf j = b),
        srcS i = srcS j → i = j := by decide
      intro i hi j hj h
      exact this b i (Finset.mem_coe.mp hi) j (Finset.mem_coe.mp hj) h
    rw [e]
    refine (BI.bigSep_insert hn).trans ?_
    rw [bigSep_image_of_injOn hi]
    congr 1
    refine BI.bigSep_congr fun j hj => ?_
    rw [(Finset.mem_filter.mp hj).2.2]
  have e : Ret (F := F) c 28 = iprop((bigSep (Finset.univ.filter fun k : Fin 28 => 14 ≤ k.val ∧ bufOf k = false) fun k => slotAny (bufOf k) c (srcS k))
      ∗ (bigSep (Finset.univ.filter fun k : Fin 28 => 14 ≤ k.val ∧ bufOf k = true) fun k => slotAny (bufOf k) c (srcS k))) := by
    unfold Ret
    exact pulls _ _ _ (by decide) (by decide) _
  rw [h false, h true, e]
  iintro ⟨⟨H1, H2⟩, H3, H4⟩
  isplitl [H1 H3]
  · isplitl [H3]; · iexact H3
    iexact H1
  · isplitl [H4]; · iexact H4
    iexact H2

/-- The opening barrier. -/
theorem part47_wp {Q : _ → sProp 𝕄} (I : Ins F) :
    iprop(Known K V c ∗ BarRes c ∗ TalkRes c ∗ (∃ W, owes (c : Thread nD τ) (barO c) W) ∗ Lend true c ∗ Lend false c ∗ RO c I)
      ⊢ iprop((∀ v5 v7 a b d e, Core K V c 0 0 0 -∗ semVal (barCell c) 0 -∗ RO c I -∗ Q ⟨c, w2 c, v5, v7, rw0 c, qv I c, a, b, d, e⟩)
      -∗ wp frame (wpE (defs₀ (F := F)) 𝒱₀ (c : Thread nD τ) none) Set.univ (k0_part47 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0) Q) := by
  rw [k0_part47_eq_skeleton]; unfold k0_part47_skel
  simp only [semSignalWord, semWaitWord, Prog.lift, Prog.bind_op, Prog.bind_ret, Prog.pure_eq_ret, Prog.bind_assoc, wp_deviceId]
  have e1 : (⟨k0_dev1 c, k0_dev1_lt c⟩ : Dev nD) = prv c := Fin.ext (k0_dev1_eq c)
  have e2 : (⟨k0_dev2 c, k0_dev2_lt c⟩ : Dev nD) = nxt c := Fin.ext (k0_dev2_eq c)
  simp only [e1, e2]
  unfold Known BarRes
  iintro ⟨⟨#HI, #Hlev, #HB, #HSR, #HRc⟩, ⟨HtP, HtN, Hc, Hat⟩, HTR, ⟨%W, HO⟩, HLT, HLF, HR⟩ HQ
  iapply (Rounds.wp_signal 𝒱₀ ER (Rd V) (c : Thread nD τ) none (dst := (prv c : Thread nD τ)) (sem := barS) (r := 0) (d := true) (κ := K (barCell (prv c)))
      (by rw [duties_reg]; exact Finset.mem_univ _) rfl () (barO₁ c) rfl)
    $$ [HO HtP HLT]
  · isplitr; · iapply (Invs_bar K V (prv c)); iexact HI
    isplitl [HO]; · iexact HO
    isplitl [HtP]; · iexact HtP
    isplitl [HLT]
    · rw [payload_bar]; unfold barPay; rw [lend_prv, if_pos rfl, nxt_prv]
      isplitl [HLT]; · iexact HLT
      iexact HRc
    · iapply (BarR_at (prv c)); iexact HB
  iintro HO
  iapply (Rounds.wp_signal 𝒱₀ ER (Rd V) (c : Thread nD τ) none (dst := (nxt c : Thread nD τ)) (sem := barS) (r := 0) (d := false) (κ := K (barCell (nxt c)))
      (by rw [duties_reg]; exact Finset.mem_univ _) rfl () (owed c 0) rfl)
    $$ [HO HtN HLF]
  · isplitr; · iapply (Invs_bar K V (nxt c)); iexact HI
    isplitl [HO]; · iexact HO
    isplitl [HtN]; · iexact HtN
    isplitl [HLF]
    · rw [payload_bar]; unfold barPay; rw [lend_nxt, if_neg (by decide), prv_nxt]
      isplitl [HLF]; · iexact HLF
      iexact HRc
    · iapply (BarR_at (nxt c)); iexact HB
  iintro HO
  iapply (Rounds.wp_wait_rest_token 𝒱₀ ER (Rd V) (c : Thread nD τ) none (κ := K (barCell c))
      (wpE_semWait_eq 𝒱₀ (c : Thread nD τ) none Set.univ) (Set.mem_univ _) () (O := owed c 0) (W := W) (R := 0) (m := 0) (T := ∅)
      (by rw [expect_reg]; decide)) $$ [Hc HO Hat]
  · isplitr; · iapply (Invs_bar K V c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar V c)) $$ Hpay
  unfold barPay
  rw [if_pos rfl, if_neg (by decide)]
  icases Hp with ⟨⟨HF, #HRp⟩, HT, #HRn⟩
  imod (Rounds.cell_close ER (Rd V) (Set.mem_univ (K (barCell c))) (fun h => h) (R := 0 + 1) (duties_later V (barCell c))) $$ [Hat] with Hz
  · isplitr; · iapply (Invs_bar K V c); iexact HI
    iexact Hat
  ihave HC := (core_start K V c) $$ [HO HTR HF HT]
  · unfold Pers
    isplitr
    · isplitr; · iexact HI
      isplitr; · iexact Hlev
      isplitr; · iexact HRn
      isplitr; · iexact HRp
      iexact HSR
    isplitl [HO]; · iexists _; iexact HO
    isplitl [HTR]; · iexact HTR
    rw [perm_zero]
    isplitl [HF]; · iexact HF
    iexact HT
  rw [row0_eq c]
  iapply (ld_x c I c (k0_off1_eq c)) $$ HR
  iintro HR
  iapply (ld_wq c I) $$ HR
  iintro HR
  rw [show k0_pay153 (xr I c) I.wq = qv I c from rfl, wp_ret]; imodintro
  ispecialize HQ $$ %_ %_ %_ %_ %_ %_
  iapply HQ $$ HC Hz HR

/-- The first two transfers. -/
theorem part50_wp {Q : _ → sProp 𝕄} (II : Dev nD → Ins F) (v2 v5 v7 : BitVec 32) (f : FVec F S2048x1024 .f32) :
    iprop(Core K (Vv II) c 0 0 0 ∗ slotAny false c 0 ∗ slotAny true c 0 ∗ Out c (putR f c (chunkO (II c) c)) ∗ RO c (II c))
      ⊢ iprop((TripInv K II c 0 -∗ Q ⟨⟩)
      -∗ wp frame (wpE (defs₀ (F := F)) 𝒱₀ (c : Thread nD τ) none) Set.univ (k0_part50 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5 v7 (k0_pay158 (getH (putR f c (chunkO (II c) c)) c 0))) Q) := by
  rw [k0_part50_eq_skeleton]; unfold k0_part50_skel
  simp only [Prog.lift, Prog.bind_op, Prog.bind_ret, Prog.pure_eq_ret, Prog.bind_assoc]
  iintro ⟨HC, H0, H1, HO, HR⟩ HQ
  iapply (ld_any c false 0 (off := ![0, 0, 0]) rfl) $$ H0
  iintro %_ H0
  iapply (st_slot c false 0 (k0_pay159 (k0_pay158 (getH (putR f c (chunkO (II c) c)) c 0))) (off := ![0, 0, 0]) rfl) $$ H0
  iintro H0
  iapply (ld_out c _ c 1 ((k0_off7_eq c).trans rfl)) $$ HO
  iintro HO
  iapply (ld_any c true 0 (off := ![0, 0, 0]) rfl) $$ H1
  iintro %_ H1
  iapply (st_slot c true 0 (k0_pay160 (getH (putR f c (chunkO (II c) c)) c 1)) (off := ![0, 0, 0]) rfl) $$ H1
  iintro H1
  ihave H0 := (Entails.of_eq (show slotPts false c 0 fullShare (k0_pay159 (k0_pay158 (getH (putR f c (chunkO (II c) c)) c 0)))
      = slotPts (bufOf tr0) c (srcS tr0) fullShare (Vv II tr0 c) from by rw [getH_putR]; rfl)) $$ H0
  ihave H1 := (Entails.of_eq (show slotPts true c 0 fullShare (k0_pay160 (getH (putR f c (chunkO (II c) c)) c 1))
      = slotPts (bufOf tr1) c (srcS tr1) fullShare (Vv II tr1 c) from by rw [getH_putR]; rfl)) $$ H1
  iapply (step_start K (Vv II) c tr0 0 0 (by decide) (by decide) (by decide) ⟨k0_dev3 c, k0_dev3_lt c⟩ ((Fin.ext (k0_dev3_eq c)).trans rfl) _ _ (s2_eq tr0 (by decide) (off := ![0]) (by decide) _) (s3_eq tr0 (by decide) (off := ![0]) (by decide) _) _ _ (lslot_eq (srcS tr0) (off := ![0, 0, 0]) (by decide) _) (lslot_eq (dstS tr0) (off := ![1, 0, 0]) (by decide) _)) $$ [HC H0]
  · isplitl [HC]; · iexact HC
    iexact H0
  iintro HC
  iapply (step_start K (Vv II) c tr1 0 0 (by decide) (by decide) (by decide) ⟨k0_dev4 c, k0_dev4_lt c⟩ ((Fin.ext (k0_dev4_eq c)).trans rfl) _ _ (s4_eq tr1 (by decide) (off := ![0]) (by decide) _) (s5_eq tr1 (by decide) (off := ![0]) (by decide) _) _ _ (rslot_eq (srcS tr1) (off := ![0, 0, 0]) (by decide) _) (rslot_eq (dstS tr1) (off := ![1, 0, 0]) (by decide) _)) $$ [HC H1]
  · isplitl [HC]; · iexact HC
    iexact H1
  iintro HC
  rw [wp_ret]; imodintro
  iapply HQ
  unfold TripInv
  isplitl [HC]; · iexact HC
  isplitl [HR]; · iexact HR
  iexists _
  isplitl [HO]; · iexact HO
  ipureintro; exact good_zero _ _ _

end Body

end Cert.Attn
-- ==== Proof.TailB.lean ====
module

public import proofs.«01_k».proof.Proof.TailA

@[expose] public section

/-! The gathering: its first half. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

section Tail

variable (K : GSem nD τ sig → ℕ) (II : Dev nD → Ins F) (c : Dev nD)

theorem part60_wp {Q : _ → sProp 𝕄} (f : FVec F S2048x1024 .f32)  (v5 : BitVec 32) (v7 : BitVec 32) :
    iprop(Core K (Vv II) c 15 14 14
      ∗ slotPts true c 7 fullShare (Vv II tr13 (frm tr13 c))
      ∗ Out c f) ⊢ iprop((Core K (Vv II) c 16 14 14 -∗ Out c (puts II c f 2) -∗ Q ⟨⟩)
      -∗ wp frame (wpE (defs₀ (F := F)) 𝒱₀ (c : Thread nD τ) none) Set.univ (k0_part60 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v5 v7 (k0_pay169 (Vv II tr13 (frm tr13 c)) (colH (chunkO (II c) (ch 13 c)) 1))) Q) := by
  rw [k0_part60_eq_skeleton]; unfold k0_part60_skel
  simp only [Prog.lift, Prog.bind_op, Prog.bind_ret, Prog.pure_eq_ret, Prog.bind_assoc]
  iintro ⟨HC, HS17, HO⟩ HQ
  iapply (ld_slot c true 7 fullShare (Vv II tr13 (frm tr13 c)) (off := ![7, 0, 0]) rfl) $$ HS17
  iintro HS17
  ihave HX := (slotPts_any true c 7 _) $$ HS17
  iapply (st_slot c true 7 (k0_pay170 (k0_pay169 (Vv II tr13 (frm tr13 c)) (colH (chunkO (II c) (ch 13 c)) 1))) (off := ![7, 0, 0]) rfl) $$ HX
  iintro HX
  ihave HS17 := (Entails.of_eq (show slotPts true c 7 fullShare (k0_pay170 (k0_pay169 (Vv II tr13 (frm tr13 c)) (colH (chunkO (II c) (ch 13 c)) 1))) = slotPts (bufOf tr15) c (srcS tr15) fullShare (Vv II tr15 c) from congrArg (slotPts true c 7 fullShare) (Vv_add II tr13 (by decide) (by decide) c).symm)) $$ HX
  iapply (step_start K (Vv II) c tr15 14 14 (by decide) (by decide) (by decide) ⟨k0_dev13 c, k0_dev13_lt c⟩ ((Fin.ext (k0_dev13_eq c)).trans rfl) _ _ (s8_eq tr15 (by decide) (off := ![0]) (by decide) _) (s9_eq tr15 (by decide) (off := ![0]) (by decide) _) _ _ (rslot_eq (srcS tr15) (off := ![7, 0, 0]) (by decide) _) (rslot_eq (dstS tr15) (off := ![0, 0, 0]) (by decide) _)) $$ [HC HS17]
  · isplitl [HC]; · iexact HC
    iexact HS17
  iintro HC
  iapply (ld_half c K (Vv II) tr14 16 14 14 (by decide) (off := ![7, 0, 0]) (by decide) lM rfl) $$ HC
  iintro HC
  ihave HO := (Entails.of_eq (show Out c f = Out c (puts II c f 0) from rfl)) $$ HO
  iapply (ld_out_any c _) $$ HO
  iintro HO; iintro %_
  iapply (st_outH c _ (wq 0 c) (hb 0) (k0_pay171 (Vv II tr14 c)) (poff0 c)) $$ HO
  iintro HO
  ihave HO := (Entails.of_eq (show Out c (putH (puts II c f 0) (wq 0 c) (hb 0) (k0_pay171 (Vv II tr14 c))) = Out c (puts II c f 1) from rfl)) $$ HO
  iapply (ld_half c K (Vv II) tr15 16 14 14 (by decide) (off := ![7, 0, 0]) (by decide) rM rfl) $$ HC
  iintro HC
  iapply (ld_out_any c _) $$ HO
  iintro HO; iintro %_
  iapply (st_outH c _ (wq 1 c) (hb 1) (k0_pay172 (Vv II tr15 c)) (poff1 c)) $$ HO
  iintro HO
  ihave HO := (Entails.of_eq (show Out c (putH (puts II c f 1) (wq 1 c) (hb 1) (k0_pay172 (Vv II tr15 c))) = Out c (puts II c f 2) from rfl)) $$ HO
  rw [wp_ret]; imodintro
  iapply HQ $$ HC HO

theorem part61_wp {Q : _ → sProp 𝕄} (f : FVec F S2048x1024 .f32)  (v5 : BitVec 32) (v7 : BitVec 32) :
    iprop(Core K (Vv II) c 16 14 14
      ∗ Out c (puts II c f 2)) ⊢ iprop((Core K (Vv II) c 16 16 16 -∗ slotPts (bufOf tr16) c (srcS tr16) fullShare (Vv II tr16 c) -∗ slotPts (bufOf tr17) c (srcS tr17) fullShare (Vv II tr17 c) -∗ Out c (puts II c f 2) -∗ Q ⟨⟩)
      -∗ wp frame (wpE (defs₀ (F := F)) 𝒱₀ (c : Thread nD τ) none) Set.univ (k0_part61 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v5 v7) Q) := by
  rw [k0_part61_eq_skeleton]; unfold k0_part61_skel
  simp only [Prog.lift, Prog.bind_op, Prog.bind_ret, Prog.pure_eq_ret, Prog.bind_assoc]
  iintro ⟨HC, HO⟩ HQ
  iapply (step_waitS K (Vv II) c tr14 16 14 (by decide) (by decide) _ (s6_eq tr14 (by decide) (off := ![0]) (by decide) _) (credN _)) $$ HC
  iintro HC
  iapply (step_waitR K (Vv II) c tr14 16 15 (by decide) (by decide) _ (s7_eq tr14 (by decide) (off := ![0]) (by decide) _) (credN _)) $$ HC
  iintro HC HX
  ihave HS00 := (Entails.of_eq (show slotPts (bufOf tr14) c (dstS tr14) fullShare (Vv II tr14 (frm tr14 c)) = slotPts (bufOf tr16) c (srcS tr16) fullShare (Vv II tr16 c) from congrArg (slotPts false c 0 fullShare) (Vv_fwd II tr14 (by decide) (by decide) c).symm)) $$ HX
  iapply (step_waitS K (Vv II) c tr15 16 15 (by decide) (by decide) _ (s8_eq tr15 (by decide) (off := ![0]) (by decide) _) (credN _)) $$ HC
  iintro HC
  iapply (step_waitR K (Vv II) c tr15 16 16 (by decide) (by decide) _ (s9_eq tr15 (by decide) (off := ![0]) (by decide) _) (credN _)) $$ HC
  iintro HC HX
  ihave HS10 := (Entails.of_eq (show slotPts (bufOf tr15) c (dstS tr15) fullShare (Vv II tr15 (frm tr15 c)) = slotPts (bufOf tr17) c (srcS tr17) fullShare (Vv II tr17 c) from congrArg (slotPts true c 0 fullShare) (Vv_fwd II tr15 (by decide) (by decide) c).symm)) $$ HX
  rw [wp_ret]; imodintro
  iapply HQ $$ HC HS00 HS10 HO

theorem part62_wp {Q : _ → sProp 𝕄} (f : FVec F S2048x1024 .f32)  (v2 : BitVec 32) (v5 : BitVec 32) (v7 : BitVec 32) :
    iprop(Core K (Vv II) c 16 16 16
      ∗ slotPts (bufOf tr16) c (srcS tr16) fullShare (Vv II tr16 c)
      ∗ slotPts (bufOf tr17) c (srcS tr17) fullShare (Vv II tr17 c)
      ∗ Out c (puts II c f 2)) ⊢ iprop((∀ r0 r1, Core K (Vv II) c 18 16 16 -∗ Out c (puts II c f 2) -∗ Q ⟨r0, r1, (k0_pay173 (Vv II tr16 c))⟩)
      -∗ wp frame (wpE (defs₀ (F := F)) 𝒱₀ (c : Thread nD τ) none) Set.univ (k0_part62 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5 v7) Q) := by
  rw [k0_part62_eq_skeleton]; unfold k0_part62_skel
  simp only [Prog.lift, Prog.bind_op, Prog.bind_ret, Prog.pure_eq_ret, Prog.bind_assoc]
  iintro ⟨HC, HS00, HS10, HO⟩ HQ
  iapply (step_start K (Vv II) c tr16 16 16 (by decide) (by decide) (by decide) ⟨k0_dev14 c, k0_dev14_lt c⟩ ((Fin.ext (k0_dev14_eq c)).trans rfl) _ _ (s6_eq tr16 (by decide) (off := ![1]) (by decide) _) (s7_eq tr16 (by decide) (off := ![1]) (by decide) _) _ _ (lslot_eq (srcS tr16) (off := ![0, 0, 0]) (by decide) _) (lslot_eq (dstS tr16) (off := ![1, 0, 0]) (by decide) _)) $$ [HC HS00]
  · isplitl [HC]; · iexact HC
    iexact HS00
  iintro HC
  iapply (step_start K (Vv II) c tr17 16 16 (by decide) (by decide) (by decide) ⟨k0_dev15 c, k0_dev15_lt c⟩ ((Fin.ext (k0_dev15_eq c)).trans rfl) _ _ (s8_eq tr17 (by decide) (off := ![1]) (by decide) _) (s9_eq tr17 (by decide) (off := ![1]) (by decide) _) _ _ (rslot_eq (srcS tr17) (off := ![0, 0, 0]) (by decide) _) (rslot_eq (dstS tr17) (off := ![1, 0, 0]) (by decide) _)) $$ [HC HS10]
  · isplitl [HC]; · iexact HC
    iexact HS10
  iintro HC
  iapply (ld_half c K (Vv II) tr16 18 16 16 (by decide) (off := ![0, 0, 0]) (by decide) lM rfl) $$ HC
  iintro HC
  rw [wp_ret]; imodintro
  ispecialize HQ $$ %_ %_
  iapply HQ $$ HC HO

theorem part63_wp {Q : _ → sProp 𝕄} (f : FVec F S2048x1024 .f32)  (v7 : BitVec 32) (v456 : BitVec 32) (v459 : BitVec 32) :
    iprop(Core K (Vv II) c 18 16 16
      ∗ Out c (puts II c f 2)) ⊢ iprop((Core K (Vv II) c 18 17 17 -∗ slotPts (bufOf tr18) c (srcS tr18) fullShare (Vv II tr18 c) -∗ Out c (puts II c f 4) -∗ Q ⟨⟩)
      -∗ wp frame (wpE (defs₀ (F := F)) 𝒱₀ (c : Thread nD τ) none) Set.univ (k0_part63 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v7 v456 v459 (k0_pay173 (Vv II tr16 c))) Q) := by
  rw [k0_part63_eq_skeleton]; unfold k0_part63_skel
  simp only [Prog.lift, Prog.bind_op, Prog.bind_ret, Prog.pure_eq_ret, Prog.bind_assoc]
  iintro ⟨HC, HO⟩ HQ
  iapply (ld_out_any c _) $$ HO
  iintro HO; iintro %_
  iapply (st_outH c _ (wq 2 c) (hb 2) (k0_pay173 (Vv II tr16 c)) (poff2 c)) $$ HO
  iintro HO
  ihave HO := (Entails.of_eq (show Out c (putH (puts II c f 2) (wq 2 c) (hb 2) (k0_pay173 (Vv II tr16 c))) = Out c (puts II c f 3) from rfl)) $$ HO
  iapply (ld_half c K (Vv II) tr17 18 16 16 (by decide) (off := ![0, 0, 0]) (by decide) rM rfl) $$ HC
  iintro HC
  iapply (ld_out_any c _) $$ HO
  iintro HO; iintro %_
  iapply (st_outH c _ (wq 3 c) (hb 3) (k0_pay174 (Vv II tr17 c)) (poff3 c)) $$ HO
  iintro HO
  ihave HO := (Entails.of_eq (show Out c (putH (puts II c f 3) (wq 3 c) (hb 3) (k0_pay174 (Vv II tr17 c))) = Out c (puts II c f 4) from rfl)) $$ HO
  iapply (step_waitS K (Vv II) c tr16 18 16 (by decide) (by decide) _ (s6_eq tr16 (by decide) (off := ![1]) (by decide) _) (credN _)) $$ HC
  iintro HC
  iapply (step_waitR K (Vv II) c tr16 18 17 (by decide) (by decide) _ (s7_eq tr16 (by decide) (off := ![1]) (by decide) _) (credN _)) $$ HC
  iintro HC HX
  ihave HS01 := (Entails.of_eq (show slotPts (bufOf tr16) c (dstS tr16) fullShare (Vv II tr16 (frm tr16 c)) = slotPts (bufOf tr18) c (srcS tr18) fullShare (Vv II tr18 c) from congrArg (slotPts false c 1 fullShare) (Vv_fwd II tr16 (by decide) (by decide) c).symm)) $$ HX
  rw [wp_ret]; imodintro
  iapply HQ $$ HC HS01 HO

theorem part64_wp {Q : _ → sProp 𝕄} (f : FVec F S2048x1024 .f32)  (v5 : BitVec 32) (v7 : BitVec 32) :
    iprop(Core K (Vv II) c 18 17 17
      ∗ slotPts (bufOf tr18) c (srcS tr18) fullShare (Vv II tr18 c)
      ∗ Out c (puts II c f 4)) ⊢ iprop((Core K (Vv II) c 19 18 18 -∗ slotPts (bufOf tr19) c (srcS tr19) fullShare (Vv II tr19 c) -∗ Out c (puts II c f 4) -∗ Q ⟨⟩)
      -∗ wp frame (wpE (defs₀ (F := F)) 𝒱₀ (c : Thread nD τ) none) Set.univ (k0_part64 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v5 v7) Q) := by
  rw [k0_part64_eq_skeleton]; unfold k0_part64_skel
  simp only [Prog.lift, Prog.bind_op, Prog.bind_ret, Prog.pure_eq_ret, Prog.bind_assoc]
  iintro ⟨HC, HS01, HO⟩ HQ
  iapply (step_waitS K (Vv II) c tr17 18 17 (by decide) (by decide) _ (s8_eq tr17 (by decide) (off := ![1]) (by decide) _) (credN _)) $$ HC
  iintro HC
  iapply (step_waitR K (Vv II) c tr17 18 18 (by decide) (by decide) _ (s9_eq tr17 (by decide) (off := ![1]) (by decide) _) (credN _)) $$ HC
  iintro HC HX
  ihave HS11 := (Entails.of_eq (show slotPts (bufOf tr17) c (dstS tr17) fullShare (Vv II tr17 (frm tr17 c)) = slotPts (bufOf tr19) c (srcS tr19) fullShare (Vv II tr19 c) from congrArg (slotPts true c 1 fullShare) (Vv_fwd II tr17 (by decide) (by decide) c).symm)) $$ HX
  iapply (step_start K (Vv II) c tr18 18 18 (by decide) (by decide) (by decide) ⟨k0_dev16 c, k0_dev16_lt c⟩ ((Fin.ext (k0_dev16_eq c)).trans rfl) _ _ (s6_eq tr18 (by decide) (off := ![2]) (by decide) _) (s7_eq tr18 (by decide) (off := ![2]) (by decide) _) _ _ (lslot_eq (srcS tr18) (off := ![1, 0, 0]) (by decide) _) (lslot_eq (dstS tr18) (off := ![2, 0, 0]) (by decide) _)) $$ [HC HS01]
  · isplitl [HC]; · iexact HC
    iexact HS01
  iintro HC
  rw [wp_ret]; imodintro
  iapply HQ $$ HC HS11 HO

theorem part65_wp {Q : _ → sProp 𝕄} (f : FVec F S2048x1024 .f32)  (v2 : BitVec 32) :
    iprop(Core K (Vv II) c 19 18 18
      ∗ slotPts (bufOf tr19) c (srcS tr19) fullShare (Vv II tr19 c)
      ∗ Out c (puts II c f 4)) ⊢ iprop((Core K (Vv II) c 20 18 18 -∗ Out c (puts II c f 6) -∗ Q ⟨⟩)
      -∗ wp frame (wpE (defs₀ (F := F)) 𝒱₀ (c : Thread nD τ) none) Set.univ (k0_part65 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2) Q) := by
  rw [k0_part65_eq_skeleton]; unfold k0_part65_skel
  simp only [Prog.lift, Prog.bind_op, Prog.bind_ret, Prog.pure_eq_ret, Prog.bind_assoc]
  iintro ⟨HC, HS11, HO⟩ HQ
  iapply (step_start K (Vv II) c tr19 18 18 (by decide) (by decide) (by decide) ⟨k0_dev17 c, k0_dev17_lt c⟩ ((Fin.ext (k0_dev17_eq c)).trans rfl) _ _ (s8_eq tr19 (by decide) (off := ![2]) (by decide) _) (s9_eq tr19 (by decide) (off := ![2]) (by decide) _) _ _ (rslot_eq (srcS tr19) (off := ![1, 0, 0]) (by decide) _) (rslot_eq (dstS tr19) (off := ![2, 0, 0]) (by decide) _)) $$ [HC HS11]
  · isplitl [HC]; · iexact HC
    iexact HS11
  iintro HC
  iapply (ld_half c K (Vv II) tr18 20 18 18 (by decide) (off := ![1, 0, 0]) (by decide) lM rfl) $$ HC
  iintro HC
  iapply (ld_out_any c _) $$ HO
  iintro HO; iintro %_
  iapply (st_outH c _ (wq 4 c) (hb 4) (k0_pay175 (Vv II tr18 c)) (poff4 c)) $$ HO
  iintro HO
  ihave HO := (Entails.of_eq (show Out c (putH (puts II c f 4) (wq 4 c) (hb 4) (k0_pay175 (Vv II tr18 c))) = Out c (puts II c f 5) from rfl)) $$ HO
  iapply (ld_half c K (Vv II) tr19 20 18 18 (by decide) (off := ![1, 0, 0]) (by decide) rM rfl) $$ HC
  iintro HC
  iapply (ld_out_any c _) $$ HO
  iintro HO; iintro %_
  iapply (st_outH c _ (wq 5 c) (hb 5) (k0_pay176 (Vv II tr19 c)) (poff5 c)) $$ HO
  iintro HO
  ihave HO := (Entails.of_eq (show Out c (putH (puts II c f 5) (wq 5 c) (hb 5) (k0_pay176 (Vv II tr19 c))) = Out c (puts II c f 6) from rfl)) $$ HO
  rw [wp_ret]; imodintro
  iapply HQ $$ HC HO

theorem part66_wp {Q : _ → sProp 𝕄} (f : FVec F S2048x1024 .f32)  (v5 : BitVec 32) (v7 : BitVec 32) :
    iprop(Core K (Vv II) c 20 18 18
      ∗ Out c (puts II c f 6)) ⊢ iprop((∀ r0, Core K (Vv II) c 20 20 20 -∗ slotPts (bufOf tr20) c (srcS tr20) fullShare (Vv II tr20 c) -∗ slotPts (bufOf tr21) c (srcS tr21) fullShare (Vv II tr21 c) -∗ Out c (puts II c f 6) -∗ Q r0)
      -∗ wp frame (wpE (defs₀ (F := F)) 𝒱₀ (c : Thread nD τ) none) Set.univ (k0_part66 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v5 v7) Q) := by
  rw [k0_part66_eq_skeleton]; unfold k0_part66_skel
  simp only [Prog.lift, Prog.bind_op, Prog.bind_ret, Prog.pure_eq_ret, Prog.bind_assoc]
  iintro ⟨HC, HO⟩ HQ
  iapply (step_waitS K (Vv II) c tr18 20 18 (by decide) (by decide) _ (s6_eq tr18 (by decide) (off := ![2]) (by decide) _) (credN _)) $$ HC
  iintro HC
  iapply (step_waitR K (Vv II) c tr18 20 19 (by decide) (by decide) _ (s7_eq tr18 (by decide) (off := ![2]) (by decide) _) (credN _)) $$ HC
  iintro HC HX
  ihave HS02 := (Entails.of_eq (show slotPts (bufOf tr18) c (dstS tr18) fullShare (Vv II tr18 (frm tr18 c)) = slotPts (bufOf tr20) c (srcS tr20) fullShare (Vv II tr20 c) from congrArg (slotPts false c 2 fullShare) (Vv_fwd II tr18 (by decide) (by decide) c).symm)) $$ HX
  iapply (step_waitS K (Vv II) c tr19 20 19 (by decide) (by decide) _ (s8_eq tr19 (by decide) (off := ![2]) (by decide) _) (credN _)) $$ HC
  iintro HC
  iapply (step_waitR K (Vv II) c tr19 20 20 (by decide) (by decide) _ (s9_eq tr19 (by decide) (off := ![2]) (by decide) _) (credN _)) $$ HC
  iintro HC HX
  ihave HS12 := (Entails.of_eq (show slotPts (bufOf tr19) c (dstS tr19) fullShare (Vv II tr19 (frm tr19 c)) = slotPts (bufOf tr21) c (srcS tr21) fullShare (Vv II tr21 c) from congrArg (slotPts true c 2 fullShare) (Vv_fwd II tr19 (by decide) (by decide) c).symm)) $$ HX
  rw [wp_ret]; imodintro
  ispecialize HQ $$ %_
  iapply HQ $$ HC HS02 HS12 HO

theorem part67_wp {Q : _ → sProp 𝕄} (f : FVec F S2048x1024 .f32)  (v2 : BitVec 32) (v5 : BitVec 32) (v7 : BitVec 32) (c1_i32_553 : BitVec 32) :
    iprop(Core K (Vv II) c 20 20 20
      ∗ slotPts (bufOf tr20) c (srcS tr20) fullShare (Vv II tr20 c)
      ∗ slotPts (bufOf tr21) c (srcS tr21) fullShare (Vv II tr21 c)
      ∗ Out c (puts II c f 6)) ⊢ iprop((∀ r0, Core K (Vv II) c 22 20 20 -∗ Out c (puts II c f 6) -∗ Q ⟨r0, (k0_pay177 (Vv II tr20 c))⟩)
      -∗ wp frame (wpE (defs₀ (F := F)) 𝒱₀ (c : Thread nD τ) none) Set.univ (k0_part67 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5 v7 c1_i32_553) Q) := by
  rw [k0_part67_eq_skeleton]; unfold k0_part67_skel
  simp only [Prog.lift, Prog.bind_op, Prog.bind_ret, Prog.pure_eq_ret, Prog.bind_assoc]
  iintro ⟨HC, HS02, HS12, HO⟩ HQ
  iapply (step_start K (Vv II) c tr20 20 20 (by decide) (by decide) (by decide) ⟨k0_dev18 c, k0_dev18_lt c⟩ ((Fin.ext (k0_dev18_eq c)).trans rfl) _ _ (s6_eq tr20 (by decide) (off := ![3]) (by decide) _) (s7_eq tr20 (by decide) (off := ![3]) (by decide) _) _ _ (lslot_eq (srcS tr20) (off := ![2, 0, 0]) (by decide) _) (lslot_eq (dstS tr20) (off := ![3, 0, 0]) (by decide) _)) $$ [HC HS02]
  · isplitl [HC]; · iexact HC
    iexact HS02
  iintro HC
  iapply (step_start K (Vv II) c tr21 20 20 (by decide) (by decide) (by decide) ⟨k0_dev19 c, k0_dev19_lt c⟩ ((Fin.ext (k0_dev19_eq c)).trans rfl) _ _ (s8_eq tr21 (by decide) (off := ![3]) (by decide) _) (s9_eq tr21 (by decide) (off := ![3]) (by decide) _) _ _ (rslot_eq (srcS tr21) (off := ![2, 0, 0]) (by decide) _) (rslot_eq (dstS tr21) (off := ![3, 0, 0]) (by decide) _)) $$ [HC HS12]
  · isplitl [HC]; · iexact HC
    iexact HS12
  iintro HC
  iapply (ld_half c K (Vv II) tr20 22 20 20 (by decide) (off := ![2, 0, 0]) (by decide) lM rfl) $$ HC
  iintro HC
  rw [wp_ret]; imodintro
  ispecialize HQ $$ %_
  iapply HQ $$ HC HO

theorem part68_wp {Q : _ → sProp 𝕄} (f : FVec F S2048x1024 .f32)  (v7 : BitVec 32) (v589 : BitVec 32) :
    iprop(Core K (Vv II) c 22 20 20
      ∗ Out c (puts II c f 6)) ⊢ iprop((Core K (Vv II) c 22 21 21 -∗ slotPts (bufOf tr22) c (srcS tr22) fullShare (Vv II tr22 c) -∗ Out c (puts II c f 8) -∗ Q ⟨⟩)
      -∗ wp frame (wpE (defs₀ (F := F)) 𝒱₀ (c : Thread nD τ) none) Set.univ (k0_part68 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v7 v589 (k0_pay177 (Vv II tr20 c))) Q) := by
  rw [k0_part68_eq_skeleton]; unfold k0_part68_skel
  simp only [Prog.lift, Prog.bind_op, Prog.bind_ret, Prog.pure_eq_ret, Prog.bind_assoc]
  iintro ⟨HC, HO⟩ HQ
  iapply (ld_out_any c _) $$ HO
  iintro HO; iintro %_
  iapply (st_outH c _ (wq 6 c) (hb 6) (k0_pay177 (Vv II tr20 c)) (poff6 c)) $$ HO
  iintro HO
  ihave HO := (Entails.of_eq (show Out c (putH (puts II c f 6) (wq 6 c) (hb 6) (k0_pay177 (Vv II tr20 c))) = Out c (puts II c f 7) from rfl)) $$ HO
  iapply (ld_half c K (Vv II) tr21 22 20 20 (by decide) (off := ![2, 0, 0]) (by decide) rM rfl) $$ HC
  iintro HC
  iapply (ld_out_any c _) $$ HO
  iintro HO; iintro %_
  iapply (st_outH c _ (wq 7 c) (hb 7) (k0_pay178 (Vv II tr21 c)) (poff7 c)) $$ HO
  iintro HO
  ihave HO := (Entails.of_eq (show Out c (putH (puts II c f 7) (wq 7 c) (hb 7) (k0_pay178 (Vv II tr21 c))) = Out c (puts II c f 8) from rfl)) $$ HO
  iapply (step_waitS K (Vv II) c tr20 22 20 (by decide) (by decide) _ (s6_eq tr20 (by decide) (off := ![3]) (by decide) _) (credN _)) $$ HC
  iintro HC
  iapply (step_waitR K (Vv II) c tr20 22 21 (by decide) (by decide) _ (s7_eq tr20 (by decide) (off := ![3]) (by decide) _) (credN _)) $$ HC
  iintro HC HX
  ihave HS03 := (Entails.of_eq (show slotPts (bufOf tr20) c (dstS tr20) fullShare (Vv II tr20 (frm tr20 c)) = slotPts (bufOf tr22) c (srcS tr22) fullShare (Vv II tr22 c) from congrArg (slotPts false c 3 fullShare) (Vv_fwd II tr20 (by decide) (by decide) c).symm)) $$ HX
  rw [wp_ret]; imodintro
  iapply HQ $$ HC HS03 HO

end Tail

end Cert.Attn
-- ==== Proof.TailC.lean ====
module

public import proofs.«01_k».proof.Proof.TailA

@[expose] public section

/-! The gathering: its second half. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

section Tail

variable (K : GSem nD τ sig → ℕ) (II : Dev nD → Ins F) (c : Dev nD)

theorem part69_wp {Q : _ → sProp 𝕄} (f : FVec F S2048x1024 .f32)  (v5 : BitVec 32) (v7 : BitVec 32) :
    iprop(Core K (Vv II) c 22 21 21
      ∗ slotPts (bufOf tr22) c (srcS tr22) fullShare (Vv II tr22 c)
      ∗ Out c (puts II c f 8)) ⊢ iprop((Core K (Vv II) c 23 22 22 -∗ slotPts (bufOf tr23) c (srcS tr23) fullShare (Vv II tr23 c) -∗ Out c (puts II c f 8) -∗ Q ⟨⟩)
      -∗ wp frame (wpE (defs₀ (F := F)) 𝒱₀ (c : Thread nD τ) none) Set.univ (k0_part69 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v5 v7) Q) := by
  rw [k0_part69_eq_skeleton]; unfold k0_part69_skel
  simp only [Prog.lift, Prog.bind_op, Prog.bind_ret, Prog.pure_eq_ret, Prog.bind_assoc]
  iintro ⟨HC, HS03, HO⟩ HQ
  iapply (step_waitS K (Vv II) c tr21 22 21 (by decide) (by decide) _ (s8_eq tr21 (by decide) (off := ![3]) (by decide) _) (credN _)) $$ HC
  iintro HC
  iapply (step_waitR K (Vv II) c tr21 22 22 (by decide) (by decide) _ (s9_eq tr21 (by decide) (off := ![3]) (by decide) _) (credN _)) $$ HC
  iintro HC HX
  ihave HS13 := (Entails.of_eq (show slotPts (bufOf tr21) c (dstS tr21) fullShare (Vv II tr21 (frm tr21 c)) = slotPts (bufOf tr23) c (srcS tr23) fullShare (Vv II tr23 c) from congrArg (slotPts true c 3 fullShare) (Vv_fwd II tr21 (by decide) (by decide) c).symm)) $$ HX
  iapply (step_start K (Vv II) c tr22 22 22 (by decide) (by decide) (by decide) ⟨k0_dev20 c, k0_dev20_lt c⟩ ((Fin.ext (k0_dev20_eq c)).trans rfl) _ _ (s6_eq tr22 (by decide) (off := ![4]) (by decide) _) (s7_eq tr22 (by decide) (off := ![4]) (by decide) _) _ _ (lslot_eq (srcS tr22) (off := ![3, 0, 0]) (by decide) _) (lslot_eq (dstS tr22) (off := ![4, 0, 0]) (by decide) _)) $$ [HC HS03]
  · isplitl [HC]; · iexact HC
    iexact HS03
  iintro HC
  rw [wp_ret]; imodintro
  iapply HQ $$ HC HS13 HO

theorem part70_wp {Q : _ → sProp 𝕄} (f : FVec F S2048x1024 .f32)  (v2 : BitVec 32) :
    iprop(Core K (Vv II) c 23 22 22
      ∗ slotPts (bufOf tr23) c (srcS tr23) fullShare (Vv II tr23 c)
      ∗ Out c (puts II c f 8)) ⊢ iprop((Core K (Vv II) c 24 23 22 -∗ Out c (puts II c f 10) -∗ Q ⟨⟩)
      -∗ wp frame (wpE (defs₀ (F := F)) 𝒱₀ (c : Thread nD τ) none) Set.univ (k0_part70 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2) Q) := by
  rw [k0_part70_eq_skeleton]; unfold k0_part70_skel
  simp only [Prog.lift, Prog.bind_op, Prog.bind_ret, Prog.pure_eq_ret, Prog.bind_assoc]
  iintro ⟨HC, HS13, HO⟩ HQ
  iapply (step_start K (Vv II) c tr23 22 22 (by decide) (by decide) (by decide) ⟨k0_dev21 c, k0_dev21_lt c⟩ ((Fin.ext (k0_dev21_eq c)).trans rfl) _ _ (s8_eq tr23 (by decide) (off := ![4]) (by decide) _) (s9_eq tr23 (by decide) (off := ![4]) (by decide) _) _ _ (rslot_eq (srcS tr23) (off := ![3, 0, 0]) (by decide) _) (rslot_eq (dstS tr23) (off := ![4, 0, 0]) (by decide) _)) $$ [HC HS13]
  · isplitl [HC]; · iexact HC
    iexact HS13
  iintro HC
  iapply (ld_half c K (Vv II) tr22 24 22 22 (by decide) (off := ![3, 0, 0]) (by decide) lM rfl) $$ HC
  iintro HC
  iapply (ld_out_any c _) $$ HO
  iintro HO; iintro %_
  iapply (st_outH c _ (wq 8 c) (hb 8) (k0_pay179 (Vv II tr22 c)) (poff8 c)) $$ HO
  iintro HO
  ihave HO := (Entails.of_eq (show Out c (putH (puts II c f 8) (wq 8 c) (hb 8) (k0_pay179 (Vv II tr22 c))) = Out c (puts II c f 9) from rfl)) $$ HO
  iapply (ld_half c K (Vv II) tr23 24 22 22 (by decide) (off := ![3, 0, 0]) (by decide) rM rfl) $$ HC
  iintro HC
  iapply (ld_out_any c _) $$ HO
  iintro HO; iintro %_
  iapply (st_outH c _ (wq 9 c) (hb 9) (k0_pay180 (Vv II tr23 c)) (poff9 c)) $$ HO
  iintro HO
  ihave HO := (Entails.of_eq (show Out c (putH (puts II c f 9) (wq 9 c) (hb 9) (k0_pay180 (Vv II tr23 c))) = Out c (puts II c f 10) from rfl)) $$ HO
  iapply (step_waitS K (Vv II) c tr22 24 22 (by decide) (by decide) _ (s6_eq tr22 (by decide) (off := ![4]) (by decide) _) (credN _)) $$ HC
  iintro HC
  rw [wp_ret]; imodintro
  iapply HQ $$ HC HO

theorem part71_wp {Q : _ → sProp 𝕄} (f : FVec F S2048x1024 .f32)  (v5 : BitVec 32) (v7 : BitVec 32) :
    iprop(Core K (Vv II) c 24 23 22
      ∗ Out c (puts II c f 10)) ⊢ iprop((Core K (Vv II) c 24 24 24 -∗ slotPts (bufOf tr24) c (srcS tr24) fullShare (Vv II tr24 c) -∗ slotPts (bufOf tr25) c (srcS tr25) fullShare (Vv II tr25 c) -∗ Out c (puts II c f 10) -∗ Q ⟨⟩)
      -∗ wp frame (wpE (defs₀ (F := F)) 𝒱₀ (c : Thread nD τ) none) Set.univ (k0_part71 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v5 v7) Q) := by
  rw [k0_part71_eq_skeleton]; unfold k0_part71_skel
  simp only [Prog.lift, Prog.bind_op, Prog.bind_ret, Prog.pure_eq_ret, Prog.bind_assoc]
  iintro ⟨HC, HO⟩ HQ
  iapply (step_waitR K (Vv II) c tr22 24 23 (by decide) (by decide) _ (s7_eq tr22 (by decide) (off := ![4]) (by decide) _) (credN _)) $$ HC
  iintro HC HX
  ihave HS04 := (Entails.of_eq (show slotPts (bufOf tr22) c (dstS tr22) fullShare (Vv II tr22 (frm tr22 c)) = slotPts (bufOf tr24) c (srcS tr24) fullShare (Vv II tr24 c) from congrArg (slotPts false c 4 fullShare) (Vv_fwd II tr22 (by decide) (by decide) c).symm)) $$ HX
  iapply (step_waitS K (Vv II) c tr23 24 23 (by decide) (by decide) _ (s8_eq tr23 (by decide) (off := ![4]) (by decide) _) (credN _)) $$ HC
  iintro HC
  iapply (step_waitR K (Vv II) c tr23 24 24 (by decide) (by decide) _ (s9_eq tr23 (by decide) (off := ![4]) (by decide) _) (credN _)) $$ HC
  iintro HC HX
  ihave HS14 := (Entails.of_eq (show slotPts (bufOf tr23) c (dstS tr23) fullShare (Vv II tr23 (frm tr23 c)) = slotPts (bufOf tr25) c (srcS tr25) fullShare (Vv II tr25 c) from congrArg (slotPts true c 4 fullShare) (Vv_fwd II tr23 (by decide) (by decide) c).symm)) $$ HX
  rw [wp_ret]; imodintro
  iapply HQ $$ HC HS04 HS14 HO

theorem part72_wp {Q : _ → sProp 𝕄} (f : FVec F S2048x1024 .f32)  (v2 : BitVec 32) (v5 : BitVec 32) :
    iprop(Core K (Vv II) c 24 24 24
      ∗ slotPts (bufOf tr24) c (srcS tr24) fullShare (Vv II tr24 c)
      ∗ slotPts (bufOf tr25) c (srcS tr25) fullShare (Vv II tr25 c)
      ∗ Out c (puts II c f 10)) ⊢ iprop((∀ r0, Core K (Vv II) c 26 24 24 -∗ Out c (puts II c f 11) -∗ Q r0)
      -∗ wp frame (wpE (defs₀ (F := F)) 𝒱₀ (c : Thread nD τ) none) Set.univ (k0_part72 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v5) Q) := by
  rw [k0_part72_eq_skeleton]; unfold k0_part72_skel
  simp only [Prog.lift, Prog.bind_op, Prog.bind_ret, Prog.pure_eq_ret, Prog.bind_assoc]
  iintro ⟨HC, HS04, HS14, HO⟩ HQ
  iapply (step_start K (Vv II) c tr24 24 24 (by decide) (by decide) (by decide) ⟨k0_dev22 c, k0_dev22_lt c⟩ ((Fin.ext (k0_dev22_eq c)).trans rfl) _ _ (s6_eq tr24 (by decide) (off := ![5]) (by decide) _) (s7_eq tr24 (by decide) (off := ![5]) (by decide) _) _ _ (lslot_eq (srcS tr24) (off := ![4, 0, 0]) (by decide) _) (lslot_eq (dstS tr24) (off := ![5, 0, 0]) (by decide) _)) $$ [HC HS04]
  · isplitl [HC]; · iexact HC
    iexact HS04
  iintro HC
  iapply (step_start K (Vv II) c tr25 24 24 (by decide) (by decide) (by decide) ⟨k0_dev23 c, k0_dev23_lt c⟩ ((Fin.ext (k0_dev23_eq c)).trans rfl) _ _ (s8_eq tr25 (by decide) (off := ![5]) (by decide) _) (s9_eq tr25 (by decide) (off := ![5]) (by decide) _) _ _ (rslot_eq (srcS tr25) (off := ![4, 0, 0]) (by decide) _) (rslot_eq (dstS tr25) (off := ![5, 0, 0]) (by decide) _)) $$ [HC HS14]
  · isplitl [HC]; · iexact HC
    iexact HS14
  iintro HC
  iapply (ld_half c K (Vv II) tr24 26 24 24 (by decide) (off := ![4, 0, 0]) (by decide) lM rfl) $$ HC
  iintro HC
  iapply (ld_out_any c _) $$ HO
  iintro HO; iintro %_
  iapply (st_outH c _ (wq 10 c) (hb 10) (k0_pay181 (Vv II tr24 c)) (poff10 c)) $$ HO
  iintro HO
  ihave HO := (Entails.of_eq (show Out c (putH (puts II c f 10) (wq 10 c) (hb 10) (k0_pay181 (Vv II tr24 c))) = Out c (puts II c f 11) from rfl)) $$ HO
  rw [wp_ret]; imodintro
  ispecialize HQ $$ %_
  iapply HQ $$ HC HO

theorem part73_wp {Q : _ → sProp 𝕄} (f : FVec F S2048x1024 .f32)  (v7 : BitVec 32) (v719 : BitVec 32) :
    iprop(Core K (Vv II) c 26 24 24
      ∗ Out c (puts II c f 11)) ⊢ iprop((Core K (Vv II) c 26 26 25 -∗ slotPts (bufOf tr26) c (srcS tr26) fullShare (Vv II tr26 c) -∗ Out c (puts II c f 12) -∗ Q ⟨⟩)
      -∗ wp frame (wpE (defs₀ (F := F)) 𝒱₀ (c : Thread nD τ) none) Set.univ (k0_part73 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v7 v719) Q) := by
  rw [k0_part73_eq_skeleton]; unfold k0_part73_skel
  simp only [Prog.lift, Prog.bind_op, Prog.bind_ret, Prog.pure_eq_ret, Prog.bind_assoc]
  iintro ⟨HC, HO⟩ HQ
  iapply (ld_half c K (Vv II) tr25 26 24 24 (by decide) (off := ![4, 0, 0]) (by decide) rM rfl) $$ HC
  iintro HC
  iapply (ld_out_any c _) $$ HO
  iintro HO; iintro %_
  iapply (st_outH c _ (wq 11 c) (hb 11) (k0_pay182 (Vv II tr25 c)) (poff11 c)) $$ HO
  iintro HO
  ihave HO := (Entails.of_eq (show Out c (putH (puts II c f 11) (wq 11 c) (hb 11) (k0_pay182 (Vv II tr25 c))) = Out c (puts II c f 12) from rfl)) $$ HO
  iapply (step_waitS K (Vv II) c tr24 26 24 (by decide) (by decide) _ (s6_eq tr24 (by decide) (off := ![5]) (by decide) _) (credN _)) $$ HC
  iintro HC
  iapply (step_waitR K (Vv II) c tr24 26 25 (by decide) (by decide) _ (s7_eq tr24 (by decide) (off := ![5]) (by decide) _) (credN _)) $$ HC
  iintro HC HX
  ihave HS05 := (Entails.of_eq (show slotPts (bufOf tr24) c (dstS tr24) fullShare (Vv II tr24 (frm tr24 c)) = slotPts (bufOf tr26) c (srcS tr26) fullShare (Vv II tr26 c) from congrArg (slotPts false c 5 fullShare) (Vv_fwd II tr24 (by decide) (by decide) c).symm)) $$ HX
  iapply (step_waitS K (Vv II) c tr25 26 25 (by decide) (by decide) _ (s8_eq tr25 (by decide) (off := ![5]) (by decide) _) (credN _)) $$ HC
  iintro HC
  rw [wp_ret]; imodintro
  iapply HQ $$ HC HS05 HO

theorem part74_wp {Q : _ → sProp 𝕄} (f : FVec F S2048x1024 .f32)  (v5 : BitVec 32) (v7 : BitVec 32) :
    iprop(Core K (Vv II) c 26 26 25
      ∗ slotPts (bufOf tr26) c (srcS tr26) fullShare (Vv II tr26 c)
      ∗ Out c (puts II c f 12)) ⊢ iprop((Core K (Vv II) c 27 26 26 -∗ slotPts (bufOf tr27) c (srcS tr27) fullShare (Vv II tr27 c) -∗ Out c (puts II c f 12) -∗ Q ⟨⟩)
      -∗ wp frame (wpE (defs₀ (F := F)) 𝒱₀ (c : Thread nD τ) none) Set.univ (k0_part74 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v5 v7) Q) := by
  rw [k0_part74_eq_skeleton]; unfold k0_part74_skel
  simp only [Prog.lift, Prog.bind_op, Prog.bind_ret, Prog.pure_eq_ret, Prog.bind_assoc]
  iintro ⟨HC, HS05, HO⟩ HQ
  iapply (step_waitR K (Vv II) c tr25 26 26 (by decide) (by decide) _ (s9_eq tr25 (by decide) (off := ![5]) (by decide) _) (credN _)) $$ HC
  iintro HC HX
  ihave HS15 := (Entails.of_eq (show slotPts (bufOf tr25) c (dstS tr25) fullShare (Vv II tr25 (frm tr25 c)) = slotPts (bufOf tr27) c (srcS tr27) fullShare (Vv II tr27 c) from congrArg (slotPts true c 5 fullShare) (Vv_fwd II tr25 (by decide) (by decide) c).symm)) $$ HX
  iapply (step_start K (Vv II) c tr26 26 26 (by decide) (by decide) (by decide) ⟨k0_dev24 c, k0_dev24_lt c⟩ ((Fin.ext (k0_dev24_eq c)).trans rfl) _ _ (s6_eq tr26 (by decide) (off := ![6]) (by decide) _) (s7_eq tr26 (by decide) (off := ![6]) (by decide) _) _ _ (lslot_eq (srcS tr26) (off := ![5, 0, 0]) (by decide) _) (lslot_eq (dstS tr26) (off := ![6, 0, 0]) (by decide) _)) $$ [HC HS05]
  · isplitl [HC]; · iexact HC
    iexact HS05
  iintro HC
  rw [wp_ret]; imodintro
  iapply HQ $$ HC HS15 HO

theorem part75_wp {Q : _ → sProp 𝕄} (f : FVec F S2048x1024 .f32)  (v2 : BitVec 32) (v7 : BitVec 32) :
    iprop(Core K (Vv II) c 27 26 26
      ∗ slotPts (bufOf tr27) c (srcS tr27) fullShare (Vv II tr27 c)
      ∗ Out c (puts II c f 12)) ⊢ iprop((∀ r0 r1, Core K (Vv II) c 28 27 26 -∗ Out c (puts II c f 14) -∗ Q ⟨r0, r1⟩)
      -∗ wp frame (wpE (defs₀ (F := F)) 𝒱₀ (c : Thread nD τ) none) Set.univ (k0_part75 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 c v2 v7) Q) := by
  rw [k0_part75_eq_skeleton]; unfold k0_part75_skel
  simp only [Prog.lift, Prog.bind_op, Prog.bind_ret, Prog.pure_eq_ret, Prog.bind_assoc]
  iintro ⟨HC, HS15, HO⟩ HQ
  iapply (step_start K (Vv II) c tr27 26 26 (by decide) (by decide) (by decide) ⟨k0_dev25 c, k0_dev25_lt c⟩ ((Fin.ext (k0_dev25_eq c)).trans rfl) _ _ (s8_eq tr27 (by decide) (off := ![6]) (by decide) _) (s9_eq tr27 (by decide) (off := ![6]) (by decide) _) _ _ (rslot_eq (srcS tr27) (off := ![5, 0, 0]) (by decide) _) (rslot_eq (dstS tr27) (off := ![6, 0, 0]) (by decide) _)) $$ [HC HS15]
  · isplitl [HC]; · iexact HC
    iexact HS15
  iintro HC
  iapply (ld_half c K (Vv II) tr26 28 26 26 (by decide) (off := ![5, 0, 0]) (by decide) lM rfl) $$ HC
  iintro HC
  iapply (ld_out_any c _) $$ HO
  iintro HO; iintro %_
  iapply (st_outH c _ (wq 12 c) (hb 12) (k0_pay183 (Vv II tr26 c)) (poff12 c)) $$ HO
  iintro HO
  ihave HO := (Entails.of_eq (show Out c (putH (puts II c f 12) (wq 12 c) (hb 12) (k0_pay183 (Vv II tr26 c))) = Out c (puts II c f 13) from rfl)) $$ HO
  iapply (ld_half c K (Vv II) tr27 28 26 26 (by decide) (off := ![5, 0, 0]) (by decide) rM rfl) $$ HC
  iintro HC
  iapply (ld_out_any c _) $$ HO
  iintro HO; iintro %_
  iapply (st_outH c _ (wq 13 c) (hb 13) (k0_pay184 (Vv II tr27 c)) (poff13 c)) $$ HO
  iintro HO
  ihave HO := (Entails.of_eq (show Out c (putH (puts II c f 13) (wq 13 c) (hb 13) (k0_pay184 (Vv II tr27 c))) = Out c (puts II c f 14) from rfl)) $$ HO
  iapply (step_waitS K (Vv II) c tr26 28 26 (by decide) (by decide) _ (s6_eq tr26 (by decide) (off := ![6]) (by decide) _) (credN _)) $$ HC
  iintro HC
  rw [wp_ret]; imodintro
  ispecialize HQ $$ %_ %_
  iapply HQ $$ HC HO

theorem part76_wp {Q : _ → sProp 𝕄} (f : FVec F S2048x1024 .f32)  (v2 : BitVec 32) (v5 : BitVec 32) (v801 : BitVec 32) (c0_i32_823 : BitVec 32) :
    iprop(Core K (Vv II) c 28 27 26
      ∗ Out c (puts II c f 14)) ⊢ iprop((∀ r0 r1 r2, Core K (Vv II) c 28 28 28 -∗ slotPts false c 6 fullShare (Vn II 28 c) -∗ slotPts true c 6 fullShare (Vn II 29 c) -∗ Out c (puts II c f 14) -∗ Q ⟨r0, r1, r2⟩)
      -∗ wp frame (wpE (defs₀ (F := F)) 𝒱₀ (c : Thread nD τ) none) Set.univ (k0_part76 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0 v2 v5 v801 c0_i32_823) Q) := by
  rw [k0_part76_eq_skeleton]; unfold k0_part76_skel
  simp only [Prog.lift, Prog.bind_op, Prog.bind_ret, Prog.pure_eq_ret, Prog.bind_assoc]
  iintro ⟨HC, HO⟩ HQ
  iapply (step_waitR K (Vv II) c tr26 28 27 (by decide) (by decide) _ (s7_eq tr26 (by decide) (off := ![6]) (by decide) _) (credN _)) $$ HC
  iintro HC HX
  ihave HS06 := (Entails.of_eq (show slotPts (bufOf tr26) c (dstS tr26) fullShare (Vv II tr26 (frm tr26 c)) = slotPts false c 6 fullShare (Vn II 28 c) from congrArg (slotPts false c 6 fullShare) (Vn_28 II c))) $$ HX
  iapply (step_waitS K (Vv II) c tr27 28 27 (by decide) (by decide) _ (s8_eq tr27 (by decide) (off := ![6]) (by decide) _) (credN _)) $$ HC
  iintro HC
  iapply (step_waitR K (Vv II) c tr27 28 28 (by decide) (by decide) _ (s9_eq tr27 (by decide) (off := ![6]) (by decide) _) (credN _)) $$ HC
  iintro HC HX
  ihave HS16 := (Entails.of_eq (show slotPts (bufOf tr27) c (dstS tr27) fullShare (Vv II tr27 (frm tr27 c)) = slotPts true c 6 fullShare (Vn II 29 c) from congrArg (slotPts true c 6 fullShare) (Vn_29 II c))) $$ HX
  rw [wp_ret]; imodintro
  ispecialize HQ $$ %_ %_ %_
  iapply HQ $$ HC HS06 HS16 HO

end Tail

end Cert.Attn
-- ==== Proof.Body.lean ====
module

public import proofs.«01_k».proof.Proof.Start
public import proofs.«01_k».proof.Proof.TailB
public import proofs.«01_k».proof.Proof.TailC

@[expose] public section

/-! The whole body: the parts in order, and the closing barrier. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)
set_option maxHeartbeats 4000000

variable {F : FTy → Type} [FloatOps F] [Named F]

local notation "𝕄" => MT nD τ sig Unit (Elt F) ℕ UU ℕ

variable (K : GSem nD τ sig → ℕ) (II : Dev nD → Ins F) (c : Dev nD)

theorem get_puts (f : FVec F S2048x1024 .f32) (n : Fin 16) : getH (puts II c f 16) (wq n.val c) (hb n.val) = unslot (Vn II (14 + n.val) c) := by
  have inj : ∀ (c : Dev nD) (n m : Fin 16), n ≠ m → (wq n.val c, hb n.val) ≠ (wq m.val c, hb m.val) := by decide +kernel
  have key : ∀ m : ℕ, m ≤ 16 → n.val < m → getH (puts II c f m) (wq n.val c) (hb n.val) = unslot (Vn II (14 + n.val) c) := by
    intro m
    induction m with
    | zero => intro _ h; omega
    | succ m ih =>
      intro hm hn
      rw [puts]
      by_cases e : n.val = m
      · rw [e]; exact getH_putH _ _ _ _
      · rw [getH_putH_ne _ (inj c n ⟨m, by omega⟩ fun h => e (congrArg Fin.val h))]
        exact ih (by omega) (by omega)
  exact key 16 le_rfl n.isLt

/-- The whole result at device `c`. -/
def fullF : FVec F S2048x1024 .f32 := puts II c (II c).x 16

theorem puts_full (f : FVec F S2048x1024 .f32) : puts II c f 16 = fullF II c := by
  refine ext_getH fun q b => ?_
  have sur : ∀ (c : Dev nD) (q : Fin 8) (b : Fin 2), ∃ n : Fin 16, wq n.val c = q ∧ hb n.val = b := by decide +kernel
  obtain ⟨n, hq, hb'⟩ := sur c q b
  rw [← hq, ← hb', get_puts, fullF, get_puts]

/-- What is left for the closing barrier, and all results. -/
def Late : sProp 𝕄 :=
  iprop(Pers K (Vv II) c ∗ (∃ W, owes (c : Thread nD τ) (finO₁ c) W) ∗ dutyTok ER (finCell (nxt c)) 0 false ∗ cred (tallyAt (finCell c) () 2) ∗ atPos ER (finCell c) 0 ∅ 0
    ∗ ZerS c 28 ∗ ZerR c 28 ∗ Ret c 28 ∗ slotAny false c 6 ∗ slotAny true c 6 ∗ RO c (II c) ∗ Out c (fullF II c))

/-- All but the end of the closing barrier. -/
theorem part77_wp {Q : _ → sProp 𝕄} (f₀ : FVec F S2048x1024 .f32) :
    iprop(Known K (Vv II) c ∗ BarRes c ∗ FinRes c ∗ TalkRes c ∗ (∃ W, owes (c : Thread nD τ) (barO c) W)
        ∗ (bigSep Finset.univ fun s : Fin 8 => slotAny (F := F) false c s) ∗ (bigSep Finset.univ fun s : Fin 8 => slotAny (F := F) true c s) ∗ RO c (II c) ∗ Out c f₀)
      ⊢ iprop((∀ v7, Late K II c -∗ semVal (barCell c) 0 -∗ Q ⟨c, v7⟩)
      -∗ wp frame (wpE (defs₀ (F := F)) 𝒱₀ (c : Thread nD τ) none) Set.univ (k0_part77 (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0) Q) := by
  rw [k0_part77_eq_skeleton]; unfold k0_part77_skel
  iintro ⟨#HK, HB, HF, HT, HW, Hl, Hr, HR, HO⟩ HQ
  ihave Hl := (Entails.of_eq (lend_split false c)) $$ Hl
  ihave Hr := (Entails.of_eq (lend_split true c)) $$ Hr
  icases Hl with ⟨Hl0, Hl⟩
  icases Hr with ⟨Hr0, Hr⟩
  rw [wp_bind]
  iapply (part47_wp K (Vv II) c (II c)) $$ [HB HT HW Hl Hr HR]
  · isplitr; · iexact HK
    isplitl [HB]; · iexact HB
    isplitl [HT]; · iexact HT
    isplitl [HW]; · iexact HW
    isplitl [Hr]; · iexact Hr
    isplitl [Hl]; · iexact Hl
    iexact HR
  iintro %v5 %v7 %a1 %a2 %a3 %a4 HC Hz HR
  try dsimp only
  rw [wp_bind]
  iapply (part48_wp c (II c) f₀ _ _ _ _ _) $$ [HR HO]
  · isplitl [HR]; · iexact HR
    iexact HO
  iintro %r ⟨HR, HO⟩
  obtain ⟨b1, b2, b3, b4⟩ := r
  try dsimp only
  rw [wp_bind]
  iapply (part49_wp c (II c) _ _ _ _ _ _) $$ [HR HO]
  · isplitl [HR]; · iexact HR
    iexact HO
  iintro ⟨HR, HO⟩
  have ee : (if c.val / 2 < 2 then (if c.val / 2 < 2 then putR f₀ c (chunkO (II c) c) else f₀) else putR (if c.val / 2 < 2 then putR f₀ c (chunkO (II c) c) else f₀) c (chunkO (II c) c))
      = putR f₀ c (chunkO (II c) c) := by
    by_cases h : c.val / 2 < 2
    · rw [if_pos h, if_pos h]
    · rw [if_neg h, if_neg h]
  rw [ee]
  try dsimp only
  rw [wp_bind]
  iapply (part50_wp K c II _ _ _ f₀) $$ [HC Hl0 Hr0 HO HR]
  · isplitl [HC]; · iexact HC
    isplitl [Hl0]; · iexact Hl0
    isplitl [Hr0]; · iexact Hr0
    isplitl [HO]; · iexact HO
    iexact HR
  iintro HT
  try dsimp only
  unfold FinRes
  icases HF with ⟨HtP, HtN, Hc, Hat⟩
  rw [wp_bind]
  iapply (part51_wp K II c _ _) $$ [HT]
  · iexact HT
  iintro %f %hf HR HC H0 HO
  try dsimp only
  rw [wp_bind]
  iapply (part52_wp K II c f hf _ _) $$ [HC H0 HO]
  · isplitl [HC]; · iexact HC
    isplitl [H0]; · iexact H0
    iexact HO
  iintro HC HO
  try dsimp only
  rw [wp_bind]
  iapply (part53_wp K II c f hf _ _) $$ [HC HO]
  · isplitl [HC]; · iexact HC
    iexact HO
  iintro HC HO
  try dsimp only
  rw [wp_bind]
  iapply (part54_wp K II c f hf _ _) $$ [HC HO]
  · isplitl [HC]; · iexact HC
    iexact HO
  iintro HC H0 HO
  try dsimp only
  rw [wp_bind]
  iapply (part55_wp K II c f hf _ _) $$ [HC H0 HO]
  · isplitl [HC]; · iexact HC
    isplitl [H0]; · iexact H0
    iexact HO
  iintro HC H0 HO
  try dsimp only
  rw [wp_bind]
  iapply (part56_wp K II c f hf _ _) $$ [HC H0 HO]
  · isplitl [HC]; · iexact HC
    isplitl [H0]; · iexact H0
    iexact HO
  iintro HC HO
  try dsimp only
  rw [wp_bind]
  iapply (part57_wp K II c f hf _ _) $$ [HC HO]
  · isplitl [HC]; · iexact HC
    iexact HO
  iintro HC HO
  try dsimp only
  rw [wp_bind]
  iapply (part58_wp K II c f hf _ _ _) $$ [HC HO]
  · isplitl [HC]; · iexact HC
    iexact HO
  iintro HC H0 HO
  try dsimp only
  rw [wp_bind]
  iapply (part59_wp K II c f hf _ _) $$ [HC H0 HO]
  · isplitl [HC]; · iexact HC
    isplitl [H0]; · iexact H0
    iexact HO
  iintro HC H0 HO
  try dsimp only
  rw [wp_bind]
  iapply (part60_wp K II c f _ _) $$ [HC H0 HO]
  · isplitl [HC]; · iexact HC
    isplitl [H0]; · iexact H0
    iexact HO
  iintro HC HO
  try dsimp only
  rw [wp_bind]
  iapply (part61_wp K II c f _ _) $$ [HC HO]
  · isplitl [HC]; · iexact HC
    iexact HO
  iintro HC H0 H1 HO
  try dsimp only
  rw [wp_bind]
  iapply (part62_wp K II c f _ _ _) $$ [HC H0 H1 HO]
  · isplitl [HC]; · iexact HC
    isplitl [H0]; · iexact H0
    isplitl [H1]; · iexact H1
    iexact HO
  iintro %wr0 %wr1 HC HO
  try dsimp only
  rw [wp_bind]
  iapply (part63_wp K II c f _ _ _) $$ [HC HO]
  · isplitl [HC]; · iexact HC
    iexact HO
  iintro HC H0 HO
  try dsimp only
  rw [wp_bind]
  iapply (part64_wp K II c f _ _) $$ [HC H0 HO]
  · isplitl [HC]; · iexact HC
    isplitl [H0]; · iexact H0
    iexact HO
  iintro HC H0 HO
  try dsimp only
  rw [wp_bind]
  iapply (part65_wp K II c f _) $$ [HC H0 HO]
  · isplitl [HC]; · iexact HC
    isplitl [H0]; · iexact H0
    iexact HO
  iintro HC HO
  try dsimp only
  rw [wp_bind]
  iapply (part66_wp K II c f _ _) $$ [HC HO]
  · isplitl [HC]; · iexact HC
    iexact HO
  iintro %wr0 HC H0 H1 HO
  try dsimp only
  rw [wp_bind]
  iapply (part67_wp K II c f _ _ _ _) $$ [HC H0 H1 HO]
  · isplitl [HC]; · iexact HC
    isplitl [H0]; · iexact H0
    isplitl [H1]; · iexact H1
    iexact HO
  iintro %wr0 HC HO
  try dsimp only
  rw [wp_bind]
  iapply (part68_wp K II c f _ _) $$ [HC HO]
  · isplitl [HC]; · iexact HC
    iexact HO
  iintro HC H0 HO
  try dsimp only
  rw [wp_bind]
  iapply (part69_wp K II c f _ _) $$ [HC H0 HO]
  · isplitl [HC]; · iexact HC
    isplitl [H0]; · iexact H0
    iexact HO
  iintro HC H0 HO
  try dsimp only
  rw [wp_bind]
  iapply (part70_wp K II c f _) $$ [HC H0 HO]
  · isplitl [HC]; · iexact HC
    isplitl [H0]; · iexact H0
    iexact HO
  iintro HC HO
  try dsimp only
  rw [wp_bind]
  iapply (part71_wp K II c f _ _) $$ [HC HO]
  · isplitl [HC]; · iexact HC
    iexact HO
  iintro HC H0 H1 HO
  try dsimp only
  rw [wp_bind]
  iapply (part72_wp K II c f _ _) $$ [HC H0 H1 HO]
  · isplitl [HC]; · iexact HC
    isplitl [H0]; · iexact H0
    isplitl [H1]; · iexact H1
    iexact HO
  iintro %wr0 HC HO
  try dsimp only
  rw [wp_bind]
  iapply (part73_wp K II c f _ _) $$ [HC HO]
  · isplitl [HC]; · iexact HC
    iexact HO
  iintro HC H0 HO
  try dsimp only
  rw [wp_bind]
  iapply (part74_wp K II c f _ _) $$ [HC H0 HO]
  · isplitl [HC]; · iexact HC
    isplitl [H0]; · iexact H0
    iexact HO
  iintro HC H0 HO
  try dsimp only
  rw [wp_bind]
  iapply (part75_wp K II c f _ _) $$ [HC H0 HO]
  · isplitl [HC]; · iexact HC
    isplitl [H0]; · iexact H0
    iexact HO
  iintro %wr0 %wr1 HC HO
  try dsimp only
  rw [wp_bind]
  iapply (part76_wp K II c f _ _ _ _) $$ [HC HO]
  · isplitl [HC]; · iexact HC
    iexact HO
  iintro %wr0 %wr1 %wr2 HC H0 H1 HO
  try dsimp only
  have e1 : (⟨k0_dev26 c, k0_dev26_lt c⟩ : Dev nD) = prv c := Fin.ext (k0_dev26_eq c)
  simp only [semSignalWord, Prog.lift, Prog.bind_op, Prog.bind_ret, Prog.pure_eq_ret, Prog.bind_assoc, e1]
  iapply (ld_slot c false 6 fullShare (Vn II 28 c) (off := ![6, 0, 0]) rfl) $$ H0
  iintro H0
  iapply (ld_out_any c _) $$ HO
  iintro HO; iintro %_
  iapply (st_outH c _ (wq 14 c) (hb 14) (k0_pay185 (Vn II 28 c)) (poff14 c)) $$ HO
  iintro HO
  ihave HO := (Entails.of_eq (show Out c (putH (puts II c f 14) (wq 14 c) (hb 14) (k0_pay185 (Vn II 28 c))) = Out c (puts II c f 15) from rfl)) $$ HO
  iapply (ld_slot c true 6 fullShare (Vn II 29 c) (off := ![6, 0, 0]) rfl) $$ H1
  iintro H1
  iapply (ld_out_any c _) $$ HO
  iintro HO; iintro %_
  iapply (st_outH c _ (wq 15 c) (hb 15) (k0_pay186 (Vn II 29 c)) (poff15 c)) $$ HO
  iintro HO
  ihave HO := (Entails.of_eq (show Out c (putH (puts II c f 15) (wq 15 c) (hb 15) (k0_pay186 (Vn II 29 c))) = Out c (fullF II c) from congrArg (Out c) (puts_full II c f))) $$ HO
  ihave HC := (core_end K (Vv II) c) $$ HC
  icases HC with ⟨#HP, ⟨%W, HW⟩, HzS, HzR, HRt⟩
  unfold Pers
  icases HP with ⟨#HI, #Hlev, #HRn, #HRp, #HSR⟩
  iapply (Rounds.wp_signal 𝒱₀ ER (Rd (Vv II)) (c : Thread nD τ) none (dst := (prv c : Thread nD τ)) (sem := finS) (r := 0) (d := true) (κ := K (finCell (prv c)))
      (by rw [duties_reg]; exact Finset.mem_univ _) rfl () (finO₁ c) rfl)
    $$ [HW HtP]
  · isplitr; · iapply (Invs_fin K (Vv II) (prv c)); iexact HI
    isplitl [HW]; · iexact HW
    isplitl [HtP]; · iexact HtP
    isplitr
    · rw [payload_fin]; iempintro
    · iapply (Rch_fin (prv c)); iexact HRp
  iintro HW
  rw [wp_ret]; imodintro
  ispecialize HQ $$ %_
  iapply HQ $$ [HW HtN Hc Hat HzS HzR HRt H0 H1 HR HO] Hz
  unfold Late Pers
  isplitr
  · isplitr; · iexact HI
    isplitr; · iexact Hlev
    isplitr; · iexact HRn
    isplitr; · iexact HRp
    iexact HSR
  isplitl [HW]; · iexists _; iexact HW
  isplitl [HtN]; · iexact HtN
  isplitl [Hc]; · iexact Hc
  isplitl [Hat]; · iexact Hat
  isplitl [HzS]; · iexact HzS
  isplitl [HzR]; · iexact HzR
  isplitl [HRt]; · iexact HRt
  isplitl [H0]; · iapply (slotPts_any false c 6 (Vn II 28 c)); iexact H0
  isplitl [H1]; · iapply (slotPts_any true c 6 (Vn II 29 c)); iexact H1
  isplitl [HR]; · iexact HR
  iexact HO

/-- The body at device `c`. -/
theorem body_wp {Q : PUnit → sProp 𝕄} (f₀ : FVec F S2048x1024 .f32) :
    iprop(Known K (Vv II) c ∗ BarRes c ∗ FinRes c ∗ TalkRes c ∗ (∃ W, owes (c : Thread nD τ) (barO c) W)
        ∗ (∃ f : FVec F S8x256x512 .f32, lM.view.loc (c : Thread nD τ) ↦{fullShare} f) ∗ (∃ f : FVec F S8x256x512 .f32, rM.view.loc (c : Thread nD τ) ↦{fullShare} f)
        ∗ RO c (II c) ∗ Out c f₀)
      ⊢ iprop((semVal (barCell c) 0 -∗ semVal (finCell c) 0 -∗ ZerS c 28 -∗ ZerR c 28 -∗ (∃ W, owes (c : Thread nD τ) 0 W)
          -∗ (∃ f : FVec F S8x256x512 .f32, lM.view.loc (c : Thread nD τ) ↦{fullShare} f) -∗ (∃ f : FVec F S8x256x512 .f32, rM.view.loc (c : Thread nD τ) ↦{fullShare} f)
          -∗ RO c (II c) -∗ Out c (fullF II c) -∗ Q ⟨⟩)
      -∗ wp frame (wpE (defs₀ (F := F)) 𝒱₀ (c : Thread nD τ) none) Set.univ (cc0__body (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0) Q) := by
  rw [cc0__body_eq_skeleton]; unfold cc0__body_skel
  simp only [semSignalWord, semWaitWord, Prog.lift, Prog.bind_op, Prog.bind_ret, Prog.pure_eq_ret, Prog.bind_assoc]
  iintro ⟨#HK, HB, HF, HT, HW, Hl, Hr, HR, HO⟩ HQ
  ihave Hl := (l_split c) $$ Hl
  ihave Hr := (r_split c) $$ Hr
  rw [wp_bind]
  iapply (part77_wp K II c f₀) $$ [HB HF HT HW Hl Hr HR HO]
  · isplitr; · iexact HK
    isplitl [HB]; · iexact HB
    isplitl [HF]; · iexact HF
    isplitl [HT]; · iexact HT
    isplitl [HW]; · iexact HW
    isplitl [Hl]; · iexact Hl
    isplitl [Hr]; · iexact Hr
    isplitl [HR]; · iexact HR
    iexact HO
  iintro %v7 HL Hz
  try dsimp only
  have e1 : (⟨k0_dev27 c, k0_dev27_lt c⟩ : Dev nD) = nxt c := Fin.ext (k0_dev27_eq c)
  simp only [e1]
  unfold Late Pers
  icases HL with ⟨⟨#HI, #Hlev, #HRn, #HRp, #HSR⟩, ⟨%W, HW⟩, HtN, Hc, Hat, HzS, HzR, HRt, H0, H1, HR, HO⟩
  iapply (Rounds.wp_signal 𝒱₀ ER (Rd (Vv II)) (c : Thread nD τ) none (dst := (nxt c : Thread nD τ)) (sem := finS) (r := 0) (d := false) (κ := K (finCell (nxt c)))
      (by rw [duties_reg]; exact Finset.mem_univ _) rfl () 0 (show finO₁ c = 0 + tallyAt (finCell (nxt c)) () 1 from (zero_add _).symm))
    $$ [HW HtN]
  · isplitr; · iapply (Invs_fin K (Vv II) (nxt c)); iexact HI
    isplitl [HW]; · iexact HW
    isplitl [HtN]; · iexact HtN
    isplitr
    · rw [payload_fin]; iempintro
    · iapply (Rch_fin (nxt c)); iexact HRn
  iintro HW
  iapply (Rounds.wp_wait_rest_token 𝒱₀ ER (Rd (Vv II)) (c : Thread nD τ) none (κ := K (finCell c))
      (wpE_semWait_eq 𝒱₀ (c : Thread nD τ) none Set.univ) (Set.mem_univ _) () (O := 0) (W := W) (R := 0) (m := 0) (T := ∅)
      (by rw [expect_reg]; decide)) $$ [Hc HW Hat]
  · isplitr; · iapply (Invs_fin K (Vv II) c); iexact HI
    isplitl [Hc]; · iexact Hc
    isplitl [HW]; · iexact HW
    isplitr; · rw [MayWait_zero]; iempintro
    iexact Hat
  iintro ⟨HW, Hat, -, -⟩
  imod (Rounds.cell_close ER (Rd (Vv II)) (Set.mem_univ (K (finCell c))) (fun h => h) (R := 0 + 1) (duties_later (Vv II) (finCell c))) $$ [Hat] with Hzf
  · isplitr; · iapply (Invs_fin K (Vv II) c); iexact HI
    iexact Hat
  ihave HS := (ret_end c) $$ [HRt H0 H1]
  · isplitl [HRt]; · iexact HRt
    isplitl [H0]; · iexact H0
    iexact H1
  icases HS with ⟨Hl, Hr⟩
  ihave Hl := (l_join c) $$ Hl
  ihave Hr := (r_join c) $$ Hr
  rw [wp_ret]; imodintro
  iapply HQ $$ Hz Hzf HzS HzR [HW] Hl Hr HR HO
  iexists _; iexact HW

end Cert.Attn
-- ==== Proof.Region.lean ====
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

/-! The kernel call of `main`: its windows' contents, the body's obligation, and the record of the region. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

section Region

variable (m : (ℓ : Loc nD τ sig) → Buf (Elt F) ℓ)

/-- The operands of the call on device `c`. -/
def II (c : Dev nD) : Ins F := ⟨V1 m c main_v5, V1 m c main_arg1, V1 m c main_v18, V1 m c main_v19, V1 m c main_arg4⟩
/-- What the call leaves in its result. -/
def outs : Outs (F := F) := fun _ r c => Function.update (V1 m c) (Proc.devRef .tc main_v20) (fullF (II m) c) (Proc.devRef .tc r)
theorem outs_res (c : Dev nD) : outs m 2 main_v20 c = fullF (II m) c := by
  unfold outs; exact Function.update_self ..

/-- What a device holds for the talk: the invariants, the opening barrier's round, the tokens, credits and rights to open. -/
def Tk (c : Dev nD) : sProp 𝕄 :=
  iprop((∃ K, Invs K (Vv (II m))) ∗ BarR ∗ BarRes c
    ∗ (dutyTok ER (finCell (prv c)) 0 true ∗ dutyTok ER (finCell (nxt c)) 0 false ∗ cred (tallyAt (finCell c) () 2))
    ∗ (Toks c 0 ∗ CrdR c 0) ∗ bigSep Finset.univ fun k : KI => openTok ER (kcell (c, k)))
def Xk (c : Dev nD) : sProp 𝕄 :=
  iprop((∃ K, Known K (Vv (II m)) c) ∗ BarRes c ∗ FinRes c ∗ TalkRes c)
def Yk (c : Dev nD) : sProp 𝕄 := semVal (barCell c) 0

def Scr (c : Dev nD) : sProp 𝕄 :=
  iprop((∃ f : FVec F S8x256x512 .f32, lM.view.loc (c : Thread nD τ) ↦{fullShare} f) ∗ (∃ f : FVec F S8x256x512 .f32, rM.view.loc (c : Thread nD τ) ↦{fullShare} f))
def Φ₀ (c : Dev nD) : sProp 𝕄 := iprop(Xk m c ∗ Scr c ∗ ∃ r, prngReg c r)
def Φ₁ (c : Dev nD) : sProp 𝕄 := iprop(Yk c ∗ (semVal (finCell c) 0 ∗ ZerS c 28 ∗ ZerR c 28) ∗ Scr (F := F) c ∗ ∃ r, prngReg c r)

def dats (_ : Fin 1) (c : Dev nD) : Dat τ (Elt F) Unit ℕ UU ℕ cfg0 c where
  A w := V1 m c (Proc.devRef .tc (Pipeline.arrRef spec0 w))
  after w _ := match w with
    | ⟨0, _⟩ => (II m c).x
    | ⟨1, _⟩ => (II m c).wq
    | ⟨2, _⟩ => (II m c).k
    | ⟨3, _⟩ => (II m c).v
    | ⟨4, _⟩ => (II m c).wo
    | ⟨5, _⟩ => fullF (II m) c
    | ⟨_ + 6, h⟩ => absurd h (Nat.not_lt.2 (Nat.le_add_left _ _))
  Φ t := if t.val = 0 then Φ₀ m c else Φ₁ c
  q _ := fullShare
  owed t := if t.val = 0 then barO c else 0

theorem owesAt_intro {cfg : Cfg sig Λ₀} {c : Dev nD} (d : Dat τ (Elt F) Unit ℕ UU ℕ cfg c) (t : Fin (cfg.N + 1)) (O : CellTallies nD τ sig Unit)
    (h : d.owed t = O) (hr : d.recorded t = Set.univ) : (iprop(∃ W, owes (c : Thread nD τ) O W) : sProp 𝕄) ⊢ d.owesAt () t := by
  unfold Dat.owesAt Pipeline.owesWithin Dat.bound
  rw [h, hr]
  iintro ⟨%W, HO⟩
  iexists W
  isplitr; · ipureintro; exact fun _ _ => Or.inl trivial
  iexact HO
theorem owesAt_elim {cfg : Cfg sig Λ₀} {c : Dev nD} (d : Dat τ (Elt F) Unit ℕ UU ℕ cfg c) (t : Fin (cfg.N + 1)) (O : CellTallies nD τ sig Unit)
    (h : d.owed t = O) : d.owesAt () t ⊢ (iprop(∃ W, owes (c : Thread nD τ) O W) : sProp 𝕄) := by
  unfold Dat.owesAt Pipeline.owesWithin
  rw [h]
  iintro ⟨%W, -, HO⟩
  iexists W; iexact HO

/-! The windows are the whole arrays. -/

theorem read_w0 (c : Dev nD) (f : Buf (Elt F) ((cfg0.win 0).arr.view.loc (c : Thread nD τ))) : ((cfg0.win 0).blk t0_0).view.read (Elt F) f = f :=
  Memref.read_access_unit_zero (Elt F) main_v5
    (show (fun a => (win0_0.index t0_0) a * main_v5.ty.shape.size a) = fun _ => 0 from
      funext fun a => by fin_cases a <;> decide) (fun a => by fin_cases a <;> decide) f
theorem read_w1 (c : Dev nD) (f : Buf (Elt F) ((cfg0.win 1).arr.view.loc (c : Thread nD τ))) : ((cfg0.win 1).blk t0_0).view.read (Elt F) f = f :=
  Memref.read_access_unit_zero (Elt F) main_arg1
    (show (fun a => (win0_1.index t0_0) a * main_arg1.ty.shape.size a) = fun _ => 0 from
      funext fun a => by fin_cases a <;> decide) (fun a => by fin_cases a <;> decide) f
theorem read_w2 (c : Dev nD) (f : Buf (Elt F) ((cfg0.win 2).arr.view.loc (c : Thread nD τ))) : ((cfg0.win 2).blk t0_0).view.read (Elt F) f = f :=
  Memref.read_access_unit_zero (Elt F) main_v18
    (show (fun a => (win0_2.index t0_0) a * main_v18.ty.shape.size a) = fun _ => 0 from
      funext fun a => by fin_cases a <;> decide) (fun a => by fin_cases a <;> decide) f
theorem read_w3 (c : Dev nD) (f : Buf (Elt F) ((cfg0.win 3).arr.view.loc (c : Thread nD τ))) : ((cfg0.win 3).blk t0_0).view.read (Elt F) f = f :=
  Memref.read_access_unit_zero (Elt F) main_v19
    (show (fun a => (win0_3.index t0_0) a * main_v19.ty.shape.size a) = fun _ => 0 from
      funext fun a => by fin_cases a <;> decide) (fun a => by fin_cases a <;> decide) f
theorem read_w4 (c : Dev nD) (f : Buf (Elt F) ((cfg0.win 4).arr.view.loc (c : Thread nD τ))) : ((cfg0.win 4).blk t0_0).view.read (Elt F) f = f :=
  Memref.read_access_unit_zero (Elt F) main_arg4
    (show (fun a => (win0_4.index t0_0) a * main_arg4.ty.shape.size a) = fun _ => 0 from
      funext fun a => by fin_cases a <;> decide) (fun a => by fin_cases a <;> decide) f
theorem read_w5 (c : Dev nD) (f : Buf (Elt F) ((cfg0.win 5).arr.view.loc (c : Thread nD τ))) : ((cfg0.win 5).blk t0_0).view.read (Elt F) f = f :=
  Memref.read_access_unit_zero (Elt F) main_v20
    (show (fun a => (win0_5.index t0_0) a * main_v20.ty.shape.size a) = fun _ => 0 from
      funext fun a => by fin_cases a <;> decide) (fun a => by fin_cases a <;> decide) f
theorem before_0 (c : Dev nD) (d) : (dats m 0 c).before 0 t0_0 d = (II m c).x := by
  unfold Dat.before; rw [if_pos (fetch0_0 t0_0)]
  exact read_w0 c (V1 m c main_v5)
theorem before_1 (c : Dev nD) (d) : (dats m 0 c).before 1 t0_0 d = (II m c).wq := by
  unfold Dat.before; rw [if_pos (fetch0_1 t0_0)]
  exact read_w1 c (V1 m c main_arg1)
theorem before_2 (c : Dev nD) (d) : (dats m 0 c).before 2 t0_0 d = (II m c).k := by
  unfold Dat.before; rw [if_pos (fetch0_2 t0_0)]
  exact read_w2 c (V1 m c main_v18)
theorem before_3 (c : Dev nD) (d) : (dats m 0 c).before 3 t0_0 d = (II m c).v := by
  unfold Dat.before; rw [if_pos (fetch0_3 t0_0)]
  exact read_w3 c (V1 m c main_v19)
theorem before_4 (c : Dev nD) (d) : (dats m 0 c).before 4 t0_0 d = (II m c).wo := by
  unfold Dat.before; rw [if_pos (fetch0_4 t0_0)]
  exact read_w4 c (V1 m c main_arg4)
theorem arrAt_res (c : Dev nD) : (dats m 0 c).arrAt 5 cfg0.N = fullF (II m) c := by
  have hw : ((cfg0.win 5).blk t0_0).view.read (Elt F) ((dats m 0 c).arrAt 5 cfg0.N) = (dats m 0 c).flushed 5 t0_0 := by
    rw [show cfg0.N = t0_0.val + 1 from rfl, (dats m 0 c).arrAt_succ (5 : Fin 6) t0_0, flush0_5, if_pos rfl]
    exact View.read_write_univ _ _
  rw [show (dats m 0 c).flushed 5 t0_0 = fullF (II m) c from funext fun _ => rfl] at hw
  exact (read_w5 c _).symm.trans hw

/-! The body's obligation. -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () t0_0.succ
    ∗ stg c cc0_stg0_0 (II m c).x ∗ stg c cc0_stg1_0 (II m c).wq ∗ stg c cc0_stg2_0 (II m c).k ∗ stg c cc0_stg3_0 (II m c).v
    ∗ stg c cc0_stg4_0 (II m c).wo ∗ stg c cc0_stg5_0 (fullF (II m) c))

theorem body_run (c : Dev nD) :
    bodyPre m c ⊢ wp frame (wpE (defs₀ (F := F)) 𝒱₀ (c : Thread nD τ) none) Set.univ (cc0__body (F := F) xM (Memref.isWhole_whole _) qM (Memref.isWhole_whole _) kM (Memref.isWhole_whole _) vM (Memref.isWhole_whole _) woM (Memref.isWhole_whole _) oM (Memref.isWhole_whole _) lM (Memref.isWhole_whole _) rM (Memref.isWhole_whole _) cc0_scratch2 cc0_scratch3 cc0_scratch4 cc0_scratch5 cc0_scratch6 cc0_scratch7 cc0_scratch8 cc0_scratch9 cc0_scoped0) (fun _ => bodyPost m c) := by
  unfold bodyPre Φ₀ Xk Scr
  iintro ⟨⟨⟨⟨%K, HK⟩, HB, HF, HT⟩, ⟨Hl, Hr⟩, Hp⟩, Ho, H0, H1, H2, H3, H4, H5⟩
  icases H0 with ⟨%d0, %f0, %h0, H0⟩
  icases H1 with ⟨%d1, %f1, %h1, H1⟩
  icases H2 with ⟨%d2, %f2, %h2, H2⟩
  icases H3 with ⟨%d3, %f3, %h3, H3⟩
  icases H4 with ⟨%d4, %f4, %h4, H4⟩
  icases H5 with ⟨%d5, %f5, -, H5⟩
  rw [before_0] at h0; rw [before_1] at h1; rw [before_2] at h2; rw [before_3] at h3; rw [before_4] at h4
  subst h0 h1 h2 h3 h4
  ihave Ho := (owesAt_elim (dats m 0 c) t0_0.castSucc (barO c) rfl) $$ Ho
  iapply (body_wp K (II m) c (Q := fun _ => bodyPost m c) f5) $$ [HK HB HF HT Hl Hr Ho H0 H1 H2 H3 H4 H5]
  · isplitl [HK]; · iexact HK
    isplitl [HB]; · iexact HB
    isplitl [HF]; · iexact HF
    isplitl [HT]; · iexact HT
    isplitl [Ho]; · iexact Ho
    isplitl [Hl]; · iexact Hl
    isplitl [Hr]; · iexact Hr
    isplitr [H5]
    · unfold RO
      isplitl [H0]; · iexact H0
      isplitl [H1]; · iexact H1
      isplitl [H2]; · iexact H2
      isplitl [H3]; · iexact H3
      iexact H4
    · unfold Out; iexact H5
  iintro Hb Hf HzS HzR HW Hl Hr HR HO
  unfold bodyPost Φ₁ Yk Scr RO Out
  icases HR with ⟨H0, H1, H2, H3, H4⟩
  isplitl [Hb Hf HzS HzR Hl Hr Hp]
  · isplitl [Hb]; · iexact Hb
    isplitl [Hf HzS HzR]
    · isplitl [Hf]; · iexact Hf
      isplitl [HzS]; · iexact HzS
      iexact HzR
    isplitl [Hl Hr]
    · isplitl [Hl]; · iexact Hl
      iexact Hr
    iexact Hp
  isplitl [HW]
  · iapply (owesAt_intro (dats m 0 c) t0_0.succ 0 rfl rfl); iexact HW
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact HO

theorem body_obligation (c : Dev nD) : BodyObligation (dats m 0 c) (defs₀ (F := F)) 𝒱₀ () Set.univ := fun t => by
  rw [fin_N0 t]
  rw [bigSep_W0, bigSep_W0]
  simp only [owns_whole_eq]
  exact body_run m c

/-! The record of the region. -/

theorem pair_up {I : Type} [DecidableEq I] {s : Finset I} {Φ Ψ : I → sProp 𝕄} :
    iprop(bigSep s Φ ∗ bigSep s Ψ) ⊢ bigSep s fun i => iprop(Φ i ∗ Ψ i) := by rw [bigSep_sep']
theorem pair_down {I : Type} [DecidableEq I] {s : Finset I} {Φ Ψ : I → sProp 𝕄} :
    (bigSep s fun i => iprop(Φ i ∗ Ψ i)) ⊢ iprop(bigSep s Φ ∗ bigSep s Ψ) := by rw [bigSep_sep']
theorem KI_eq (Φ : KI → sProp 𝕄) : bigSep Finset.univ Φ
    = iprop(Φ none ∗ (bigSep Finset.univ fun i : Fin 28 => Φ (some (i, false))) ∗ bigSep Finset.univ fun i : Fin 28 => Φ (some (i, true))) := by
  have e : (Finset.univ : Finset KI) = insert none (Finset.univ.map Function.Embedding.some) := by
    ext k; cases k <;> simp
  rw [e, BI.bigSep_insert (by simp), bigSep_map, bigSep_univ_prod]
  congr 1
  rw [← bigSep_sep']
  exact bigSep_congr fun i _ => by
    rw [bigSep_univ_eq_bigSepL [false, true] (by decide) (by decide)]; rfl
theorem all28 (Φ : Fin 28 → sProp 𝕄) : bigSep (Finset.univ.filter fun i : Fin 28 => 0 ≤ i.val) Φ = bigSep Finset.univ Φ := by
  rw [Finset.filter_true_of_mem fun i _ => Nat.zero_le _]
theorem upto28 (Φ : Fin 28 → sProp 𝕄) : bigSep (Finset.univ.filter fun i : Fin 28 => i.val < 28) Φ = bigSep Finset.univ Φ := by
  rw [Finset.filter_true_of_mem fun i _ => i.isLt]
theorem ownSems0_eq (c : Dev nD) : (Pipeline.ownSems0 (Ix := Unit) (Name := ℕ) (U := UU) (Lvl := ℕ) (Val := Elt F) (τ := τ) osem c : sProp 𝕄)
    = bigSep Finset.univ fun k : KI => semVal (kcell (c, k)) 0 := rfl

theorem open_all (K : GSem nD τ sig → ℕ) (c : Dev nD) :
    iprop(Invs K (Vv (II m)) ∗ bigSep Finset.univ fun k : KI => iprop(openTok ER (kcell (c, k)) ∗ semVal (kcell (c, k)) 0))
      ⊢ (|={Set.univ}=> bigSep Finset.univ fun k : KI => iprop(atPos ER (kcell (c, k)) 0 ∅ 0 ∗ reached ER (kcell (c, k)) 0) : sProp 𝕄) := by
  have h1 : ∀ k : KI, iprop(Invs K (Vv (II m)) ∗ (openTok ER (kcell (c, k)) ∗ semVal (kcell (c, k)) 0))
      ⊢ (|={Set.univ}=> iprop(atPos ER (kcell (c, k)) 0 ∅ 0 ∗ reached ER (kcell (c, k)) 0) : sProp 𝕄) := by
    intro k
    iintro ⟨#HI, Ho, Hs⟩
    ihave #HIk := (Invs_k K (Vv (II m)) (c, k)) $$ HI
    iapply (Rounds.cell_open ER (Rd (Vv (II m))) (g := kcell (c, k)) (Set.mem_univ (K (kcell (c, k)))))
    isplitr; · iexact HIk
    isplitl [Ho] <;> iassumption
  exact (bigSep_with_persistent (R := Invs K (Vv (II m))) (fun k _ => h1 k)).trans (BI.bigSep_fupd _ _)

theorem hopen (c : Dev nD) : iprop(Tk m c ∗ Pipeline.ownSems0 osem c ∗ levAts L lv) ⊢ (|={Set.univ}=> Xk m c : sProp 𝕄) := by
  rw [ownSems0_eq]
  unfold Tk Xk
  iintro ⟨⟨⟨%K, #HI⟩, #HBR, HB, ⟨Hf1, Hf2, Hf3⟩, ⟨HT, HC⟩, Ho⟩, Hs, #Hlev⟩
  imod (open_all m K c) $$ [Ho Hs] with H
  · isplitr; · iexact HI
    iapply (pair_up (F := F))
    isplitl [Ho] <;> iassumption
  imodintro
  ihave H := (Entails.of_eq (KI_eq (F := F) _)) $$ H
  icases H with ⟨⟨HaF, #HrF⟩, HS, HR⟩
  ihave HS := pair_down (F := F) $$ HS
  ihave HR := pair_down (F := F) $$ HR
  icases HS with ⟨HaS, #HrS⟩
  icases HR with ⟨HaR, #HrR⟩
  isplitr
  · iexists K
    unfold Known SRch Rch
    isplitr; · iexact HI
    isplitr; · iexact Hlev
    isplitr; · iexact HBR
    isplitr; · iexact HrS
    isplitr; · iexact HrR
    iexact HrF
  isplitl [HB]; · iexact HB
  isplitl [Hf1 Hf2 Hf3 HaF]
  · unfold FinRes
    isplitl [Hf1]; · iexact Hf1
    isplitl [Hf2]; · iexact Hf2
    isplitl [Hf3]; · iexact Hf3
    iexact HaF
  unfold TalkRes PosS PosR
  rw [all28, all28]
  isplitl [HT]; · iexact HT
  isplitl [HC]; · iexact HC
  isplitl [HaS]; · iexact HaS
  iexact HaR

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V1 m c) ∗ Xk m c)
    ⊢ (dats m 0 c).Φ 0 := by
  rw [show (dats m 0 c).Φ 0 = Φ₀ m c from rfl, held_none]
  refine (sep_mono (Entails.of_eq (scopedRest0_eq c)) .rfl).trans ?_
  unfold Φ₀ Scr
  iintro ⟨⟨Hl, Hr⟩, Hp, -, HX⟩
  isplitl [HX]; · iexact HX
  isplitl [Hl Hr]
  · isplitl [Hl]; · iexact Hl
    iexact Hr
  iexact Hp

theorem scr_stage (c : Dev nD) : Scr (F := F) c ⊢ (Pipeline.scopedRest (Ix := Unit) (Val := Elt F) (Name := ℕ) (U := UU) (Lvl := ℕ) spec0 c : sProp 𝕄) := by
  rw [scopedRest0_eq]
  unfold Scr
  iintro ⟨Hl, Hr⟩
  isplitl [Hl]; · iexact Hl
  iexact Hr

theorem hout' (c : Dev nD) : (dats m 0 c).Φ (Fin.last cfg0.N)
    ⊢ iprop(Pipeline.scopedRest (Ix := Unit) (Val := Elt F) (Name := ℕ) (U := UU) (Lvl := ℕ) spec0 c ∗ (∃ r, prngReg c r) ∗ StableHlo.held (c.tc : Thread nD τ) ∅ (V2 m (outs m) c)
      ∗ Pipeline.ownSems0 osem c ∗ Yk c) := by
  rw [show (dats m 0 c).Φ (Fin.last _) = Φ₁ c from rfl, held_none, ownSems0_eq, KI_eq]
  unfold Φ₁ ZerS ZerR
  rw [upto28, upto28]
  iintro ⟨HY, Hz, Hs, Hp⟩
  isplitl [Hs]; · iapply (scr_stage (F := F) c); iexact Hs
  isplitl [Hp]; · iexact Hp
  isplitr; · iempintro
  isplitl [Hz]; · iexact Hz
  iexact HY
theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 osem c ∗ Yk c) := hout' m c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_dec : ∀ (w : Fin 6) (s : Fin (spec0 w).nbuf), dec ((spec0 w).sem s) = none := by decide

theorem ownFacts : Pipeline.OwnSemFacts spec0 osem where
  isScoped := by
    have h1 : ∀ i : Fin 28, (SemLoc.dma (sSem i)).isScoped .tc = true := by decide
    have h2 : ∀ i : Fin 28, (SemLoc.dma (rSem i)).isScoped .tc = true := by decide
    rintro (_ | ⟨i, _ | _⟩)
    · show (SemLoc.reg finS).isScoped .tc = true; decide
    · exact h1 i
    · exact h2 i
  inj := by
    rintro (_ | ⟨i, _ | _⟩) (_ | ⟨j, _ | _⟩) h
    · rfl
    · exact absurd h (fun h => by cases h)
    · exact absurd h (fun h => by cases h)
    · exact absurd h (fun h => by cases h)
    · have h' := congrArg dec (SemLoc.dma.inj h); rw [dec_s, dec_s] at h'; rw [Option.some.inj h']
    · have h' := congrArg dec (SemLoc.dma.inj h); rw [dec_s, dec_r] at h'; exact absurd (Option.some.inj h') (by simp)
    · exact absurd h (fun h => by cases h)
    · have h' := congrArg dec (SemLoc.dma.inj h); rw [dec_s, dec_r] at h'; exact absurd (Option.some.inj h') (by simp)
    · have h' := congrArg dec (SemLoc.dma.inj h); rw [dec_r, dec_r] at h'; rw [Option.some.inj h']
  disj := by
    rintro (_ | ⟨i, _ | _⟩) w s h
    · exact absurd h (fun h => by cases h)
    · have h' := congrArg dec (SemLoc.dma.inj h); rw [dec_s, stage_dec w s] at h'; exact absurd h' (by simp)
    · have h' := congrArg dec (SemLoc.dma.inj h); rw [dec_r, stage_dec w s] at h'; exact absurd h' (by simp)

theorem barO_cut (c : Dev nD) (t : Fin (cfg0.N + 1)) (g : GSem nD τ sig) (i : Unit) (h : 0 < (dats m 0 c).owed t g i) : i ∈ L g ∧ 0 < lv g i := by
  have e : (dats m 0 c).owed t = if t.val = 0 then barO c else 0 := rfl
  rw [e] at h
  split at h
  · rcases barO_pos h with (rfl | rfl) | (rfl | rfl) | ⟨i, -, rfl⟩
    · exact ⟨Finset.mem_singleton_self _, by rw [lv_bar]; decide⟩
    · exact ⟨Finset.mem_singleton_self _, by rw [lv_bar]; decide⟩
    · exact ⟨Finset.mem_singleton_self _, by rw [lv_fin]; decide⟩
    · exact ⟨Finset.mem_singleton_self _, by rw [lv_fin]; decide⟩
    · exact ⟨Finset.mem_singleton_self _, by rw [lv_r]; omega⟩
  · exact absurd h (Nat.lt_irrefl 0)
theorem stage_cut (c : Dev nD) (w : Fin 6) (s : Fin (spec0 w).nbuf) (u : Unit) : lv ((c : Thread nD τ), .dma ((spec0 w).sem s)) u ≤ 0 := by
  show (match dec ((spec0 w).sem s) with | some (i, true) => 2 + i.val | _ => 0) ≤ 0
  rw [stage_dec w s]

/-- The unscoped buffers that are no operand of the call. -/
def Sr : Finset (DevRef τ sig) := Pipeline.ucRefs τ sig \ Pipeline.arrRefs (τ := τ) spec0
theorem res_mem : Proc.devRef (τ := τ) .tc main_v20 ∈ Pipeline.arrRefs (τ := τ) spec0 := by
  unfold Pipeline.arrRefs
  exact Finset.mem_map_of_mem _ (Finset.mem_image_of_mem _ (Finset.mem_univ (5 : Fin 6)))
theorem rest_eq (c : Dev nD) (b : DevRef τ sig) (hb : b ∈ Sr \ ∅) : V2 m (outs m) c b = V1 m c b := by
  rw [Finset.sdiff_empty] at hb
  have hne : b ≠ Proc.devRef .tc main_v20 := by
    rintro rfl
    exact (Finset.mem_sdiff.mp hb).2 res_mem
  exact Function.update_of_ne hne _ _
theorem fin_arr (c : Dev nD) (w : Fin 6) : (dats m 0 c).arrAt w cfg0.N = V2 m (outs m) c (Proc.devRef .tc (Pipeline.arrRef spec0 w)) := by
  have hin : ∀ (w : Fin 6) (hw : (cfg0.win w).isOut = false) (hr : Pipeline.arrRef spec0 w ≠ main_v20),
      (dats m 0 c).arrAt w cfg0.N = V2 m (outs m) c (Proc.devRef .tc (Pipeline.arrRef spec0 w)) := by
    intro w hw hr
    refine ((dats m 0 c).arrAt_in w hw _).trans ?_
    exact (V2_of m (outs m) c _ (by simpa using hr)).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (arrAt_res m c).trans ((outs_res m c).symm.trans ?_)
    exact (Function.update_self (Proc.devRef (τ := τ) .tc main_v20) (outs m 2 main_v20 c) (V1 m c)).symm

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem ownFacts
    ∅ Sr (Finset.empty_subset _) kitP rfl (fun c => (body_obligation m c).loose)
    (fun _ => 0) barO (fun c => (zero_add _).symm) (fun _ => rfl) (fun _ => rfl) (fun c => (dats m 0 c).share_full fun _ => rfl)
    (V1 m) (V2 m (outs m)) (rest_eq m)
    (Tk m) Yk (Xk m) Yk (hopen m) (hin m) (hout m)
    (fun c => by iintro H; imodintro; iexact H)
    (fun _ => 0)
    ⟨fun c w s => by rw [L_tc]; exact Finset.mem_singleton_self _, fun c w s => stage_cut c w s (), fun c t g i h => barO_cut m c t g i h⟩
    (fun _ => iprop(emp))
    (fun _ _ => rfl) (fun c w => fin_arr m c w)

/-- What rides along the host's operations before the call, and after. -/
def E (j : Fin 2) (c : Dev nD) : sProp 𝕄 := match j with
  | 0 => iprop(Tk m c ∗ (∃ r, prngReg c r) ∗ ∃ W, owes (c : Thread nD τ) (barO c) W)
  | 1 => iprop(Yk c ∗ ∃ W, owes (c : Thread nD τ) (0 : CellTallies nD τ sig Unit) W)

theorem arrs_sub : Pipeline.arrRefs (τ := τ) spec0 ⊆ Pipeline.ucRefs τ sig := by
  intro b hb
  unfold Pipeline.arrRefs at hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + barO c) Wd)
  rw [zero_add, StableHlo.held_sub_split (c : Thread nD τ) arrs_sub (V1 m c)]
  unfold E Sr
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) Sr (V2 m (outs m) c) ∗ emp) ∗ Yk c ∗ ∃ Wd, owes (c : Thread nD τ) (0 : CellTallies nD τ sig Unit) Wd) ⊢ _
  rw [StableHlo.held_sub_split (c : Thread nD τ) arrs_sub (V2 m (outs m) c)]
  unfold E Sr
  iintro ⟨Ha, -, ⟨Hs, -⟩, HY, HO⟩
  isplitl [Ha Hs]
  · isplitl [Ha] <;> iassumption
  isplitl [HY] <;> iassumption

end Region

end Cert.Attn
-- ==== Proof.Launch.lean ====
module

public import proofs.«01_k».proof.Proof.Region

@[expose] public section

/-! The launch: the cells' invariants, the duties' tokens and the credits dealt to the devices; the run of `main`. -/

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ UU ℕ

/-! ## Cells and tokens -/

def barEmb : Dev nD ↪ GSem nD τ sig := ⟨fun c => barCell c, fun _ _ h => congrArg (fun g : GSem nD τ sig => g.1.1) h⟩
def scEmb : Dev nD × KI ↪ GSem nD τ sig :=
  ⟨kcell, fun _ _ h => Prod.ext (congrArg (fun g : GSem nD τ sig => g.1.1) h) (ownFacts.inj (congrArg Prod.snd h))⟩
abbrev barCells : Finset (GSem nD τ sig) := Finset.univ.map barEmb
abbrev scCells : Finset (GSem nD τ sig) := Finset.univ.map scEmb

theorem osem_ne_bar : ∀ k : KI, osem k ≠ .reg barS := by
  rintro (_ | ⟨i, _ | _⟩) h
  · exact fin_ne_bar (SemLoc.reg.inj h)
  · exact absurd h (fun h => by cases h)
  · exact absurd h (fun h => by cases h)
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- A device's duties: two at each barrier, one at each cell of a transfer. -/
abbrev TI : Type := Option (Option (Option (Option (Fin 28 × Bool))))
def tsem : TI → SemLoc sig × Bool
  | none => (.reg barS, true)
  | some none => (.reg barS, false)
  | some (some none) => (.reg finS, true)
  | some (some (some none)) => (.reg finS, false)
  | some (some (some (some (i, false)))) => (.dma (sSem i), false)
  | some (some (some (some (i, true)))) => (.dma (rSem i), false)
def untok : SemLoc sig × Bool → TI
  | (.reg s, b) => if s = barS then (if b then none else some none) else if b then some (some none) else some (some (some none))
  | (.dma q, _) => match dec q with
    | some p => some (some (some (some p)))
    | none => none
theorem untok_tsem (k : TI) : untok (tsem k) = k := by
  rcases k with _ | _ | _ | _ | ⟨i, _ | _⟩
  · simp [untok, tsem]
  · simp [untok, tsem]
  · exact if_neg (c := finS = barS) (t := none) (e := some (some none)) fin_ne_bar
  · exact if_neg (c := finS = barS) (t := some none) (e := some (some (some none))) fin_ne_bar
  · simp [untok, tsem, dec_s]
  · simp [untok, tsem, dec_r]
def talkToks : Finset (GSem nD τ sig × ℕ × Bool) :=
  Finset.univ.map ⟨fun p : Dev nD × TI => (((p.1 : Thread nD τ), (tsem p.2).1), 0, (tsem p.2).2), fun p p' h =>
    Prod.ext (congrArg (fun t : GSem nD τ sig × ℕ × Bool => t.1.1.1) h)
      (Function.LeftInverse.injective untok_tsem
        (Prod.ext (congrArg (fun t : GSem nD τ sig × ℕ × Bool => t.1.2) h) (congrArg (fun t : GSem nD τ sig × ℕ × Bool => t.2.2) h)))⟩

theorem opt_eq {α : Type} [Fintype α] [DecidableEq α] (Φ : Option α → sProp 𝕄) :
    bigSep Finset.univ Φ = iprop(Φ none ∗ bigSep Finset.univ fun a => Φ (some a)) := by
  have e : (Finset.univ : Finset (Option α)) = insert none (Finset.univ.map Function.Embedding.some) := by
    ext k; cases k <;> simp
  rw [e, BI.bigSep_insert (by simp), bigSep_map]; rfl

/-- The tokens of the duties at device `c`'s cells. -/
def toks (c : Dev nD) : sProp 𝕄 :=
  iprop(dutyTok ER (barCell c) 0 true ∗ dutyTok ER (barCell c) 0 false ∗ dutyTok ER (finCell c) 0 true ∗ dutyTok ER (finCell c) 0 false
    ∗ (bigSep Finset.univ fun i : Fin 28 => dutyTok ER (sCell i c) 0 false) ∗ bigSep Finset.univ fun i : Fin 28 => dutyTok ER (rCell i c) 0 false)
/-- The tokens of the duties device `c` pays. -/
def pays (c : Dev nD) : sProp 𝕄 :=
  iprop(dutyTok ER (barCell (prv c)) 0 true ∗ dutyTok ER (barCell (nxt c)) 0 false ∗ dutyTok ER (finCell (prv c)) 0 true ∗ dutyTok ER (finCell (nxt c)) 0 false
    ∗ (bigSep Finset.univ fun i : Fin 28 => dutyTok ER (sCell i c) 0 false) ∗ bigSep Finset.univ fun i : Fin 28 => dutyTok ER (rCell i (tgt i c)) 0 false)

theorem toks_eq : bigSep talkToks (fun x => (dutyTok ER x.1 x.2.1 x.2.2 : sProp 𝕄)) = bigSep Finset.univ fun c : Dev nD => toks c := by
  unfold talkToks; rw [bigSep_map, bigSep_univ_prod]
  refine bigSep_congr fun c _ => ?_
  unfold toks
  rw [opt_eq, opt_eq, opt_eq, opt_eq, bigSep_univ_prod]
  have h : ∀ (Φ : Fin 28 → Bool → sProp 𝕄), (bigSep Finset.univ fun a : Fin 28 => bigSep Finset.univ fun b : Bool => Φ a b)
      = iprop((bigSep Finset.univ fun a : Fin 28 => Φ a false) ∗ bigSep Finset.univ fun a : Fin 28 => Φ a true) := by
    intro Φ
    rw [← bigSep_sep']
    exact bigSep_congr fun i _ => by
      rw [bigSep_univ_eq_bigSepL [false, true] (by decide) (by decide)]; rfl
  rw [h]
  rfl

def ringN : Dev nD ≃ Dev nD := ⟨nxt, prv, prv_nxt, nxt_prv⟩
def ringP : Dev nD ≃ Dev nD := ⟨prv, nxt, nxt_prv, prv_nxt⟩
def ringT (i : Fin 28) : Dev nD ≃ Dev nD := ⟨tgt i, frm i, frm_tgt i, tgt_frm i⟩

theorem swap_sep (Φ : Dev nD → Fin 28 → sProp 𝕄) :
    (bigSep Finset.univ fun c : Dev nD => bigSep Finset.univ fun i : Fin 28 => Φ c i)
      = bigSep Finset.univ fun i : Fin 28 => bigSep Finset.univ fun c : Dev nD => Φ c i := by
  rw [← bigSep_univ_prod (fun p : Dev nD × Fin 28 => Φ p.1 p.2), bigSep_univ_equiv (Equiv.prodComm (Fin 28) (Dev nD)), bigSep_univ_prod]
  rfl
theorem recv_around :
    (bigSep Finset.univ fun c : Dev nD => bigSep Finset.univ fun i : Fin 28 => (dutyTok ER (rCell i c) 0 false : sProp 𝕄))
      = bigSep Finset.univ fun c : Dev nD => bigSep Finset.univ fun i : Fin 28 => (dutyTok ER (rCell i (tgt i c)) 0 false : sProp 𝕄) := by
  rw [swap_sep, swap_sep]
  exact bigSep_congr fun i _ => bigSep_univ_equiv (ringT i) (fun c : Dev nD => (dutyTok ER (rCell i c) 0 false : sProp 𝕄))
theorem toks_around : (bigSep Finset.univ fun c : Dev nD => (toks c : sProp 𝕄)) = bigSep Finset.univ fun c : Dev nD => pays c := by
  unfold toks pays
  simp only [bigSep_sep']
  rw [bigSep_univ_equiv ringP (fun c : Dev nD => (dutyTok ER (barCell c) 0 true : sProp 𝕄)),
    bigSep_univ_equiv ringN (fun c : Dev nD => (dutyTok ER (barCell c) 0 false : sProp 𝕄)),
    bigSep_univ_equiv ringP (fun c : Dev nD => (dutyTok ER (finCell c) 0 true : sProp 𝕄)),
    bigSep_univ_equiv ringN (fun c : Dev nD => (dutyTok ER (finCell c) 0 false : sProp 𝕄)), recv_around]
  rfl

/-! ## The credits -/

theorem barO_apply (d : Dev nD) (g : GSem nD τ sig) :
    barO d g () = ((if g = finCell (nxt d) then 1 else 0) + (if g = finCell (prv d) then 1 else 0) + ∑ i : Fin 28, (if g = rCell i (tgt i d) then N else 0)
      + (if g = barCell (nxt d) then 1 else 0)) + if g = barCell (prv d) then 1 else 0 := by
  unfold barO barO₁ owed finO finO₁ owedF
  rw [Pi.add_apply, Finsupp.add_apply, Pi.add_apply, Finsupp.add_apply, Pi.add_apply, Finsupp.add_apply, Pi.add_apply, Finsupp.add_apply,
    Finset.sum_apply, Finsupp.finset_sum_apply, Finset.filter_true_of_mem fun i _ => Nat.zero_le _]
  simp only [tallyAt_apply, and_true]
theorem bar_ne_r (i : Fin 28) (c d : Dev nD) : barCell c ≠ rCell i d := fun h => by
  have := congrArg Prod.snd h; cases this
theorem fin_ne_r (i : Fin 28) (c d : Dev nD) : finCell c ≠ rCell i d := fun h => by
  have := congrArg Prod.snd h; cases this
theorem bar_ne_fin (c d : Dev nD) : barCell c ≠ finCell d := fun h => fin_ne_bar (SemLoc.reg.inj (congrArg Prod.snd h)).symm
theorem bar_inj {c d : Dev nD} : barCell c = barCell d ↔ c = d := ⟨fun h => congrArg (fun g : GSem nD τ sig => g.1.1) h, fun h => h ▸ rfl⟩
theorem fin_inj {c d : Dev nD} : finCell c = finCell d ↔ c = d := ⟨fun h => congrArg (fun g : GSem nD τ sig => g.1.1) h, fun h => h ▸ rfl⟩
theorem r_inj {i j : Fin 28} {c d : Dev nD} : rCell i c = rCell j d ↔ i = j ∧ c = d :=
  ⟨fun h => ⟨by
      have h' := congrArg dec (SemLoc.dma.inj (congrArg Prod.snd h)); rw [dec_r, dec_r] at h'
      exact congrArg Prod.fst (Option.some.inj h'), congrArg (fun g : GSem nD τ sig => g.1.1) h⟩, fun ⟨h, h'⟩ => by rw [h, h']⟩
theorem eq_nxt {c d : Dev nD} : c = nxt d ↔ prv c = d := ⟨fun h => by rw [h, prv_nxt], fun h => by rw [← h, nxt_prv]⟩
theorem eq_prv {c d : Dev nD} : c = prv d ↔ nxt c = d := ⟨fun h => by rw [h, nxt_prv], fun h => by rw [← h, prv_nxt]⟩
theorem eq_tgt {i : Fin 28} {c d : Dev nD} : c = tgt i d ↔ frm i c = d := ⟨fun h => by rw [h, frm_tgt], fun h => by rw [← h, tgt_frm]⟩

theorem sum_bar (c : Dev nD) : ∑ d : Dev nD, barO d (barCell c) () = 2 := by
  simp only [barO_apply, bar_ne_fin, bar_ne_r, bar_inj, eq_nxt, eq_prv, if_false, Finset.sum_const_zero, Nat.zero_add, Finset.sum_add_distrib,
    Finset.sum_ite_eq, Finset.mem_univ, if_true]
theorem sum_fin (c : Dev nD) : ∑ d : Dev nD, barO d (finCell c) () = 2 := by
  simp only [barO_apply, (bar_ne_fin _ _).symm, fin_ne_r, fin_inj, eq_nxt, eq_prv, if_false, Finset.sum_const_zero, Nat.add_zero, Finset.sum_add_distrib,
    Finset.sum_ite_eq, Finset.mem_univ, if_true]
theorem sum_r (i : Fin 28) (c : Dev nD) : ∑ d : Dev nD, barO d (rCell i c) () = N := by
  have h : ∀ d : Dev nD, barO d (rCell i c) () = if frm i c = d then N else 0 := by
    intro d
    simp only [barO_apply, (bar_ne_r _ _ _).symm, (fin_ne_r _ _ _).symm, if_false, Nat.add_zero, Nat.zero_add, r_inj]
    rw [Finset.sum_eq_single i (fun j _ hj => if_neg fun h => hj h.1.symm) (fun h => absurd (Finset.mem_univ i) h)]
    simp only [true_and, eq_tgt]
  simp only [h, Finset.sum_ite_eq, Finset.mem_univ, if_true]

theorem launch_at (c : Dev nD) (sm : SemLoc sig) (n : ℕ) (h : ∑ d : Dev nD, barO d ((c : Thread nD τ), sm) () = n) :
    tallyOn ((c : Thread nD τ), sm) (launchCredit (Pipeline.owing barO) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

def rEmb : Fin 28 ↪ SemLoc sig := ⟨fun i => .dma (rSem i), fun i j h => by
  have h' := congrArg dec (SemLoc.dma.inj h); rw [dec_r, dec_r] at h'
  exact congrArg Prod.fst (Option.some.inj h')⟩
theorem creds (c : Dev nD) :
    (Pipeline.launchCred barO c : sProp 𝕄) ⊢ iprop(cred (tallyAt (barCell c) () 2) ∗ cred (tallyAt (finCell c) () 2) ∗ CrdR c 0) := by
  unfold Pipeline.launchCred CrdR
  rw [all28]
  have hS : insert (SemLoc.reg barS) (insert (SemLoc.reg finS) (Finset.univ.map rEmb)) ⊆ (Finset.univ : Finset (SemLoc sig)) := Finset.subset_univ _
  refine (BI.bigSep_subset hS).trans ?_
  have hr : ∀ s : Sem sig, SemLoc.reg s ∉ (Finset.univ.map rEmb : Finset (SemLoc sig)) := by
    intro s h
    obtain ⟨i, -, hi⟩ := Finset.mem_map.mp h
    exact absurd (show SemLoc.dma (rSem i) = SemLoc.reg s from hi) (fun h => by cases h)
  rw [BI.bigSep_insert (by
      rw [Finset.mem_insert, not_or]
      exact ⟨fun h => fin_ne_bar (SemLoc.reg.inj h).symm, hr barS⟩), BI.bigSep_insert (hr finS), bigSep_map,
    launch_at c _ 2 (sum_bar c), launch_at c _ 2 (sum_fin c)]
  refine sep_mono_right (sep_mono_right (Entails.of_eq (bigSep_congr fun i _ => ?_)))
  show cred (tallyOn ((c : Thread nD τ), SemLoc.dma (rSem i)) (launchCredit (Pipeline.owing barO) 0 ((c : Thread nD τ), SemLoc.dma (rSem i)))) = _
  rw [launch_at c _ N (sum_r i c)]

/-! ## Dealing -/

def u₀ : UU := (initOf (Pipeline.cells (Pipeline.pin (pcfgs (F := F)) adm) cellOf_inj) (Pipeline.launchToks (Pipeline.pin (pcfgs (F := F)) adm) cellOf_inj),
  launchOf barCells scCells talkToks)
/-- All of a resource on device 0. -/
def at0 (X : sProp 𝕄) (c : Dev nD) : sProp 𝕄 := if c = 0 then X else iprop(emp)
theorem bigSep_at0 (X : sProp 𝕄) : bigSep Finset.univ (at0 X) = X := by
  rw [bigSep_univ_at _ 0, bigSep_congr (s := Finset.univ.erase 0) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp
def G : Dev nD → sProp 𝕄 := at0 (BI.own (ER (launchOf barCells scCells talkToks)))

section Run

variable (m : (ℓ : Loc nD τ sig) → Buf (Elt F) ℓ) (ρ : Dev nD → PrngReg)

def records (κ : GSem nD τ sig → ℕ) : sProp 𝕄 := iprop(Invs κ (Vv (II m)) ∗ BarR)
instance records_persistent (κ : GSem nD τ sig → ℕ) : BI.Persistent (records m κ) := by unfold records; infer_instance
def linear (c : Dev nD) : sProp 𝕄 :=
  iprop(atPos ER (barCell c) 0 ∅ 0 ∗ (bigSep Finset.univ fun k : KI => openTok ER (kcell (c, k))) ∗ pays c)
def bundle (c : Dev nD) : sProp 𝕄 :=
  iprop(StableHlo.held (c : Thread nD τ) (Pipeline.ucRefs τ sig) (V0 m c) ∗ (cred (tallyAt (barCell c) () 2) ∗ cred (tallyAt (finCell c) () 2) ∗ CrdR c 0)
    ∗ owes (c : Thread nD τ) (barO c) ∅ ∗ ∃ r, prngReg c r)
def T₀ (c : Dev nD) : sProp 𝕄 := iprop(StableHlo.held (c : Thread nD τ) (Pipeline.ucRefs τ sig) (V0 m c) ∗ E m 0 c)
def Tₙ (c : Dev nD) : sProp 𝕄 := iprop(StableHlo.held (c : Thread nD τ) (Pipeline.ucRefs τ sig) (V3 m (outs m) c) ∗ semVal (barCell c) 0)

theorem T₀_intro (κ : GSem nD τ sig → ℕ) (c : Dev nD) : iprop(records m κ ∗ (linear c ∗ bundle m c)) ⊢ T₀ m c := by
  unfold records linear pays bundle T₀ E Tk
  iintro ⟨⟨#HI, #HB⟩, ⟨Hat, Hop, Hb1, Hb2, Hf1, Hf2, HtS, HtR⟩, Hh, ⟨Hc1, Hc2, Hc3⟩, HO, Hp⟩
  isplitl [Hh]; · iexact Hh
  isplitr [Hp HO]
  · isplitr; · iexists κ; iexact HI
    isplitr; · iexact HB
    isplitl [Hb1 Hb2 Hc1 Hat]
    · unfold BarRes
      isplitl [Hb1]; · iexact Hb1
      isplitl [Hb2]; · iexact Hb2
      isplitl [Hc1] <;> iassumption
    isplitl [Hf1 Hf2 Hc2]
    · isplitl [Hf1]; · iexact Hf1
      isplitl [Hf2] <;> iassumption
    isplitr [Hop]
    · isplitr [Hc3]
      · unfold Toks
        rw [all28]
        iapply (pair_up (F := F))
        isplitl [HtS] <;> iassumption
      · iexact Hc3
    · iexact Hop
  isplitl [Hp]; · iexact Hp
  iexists ∅; iexact HO

theorem unscopedSems0_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (barO c) ∅ ∗ Pipeline.launchCred barO c ∗ prngReg c (ρ c) ∗ G c)) ∗ levAts L lv)
      ⊢ (|={Set.univ}=> bigSep Finset.univ (T₀ m) : sProp 𝕄) := by
  have hcore : ∀ c : Dev nD, iprop(unscopedBufs c (fun b => m ((c : Thread nD τ).loc b)) ∗ unscopedSems0 c
        ∗ owes (c : Thread nD τ) (barO c) ∅ ∗ Pipeline.launchCred barO c ∗ prngReg c (ρ c) ∗ G c)
      ⊢ (iprop(bundle m c ∗ (semVal (barCell c) 0 ∗ G c)) : sProp 𝕄) := by
    intro c
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_bar]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ BarR (F := F) :=
    Entails.of_eq (bigSep_map (s := Finset.univ) barEmb (Φ := fun g : GSem nD τ sig => (reached ER g 0 : sProp 𝕄)))
  have hopen : bigSep scCells (fun g => (openTok ER g : sProp 𝕄))
      ⊢ bigSep Finset.univ (fun c : Dev nD => bigSep Finset.univ fun k : KI => (openTok ER (kcell (c, k)) : sProp 𝕄)) :=
    Entails.of_eq (by
      rw [bigSep_map, bigSep_univ_prod]
      rfl)
  have hinv : ∀ κ : GSem nD τ sig → ℕ, bigSep (barCells ∪ scCells) (fun g => (cellInv ER (Rd (Vv (II m))) (κ g) g : sProp 𝕄)) ⊢ Invs κ (Vv (II m)) := by
    intro κ
    unfold Invs
    rw [BI.bigSep_union disjoint_cells, bigSep_map, bigSep_map]
    exact .rfl
  iintro ⟨H, -⟩
  ihave H := (show (bigSep Finset.univ fun c : Dev nD => iprop(unscopedBufs c (fun b => m ((c : Thread nD τ).loc b)) ∗ unscopedSems0 c
          ∗ owes (c : Thread nD τ) (barO c) ∅ ∗ Pipeline.launchCred barO c ∗ prngReg c (ρ c) ∗ G c))
      ⊢ (bigSep Finset.univ fun c : Dev nD => iprop(bundle m c ∗ (semVal (barCell c) 0 ∗ G c)) : sProp 𝕄) from BI.bigSep_mono fun c _ => hcore c) $$ H
  ihave H := pair_down (F := F) $$ H
  icases H with ⟨HB, H⟩
  ihave H := pair_down (F := F) $$ H
  icases H with ⟨Hv, HG⟩
  ihave Hu := (show bigSep Finset.univ (G (F := F)) ⊢ BI.own (ER (launchOf barCells scCells talkToks)) from
    Entails.of_eq (bigSep_at0 (F := F) (BI.own (ER (launchOf barCells scCells talkToks))))) $$ HG
  imod (Rounds.fund_launch ER (Rd (Vv (II m))) disjoint_cells (fun g _ h => h) talkToks) $$ [Hv Hu] with ⟨%κ, -, Hinv, Hr, Hat, Hopen, Htok⟩
  · isplitl [Hv]
    · iapply hv $$ Hv
    · iexact Hu
  imodintro
  ihave #Hinv := (hinv κ) $$ Hinv
  ihave #Hr := hr $$ Hr
  iapply (bigSep_with_persistent (R := records m κ) (Φ := fun c => iprop(linear c ∗ bundle m c)) fun c _ => T₀_intro m κ c)
  isplitr
  · unfold records
    isplitr; · iexact Hinv
    iexact Hr
  iapply (pair_up (F := F))
  isplitr [HB]
  · unfold linear
    iapply (pair_up (F := F)); isplitl [Hat]; · iapply hat $$ Hat
    iapply (pair_up (F := F)); isplitl [Hopen]; · iapply hopen $$ Hopen
    ihave Htok := (Entails.of_eq (toks_eq (F := F))) $$ Htok
    iapply (Entails.of_eq (toks_around (F := F))) $$ Htok
  · iexact HB

theorem unscoped_eq : ∀ sm : SemLoc sig, sm.isScoped .tc = false → sm = .reg barS := by decide

/-- What a final state holds on device `c`. -/
def Final (c : Dev nD) (s : MemSt nD τ sig (Elt F)) : Prop :=
  (∀ b ∈ Pipeline.ucRefs τ sig, s.mem ((c : Thread nD τ).1, b) = V3 m (outs m) c b) ∧ s.sem (barCell c) = 0

theorem Final.at {c : Dev nD} {s : MemSt nD τ sig (Elt F)} (h : Final m c s) (r : Ref sig .tc) (hr : r.isScoped = false) :
    s.mem ((c : Thread nD τ).loc r) = V3 m (outs m) c r :=
  h.1 _ (Finset.mem_filter.mpr ⟨StableHlo.devRef_mem_tcRefs r, by simpa using hr⟩)

theorem fin_read (c : Dev nD) (s' : Phys nD τ sig (Elt F)) :
    (iprop(Tₙ m c ∗ SI s') : sProp 𝕄) ⊢ |={Set.univ}=> iprop(⌜Final m c s'.mem⌝ ∗ SI s') := by
  unfold Tₙ
  iintro ⟨⟨Hh, Hb0⟩, HSI⟩
  icombine HSI Hb0 gives %hb
  unfold StableHlo.held
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨h, by simpa using hb⟩
  iexact HSI

set_option backward.isDefEq.respectTransparency.types false in
theorem run_final : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) adm (dats m) () cellOf_inj EP defs₀ 𝒱₀ L lv m ρ main
    (segs m (outs m) 𝒱₀ L lv (E m) () (dats m) (reg m))
    (fun c Q => by
      rewrite [main_chain c, Pipeline.Seg.run_eq_chain,
        show (segs m (outs m) 𝒱₀ L lv (E m) () (dats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    barO L_of_ne G u₀
    (hu₀ := by
      unfold u₀ G
      iintro Hu
      ihave H := (ownU_pair _ _) $$ Hu
      icases H with ⟨HP, HX⟩
      imodintro
      isplitl [HP]; · iexact HP
      rw [bigSep_at0]; iexact HX)
    (T₀ := T₀ m) (Tₙ := Tₙ m)
    (hch := fun c => ⟨.rfl, reg_pre m c, reg_post m c, by
      show iprop(StableHlo.held (c : Thread nD τ) (Pipeline.ucRefs τ sig) (V3 m (outs m) c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      unfold Tₙ
      iintro ⟨Hh, Hb0, HO⟩
      isplitr [HO]
      · isplitl [Hh] <;> iassumption
      · iexact HO⟩)
    (hinit := init m ρ)
    (QY := Final m)
    (hfin := fin_read m)
    (hQ := fun s h hs => ⟨h, sem_eq_zero hs fun c sm hsm => by
        obtain rfl := unscoped_eq sm hsm
        exact (h c).2⟩)

/-- What the run leaves in the result: the body's result, one dimension put in front. -/
def res (c : Dev nD) := V3 m (outs m) c main_v21

/-- THE RUN: every weakly fair execution of @main on the eight devices terminates, and every final state has the arguments
    unchanged, the result at `res` and every semaphore counter at zero. -/
theorem run_main : θ_run defs (onTc (τ := τ) (main (F := F))) ⟨m, fun _ => 0, ρ⟩
    (fun r => (∀ c : Dev nD, r.2.mem ((c : Thread nD τ).loc main_v21) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c => ⟨(h.1 c).at m main_v21 rfl, ((h.1 c).at m main_arg0 rfl).trans (V3_main_arg0 m (outs m) c),
    ((h.1 c).at m main_arg1 rfl).trans (V3_main_arg1 m (outs m) c), ((h.1 c).at m main_arg2 rfl).trans (V3_main_arg2 m (outs m) c),
    ((h.1 c).at m main_arg3 rfl).trans (V3_main_arg3 m (outs m) c), ((h.1 c).at m main_arg4 rfl).trans (V3_main_arg4 m (outs m) c)⟩, h.2⟩) (run_final m ρ)

end Run

end Cert.Attn
-- ==== Proof.Frames.lean ====
/- The two frames of the kernel's programs and the rewrite's statement. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.Attn

open Idealize.ShloMosaic Idealize.SL.Sem

/-- At the hardware's values a named constant is read as its bits: there the kernel and its idealization are one program. -/
@[reducible] def namedBits : Named Bits := ⟨fun _ _ φ b => Scalar.ofBits φ b⟩
attribute [local instance] namedBits

theorem frame_KernelIdeal : Cert.quiescent_KernelIdeal := fun m ρ _ =>
  (θ_run Cert.KernelIdeal.defs _ _).mono (fun _ h => ⟨fun c => (h.1 c).2, h.2⟩) (run_main (F := Ideal) m ρ)

/-- The frame of the kernel's run, at the hardware's values, over the idealized program's names. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (run_main (F := Bits) m ρ)

set_option maxRecDepth 100000 in
theorem body_eq : @Cert.Kernel.cc0__body Bits _ _ = @Cert.KernelIdeal.cc0__body Bits _ _ _ := rfl

theorem defs0_eq : Cert.Kernel.defs₀ (F := Bits) = Cert.KernelIdeal.defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : Cert.Kernel.defs (F := Bits) = Cert.KernelIdeal.defs (F := Bits) :=
  congrArg (Pipeline.defs Cert.KernelIdeal.pcfgs) defs0_eq

theorem main_eq : Cert.Kernel.main (F := Bits) = Cert.KernelIdeal.main (F := Bits) := rfl

theorem frame_Kernel : Cert.quiescent_Kernel := by
  intro m ρ _
  have h := frame_bits m ρ
  rw [← defs_eq, ← main_eq] at h
  exact h

/-- The reference's frame: its generated run leaves the arguments, and it declares no semaphore. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

end Cert.Attn
-- ==== Proof.MathHost.lean ====
/- What the host hands to the kernel call on each device, and what it makes of the call's result, read at an index. -/
module
public import proofs.«01_k».proof.Proof.Launch
public import Idealize.ShloMosaic.Lib.Pointwise
public import Idealize.ShloMosaic.Lib.DynamicIndex
public import Idealize.ShloMosaic.Lib.StableHlo.ReadAt
@[expose] public section
noncomputable section
namespace Cert.Attn
open Cert.KernelIdeal Cert.KernelIdeal.Gen
open Idealize.ShloMosaic

variable (m : (ℓ : Loc nD τ sig) → Buf (Elt Ideal) ℓ)

/-- The number of a device's first head, as the host reckons it in a scalar word. -/
def headW (c : Dev nD) : IVec S_ 32 :=
  muli (Host.remui (Host.divui (constantI S_ 32 (Dev.word c)) (constantI S_ 32 1#32)) (constantI S_ 32 8#32)) (constantI S_ 32 8#32)
/-- The start that the host hands to its slice, with the wrap of a negative start. -/
def startW (c : Dev nD) : IVec S_ 32 :=
  select (cmpi .slt (headW c) (constantI S_ 32 0#32)) (addi (headW c) (constantI S_ 32 64#32)) (headW c)
/-- Device `c`'s heads begin at `8 * c`. -/
theorem start_val (c : Dev nD) : BitVec.toInt (startW c (Shape.Idx.first h_S_)) = ((8 * c.1 : Nat) : Int) := by
  revert c; decide
/-- The start of the keys' slice. -/
theorem start_k (c : Dev nD) : (StableHlo.upto (hostOps0 c) (V0 m c) 17 (Proc.tc.devRef main_v10) : IVec S_ 32) = startW c := by
  after_reads_simp; rfl
/-- The start of the values' slice. -/
theorem start_v (c : Dev nD) : (StableHlo.upto (hostOps0 c) (V0 m c) 28 (Proc.tc.devRef main_v16) : IVec S_ 32) = startW c := by
  after_reads_simp; rfl
/-- The keys' slice begins at 0 along the positions. -/
theorem zero_k (c : Dev nD) : (StableHlo.upto (hostOps0 c) (V0 m c) 17 (Proc.tc.devRef main_c_4) : IVec S_ 32) = constantI S_ 32 0#32 := by
  after_reads_simp
/-- The keys' slice begins at 0 along a head's columns. -/
theorem zero_k' (c : Dev nD) : (StableHlo.upto (hostOps0 c) (V0 m c) 17 (Proc.tc.devRef main_c_5) : IVec S_ 32) = constantI S_ 32 0#32 := by
  after_reads_simp
/-- The values' slice begins at 0 along the positions. -/
theorem zero_v (c : Dev nD) : (StableHlo.upto (hostOps0 c) (V0 m c) 28 (Proc.tc.devRef main_c_9) : IVec S_ 32) = constantI S_ 32 0#32 := by
  after_reads_simp
/-- The values' slice begins at 0 along a head's columns. -/
theorem zero_v' (c : Dev nD) : (StableHlo.upto (hostOps0 c) (V0 m c) 28 (Proc.tc.devRef main_c_10) : IVec S_ 32) = constantI S_ 32 0#32 := by
  after_reads_simp
/-- A start word that is known reads as its number. -/
theorem toInt_first {w w' : IVec S_ 32} {n : Nat} (h : w = w') (hn : BitVec.toInt (w' (Shape.Idx.first h_S_)) = (n : Int)) :
    BitVec.toInt (w (Shape.Idx.first h_S_)) = (n : Int) := h ▸ hn
/-- The call's activations are the argument's. -/
theorem x_at (c : Dev nD) (s : Fin 2048) (i : Fin 1024) : (II m c).x (ix2 s i) = m ((c.tc : Thread nD τ).loc main_arg0) (ix3 0 s i) := by
  show V1 m c (Proc.tc.devRef main_v5) (ix2 s i) = _
  unfold V1
  after_reads_at
/-- The call's query weights are the argument's. -/
theorem wq_at (c : Dev nD) : (II m c).wq = m ((c.tc : Thread nD τ).loc main_arg1) :=
  V1_of m c main_arg1 (by decide)
/-- The call's output weights are the argument's. -/
theorem wo_at (c : Dev nD) : (II m c).wo = m ((c.tc : Thread nD τ).loc main_arg4) :=
  V1_of m c main_arg4 (by decide)
/-- Eight heads from `8 * c` on, moved in front of the positions. -/
theorem slice_at (x : FVec Ideal S1x2048x64x128 .f32) (st : Fin S2048x64x128.rank → Int) (c : Dev nD) (h0 : st 0 = (0 : Nat)) (h1 : st 1 = (8 * c.1 : Nat)) (h2 : st 2 = (0 : Nat))
    (h : Fin 8) (j : Fin 2048) (e : Fin 128) :
    transpose S8x2048x128 [1, 0, 2] (Host.dynamicSlice S2048x8x128 (shapeCast S2048x64x128 x shapeCasts_S1x2048x64x128_S2048x64x128) st sliceFits_S2048x64x128_S2048x8x128)
      transposes_S2048x8x128_S8x2048x128_1_0_2 (ix3 h j e) = x (ix4 0 j ⟨8 * c.1 + h.1, by have := c.2; have := h.2; simp only [nD] at *; omega⟩ e) := by
  have hb : c.1 < 8 := c.2
  rw [Host.dynamicSlice_eq_extractStridedSlice S2048x8x128 _ st ![0, 8 * c.1, 0] _
    ⟨rfl, fun a => by fin_cases a <;> simp [Shape.size] <;> omega⟩ (fun a => by fin_cases a <;> assumption)]
  pointwise
/-- The call's keys are those of the device's own heads. -/
theorem k_at (c : Dev nD) (h : Fin 8) (j : Fin 2048) (e : Fin 128) : (II m c).k (ix3 h j e) = m ((c.tc : Thread nD τ).loc main_arg2) (ix4 0 j ⟨8 * c.1 + h.1, by have := c.2; have := h.2; simp only [nD] at *; omega⟩ e) := by
  show V1 m c (Proc.tc.devRef main_v18) (ix3 h j e) = _
  unfold V1
  after_reads_simp
  refine slice_at _ _ c ?_ ?_ ?_ h j e
  · show BitVec.toInt ((StableHlo.upto (hostOps0 c) (V0 m c) 17 (Proc.tc.devRef main_c_4) : IVec S_ 32) (Shape.Idx.first h_S_)) = _
    exact toInt_first (zero_k m c) rfl
  · show BitVec.toInt ((StableHlo.upto (hostOps0 c) (V0 m c) 17 (Proc.tc.devRef main_v10) : IVec S_ 32) (Shape.Idx.first h_S_)) = _
    exact toInt_first (start_k m c) (start_val c)
  · show BitVec.toInt ((StableHlo.upto (hostOps0 c) (V0 m c) 17 (Proc.tc.devRef main_c_5) : IVec S_ 32) (Shape.Idx.first h_S_)) = _
    exact toInt_first (zero_k' m c) rfl
/-- The call's values are those of the device's own heads. -/
theorem v_at (c : Dev nD) (h : Fin 8) (j : Fin 2048) (e : Fin 128) : (II m c).v (ix3 h j e) = m ((c.tc : Thread nD τ).loc main_arg3) (ix4 0 j ⟨8 * c.1 + h.1, by have := c.2; have := h.2; simp only [nD] at *; omega⟩ e) := by
  show V1 m c (Proc.tc.devRef main_v19) (ix3 h j e) = _
  unfold V1
  after_reads_simp
  refine slice_at _ _ c ?_ ?_ ?_ h j e
  · show BitVec.toInt ((StableHlo.upto (hostOps0 c) (V0 m c) 28 (Proc.tc.devRef main_c_9) : IVec S_ 32) (Shape.Idx.first h_S_)) = _
    exact toInt_first (zero_v m c) rfl
  · show BitVec.toInt ((StableHlo.upto (hostOps0 c) (V0 m c) 28 (Proc.tc.devRef main_v16) : IVec S_ 32) (Shape.Idx.first h_S_)) = _
    exact toInt_first (start_v m c) (start_val c)
  · show BitVec.toInt ((StableHlo.upto (hostOps0 c) (V0 m c) 28 (Proc.tc.devRef main_c_10) : IVec S_ 32) (Shape.Idx.first h_S_)) = _
    exact toInt_first (zero_v' m c) rfl
/-- The program's result is the call's. -/
theorem res_at (c : Dev nD) (s : Fin 2048) (n : Fin 1024) :
    res m c (ix3 0 s n) = fullF (II m) c (ix2 s n) := by
  unfold res V3
  after_reads_at
  show Function.update (V1 m c) (Proc.tc.devRef main_v20) (outs m 2 main_v20 c) (Proc.tc.devRef main_v20) (ix2 s n) = _
  rw [Function.update_self, outs_res]
end Cert.Attn
-- ==== Proof.MathPre.lean ====
/- The precondition read: every number of the activations, of the query weights and of the keys is a real. -/
module
public import proofs.«01_k».proof.Pre_finite_scores_KernelIdeal
public import Idealize.ShloMosaic.Lib.Pointwise
@[expose] public section
noncomputable section
namespace Cert.Attn
open Idealize.ShloMosaic Cert.Pre_finite_scores_KernelIdeal

/-- Two bits have «and» 1 where both are 1. -/
theorem andi_one : ∀ a b : BitVec 1, IntOp.andi a b = 1#1 ↔ a = 1#1 ∧ b = 1#1 := by decide

/-- A fold of bits by «and» that ends at 1 met ones only. -/
theorem foldl_andi {ι : Type} (p : ι → BitVec 1) : ∀ (l : List ι) (a : BitVec 1),
    l.foldl (fun r n => IntOp.andi r (p n)) a = 1#1 → a = 1#1 ∧ ∀ n ∈ l, p n = 1#1
  | [], a, h => ⟨h, fun _ hn => absurd hn List.not_mem_nil⟩
  | n :: l, a, h => by
    obtain ⟨h1, h2⟩ := foldl_andi p l _ h
    obtain ⟨h3, h4⟩ := (andi_one _ _).1 h1
    exact ⟨h3, fun x hx => (List.mem_cons.1 hx).elim (fun e => e ▸ h4) (h2 x)⟩

/-- A whole array of bits whose «and» is 1 holds ones only. -/
theorem all_of_reduce {s u : Shape} {axes : List (Fin s.rank)} (x : IVec s 1) (v : IVec u 1) (h : s.ReducesTo axes S_) (hu : 0 < u.numel)
    (j : S_.Idx) (hr : Host.reduce IntOp.andi x v h hu j = 1#1) (i : s.Idx) : x i = 1#1 := by
  have hm : s.rowMajor i ∈ (List.finRange s.numel).filter fun n => h.drop (s.rowMajor.symm n) = j := by
    rw [List.mem_filter]
    exact ⟨List.mem_finRange _, decide_eq_true (funext fun a => a.elim0)⟩
  have := (foldl_andi (fun n => x (s.rowMajor.symm n)) _ _ hr).2 _ hm
  simpa only [Equiv.symm_apply_apply] using this

/-- A number whose size is under the greatest is a real. -/
theorem real_of_olt (x : Ideal .f32)
    (h : FloatOps.cmpf .olt (FloatOps.hostAbsf x) (FloatOps.ofBits (F := Ideal) .f32 0x7F800000#32) = 1#1) : ∃ r : ℝ, (x : EReal) = r := by
  have htop : Ideal.ofBits .f32 0x7F800000#32 = (⊤ : EReal) := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    rw [decide_eq_false hn] at h'
    exact absurd h' (by decide)
  rw [max_lt_iff] at hlt
  refine ⟨EReal.toReal x, (EReal.coe_toReal hlt.1.ne fun e => ?_).symm⟩
  rw [e] at hlt
  exact absurd hlt.2 (by simp)

variable [Facts]

/-- What the precondition says of one device's arguments. -/
theorem reals_of_pre (x : FVec Ideal S1x2048x1024 .f32) (wq : FVec Ideal S1024x1024 .f32) (k v : FVec Ideal S1x2048x64x128 .f32) (wo : FVec Ideal S1024x1024 .f32)
    (h : fn (F := Ideal) x wq k v wo = fun _ => 1#1) :
    (∀ i, ∃ r : ℝ, (x i : EReal) = r) ∧ (∀ i, ∃ r : ℝ, (wq i : EReal) = r) ∧ (∀ i, ∃ r : ℝ, (k i : EReal) = r) := by
  obtain ⟨h1, h2⟩ := (andi_one _ _).1 (congrFun h fun a => a.elim0)
  obtain ⟨h3, h4⟩ := (andi_one _ _).1 h1
  exact ⟨fun i => real_of_olt _ (all_of_reduce _ _ _ _ _ h3 i), fun i => real_of_olt _ (all_of_reduce _ _ _ _ _ h4 i),
    fun i => real_of_olt _ (all_of_reduce _ _ _ _ _ h2 i)⟩
end Cert.Attn
-- ==== Proof.MathCore.lean ====
/-
  The mathematics of one row of the attention over the extended reals.
-/
module
public import Idealize.ShloMosaic.Lib.Pointwise
@[expose] public section
noncomputable section
namespace Cert.Attn
open Idealize.ShloMosaic

/-- The word of the reference's and the kernel's lowest score reads as the least extended real. -/
theorem ninf_eq : Ideal.ofBits FTy.f32 4286578688#32 = (⊥ : EReal) := by
  simp [Ideal.ofBits, Ideal.ieee]

/-- The scale of the scores. -/
abbrev scl : EReal := Ideal.ofBits FTy.f32 1035273459#32

theorem scl_real : ∃ r : ℝ, scl = (r : EReal) := by
  simp [scl, Ideal.ofBits, Ideal.ieee]
  exact ⟨_, (EReal.coe_mul _ _).symm⟩

/-- The greatest of a row. -/
abbrev maxOf {ι : Type} [Fintype ι] (a : ι → EReal) : EReal :=
  Finset.fold max (Ideal.ofBits FTy.f32 4286578688#32) a Finset.univ

/-- The exponential of an entry of a row less the row's greatest. -/
abbrev expOf {ι : Type} [Fintype ι] (a : ι → EReal) (i : ι) : EReal := Ideal.exp (a i - maxOf a)

/-- A row's value over its values `v`. -/
abbrev rowOf {ι : Type} [Fintype ι] (a v : ι → EReal) : EReal :=
  Ideal.div (∑ i, expOf a i * v i) (∑ i, expOf a i)

theorem maxOf_le {ι : Type} [Fintype ι] (a : ι → EReal) (x : EReal) : maxOf a ≤ x ↔ ∀ i, a i ≤ x := by
  rw [maxOf, Finset.fold_max_le, ninf_eq]
  exact ⟨fun h i => h.2 i (Finset.mem_univ i), fun h => ⟨bot_le, fun i _ => h i⟩⟩

theorem le_maxOf {ι : Type} [Fintype ι] (a : ι → EReal) (i : ι) : a i ≤ maxOf a := (maxOf_le a _).1 le_rfl i

/-- A row of reals and least elements, with a real in it, has a real for its greatest. -/
theorem maxOf_real {ι : Type} [Fintype ι] (a : ι → EReal) (ha : ∀ i, a i = ⊥ ∨ ∃ r : ℝ, a i = r) (i0 : ι) (h0 : ∃ r : ℝ, a i0 = r) :
    ∃ r : ℝ, maxOf a = r := by
  obtain ⟨r, hr⟩ := h0
  have hb : maxOf a ≠ ⊥ := fun h => absurd ((le_maxOf a i0).trans_eq h) (by rw [hr]; simp)
  have ht : maxOf a ≠ ⊤ := by
    intro h
    have hl : ∀ (s : Finset ι), Finset.fold max (⊥ : EReal) a s ≠ ⊤ := by
      classical
      intro s
      induction s using Finset.induction_on with
      | empty => simp
      | insert x s hx ih =>
        rw [Finset.fold_insert hx]
        rcases max_choice (a x) (Finset.fold max ⊥ a s) with e | e
        · rw [e]
          rcases ha x with g | ⟨q, g⟩ <;> rw [g] <;> simp
        · rw [e]; exact ih
    exact hl Finset.univ (by rw [← ninf_eq]; exact h)
  exact ⟨(maxOf a).toReal, (EReal.coe_toReal ht hb).symm⟩

/-- Such a row's exponentials are reals, not negative, and those of its reals positive. -/
theorem expOf_real {ι : Type} [Fintype ι] (a : ι → EReal) (ha : ∀ i, a i = ⊥ ∨ ∃ r : ℝ, a i = r) (i0 : ι) (h0 : ∃ r : ℝ, a i0 = r) :
    ∃ e : ι → ℝ, (∀ i, expOf a i = (e i : EReal)) ∧ (∀ i, 0 ≤ e i) ∧ 0 < e i0 := by
  obtain ⟨M, hM⟩ := maxOf_real a ha i0 h0
  have h1 : ∀ i, ∃ e : ℝ, expOf a i = (e : EReal) ∧ 0 ≤ e ∧ ((∃ r : ℝ, a i = r) → 0 < e) := by
    intro i
    rcases ha i with g | ⟨q, g⟩
    · refine ⟨0, ?_, le_rfl, fun ⟨r, hr⟩ => absurd (g.symm.trans hr) (by simp)⟩
      rw [expOf, g, hM]
      simp
    · refine ⟨Real.exp (q - M), ?_, (Real.exp_pos _).le, fun _ => Real.exp_pos _⟩
      rw [expOf, g, hM, ← EReal.coe_sub]
      exact rfl
  choose e he hn hp using h1
  exact ⟨e, he, hn, hp i0 h0⟩

theorem sum_coe {ι : Type} [Fintype ι] (e : ι → ℝ) : (∑ i, (e i : EReal)) = ((∑ i, e i : ℝ) : EReal) := by
  classical
  induction (Finset.univ : Finset ι) using Finset.induction_on with
  | empty => simp
  | insert x s hx ih => rw [Finset.sum_insert hx, Finset.sum_insert hx, ih, EReal.coe_add]

theorem sum_mul_real {ι : Type} [Fintype ι] (f : ι → EReal) (c : ℝ) (hc : 0 ≤ c) : (∑ i, f i) * (c : EReal) = ∑ i, f i * (c : EReal) := by
  classical
  induction (Finset.univ : Finset ι) using Finset.induction_on with
  | empty => simp
  | insert x s hx ih =>
    rw [Finset.sum_insert hx, Finset.sum_insert hx, ← ih,
      EReal.right_distrib_of_nonneg_of_ne_top (EReal.coe_nonneg.2 hc) (EReal.coe_ne_top c)]

/-- The sum over a row's first columns is the sum over the whole row, the rest being zero. -/
theorem sum_cut {L N : ℕ} (hL : L ≤ N) (g : Fin N → EReal) (hg : ∀ j : Fin N, L ≤ j.1 → g j = 0) :
    (∑ i : Fin L, g (Fin.castLE hL i)) = ∑ j, g j :=
  Fintype.sum_of_injective (Fin.castLE hL) (Fin.castLE_injective hL) _ _
    (fun j hj => hg j (by
      by_contra hlt
      exact hj ⟨⟨j.1, Nat.lt_of_not_le hlt⟩, rfl⟩)) (fun _ => rfl)

theorem maxOf_cut {L N : ℕ} (hL : L ≤ N) (a : Fin N → EReal) (hz : ∀ j : Fin N, L ≤ j.1 → a j = ⊥) :
    maxOf (fun i : Fin L => a (Fin.castLE hL i)) = maxOf a := by
  refine le_antisymm ((maxOf_le _ _).2 fun i => le_maxOf a _) ((maxOf_le _ _).2 fun j => ?_)
  rcases Nat.lt_or_ge j.1 L with h | h
  · exact le_maxOf (fun i : Fin L => a (Fin.castLE hL i)) ⟨j.1, h⟩
  · rw [hz j h]; exact bot_le

/-- One row of the attention: the sum over the first columns over the sum of their exponentials is the sum of the
    values by the weights over all columns, where the columns left out hold the least element. -/
theorem soft_row {L N : ℕ} (hL : L ≤ N) (a : Fin N → EReal) (v : Fin N → EReal) (ha : ∀ i, a i = ⊥ ∨ ∃ r : ℝ, a i = r)
    (i0 : Fin N) (h0 : ∃ r : ℝ, a i0 = r) (hz : ∀ j : Fin N, L ≤ j.1 → a j = ⊥) :
    rowOf (fun i : Fin L => a (Fin.castLE hL i)) (fun i => v (Fin.castLE hL i))
      = ∑ j, v j * Ideal.div (expOf a j) (∑ x, expOf a x) := by
  obtain ⟨e, he, hn, hp⟩ := expOf_real a ha i0 h0
  obtain ⟨M, hM⟩ := maxOf_real a ha i0 h0
  have hz' : ∀ j : Fin N, L ≤ j.1 → expOf a j = 0 := fun j hj => by rw [expOf, hz j hj, hM]; simp
  have h1 : (∑ i : Fin L, expOf (fun i : Fin L => a (Fin.castLE hL i)) i) = ∑ j, expOf a j := by
    rw [← sum_cut hL _ hz']
    exact Finset.sum_congr rfl fun i _ => by rw [expOf, maxOf_cut hL a hz]
  have h2 : (∑ i : Fin L, expOf (fun i : Fin L => a (Fin.castLE hL i)) i * v (Fin.castLE hL i)) = ∑ j, expOf a j * v j := by
    rw [← sum_cut hL (fun j => expOf a j * v j) (fun j hj => by rw [hz' j hj, zero_mul])]
    exact Finset.sum_congr rfl fun i _ => by rw [expOf, maxOf_cut hL a hz]
  have hs : (∑ x, expOf a x) = ((∑ x, e x : ℝ) : EReal) := (Finset.sum_congr rfl fun x _ => he x).trans (sum_coe e)
  have hpos : 0 < ∑ x, e x := Finset.sum_pos' (fun i _ => hn i) ⟨i0, Finset.mem_univ _, hp⟩
  rw [rowOf, h1, h2, hs, Ideal.div_coe hpos.ne', sum_mul_real _ _ (by positivity)]
  refine Finset.sum_congr rfl fun j _ => ?_
  rw [Ideal.div_coe hpos.ne', mul_comm (expOf a j) (v j), mul_assoc]

/-- Products and sums of reals are reals. -/
theorem real_sum {ι : Type} [Fintype ι] (f : ι → EReal) (hf : ∀ i, ∃ r : ℝ, f i = r) : ∃ r : ℝ, (∑ i, f i) = r := by
  choose e he using hf
  exact ⟨∑ i, e i, (Finset.sum_congr rfl fun i _ => he i).trans (sum_coe e)⟩

theorem real_mul {x y : EReal} (hx : ∃ r : ℝ, x = r) (hy : ∃ r : ℝ, y = r) : ∃ r : ℝ, x * y = r := by
  obtain ⟨r, rfl⟩ := hx
  obtain ⟨q, rfl⟩ := hy
  exact ⟨r * q, (EReal.coe_mul r q).symm⟩

/-- A score and the mask's zero, or the mask's least element. -/
theorem mask_add (p : Prop) [Decidable p] (x : EReal) : x + (if p then 0 else ⊥) = if p then x else ⊥ := by
  split
  · exact add_zero x
  · exact EReal.add_bot x

end Cert.Attn
-- ==== Proof.MathHead.lean ====
/-
  One device's share of a chunk of the result, read at an index.
-/
module
public import proofs.«01_k».proof.Proof.Attn
public import proofs.«01_k».proof.Proof.MathCore
@[expose] public section
noncomputable section
namespace Cert.Attn
open Cert.KernelIdeal Cert.KernelIdeal.Gen
open Idealize.ShloMosaic

/-- The attention of one head at a row: its projected row `q`, its keys `K`, the mask's row `b` and a column of its values `V`. -/
abbrev headOf {L : ℕ} (q : Fin 128 → EReal) (K : Fin L → Fin 128 → EReal) (b V : Fin L → EReal) : EReal :=
  rowOf (fun x => (∑ e, q e * K x e) * scl + b x) V

/-- The columns of a projected row that head `h` reads. -/
abbrev qcol (q : FVec Ideal S256x1024 .f32) (r : Fin 256) (h : Fin 8) (e : Fin 128) : EReal :=
  q (ix2 r ⟨128 * h.1 + e.1, by omega⟩)

theorem qcol_0 (q : FVec Ideal S256x1024 .f32) (r : Fin 256) : qcol q r 0 = fun e => q (ix2 r ⟨e.1, by omega⟩) :=
  funext fun e => congrArg (fun k => q (ix2 r k)) (Fin.ext (Nat.zero_add _))

theorem dite_of {c : Prop} [Decidable c] {α : Type} (a : c → α) (b : ¬ c → α) (t : α) (h1 : ∀ h, a h = t) (h2 : ∀ h, b h = t) :
    dite c a b = t := by
  split
  · exact h1 _
  · exact h2 _

/-- Column `m` of head `k` is column `f` of the eight joined. -/
theorem at_head (Z : Fin 8 → Fin 128 → EReal) (k : Fin 8) (f : Fin 1024) (m : ℕ) (hm : m < 128) (hf : f.1 = 128 * k.1 + m) {x : EReal}
    (hx : x = Z k ⟨m, hm⟩) : x = Z ⟨f.1 / 128, by omega⟩ ⟨f.1 % 128, by omega⟩ := by
  have e1 : (⟨f.1 / 128, by omega⟩ : Fin 8) = k := Fin.ext (by simp only []; omega)
  have e2 : (⟨f.1 % 128, by omega⟩ : Fin 128) = ⟨m, hm⟩ := Fin.ext (by simp only []; omega)
  rw [hx, e1, e2]

theorem head512 (I : Ins Ideal) (q : FVec Ideal S256x1024 .f32) (w : BitVec 32) (r : Fin 256) (n : Fin 1024) :
    attn512 I q w (ix2 r n) = ∑ f : Fin 1024, headOf (qcol q r ⟨f.1 / 128, by omega⟩)
        (fun x e => kr512 I ⟨f.1 / 128, by omega⟩ (ix3 0 x e)) (fun x => bias512 (F := Ideal) w (ix2 r x))
        (fun x => vr512 I ⟨f.1 / 128, by omega⟩ (ix3 0 x ⟨f.1 % 128, by omega⟩)) * I.wo (ix2 f n) := by
  unfold attn512
  pointwise [k0_pay154]
  refine Finset.sum_congr rfl fun f _ => congrArg (· * _) ?_
  let Z : Fin 8 → Fin 128 → EReal := fun h d => headOf (qcol q r h) (fun x e => kr512 I h (ix3 0 x e))
    (fun x => bias512 (F := Ideal) w (ix2 r x)) (fun x => vr512 I h (ix3 0 x d))
  refine dite_of _ _ _ (fun h => ?_) (fun _ => ?_)
  · refine at_head Z 0 f (f.1) (by omega) (by show f.1 = 128 * 0 + _; omega) ?_
    rw [show Z 0 = fun d => _ from funext fun d => by rw [show Z 0 d = headOf (qcol q r 0) _ _ _ from rfl, qcol_0]]
    pointwise [k0_pay8]
    exact rfl
  refine dite_of _ _ _ (fun h => ?_) (fun _ => ?_)
  · refine at_head Z 1 f (f.1 - 128) (by omega) (by show f.1 = 128 * 1 + _; omega) ?_
    pointwise [k0_pay9, k0_pay10]
    exact rfl
  refine dite_of _ _ _ (fun h => ?_) (fun _ => ?_)
  · refine at_head Z 2 f (f.1 - 128 - 128) (by omega) (by show f.1 = 128 * 2 + _; omega) ?_
    pointwise [k0_pay11]
    exact rfl
  refine dite_of _ _ _ (fun h => ?_) (fun _ => ?_)
  · refine at_head Z 3 f (f.1 - 128 - 128 - 128) (by omega) (by show f.1 = 128 * 3 + _; omega) ?_
    pointwise [k0_pay12, k0_pay13]
    exact rfl
  refine dite_of _ _ _ (fun h => ?_) (fun _ => ?_)
  · refine at_head Z 4 f (f.1 - 128 - 128 - 128 - 128) (by omega) (by show f.1 = 128 * 4 + _; omega) ?_
    pointwise [k0_pay14]
    exact rfl
  refine dite_of _ _ _ (fun h => ?_) (fun _ => ?_)
  · refine at_head Z 5 f (f.1 - 128 - 128 - 128 - 128 - 128) (by omega) (by show f.1 = 128 * 5 + _; omega) ?_
    pointwise [k0_pay15, k0_pay16]
    exact rfl
  refine dite_of _ _ _ (fun h => ?_) (fun _ => ?_)
  · refine at_head Z 6 f (f.1 - 128 - 128 - 128 - 128 - 128 - 128) (by omega) (by show f.1 = 128 * 6 + _; omega) ?_
    pointwise [k0_pay17]
    exact rfl
  · refine at_head Z 7 f (f.1 - 128 - 128 - 128 - 128 - 128 - 128 - 128) (by omega) (by show f.1 = 128 * 7 + _; omega) ?_
    pointwise [k0_pay18]
    exact rfl

theorem head1024 (I : Ins Ideal) (q : FVec Ideal S256x1024 .f32) (w : BitVec 32) (r : Fin 256) (n : Fin 1024) :
    attn1024 I q w (ix2 r n) = ∑ f : Fin 1024, headOf (qcol q r ⟨f.1 / 128, by omega⟩)
        (fun x e => kr1024 I ⟨f.1 / 128, by omega⟩ (ix3 0 x e)) (fun x => bias1024 (F := Ideal) w (ix2 r x))
        (fun x => vr1024 I ⟨f.1 / 128, by omega⟩ (ix3 0 x ⟨f.1 % 128, by omega⟩)) * I.wo (ix2 f n) := by
  unfold attn1024
  pointwise [k0_pay155]
  refine Finset.sum_congr rfl fun f _ => congrArg (· * _) ?_
  let Z : Fin 8 → Fin 128 → EReal := fun h d => headOf (qcol q r h) (fun x e => kr1024 I h (ix3 0 x e))
    (fun x => bias1024 (F := Ideal) w (ix2 r x)) (fun x => vr1024 I h (ix3 0 x d))
  refine dite_of _ _ _ (fun h => ?_) (fun _ => ?_)
  · refine at_head Z 0 f (f.1) (by omega) (by show f.1 = 128 * 0 + _; omega) ?_
    rw [show Z 0 = fun d => _ from funext fun d => by rw [show Z 0 d = headOf (qcol q r 0) _ _ _ from rfl, qcol_0]]
    pointwise [k0_pay26]
    exact rfl
  refine dite_of _ _ _ (fun h => ?_) (fun _ => ?_)
  · refine at_head Z 1 f (f.1 - 128) (by omega) (by show f.1 = 128 * 1 + _; omega) ?_
    pointwise [k0_pay27, k0_pay28]
    exact rfl
  refine dite_of _ _ _ (fun h => ?_) (fun _ => ?_)
  · refine at_head Z 2 f (f.1 - 128 - 128) (by omega) (by show f.1 = 128 * 2 + _; omega) ?_
    pointwise [k0_pay29]
    exact rfl
  refine dite_of _ _ _ (fun h => ?_) (fun _ => ?_)
  · refine at_head Z 3 f (f.1 - 128 - 128 - 128) (by omega) (by show f.1 = 128 * 3 + _; omega) ?_
    pointwise [k0_pay30, k0_pay31]
    exact rfl
  refine dite_of _ _ _ (fun h => ?_) (fun _ => ?_)
  · refine at_head Z 4 f (f.1 - 128 - 128 - 128 - 128) (by omega) (by show f.1 = 128 * 4 + _; omega) ?_
    pointwise [k0_pay32]
    exact rfl
  refine dite_of _ _ _ (fun h => ?_) (fun _ => ?_)
  · refine at_head Z 5 f (f.1 - 128 - 128 - 128 - 128 - 128) (by omega) (by show f.1 = 128 * 5 + _; omega) ?_
    pointwise [k0_pay33, k0_pay34]
    exact rfl
  refine dite_of _ _ _ (fun h => ?_) (fun _ => ?_)
  · refine at_head Z 6 f (f.1 - 128 - 128 - 128 - 128 - 128 - 128) (by omega) (by show f.1 = 128 * 6 + _; omega) ?_
    pointwise [k0_pay35]
    exact rfl
  · refine at_head Z 7 f (f.1 - 128 - 128 - 128 - 128 - 128 - 128 - 128) (by omega) (by show f.1 = 128 * 7 + _; omega) ?_
    pointwise [k0_pay36]
    exact rfl

theorem head1536 (I : Ins Ideal) (q : FVec Ideal S256x1024 .f32) (w : BitVec 32) (r : Fin 256) (n : Fin 1024) :
    attn1536 I q w (ix2 r n) = ∑ f : Fin 1024, headOf (qcol q r ⟨f.1 / 128, by omega⟩)
        (fun x e => kr1536 I ⟨f.1 / 128, by omega⟩ (ix3 0 x e)) (fun x => bias1536 (F := Ideal) w (ix2 r x))
        (fun x => vr1536 I ⟨f.1 / 128, by omega⟩ (ix3 0 x ⟨f.1 % 128, by omega⟩)) * I.wo (ix2 f n) := by
  unfold attn1536
  pointwise [k0_pay156]
  refine Finset.sum_congr rfl fun f _ => congrArg (· * _) ?_
  let Z : Fin 8 → Fin 128 → EReal := fun h d => headOf (qcol q r h) (fun x e => kr1536 I h (ix3 0 x e))
    (fun x => bias1536 (F := Ideal) w (ix2 r x)) (fun x => vr1536 I h (ix3 0 x d))
  refine dite_of _ _ _ (fun h => ?_) (fun _ => ?_)
  · refine at_head Z 0 f (f.1) (by omega) (by show f.1 = 128 * 0 + _; omega) ?_
    rw [show Z 0 = fun d => _ from funext fun d => by rw [show Z 0 d = headOf (qcol q r 0) _ _ _ from rfl, qcol_0]]
    pointwise [k0_pay44]
    exact rfl
  refine dite_of _ _ _ (fun h => ?_) (fun _ => ?_)
  · refine at_head Z 1 f (f.1 - 128) (by omega) (by show f.1 = 128 * 1 + _; omega) ?_
    pointwise [k0_pay45, k0_pay46]
    exact rfl
  refine dite_of _ _ _ (fun h => ?_) (fun _ => ?_)
  · refine at_head Z 2 f (f.1 - 128 - 128) (by omega) (by show f.1 = 128 * 2 + _; omega) ?_
    pointwise [k0_pay47]
    exact rfl
  refine dite_of _ _ _ (fun h => ?_) (fun _ => ?_)
  · refine at_head Z 3 f (f.1 - 128 - 128 - 128) (by omega) (by show f.1 = 128 * 3 + _; omega) ?_
    pointwise [k0_pay48, k0_pay49]
    exact rfl
  refine dite_of _ _ _ (fun h => ?_) (fun _ => ?_)
  · refine at_head Z 4 f (f.1 - 128 - 128 - 128 - 128) (by omega) (by show f.1 = 128 * 4 + _; omega) ?_
    pointwise [k0_pay50]
    exact rfl
  refine dite_of _ _ _ (fun h => ?_) (fun _ => ?_)
  · refine at_head Z 5 f (f.1 - 128 - 128 - 128 - 128 - 128) (by omega) (by show f.1 = 128 * 5 + _; omega) ?_
    pointwise [k0_pay51, k0_pay52]
    exact rfl
  refine dite_of _ _ _ (fun h => ?_) (fun _ => ?_)
  · refine at_head Z 6 f (f.1 - 128 - 128 - 128 - 128 - 128 - 128) (by omega) (by show f.1 = 128 * 6 + _; omega) ?_
    pointwise [k0_pay53]
    exact rfl
  · refine at_head Z 7 f (f.1 - 128 - 128 - 128 - 128 - 128 - 128 - 128) (by omega) (by show f.1 = 128 * 7 + _; omega) ?_
    pointwise [k0_pay54]
    exact rfl

theorem head2048 (I : Ins Ideal) (q : FVec Ideal S256x1024 .f32) (w : BitVec 32) (r : Fin 256) (n : Fin 1024) :
    attn2048 I q w (ix2 r n) = ∑ f : Fin 1024, headOf (qcol q r ⟨f.1 / 128, by omega⟩)
        (fun x e => kr2048 I ⟨f.1 / 128, by omega⟩ (ix3 0 x e)) (fun x => bias2048 (F := Ideal) w (ix2 r x))
        (fun x => vr2048 I ⟨f.1 / 128, by omega⟩ (ix3 0 x ⟨f.1 % 128, by omega⟩)) * I.wo (ix2 f n) := by
  unfold attn2048
  pointwise [k0_pay157]
  refine Finset.sum_congr rfl fun f _ => congrArg (· * _) ?_
  let Z : Fin 8 → Fin 128 → EReal := fun h d => headOf (qcol q r h) (fun x e => kr2048 I h (ix3 0 x e))
    (fun x => bias2048 (F := Ideal) w (ix2 r x)) (fun x => vr2048 I h (ix3 0 x d))
  refine dite_of _ _ _ (fun h => ?_) (fun _ => ?_)
  · refine at_head Z 0 f (f.1) (by omega) (by show f.1 = 128 * 0 + _; omega) ?_
    rw [show Z 0 = fun d => _ from funext fun d => by rw [show Z 0 d = headOf (qcol q r 0) _ _ _ from rfl, qcol_0]]
    pointwise [k0_pay62]
    exact rfl
  refine dite_of _ _ _ (fun h => ?_) (fun _ => ?_)
  · refine at_head Z 1 f (f.1 - 128) (by omega) (by show f.1 = 128 * 1 + _; omega) ?_
    pointwise [k0_pay63, k0_pay64]
    exact rfl
  refine dite_of _ _ _ (fun h => ?_) (fun _ => ?_)
  · refine at_head Z 2 f (f.1 - 128 - 128) (by omega) (by show f.1 = 128 * 2 + _; omega) ?_
    pointwise [k0_pay65]
    exact rfl
  refine dite_of _ _ _ (fun h => ?_) (fun _ => ?_)
  · refine at_head Z 3 f (f.1 - 128 - 128 - 128) (by omega) (by show f.1 = 128 * 3 + _; omega) ?_
    pointwise [k0_pay66, k0_pay67]
    exact rfl
  refine dite_of _ _ _ (fun h => ?_) (fun _ => ?_)
  · refine at_head Z 4 f (f.1 - 128 - 128 - 128 - 128) (by omega) (by show f.1 = 128 * 4 + _; omega) ?_
    pointwise [k0_pay68]
    exact rfl
  refine dite_of _ _ _ (fun h => ?_) (fun _ => ?_)
  · refine at_head Z 5 f (f.1 - 128 - 128 - 128 - 128 - 128) (by omega) (by show f.1 = 128 * 5 + _; omega) ?_
    pointwise [k0_pay69, k0_pay70]
    exact rfl
  refine dite_of _ _ _ (fun h => ?_) (fun _ => ?_)
  · refine at_head Z 6 f (f.1 - 128 - 128 - 128 - 128 - 128 - 128) (by omega) (by show f.1 = 128 * 6 + _; omega) ?_
    pointwise [k0_pay71]
    exact rfl
  · refine at_head Z 7 f (f.1 - 128 - 128 - 128 - 128 - 128 - 128 - 128) (by omega) (by show f.1 = 128 * 7 + _; omega) ?_
    pointwise [k0_pay72]
    exact rfl

end Cert.Attn
-- ==== Proof.MathMask.lean ====
/-
  The kernel's mask and projected rows, read at an index.
-/
module
public import proofs.«01_k».proof.Proof.Attn
public import proofs.«01_k».proof.Proof.MathCore
@[expose] public section
noncomputable section
namespace Cert.Attn
open Cert.KernelIdeal Cert.KernelIdeal.Gen
open Idealize.ShloMosaic
theorem mask_named : Named.named (F := Ideal) κ "mask" (φ := .f32) 0xCE6E6B28#32 = (⊥ : EReal) := by
  simp [Named.named, κ]
/-- The block of a word's row, as the kernel computes it. -/
def fd (n : BitVec 32) : BitVec 32 :=
  Scalar.select (IntOp.andi (IntOp.cmpi .ne (IntOp.subi (BitVec.setWidth 32 (IntOp.cmpi .sgt n 0#32)) (BitVec.setWidth 32 (IntOp.cmpi .slt n 0#32)))
      (Scalar.subi (Scalar.extui (Scalar.cmpi .sgt 64#32 0#32)) (Scalar.extui (Scalar.cmpi .slt 64#32 0#32))))
      (IntOp.cmpi .ne (IntOp.remsi .vector n 64#32) 0#32)) (IntOp.subi (IntOp.divsi .vector n 64#32) 1#32) (IntOp.divsi .vector n 64#32)
theorem fd_dec : ∀ i : Fin 2048, fd (BitVec.ofNat 32 i.1) = BitVec.ofNat 32 (i.1 / 64) := by decide +kernel

theorem sle_dec : ∀ a b : Fin 32, IntOp.cmpi .sle (BitVec.ofNat 32 a.1) (BitVec.ofNat 32 b.1) = if a.1 ≤ b.1 then 1#1 else 0#1 := by
  decide +kernel

theorem bias_word (q : Fin 8) (r : Fin 256) (j : ℕ) (hj : j < 2048) :
    Scalar.select (IntOp.cmpi .sle (fd (BitVec.ofNat 32 j)) (fd (IntOp.addi (rw0 q) (BitVec.ofNat 32 r.1)))) (0 : EReal)
      (Named.named (F := Ideal) κ "mask" (φ := .f32) 0xCE6E6B28#32) = if j / 64 ≤ (256 * q.1 + r.1) / 64 then 0 else ⊥ := by
  have hq := q.2
  have e : IntOp.addi (rw0 q) (BitVec.ofNat 32 r.1) = BitVec.ofNat 32 (256 * q.1 + r.1) := (BitVec.ofNat_add ..).symm
  rw [e, fd_dec ⟨j, hj⟩, fd_dec ⟨256 * q.1 + r.1, by omega⟩,
    sle_dec ⟨j / 64, by omega⟩ ⟨(256 * q.1 + r.1) / 64, by omega⟩, mask_named]
  by_cases h : j / 64 ≤ (256 * q.1 + r.1) / 64
  · rw [if_pos h, if_pos h]; rfl
  · rw [if_neg h, if_neg h]; rfl

theorem bias512_at (q : Fin 8) (r : Fin 256) (j : Fin 512) :
    bias512 (F := Ideal) (rw0 q) (ix2 r j) = if j.1 / 64 ≤ (256 * q.1 + r.1) / 64 then 0 else ⊥ := by
  rw [← bias_word q r j.1 (by omega)]
  pointwise [bias512, k0_pay1, k0_pay2, k0_pay3, k0_pay4, k0_pay5, k0_pay6, k0_pay7]
  exact rfl

theorem bias1024_at (q : Fin 8) (r : Fin 256) (j : Fin 1024) :
    bias1024 (F := Ideal) (rw0 q) (ix2 r j) = if j.1 / 64 ≤ (256 * q.1 + r.1) / 64 then 0 else ⊥ := by
  rw [← bias_word q r j.1 (by omega)]
  pointwise [bias1024, k0_pay19, k0_pay20, k0_pay21, k0_pay22, k0_pay23, k0_pay24, k0_pay25]
  exact rfl

theorem bias1536_at (q : Fin 8) (r : Fin 256) (j : Fin 1536) :
    bias1536 (F := Ideal) (rw0 q) (ix2 r j) = if j.1 / 64 ≤ (256 * q.1 + r.1) / 64 then 0 else ⊥ := by
  rw [← bias_word q r j.1 (by omega)]
  pointwise [bias1536, k0_pay37, k0_pay38, k0_pay39, k0_pay40, k0_pay41, k0_pay42, k0_pay43]
  exact rfl

theorem bias2048_at (q : Fin 8) (r : Fin 256) (j : Fin 2048) :
    bias2048 (F := Ideal) (rw0 q) (ix2 r j) = if j.1 / 64 ≤ (256 * q.1 + r.1) / 64 then 0 else ⊥ := by
  rw [← bias_word q r j.1 (by omega)]
  pointwise [bias2048, k0_pay55, k0_pay56, k0_pay57, k0_pay58, k0_pay59, k0_pay60, k0_pay61]
  exact rfl

/-- The projected rows of a chunk. -/
theorem qv_at (I : Ins Ideal) (q : Fin 8) (r : Fin 256) (n : Fin 1024) :
    qv I q (ix2 r n) = ∑ i : Fin 1024, I.x (ix2 ⟨256 * q.1 + r.1, by omega⟩ i) * I.wq (ix2 i n) := by
  unfold qv
  pointwise [k0_pay153]
  exact rfl
end Cert.Attn
-- ==== Proof.MathShare.lean ====
/-
  One device's share of a chunk of the result as the mathematics of its heads.
-/
module
public import proofs.«01_k».proof.Proof.MathHead
public import proofs.«01_k».proof.Proof.MathMask
@[expose] public section
noncomputable section
namespace Cert.Attn
open Cert.KernelIdeal Cert.KernelIdeal.Gen
open Idealize.ShloMosaic

/-- A projected entry of row `s`. -/
def projI (I : Ins Ideal) (s : Fin 2048) (f : Fin 1024) : EReal := ∑ i : Fin 1024, I.x (ix2 s i) * I.wq (ix2 i f)

/-- The masked scores of row `s` at head `h`. -/
def rowI (I : Ins Ideal) (s : Fin 2048) (h : Fin 8) (j : Fin 2048) : EReal :=
  if j.1 / 64 ≤ s.1 / 64 then (∑ e : Fin 128, projI I s ⟨128 * h.1 + e.1, by omega⟩ * I.k (ix3 h j e)) * scl else ⊥

/-- A row's value by its weights over all columns. -/
abbrev rowW {N : ℕ} (a v : Fin N → EReal) : EReal := ∑ j, v j * Ideal.div (expOf a j) (∑ x, expOf a x)

/-- The operands that the scores are made of are real. -/
structure RealIns (I : Ins Ideal) : Prop where
  x : ∀ s i, ∃ r : ℝ, I.x (ix2 s i) = (r : EReal)
  wq : ∀ i f, ∃ r : ℝ, I.wq (ix2 i f) = (r : EReal)
  k : ∀ h j e, ∃ r : ℝ, I.k (ix3 h j e) = (r : EReal)

theorem rowI_real {I : Ins Ideal} (hI : RealIns I) (s : Fin 2048) (h : Fin 8) (j : Fin 2048) (hj : j.1 / 64 ≤ s.1 / 64) :
    ∃ r : ℝ, rowI I s h j = r := by
  rw [rowI, if_pos hj]
  exact real_mul (real_sum _ fun e => real_mul (real_sum _ fun i => real_mul (hI.x s i) (hI.wq i _)) (hI.k h j e)) scl_real

theorem head_eq {I : Ins Ideal} (hI : RealIns I) {L : ℕ} (hL : L ≤ 2048) (h64 : L % 64 = 0) (s : Fin 2048) (hs : s.1 < L) (h : Fin 8)
    (q : Fin 128 → EReal) (K : Fin L → Fin 128 → EReal) (b V : Fin L → EReal) (v : Fin 2048 → EReal)
    (hq : ∀ e, q e = projI I s ⟨128 * h.1 + e.1, by omega⟩) (hK : ∀ x e, K x e = I.k (ix3 h (Fin.castLE hL x) e))
    (hb : ∀ x, b x = if x.1 / 64 ≤ s.1 / 64 then 0 else ⊥) (hV : ∀ x, V x = v (Fin.castLE hL x)) :
    headOf q K b V = rowW (rowI I s h) v := by
  have ha : (fun x => (∑ e, q e * K x e) * scl + b x) = fun x => rowI I s h (Fin.castLE hL x) := by
    funext x
    rw [hb, mask_add, rowI]
    refine if_congr Iff.rfl (congrArg (· * scl) (Finset.sum_congr rfl fun e _ => ?_)) rfl
    rw [hq, hK]
  rw [headOf, ha, funext hV]
  refine soft_row hL _ v (fun j => ?_) s (rowI_real hI s h s le_rfl) (fun j hj => if_neg (by omega))
  by_cases hj : j.1 / 64 ≤ s.1 / 64
  · exact .inr (rowI_real hI s h j hj)
  · exact .inl (if_neg hj)

theorem share_at {I : Ins Ideal} (hI : RealIns I) (q : Fin 8) (r : Fin 256) (n : Fin 1024) :
    chunkO I q (ix2 r n) = ∑ f : Fin 1024, rowW (rowI I ⟨256 * q.1 + r.1, by omega⟩ ⟨f.1 / 128, by omega⟩)
      (fun j => I.v (ix3 ⟨f.1 / 128, by omega⟩ j ⟨f.1 % 128, by omega⟩)) * I.wo (ix2 f n) := by
  have hq := q.2
  have hr := r.2
  rcases (by omega : q.1 / 2 = 0 ∨ q.1 / 2 = 1 ∨ q.1 / 2 = 2 ∨ q.1 / 2 = 3) with h | h | h | h
  · rw [chunkO_0 I h, head512]
    refine Finset.sum_congr rfl fun f _ => congrArg (· * _) (head_eq hI (by omega) (by omega) _ (by simp only []; omega) _ _ _ _ _ _ (fun e => qv_at I q r _)
      (fun x e => rfl) (bias512_at q r) (fun x => rfl))
  · rw [chunkO_1 I h, head1024]
    refine Finset.sum_congr rfl fun f _ => congrArg (· * _) (head_eq hI (by omega) (by omega) _ (by simp only []; omega) _ _ _ _ _ _ (fun e => qv_at I q r _)
      (fun x e => rfl) (bias1024_at q r) (fun x => rfl))
  · rw [chunkO_2 I h, head1536]
    refine Finset.sum_congr rfl fun f _ => congrArg (· * _) (head_eq hI (by omega) (by omega) _ (by simp only []; omega) _ _ _ _ _ _ (fun e => qv_at I q r _)
      (fun x e => rfl) (bias1536_at q r) (fun x => rfl))
  · rw [chunkO_3 I h, head2048]
    refine Finset.sum_congr rfl fun f _ => congrArg (· * _) (head_eq hI (by omega) (by omega) _ (by simp only []; omega) _ _ _ _ _ _ (fun e => qv_at I q r _)
      (fun x e => rfl) (bias2048_at q r) (fun x => rfl))
end Cert.Attn
-- ==== Proof.MathRing.lean ====
/-
  What the ring gathers: every chunk of the result is the sum of all devices' shares.
-/
module
public import proofs.«01_k».proof.Proof.Body
public import Idealize.ShloMosaic.Lib.Pointwise
@[expose] public section
noncomputable section
namespace Cert.Attn
open Cert.KernelIdeal Cert.KernelIdeal.Gen
open Idealize.ShloMosaic

/-- The device that transfer `n` reaches `c` from. -/
def frmN (n : ℕ) (c : Dev nD) : Dev nD := if h : n < 28 then frm ⟨n, h⟩ c else c
/-- The chunk that transfer `n` of device `c` is about. -/
def chOf : ℕ → Dev nD → Fin 8
  | 0, c => c
  | 1, c => c
  | n + 2, c => chOf n (frmN n c)
/-- The devices whose shares it carries. -/
def whose : ℕ → Dev nD → List (Dev nD)
  | 0, c => [c]
  | 1, c => [c]
  | n + 2, c => if n < 14 then whose n (frmN n c) ++ [c] else whose n (frmN n c)

theorem chOf_ch : ∀ (n : Fin 14) (c : Dev nD), chOf n.1 (frmN n.1 c) = ch n.1 c := by decide +kernel
theorem chOf_wq : ∀ (n : Fin 16) (c : Dev nD), chOf (14 + n.1) c = wq n.1 c := by decide +kernel
theorem whose_all : ∀ (n : Fin 16) (c : Dev nD), (whose (14 + n.1) c).Perm (List.finRange 8) := by decide +kernel

theorem pay158_at (a : FVec Ideal S256x512 .f32) (r : Fin 256) (d : Fin 512) : k0_pay158 a (ix2 r d) = a (ix2 r d) := by
  pointwise [k0_pay158]
theorem pay159_at (a : FVec Ideal S256x512 .f32) (r : Fin 256) (d : Fin 512) : k0_pay159 a (ix3 0 r d) = a (ix2 r d) := by
  pointwise [k0_pay159]
theorem pay160_at (a : FVec Ideal S256x512 .f32) (r : Fin 256) (d : Fin 512) : k0_pay160 a (ix3 0 r d) = a (ix2 r d) := by
  pointwise [k0_pay160]
theorem addT_at (a : SlotT Ideal) (o : FVec Ideal S256x512 .f32) (r : Fin 256) (d : Fin 512) :
    addT a o (ix3 0 r d) = a (ix3 0 r d) + o (ix2 r d) := by
  unfold addT
  pointwise [k0_pay151]
theorem unslot_at (a : SlotT Ideal) (r : Fin 256) (d : Fin 512) : unslot a (ix2 r d) = a (ix3 0 r d) := by
  unfold unslot
  pointwise [k0_pay171]

theorem hb_two (n : ℕ) : hb (n + 2) = hb n := by
  unfold hb
  rw [Nat.add_mod_right]

variable (II : Dev nD → Ins Ideal)

/-- Device `e`'s share of chunk `q`, its half `h`. -/
abbrev shareH (q : Fin 8) (h : Fin 2) (r : Fin 256) (d : Fin 512) (e : Dev nD) : EReal := colH (chunkO (II e) q) h (ix2 r d)

theorem Vn_at (r : Fin 256) (d : Fin 512) : ∀ (n : ℕ) (c : Dev nD),
    Vn II n c (ix3 0 r d) = ((whose n c).map (shareH II (chOf n c) (hb n) r d)).sum
  | 0, c => by
    rw [Vn, pay159_at, pay158_at]
    exact (List.sum_singleton).symm
  | 1, c => by
    rw [Vn, pay160_at]
    exact (List.sum_singleton).symm
  | n + 2, c => by
    have e : (if h : n < 28 then Vn II n (frm ⟨n, h⟩ c) else Vn II n c) = Vn II n (frmN n c) := by
      unfold frmN
      split <;> rfl
    rw [Vn, whose, chOf, hb_two]
    simp only [e]
    split
    · next h =>
      rw [addT_at, Vn_at r d n, List.map_append, List.sum_append, List.map_singleton, List.sum_singleton, chOf_ch ⟨n, h⟩ c]
    · exact Vn_at r d n _

/-- A chunk's half of the result is the sum of all devices' shares. -/
theorem fullF_at (c : Dev nD) (q : Fin 8) (h : Fin 2) (r : Fin 256) (d : Fin 512) :
    getH (fullF II c) q h (ix2 r d) = ∑ e : Dev nD, shareH II q h r d e := by
  have sur : ∀ (c : Dev nD) (q : Fin 8) (b : Fin 2), ∃ n : Fin 16, wq n.val c = q ∧ hb n.val = b := by decide +kernel
  obtain ⟨n, hq, hh⟩ := sur c q h
  have hb14 : hb (14 + n.1) = hb n.1 := by
    unfold hb
    rw [show (14 + n.1) % 2 = n.1 % 2 by omega]
  rw [← hq, ← hh, fullF, get_puts, unslot_at, Vn_at, hb14, chOf_wq, ((whose_all n c).map _).sum_eq]
  exact (Fin.sum_univ_def _).symm
end Cert.Attn
-- ==== Proof.MathRef.lean ====
/-
  The reference's value, read at an index.
-/
module
public import proofs.«01_k».proof.ReferenceIdeal
public import proofs.«01_k».proof.Proof.Gen.ReferenceIdeal
public import proofs.«01_k».proof.Proof.Gen.ReferenceIdeal.Run
public import Idealize.ShloMosaic.Lib.Pointwise
public import proofs.«01_k».proof.Proof.MathCore
public import Idealize.ShloMosaic.Lib.Routing.OpsOrder
@[expose] public section
noncomputable section
namespace Cert.Attn.Ref
open Cert.ReferenceIdeal Cert.ReferenceIdeal.Gen Cert.ReferenceIdeal.Facts
open Idealize.ShloMosaic

/-- The block a row or a column lies in. -/
def blk : IVec S2048 32 :=
  select (andi (cmpi .ne (signi (iotaInDim S2048 32 0)) (broadcastInDim S2048 ![] bcast_S_S2048 (signi (id (constantI S_ 32 64#32)))))
    (cmpi .ne (Host.remsi (iotaInDim S2048 32 0) (broadcastInDim S2048 ![] bcast_S_S2048 (id (constantI S_ 32 64#32))))
      (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The mask over rows and columns. -/
def mask : IVec S2048x2048 1 :=
  cmpi .sle (broadcastInDim S2048x2048 ![0, 1] bcast_S1x2048_S2048x2048_0_1 (broadcastInDim S1x2048 ![1] bcast_S2048_S1x2048_1 blk))
    (broadcastInDim S2048x2048 ![0, 1] bcast_S2048x1_S2048x2048_0_1 (broadcastInDim S2048x1 ![0] bcast_S2048_S2048x1_0 blk))

/-- The rows that keep a column. -/
def keep : IVec S2048 1 := Host.reduce IntOp.ori mask (constantI S_ 1 0#1) reducesTo_S2048x2048_S2048_d1 h_S_

/-- The masked scores. -/
def score (x : FVec Ideal S1x2048x1024 .f32) (wq : FVec Ideal S1024x8192 .f32) (k : FVec Ideal S1x2048x64x128 .f32) :
    FVec Ideal S1x64x2048x2048 .f32 :=
  select (broadcastInDim S1x64x2048x2048 ![0, 1, 2, 3] bcast_S1x1x2048x2048_S1x64x2048x2048_0_1_2_3
      (broadcastInDim S1x1x2048x2048 ![2, 3] bcast_S2048x2048_S1x1x2048x2048_2_3 mask))
    (mulf (Host.dotGeneral dot_S1x2048x64x128_S1x2048x64x128_S1x64x2048x2048_3_3_1_1_02_02 none
        (shapeCast _ (Host.dotGeneral dot_S1x2048x1024_S1024x8192_S1x2048x8192_2_0_01_1_n_n none x wq) shapeCasts_S1x2048x8192_S1x2048x64x128) k)
      (broadcastInDim S1x64x2048x2048 ![] bcast_S_S1x64x2048x2048 (constant S_ .f32 0x3DB504F3#32)))
    (broadcastInDim S1x64x2048x2048 ![] bcast_S_S1x64x2048x2048 (id (constant S_ .f32 0xFF800000#32)))

/-- The exponentials of the scores less their row's greatest. -/
def expo (a : FVec Ideal S1x64x2048x2048 .f32) : FVec Ideal S1x64x2048x2048 .f32 :=
  Host.exp (subf a (broadcastInDim S1x64x2048x2048 ![0, 1, 2, 3] bcast_S1x64x2048x1_S1x64x2048x2048_0_1_2_3
    (broadcastInDim S1x64x2048x1 ![0, 1, 2] bcast_S1x64x2048_S1x64x2048x1_0_1_2
      (Host.reduce FloatOps.maximumf a (constant S_ .f32 0xFF800000#32) reducesTo_S1x64x2048x2048_S1x64x2048_d3 h_S_))))

/-- The weights of the exponentials. -/
def weight (kp : IVec S2048 1) (e : FVec Ideal S1x64x2048x2048 .f32) : FVec Ideal S1x64x2048x2048 .f32 :=
  select (broadcastInDim S1x64x2048x2048 ![0, 1, 2, 3] bcast_S1x1x2048x1_S1x64x2048x2048_0_1_2_3
      (broadcastInDim S1x1x2048x1 ![2] bcast_S2048_S1x1x2048x1_2 kp))
    (Host.divf e (broadcastInDim S1x64x2048x2048 ![0, 1, 2, 3] bcast_S1x64x2048x1_S1x64x2048x2048_0_1_2_3
      (select (broadcastInDim S1x64x2048x1 ![0, 1, 2, 3] bcast_S1x1x2048x1_S1x64x2048x1_0_1_2_3
          (broadcastInDim S1x1x2048x1 ![2] bcast_S2048_S1x1x2048x1_2 kp))
        (broadcastInDim S1x64x2048x1 ![0, 1, 2] bcast_S1x64x2048_S1x64x2048x1_0_1_2
          (Host.reduceAdd e (constant S_ .f32 0x00000000#32) reducesTo_S1x64x2048x2048_S1x64x2048_d3 h_S_))
        (broadcastInDim S1x64x2048x1 ![] bcast_S_S1x64x2048x1 (id (constant S_ .f32 0x3F800000#32))))))
    (broadcastInDim S1x64x2048x2048 ![] bcast_S_S1x64x2048x2048 (id (constant S_ .f32 0x00000000#32)))

/-- The heads of the weights, before they are joined. -/
def heads (w : FVec Ideal S1x64x2048x2048 .f32) (v : FVec Ideal S1x2048x64x128 .f32) : FVec Ideal S1x2048x64x128 .f32 :=
  transpose S1x2048x64x128 [0, 3, 1, 2]
    (Host.dotGeneral dot_S1x2048x64x128_S1x64x2048x2048_S1x64x128x2048_1_3_3_2_02_01 none v w)
    transposes_S1x64x128x2048_S1x2048x64x128_0_3_1_2

/-- The heads joined. -/
def join (z : FVec Ideal S1x2048x64x128 .f32) : FVec Ideal S1x2048x8192 .f32 :=
  shapeCast _ z shapeCasts_S1x2048x64x128_S1x2048x8192

/-- The output of the joined heads. -/
def outp (z : FVec Ideal S1x2048x8192 .f32) (wo : FVec Ideal S8192x1024 .f32) : FVec Ideal S1x2048x1024 .f32 :=
  Host.dotGeneral dot_S1x2048x8192_S8192x1024_S1x2048x1024_2_0_01_1_n_n none z wo

theorem res_eq (m : (ℓ : Loc nD τ sig) → Buf (Elt Ideal) ℓ) (c : Dev nD) :
    Cert.ReferenceIdeal.Value.res_main_v33 (F := Ideal) m c
      = outp (join (heads (weight keep (expo (score (m (c.tc.loc main_arg0)) (m (c.tc.loc main_arg1)) (m (c.tc.loc main_arg2)))))
          (m (c.tc.loc main_arg3)))) (m (c.tc.loc main_arg4)) := rfl

theorem heads_at (w : FVec Ideal S1x64x2048x2048 .f32) (v : FVec Ideal S1x2048x64x128 .f32) (s : Fin 2048) (h : Fin 64) (d : Fin 128) :
    heads w v (ix4 0 s h d) = ∑ j : Fin 2048, v (ix4 0 j h d) * w (ix4 0 h s j) := by
  pointwise [heads]
theorem join_at (z : FVec Ideal S1x2048x64x128 .f32) (s : Fin 2048) (f : Fin 8192) :
    join z (ix3 0 s f) = z (ix4 0 s ⟨f.1 / 128, by omega⟩ ⟨f.1 % 128, by omega⟩) := by
  pointwise [join]
theorem outp_at (z : FVec Ideal S1x2048x8192 .f32) (wo : FVec Ideal S8192x1024 .f32) (s : Fin 2048) (n : Fin 1024) :
    outp z wo (ix3 0 s n) = ∑ f : Fin 8192, z (ix3 0 s f) * wo (ix2 f n) := by
  pointwise [outp]
theorem fold_one (p : Fin 2048 → BitVec 1) (j : Fin 2048) (h : p j = 1#1) : Finset.fold IntOp.ori (0#1) p Finset.univ = 1#1 :=
  (Routing.fold_ori _ _).2 ⟨j, Finset.mem_univ _, h⟩

theorem blk_dec : ∀ i : Fin 2048, Scalar.select
      (IntOp.andi
        (IntOp.cmpi CmpIPredicate.ne
          (if BitVec.ofNat 32 i.1 = 0 then 0 else if (BitVec.ofNat 32 i.1).msb = true then -1 else 1)
          (if 64#32 = 0 then 0 else if (64#32 : BitVec 32).msb = true then -1 else (1 : BitVec 32)))
        (IntOp.cmpi CmpIPredicate.ne (IntOp.remsi ArithUnit.host (BitVec.ofNat 32 i.1) 64#32) 0#32))
      (IntOp.subi (IntOp.divsi ArithUnit.host (BitVec.ofNat 32 i.1) 64#32) 1#32)
      (IntOp.divsi ArithUnit.host (BitVec.ofNat 32 i.1) 64#32) = BitVec.ofNat 32 (i.1 / 64) := by
  decide +kernel

theorem le_dec (a b : Fin 32) : IntOp.cmpi CmpIPredicate.sle (BitVec.ofNat 32 a.1) (BitVec.ofNat 32 b.1) = if a.1 ≤ b.1 then 1#1 else 0#1 := by
  revert a b; decide +kernel

theorem blk_at (i : Fin 2048) : blk (ix1 i) = BitVec.ofNat 32 (i.1 / 64) := by
  pointwise [blk]
  exact blk_dec i

/-- Whether a row sees a column. -/
abbrev sees (s j : ℕ) : Prop := j / 64 ≤ s / 64

theorem mask_at (s j : Fin 2048) : mask (ix2 s j) = if sees s.1 j.1 then 1#1 else 0#1 := by
  pointwise [mask]
  rw [blk_at, blk_at]
  exact le_dec ⟨j.1 / 64, by omega⟩ ⟨s.1 / 64, by omega⟩

theorem keep_at (s : Fin 2048) : keep (ix1 s) = 1#1 := by
  pointwise [keep]
  exact fold_one _ s ((mask_at s s).trans (if_pos (le_refl _)))

theorem score_at (x : FVec Ideal S1x2048x1024 .f32) (wq : FVec Ideal S1024x8192 .f32) (k : FVec Ideal S1x2048x64x128 .f32)
    (h : Fin 64) (s j : Fin 2048) :
    score x wq k (ix4 0 h s j) = if sees s.1 j.1 then
      (∑ e : Fin 128, (∑ i : Fin 1024, x (ix3 0 s i) * wq (ix2 i ⟨h.1 * 128 + e.1, by omega⟩)) * k (ix4 0 j h e))
        * Ideal.ofBits FTy.f32 1035273459#32
      else Ideal.ofBits FTy.f32 4286578688#32 := by
  pointwise [score]
  rw [mask_at]
  split
  · exact rfl
  · exact rfl

theorem expo_at (a : FVec Ideal S1x64x2048x2048 .f32) (h : Fin 64) (s j : Fin 2048) :
    expo a (ix4 0 h s j) = Ideal.exp (a (ix4 0 h s j)
      - Finset.fold max (Ideal.ofBits FTy.f32 4286578688#32) (fun x => a (ix4 0 h s x)) Finset.univ) := by
  pointwise [expo]

theorem weight_at (kp : IVec S2048 1) (a : FVec Ideal S1x64x2048x2048 .f32) (h : Fin 64) (s j : Fin 2048) (hk : kp (ix1 s) = 1#1) :
    weight kp a (ix4 0 h s j) = Ideal.div (a (ix4 0 h s j)) (∑ x : Fin 2048, a (ix4 0 h s x)) := by
  pointwise [weight]
  rw [hk]
  exact rfl

/-- The reference's result at an index, its masked scores being `A`. -/
theorem ref_at (x : FVec Ideal S1x2048x1024 .f32) (wq : FVec Ideal S1024x8192 .f32) (k v : FVec Ideal S1x2048x64x128 .f32)
    (wo : FVec Ideal S8192x1024 .f32) (s : Fin 2048) (n : Fin 1024) (A : Fin 64 → Fin 2048 → EReal)
    (hA : ∀ h j, score x wq k (ix4 0 h s j) = A h j) :
    outp (join (heads (weight keep (expo (score x wq k))) v)) wo (ix3 0 s n)
      = ∑ f : Fin 8192, (∑ j : Fin 2048, v (ix4 0 j ⟨f.1 / 128, by omega⟩ ⟨f.1 % 128, by omega⟩)
          * Ideal.div (expOf (A ⟨f.1 / 128, by omega⟩) j) (∑ y : Fin 2048, expOf (A ⟨f.1 / 128, by omega⟩) y))
          * wo (ix2 f n) := by
  have hE : ∀ h j, expo (score x wq k) (ix4 0 h s j) = expOf (A h) j := by
    intro h j
    rw [expo_at, hA]
    exact congrArg (fun g => Ideal.exp (A h j - Finset.fold max _ g Finset.univ)) (funext (hA h))
  rw [outp_at]
  refine Finset.sum_congr rfl fun f _ => ?_
  rw [join_at, heads_at]
  refine congrArg (· * _) (Finset.sum_congr rfl fun j _ => congrArg (_ * ·) ?_)
  rw [weight_at _ _ _ _ _ (keep_at s), hE]
  exact congrArg (Ideal.div _) (Finset.sum_congr rfl fun y _ => hE _ y)
end Cert.Attn.Ref
-- ==== Proof.MathValue.lean ====
/- The kernel's result is the reference's: the devices' shares, summed, are the sum over all the heads' columns. -/
module
public import proofs.«01_k».proof.Proof.MathShare
public import proofs.«01_k».proof.Proof.MathRing
public import proofs.«01_k».proof.Proof.MathRef
@[expose] public section
noncomputable section
namespace Cert.Attn
open Cert.KernelIdeal Cert.KernelIdeal.Gen
open Idealize.ShloMosaic

/-- A sum over all the columns, device by device. -/
theorem sum_devs (G : Fin 8192 → EReal) : ∑ F, G F = ∑ e : Fin 8, ∑ f : Fin 1024, G ⟨1024 * e.1 + f.1, by omega⟩ := by
  rw [← Fintype.sum_prod_type' (f := fun (e : Fin 8) (f : Fin 1024) => G ⟨1024 * e.1 + f.1, by omega⟩)]
  refine (Fintype.sum_equiv (finProdFinEquiv (m := 8) (n := 1024)) _ _ fun p => congrArg G (Fin.ext ?_)).symm
  show 1024 * p.1.1 + p.2.1 = p.2.1 + 1024 * p.1.1
  omega

/-- The devices' operands are the whole arrays' blocks. -/
structure Cut (J : Dev nD → Ins Ideal) (x : FVec Ideal S1x2048x1024 .f32) (wq : FVec Ideal ⟨2, ![1024, 8192]⟩ .f32) (k v : FVec Ideal S1x2048x64x128 .f32)
    (wo : FVec Ideal ⟨2, ![8192, 1024]⟩ .f32) : Prop where
  x : ∀ (e : Fin 8) s i, (J e).x (ix2 s i) = x (ix3 0 s i)
  wq : ∀ (e : Fin 8) i (f : Fin 1024), (J e).wq (ix2 i f) = wq (ix2 i ⟨1024 * e.1 + f.1, by omega⟩)
  k : ∀ (e : Fin 8) (h : Fin 8) j d, (J e).k (ix3 h j d) = k (ix4 0 j ⟨8 * e.1 + h.1, by omega⟩ d)
  v : ∀ (e : Fin 8) (h : Fin 8) j d, (J e).v (ix3 h j d) = v (ix4 0 j ⟨8 * e.1 + h.1, by omega⟩ d)
  wo : ∀ (e : Fin 8) (f : Fin 1024) n, (J e).wo (ix2 f n) = wo (ix2 ⟨1024 * e.1 + f.1, by omega⟩ n)

variable {J : Dev nD → Ins Ideal} {x : FVec Ideal S1x2048x1024 .f32} {wq : FVec Ideal ⟨2, ![1024, 8192]⟩ .f32} {k v : FVec Ideal S1x2048x64x128 .f32}
  {wo : FVec Ideal ⟨2, ![8192, 1024]⟩ .f32}

/-- A device's masked scores are the reference's, of the head that it holds. -/
theorem row_of (hJ : Cut J x wq k v wo) (e : Fin 8) (s : Fin 2048) (h : Fin 8) (j : Fin 2048) :
    rowI (J e) s h j = Ref.score x wq k (ix4 0 ⟨8 * e.1 + h.1, by omega⟩ s j) := by
  rw [Ref.score_at, rowI, ninf_eq]
  refine if_congr Iff.rfl (congrArg (· * scl) (Finset.sum_congr rfl fun d _ => ?_)) rfl
  rw [hJ.k, projI]
  refine congrArg (· * _) (Finset.sum_congr rfl fun i _ => ?_)
  rw [hJ.x, hJ.wq]
  exact congrArg (fun t => _ * wq (ix2 i t)) (Fin.ext (by show 1024 * e.1 + (128 * h.1 + d.1) = (8 * e.1 + h.1) * 128 + d.1; omega))

/-- An entry of the result, in its chunk and half. -/
theorem getH_ix (f : FVec Ideal S2048x1024 .f32) (s : Fin 2048) (n : Fin 1024) :
    f (ix2 s n) = getH f ⟨s.1 / 256, by omega⟩ ⟨n.1 / 512, by omega⟩ (ix2 ⟨s.1 % 256, by omega⟩ ⟨n.1 % 512, by omega⟩) :=
  congrArg f (congrArg₂ ix2 (Fin.ext (by show s.1 = 256 * (s.1 / 256) + s.1 % 256; omega)) (Fin.ext (by show n.1 = 512 * (n.1 / 512) + n.1 % 512; omega)))

/-- An entry of a chunk, in its half. -/
theorem colH_ix (w : FVec Ideal S256x1024 .f32) (r : Fin 256) (n : Fin 1024) :
    colH w ⟨n.1 / 512, by omega⟩ (ix2 r ⟨n.1 % 512, by omega⟩) = w (ix2 r n) :=
  congrArg w (congrArg (ix2 r) (Fin.ext (by show 512 * (n.1 / 512) + n.1 % 512 = n.1; omega)))

/-- The kernel's result on any device is the reference's, entry by entry. -/
theorem full_eq (hJ : Cut J x wq k v wo) (hR : ∀ e, RealIns (J e)) (c : Dev nD) (s : Fin 2048) (n : Fin 1024) :
    fullF J c (ix2 s n) = Ref.outp (Ref.join (Ref.heads (Ref.weight Ref.keep (Ref.expo (Ref.score x wq k))) v)) wo (ix3 0 s n) := by
  rw [Ref.ref_at x wq k v wo s n (fun h j => Ref.score x wq k (ix4 0 h s j)) (fun _ _ => rfl), sum_devs, getH_ix (fullF J c), fullF_at]
  refine Finset.sum_congr rfl fun e _ => ?_
  have he : e.1 < 8 := e.2
  rw [shareH, colH_ix, share_at (hR e)]
  refine Finset.sum_congr rfl fun f _ => ?_
  have hs : (⟨256 * (s.1 / 256) + s.1 % 256, by omega⟩ : Fin 2048) = s := Fin.ext (by show 256 * (s.1 / 256) + s.1 % 256 = s.1; omega)
  have hh : (⟨8 * e.1 + f.1 / 128, by omega⟩ : Fin 64) = ⟨(1024 * e.1 + f.1) / 128, by omega⟩ := Fin.ext (by show 8 * e.1 + f.1 / 128 = (1024 * e.1 + f.1) / 128; omega)
  have hd : (⟨f.1 % 128, by omega⟩ : Fin 128) = ⟨(1024 * e.1 + f.1) % 128, by omega⟩ := Fin.ext (by show f.1 % 128 = (1024 * e.1 + f.1) % 128; omega)
  rw [hJ.wo]
  refine congrArg (· * _) ?_
  have hrow : rowI (J e) ⟨256 * (s.1 / 256) + s.1 % 256, by omega⟩ ⟨f.1 / 128, by omega⟩ = fun j => Ref.score x wq k (ix4 0 ⟨(1024 * e.1 + f.1) / 128, by omega⟩ s j) := by
    funext j
    rw [hs, row_of hJ, hh]
  have hv : ∀ j, (J e).v (ix3 ⟨f.1 / 128, by omega⟩ j ⟨f.1 % 128, by omega⟩) = v (ix4 0 j ⟨(1024 * e.1 + f.1) / 128, by omega⟩ ⟨(1024 * e.1 + f.1) % 128, by omega⟩) := by
    intro j
    rw [hJ.v, hd, hh]
  rw [rowW, hrow]
  exact Finset.sum_congr rfl fun j _ => congrArg (· * _) (hv j)
end Cert.Attn
-- ==== Proof.Algebraic.lean ====
/- The value claim: every device's result is the reference's. -/
module
public import proofs.«01_k».proof.Defs
public import proofs.«01_k».proof.Proof.MathHost
public import proofs.«01_k».proof.Proof.MathPre
public import proofs.«01_k».proof.Proof.MathValue
public import proofs.«01_k».proof.Proof.Gen.ReferenceIdeal.Run
@[expose] public section
noncomputable section
namespace Cert.Attn
open Cert.KernelIdeal Cert.KernelIdeal.Gen
open Idealize.ShloMosaic Idealize.SL.Sem

variable [hP : Cert.Pre_finite_scores_KernelIdeal.Facts]
variable {m : (ℓ : Loc nD τ sig) → Buf (Elt Ideal) ℓ}

/-- Under the precondition each device's scores are built from reals. -/
theorem real_ins (h : Cert.Pre_KernelIdeal_finite_scores_KernelIdeal m) (c : Dev nD) : RealIns (II m c) := by
  obtain ⟨hx, hq, hk⟩ := reals_of_pre _ _ _ _ _ (h c)
  refine ⟨fun s i => ?_, fun i f => ?_, fun a j e => ?_⟩
  · rw [x_at]; exact hx _
  · rw [wq_at]; exact hq _
  · rw [k_at]; exact hk _

/-- The devices' operands, cut from whole arrays. -/
theorem cut_of (x : FVec Ideal S1x2048x1024 .f32) (wq : FVec Ideal ⟨2, ![1024, 8192]⟩ .f32) (k v : FVec Ideal S1x2048x64x128 .f32)
    (wo : FVec Ideal ⟨2, ![8192, 1024]⟩ .f32)
    (h : ∀ c : Dev nD, m ((c.tc : Thread nD τ).loc main_arg0) = x
      ∧ m ((c.tc : Thread nD τ).loc main_arg1) = Layout.block ⟨2, ![1024, 1024]⟩ ⟨2, ![1024, 8192]⟩ 1 8 c wq
      ∧ m ((c.tc : Thread nD τ).loc main_arg2) = k ∧ m ((c.tc : Thread nD τ).loc main_arg3) = v
      ∧ m ((c.tc : Thread nD τ).loc main_arg4) = Layout.block ⟨2, ![1024, 1024]⟩ ⟨2, ![8192, 1024]⟩ 0 8 c wo) :
    Cut (II m) x wq k v wo := by
  refine ⟨fun e s i => ?_, fun e i f => ?_, fun e a j d => ?_, fun e a j d => ?_, fun e f n => ?_⟩
  · rw [x_at, (h e).1]
  · rw [wq_at, (h e).2.1, Layout.block_apply]
    refine congrArg wq (funext fun a => ?_)
    match a with
    | ⟨0, _⟩ => exact Fin.ext rfl
    | ⟨1, _⟩ => exact Fin.ext (show e.1 * 1024 + f.1 = 1024 * e.1 + f.1 by omega)
  · rw [k_at, (h e).2.2.1]
  · rw [v_at, (h e).2.2.2.1]
  · rw [wo_at, (h e).2.2.2.2, Layout.block_apply]
    refine congrArg wo (funext fun a => ?_)
    match a with
    | ⟨0, _⟩ => exact Fin.ext (show e.1 * 1024 + f.1 = 1024 * e.1 + f.1 by omega)
    | ⟨1, _⟩ => exact Fin.ext rfl

/-- Every index of the result. -/
theorem ext_res (f g : FVec Ideal S1x2048x1024 .f32) (h : ∀ s n, f (ix3 0 s n) = g (ix3 0 s n)) : f = g := by
  funext i
  have e : i = ix3 0 (i 1) (i 2) := by
    funext a
    fin_cases a
    · exact Subsingleton.elim (α := Fin 1) _ _
    · rfl
    · rfl
  rw [e]
  exact h _ _

/-- The value claim. -/
theorem algebraic : Cert.algebraic_KernelIdeal_ReferenceIdeal_pre_finite_scores_KernelIdeal := by
  intro m g m' g' hpre h
  refine ⟨Cert.ReferenceIdeal.Value.res_main_v33 m' 0, ?_, ?_⟩
  · refine (θ_run _ _ _).mono (fun r hr c => ?_) (run_main m g)
    refine ⟨(hr.1 c).1.trans ?_, (hr.1 c).2⟩
    rw [Ref.res_eq]
    refine ext_res _ _ fun s n => ?_
    rw [res_at]
    exact full_eq (cut_of _ _ _ _ _ h) (real_ins hpre) c s n
  · exact (θ_run _ _ _).mono (fun r hr => hr 0) (Cert.ReferenceIdeal.Value.run (F := Ideal) m' g')
end Cert.Attn
-- ==== Proof.lean ====
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.Attn.frame_Kernel, Cert.Attn.frame_KernelIdeal, fun m ρ _ => Cert.Attn.frame_KernelIdeal m ρ trivial,
  Cert.Attn.frame_ReferenceIdeal, fun m ρ _ => Cert.Attn.frame_ReferenceIdeal m ρ trivial, Cert.Attn.preserves,
  Cert.Attn.algebraic (hP := Cert.Pre_finite_scores_KernelIdeal.Gen.facts)⟩

end Cert.Proof
